-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v23)) (v4 : (c : Dev Cert.Kernel3Ideal.nD) → Buf (Elt Ideal) ((c.tc : Thread Cert.Kernel3Ideal.nD Cert.Kernel3Ideal.τ).loc Cert.Kernel3Ideal.main_v26)) (v5 : (c : Dev Cert.Kernel3Ideal.nD) → Buf (Elt Ideal) ((c.tc : Thread Cert.Kernel3Ideal.nD Cert.Kernel3Ideal.τ).loc Cert.Kernel3Ideal.main_v28)) (v6 : (c : Dev Cert.Kernel3Ideal.nD) → Buf (Elt Ideal) ((c.tc : Thread Cert.Kernel3Ideal.nD Cert.Kernel3Ideal.τ).loc Cert.Kernel3Ideal.main_v30)) (v7 : (c : Dev Cert.Kernel3Ideal.nD) → Buf (Elt Ideal) ((c.tc : Thread Cert.Kernel3Ideal.nD Cert.Kernel3Ideal.τ).loc Cert.Kernel3Ideal.main_v22_5)) (v8 : (c : Dev Cert.Kernel3Ideal.nD) → Buf (Elt Ideal) ((c.tc : Thread Cert.Kernel3Ideal.nD Cert.Kernel3Ideal.τ).loc Cert.Kernel3Ideal.main_v22_6)) (v9 : (c : Dev Cert.Kernel3Ideal.nD) → Buf (Elt Ideal) ((c.tc : Thread Cert.Kernel3Ideal.nD Cert.Kernel3Ideal.τ).loc Cert.Kernel3Ideal.main_v22_7)) (v10 : (c : Dev Cert.Kernel3Ideal.nD) → Buf (Elt Ideal) ((c.tc : Thread Cert.Kernel3Ideal.nD Cert.Kernel3Ideal.τ).loc Cert.Kernel3Ideal.main_v22_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v23) = v3 c
          ∧ r.2.mem ((c.tc : Thread Cert.Kernel3Ideal.nD Cert.Kernel3Ideal.τ).loc Cert.Kernel3Ideal.main_v26) = v4 c
          ∧ r.2.mem ((c.tc : Thread Cert.Kernel3Ideal.nD Cert.Kernel3Ideal.τ).loc Cert.Kernel3Ideal.main_v28) = v5 c
          ∧ r.2.mem ((c.tc : Thread Cert.Kernel3Ideal.nD Cert.Kernel3Ideal.τ).loc Cert.Kernel3Ideal.main_v30) = v6 c
          ∧ r.2.mem ((c.tc : Thread Cert.Kernel3Ideal.nD Cert.Kernel3Ideal.τ).loc Cert.Kernel3Ideal.main_v22_5) = v7 c
          ∧ r.2.mem ((c.tc : Thread Cert.Kernel3Ideal.nD Cert.Kernel3Ideal.τ).loc Cert.Kernel3Ideal.main_v22_6) = v8 c
          ∧ r.2.mem ((c.tc : Thread Cert.Kernel3Ideal.nD Cert.Kernel3Ideal.τ).loc Cert.Kernel3Ideal.main_v22_7) = v9 c
          ∧ r.2.mem ((c.tc : Thread Cert.Kernel3Ideal.nD Cert.Kernel3Ideal.τ).loc Cert.Kernel3Ideal.main_v22_8) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v163) = v0 c
          ∧ r.2.mem ((c.tc : Thread Cert.Reference3Ideal.nD Cert.Reference3Ideal.τ).loc Cert.Reference3Ideal.main_v165) = v1 c
          ∧ r.2.mem ((c.tc : Thread Cert.Reference3Ideal.nD Cert.Reference3Ideal.τ).loc Cert.Reference3Ideal.main_v167) = v2 c
          ∧ r.2.mem ((c.tc : Thread Cert.Reference3Ideal.nD Cert.Reference3Ideal.τ).loc Cert.Reference3Ideal.main_v168) = v3 c
          ∧ r.2.mem ((c.tc : Thread Cert.Reference3Ideal.nD Cert.Reference3Ideal.τ).loc Cert.Reference3Ideal.main_v85) = v4 c
          ∧ r.2.mem ((c.tc : Thread Cert.Reference3Ideal.nD Cert.Reference3Ideal.τ).loc Cert.Reference3Ideal.main_v97) = v5 c
          ∧ r.2.mem ((c.tc : Thread Cert.Reference3Ideal.nD Cert.Reference3Ideal.τ).loc Cert.Reference3Ideal.main_v169) = v6 c
          ∧ r.2.mem ((c.tc : Thread Cert.Reference3Ideal.nD Cert.Reference3Ideal.τ).loc Cert.Reference3Ideal.main_v171) = v7 c
          ∧ r.2.mem ((c.tc : Thread Cert.Reference3Ideal.nD Cert.Reference3Ideal.τ).loc Cert.Reference3Ideal.main_v173) = v8 c
          ∧ r.2.mem ((c.tc : Thread Cert.Reference3Ideal.nD Cert.Reference3Ideal.τ).loc Cert.Reference3Ideal.main_v175) = v9 c
          ∧ r.2.mem ((c.tc : Thread Cert.Reference3Ideal.nD Cert.Reference3Ideal.τ).loc Cert.Reference3Ideal.main_v177) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.sign_bit.Statement Cert.Kernel5Ideal.S256x1 .f32

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v10_0)) (v1 : (c : Dev Cert.Kernel12Ideal.nD) → Buf (Elt Ideal) ((c.tc : Thread Cert.Kernel12Ideal.nD Cert.Kernel12Ideal.τ).loc Cert.Kernel12Ideal.main_v10_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10_0) = v0 c
          ∧ r.2.mem ((c.tc : Thread Cert.Kernel12Ideal.nD Cert.Kernel12Ideal.τ).loc Cert.Kernel12Ideal.main_v10_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S1x16384x14344 : Shape := ⟨3, ![1, 16384, 14344]⟩
abbrev S1x3x1024 : Shape := ⟨3, ![1, 3, 1024]⟩
abbrev S1x1024 : Shape := ⟨2, ![1, 1024]⟩
abbrev S1x16384x1024 : Shape := ⟨3, ![1, 16384, 1024]⟩
abbrev S16384x14336 : Shape := ⟨2, ![16384, 14336]⟩
abbrev S16384x14344 : Shape := ⟨2, ![16384, 14344]⟩
abbrev S16384x1024 : Shape := ⟨2, ![16384, 1024]⟩
abbrev S_ : Shape := ⟨0, ![]⟩
abbrev S1x1x1024 : Shape := ⟨3, ![1, 1, 1024]⟩
abbrev S1024 : Shape := ⟨1, ![1024]⟩

class Facts : Prop where
  shapeCasts_S1x16384x14344_S16384x14344 : S1x16384x14344.ShapeCasts S16384x14344
  slices_S16384x14344_S16384x1024_0_0 : S16384x14344.Slices ![0, 0] S16384x1024
  bcast_S_S16384x1024 : S_.BroadcastsInDim S16384x1024 (![] : Fin 0 → Fin S16384x1024.rank)
  slices_S16384x14344_S16384x1024_0_1024 : S16384x14344.Slices ![0, 1024] S16384x1024
  slices_S16384x14344_S16384x1024_0_2048 : S16384x14344.Slices ![0, 2048] S16384x1024
  shapeCasts_S1x16384x1024_S16384x1024 : S1x16384x1024.ShapeCasts S16384x1024
  slices_S1x3x1024_S1x1x1024_0_0_0 : S1x3x1024.Slices ![0, 0, 0] S1x1x1024
  shapeCasts_S1x1x1024_S1024 : S1x1x1024.ShapeCasts S1024
  bcast_S_S1024 : S_.BroadcastsInDim S1024 (![] : Fin 0 → Fin S1024.rank)
  slices_S1x3x1024_S1x1x1024_0_1_0 : S1x3x1024.Slices ![0, 1, 0] S1x1x1024
  slices_S1x3x1024_S1x1x1024_0_2_0 : S1x3x1024.Slices ![0, 2, 0] S1x1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)

variable [Facts]

def fn_part2 {F : FTy → Type} [FloatOps F] (main_v19 : IVec S16384x1024 1) (main_v36 : IVec S1024 1) (main_v38 : FVec F S1024 .f32) (main_v39 : FVec F S1024 .f32) : IVec S16384x1024 1 :=
  let main_v40 : IVec S1024 1 := cmpf .olt main_v38 main_v39
  let main_v41 : IVec S1024 1 := andi main_v36 main_v40
  let main_v42 : IVec S1x1024 1 := broadcastInDim S1x1024 ![1] bcast_S1024_S1x1024_1 main_v41
  let main_v43 : IVec S16384x1024 1 := broadcastInDim S16384x1024 ![0, 1] bcast_S1x1024_S16384x1024_0_1 main_v42
  let main_v44 : IVec S16384x1024 1 := andi main_v19 main_v43
  main_v44

def fn_part1 {F : FTy → Type} [FloatOps F] (main_arg1 : FVec F S1x3x1024 .f32) (main_arg2 : FVec F S1x1024 .f32) (main_v19 : IVec S16384x1024 1) : IVec S16384x1024 1 :=
  let main_v20 : FVec F S1x1x1024 .f32 := (extractStridedSlice S1x1x1024 ![0, 0, 0] · slices_S1x3x1024_S1x1x1024_0_0_0) main_arg1
  let main_v21 : FVec F S1024 .f32 := shapeCast S1024 main_v20 shapeCasts_S1x1x1024_S1024
  let main_v22 : FVec F S1024 .f32 := Host.absf main_v21
  let main_cst_3 : FVec F S_ .f32 := constant S_ .f32 0x7F800000#32
  let main_v23 : FVec F S1024 .f32 := broadcastInDim S1024 ![] bcast_S_S1024 main_cst_3
  let main_v24 : IVec S1024 1 := cmpf .olt main_v22 main_v23
  let main_v25 : FVec F S1x1x1024 .f32 := (extractStridedSlice S1x1x1024 ![0, 1, 0] · slices_S1x3x1024_S1x1x1024_0_1_0) main_arg1
  let main_v26 : FVec F S1024 .f32 := shapeCast S1024 main_v25 shapeCasts_S1x1x1024_S1024
  let main_v27 : FVec F S1024 .f32 := Host.absf main_v26
  let main_cst_4 : FVec F S_ .f32 := constant S_ .f32 0x7F800000#32
  let main_v28 : FVec F S1024 .f32 := broadcastInDim S1024 ![] bcast_S_S1024 main_cst_4
  let main_v29 : IVec S1024 1 := cmpf .olt main_v27 main_v28
  let main_v30 : IVec S1024 1 := andi main_v24 main_v29
  let main_v31 : FVec F S1x1x1024 .f32 := (extractStridedSlice S1x1x1024 ![0, 2, 0] · slices_S1x3x1024_S1x1x1024_0_2_0) main_arg1
  let main_v32 : FVec F S1024 .f32 := shapeCast S1024 main_v31 shapeCasts_S1x1x1024_S1024
  let main_v33 : FVec F S1024 .f32 := Host.absf main_v32
  let main_cst_5 : FVec F S_ .f32 := constant S_ .f32 0x7F800000#32
  let main_v34 : FVec F S1024 .f32 := broadcastInDim S1024 ![] bcast_S_S1024 main_cst_5
  let main_v35 : IVec S1024 1 := cmpf .olt main_v33 main_v34
  let main_v36 : IVec S1024 1 := andi main_v30 main_v35
  let main_v37 : FVec F S1024 .f32 := shapeCast S1024 main_arg2 shapeCasts_S1x1024_S1024
  let main_v38 : FVec F S1024 .f32 := Host.absf main_v37
  let main_cst_6 : FVec F S_ .f32 := constant S_ .f32 0x7F800000#32
  let main_v39 : FVec F S1024 .f32 := broadcastInDim S1024 ![] bcast_S_S1024 main_cst_6
  fn_part2 (F := F) main_v19 main_v36 main_v38 main_v39

def fn {F : FTy → Type} [FloatOps F] (main_arg0 : FVec F S1x16384x14344 .f32) (main_arg1 : FVec F S1x3x1024 .f32) (main_arg2 : FVec F S1x1024 .f32) (main_arg3 : FVec F S1x16384x1024 .f32) (main_arg4 : FVec F S16384x14336 .bf16) : IVec S16384x1024 1 :=
  let main_v0 : FVec F S16384x14344 .f32 := shapeCast S16384x14344 main_arg0 shapeCasts_S1x16384x14344_S16384x14344
  let main_v1 : FVec F S16384x1024 .f32 := (extractStridedSlice S16384x1024 ![0, 0] · slices_S16384x14344_S16384x1024_0_0) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S16384x1024 .f32 := (extractStridedSlice S16384x1024 ![0, 1024] · slices_S16384x14344_S16384x1024_0_1024) main_v0
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_v9 : IVec S16384x1024 1 := andi main_v4 main_v8
  let main_v10 : FVec F S16384x1024 .f32 := (extractStridedSlice S16384x1024 ![0, 2048] · slices_S16384x14344_S16384x1024_0_2048) main_v0
  let main_v11 : FVec F S16384x1024 .f32 := Host.absf main_v10
  let main_cst_1 : FVec F S_ .f32 := constant S_ .f32 0x7F800000#32
  let main_v12 : FVec F S16384x1024 .f32 := broadcastInDim S16384x1024 ![] bcast_S_S16384x1024 main_cst_1
  let main_v13 : IVec S16384x1024 1 := cmpf .olt main_v11 main_v12
  let main_v14 : IVec S16384x1024 1 := andi main_v9 main_v13
  let main_v15 : FVec F S16384x1024 .f32 := shapeCast S16384x1024 main_arg3 shapeCasts_S1x16384x1024_S16384x1024
  let main_v16 : FVec F S16384x1024 .f32 := Host.absf main_v15
  let main_cst_2 : FVec F S_ .f32 := constant S_ .f32 0x7F800000#32
  let main_v17 : FVec F S16384x1024 .f32 := broadcastInDim S16384x1024 ![] bcast_S_S16384x1024 main_cst_2
  let main_v18 : IVec S16384x1024 1 := cmpf .olt main_v16 main_v17
  let main_v19 : IVec S16384x1024 1 := andi main_v14 main_v18
  fn_part1 (F := F) main_arg1 main_arg2 main_v19
-- ==== Pre_finite2.lean ====
abbrev S1x16384x14344 : Shape := ⟨3, ![1, 16384, 14344]⟩
abbrev S1x8 : Shape := ⟨2, ![1, 8]⟩
abbrev S1x2048 : Shape := ⟨2, ![1, 2048]⟩
abbrev S1x2048x1024 : Shape := ⟨3, ![1, 2048, 1024]⟩
abbrev S16384x14344 : Shape := ⟨2, ![16384, 14344]⟩
abbrev S16384x1024 : Shape := ⟨2, ![16384, 1024]⟩
abbrev S_ : Shape := ⟨0, ![]⟩
abbrev S16384x8 : Shape := ⟨2, ![16384, 8]⟩
abbrev S16384x128x8 : Shape := ⟨3, ![16384, 128, 8]⟩
abbrev S16384x1x8 : Shape := ⟨3, ![16384, 1, 8]⟩

class Facts : Prop where
  shapeCasts_S1x16384x14344_S16384x14344 : S1x16384x14344.ShapeCasts S16384x14344
  slices_S16384x14344_S16384x1024_0_4096 : S16384x14344.Slices ![0, 4096] S16384x1024
  bcast_S_S16384x1024 : S_.BroadcastsInDim S16384x1024 (![] : Fin 0 → Fin S16384x1024.rank)
  slices_S16384x14344_S16384x1024_0_5120 : S16384x14344.Slices ![0, 5120] S16384x1024
  slices_S16384x14344_S16384x1024_0_6144 : S16384x14344.Slices ![0, 6144] S16384x1024
  slices_S16384x14344_S16384x1024_0_7168 : S16384x14344.Slices ![0, 7168] S16384x1024
  slices_S16384x14344_S16384x8_0_12288 : S16384x14344.Slices ![0, 12288] S16384x8
  bcast_S_S16384x8 : S_.BroadcastsInDim S16384x8 (![] : Fin 0 → Fin S16384x8.rank)
  bcast_S_S1x8 : S_.BroadcastsInDim S1x8 (![] : Fin 0 → Fin S1x8.rank)
  bcast_S1x8_S16384x8_0_1 : S1x8.BroadcastsInDim S16384x8 (![0, 1] : Fin 2 → Fin S16384x8.rank)
  shapeCasts_S16384x1024_S16384x128x8 : S16384x1024.ShapeCasts S16384x128x8
  bcast_S16384x8_S16384x1x8_0_2 : S16384x8.BroadcastsInDim S16384x1x8 (![0, 2] : Fin 2 → Fin S16384x1x8.rank)
  bcast_S16384x1x8_S16384x128x8_0_1_2 : S16384x1x8.BroadcastsInDim S16384x128x8 (![0, 1, 2] : Fin 3 → Fin S16384x128x8.rank)

variable [Facts]

def fn_part1 {F : FTy → Type} [FloatOps F] (main_arg1 : FVec F S1x8 .f32) (main_v0 : FVec F S16384x14344 .f32) (main_v19 : IVec S16384x1024 1) : IVec S16384x128x8 1 :=
  let main_v20 : FVec F S16384x8 .f32 := (extractStridedSlice S16384x8 ![0, 12288] · slices_S16384x14344_S16384x8_0_12288) main_v0
  let main_v21 : FVec F S16384x8 .f32 := Host.absf main_v20
  let main_cst_3 : FVec F S_ .f32 := constant S_ .f32 0x7F800000#32
  let main_v22 : FVec F S16384x8 .f32 := broadcastInDim S16384x8 ![] bcast_S_S16384x8 main_cst_3
  let main_v23 : IVec S16384x8 1 := cmpf .olt main_v21 main_v22
  let main_v24 : FVec F S1x8 .f32 := Host.absf main_arg1
  let main_cst_4 : FVec F S_ .f32 := constant S_ .f32 0x7F800000#32
  let main_v25 : FVec F S1x8 .f32 := broadcastInDim S1x8 ![] bcast_S_S1x8 main_cst_4
  let main_v26 : IVec S1x8 1 := cmpf .olt main_v24 main_v25
  let main_v27 : IVec S16384x8 1 := broadcastInDim S16384x8 ![0, 1] bcast_S1x8_S16384x8_0_1 main_v26
  let main_v28 : IVec S16384x8 1 := andi main_v23 main_v27
  let main_v29 : IVec S16384x128x8 1 := shapeCast S16384x128x8 main_v19 shapeCasts_S16384x1024_S16384x128x8
  let main_v30 : IVec S16384x1x8 1 := broadcastInDim S16384x1x8 ![0, 2] bcast_S16384x8_S16384x1x8_0_2 main_v28
  let main_v31 : IVec S16384x128x8 1 := broadcastInDim S16384x128x8 ![0, 1, 2] bcast_S16384x1x8_S16384x128x8_0_1_2 main_v30
  let main_v32 : IVec S16384x128x8 1 := andi main_v29 main_v31
  main_v32

def fn {F : FTy → Type} [FloatOps F] (main_arg0 : FVec F S1x16384x14344 .f32) (main_arg1 : FVec F S1x8 .f32) (main_arg2 : FVec F S1x2048 .f32) (main_arg3 : FVec F S1x2048x1024 .f32) : IVec S16384x128x8 1 :=
  let main_v0 : FVec F S16384x14344 .f32 := shapeCast S16384x14344 main_arg0 shapeCasts_S1x16384x14344_S16384x14344
  let main_v1 : FVec F S16384x1024 .f32 := (extractStridedSlice S16384x1024 ![0, 4096] · slices_S16384x14344_S16384x1024_0_4096) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S16384x1024 .f32 := (extractStridedSlice S16384x1024 ![0, 5120] · slices_S16384x14344_S16384x1024_0_5120) main_v0
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_v9 : IVec S16384x1024 1 := andi main_v4 main_v8
  let main_v10 : FVec F S16384x1024 .f32 := (extractStridedSlice S16384x1024 ![0, 6144] · slices_S16384x14344_S16384x1024_0_6144) main_v0
  let main_v11 : FVec F S16384x1024 .f32 := Host.absf main_v10
  let main_cst_1 : FVec F S_ .f32 := constant S_ .f32 0x7F800000#32
  let main_v12 : FVec F S16384x1024 .f32 := broadcastInDim S16384x1024 ![] bcast_S_S16384x1024 main_cst_1
  let main_v13 : IVec S16384x1024 1 := cmpf .olt main_v11 main_v12
  let main_v14 : IVec S16384x1024 1 := andi main_v9 main_v13
  let main_v15 : FVec F S16384x1024 .f32 := (extractStridedSlice S16384x1024 ![0, 7168] · slices_S16384x14344_S16384x1024_0_7168) main_v0
  let main_v16 : FVec F S16384x1024 .f32 := Host.absf main_v15
  let main_cst_2 : FVec F S_ .f32 := constant S_ .f32 0x7F800000#32
  let main_v17 : FVec F S16384x1024 .f32 := broadcastInDim S16384x1024 ![] bcast_S_S16384x1024 main_cst_2
  let main_v18 : IVec S16384x1024 1 := cmpf .olt main_v16 main_v17
  let main_v19 : IVec S16384x1024 1 := andi main_v14 main_v18
  fn_part1 (F := F) main_arg1 main_v0 main_v19
-- ==== Pre_finite3.lean ====
abbrev S1x16384x1024 : Shape := ⟨3, ![1, 16384, 1024]⟩
abbrev S1x1024x1024 : Shape := ⟨3, ![1, 1024, 1024]⟩
abbrev S1x16384x14344 : Shape := ⟨3, ![1, 16384, 14344]⟩
abbrev S1x1024 : Shape := ⟨2, ![1, 1024]⟩
abbrev S1x1x16384x256 : Shape := ⟨4, ![1, 1, 16384, 256]⟩
abbrev S1x256x1024 : Shape := ⟨3, ![1, 256, 1024]⟩
abbrev S1024 : Shape := ⟨1, ![1024]⟩
abbrev S_ : Shape := ⟨0, ![]⟩
abbrev S16x4x256x4x256 : Shape := ⟨5, ![16, 4, 256, 4, 256]⟩
abbrev S16x4x256x1x256 : Shape := ⟨5, ![16, 4, 256, 1, 256]⟩
abbrev S1x4x256x4x256 : Shape := ⟨5, ![1, 4, 256, 4, 256]⟩
abbrev S1x1x256x4x256 : Shape := ⟨5, ![1, 1, 256, 4, 256]⟩
abbrev S1x1x1x4x256 : Shape := ⟨5, ![1, 1, 1, 4, 256]⟩

class Facts : Prop where
  bcast_S_S1x16384x1024 : S_.BroadcastsInDim S1x16384x1024 (![] : Fin 0 → Fin S1x16384x1024.rank)
  shapeCasts_S1x16384x1024_S16x4x256x4x256 : S1x16384x1024.ShapeCasts S16x4x256x4x256
  bcast_S_S1x1x16384x256 : S_.BroadcastsInDim S1x1x16384x256 (![] : Fin 0 → Fin S1x1x16384x256.rank)
  shapeCasts_S1x1x16384x256_S16x4x256x1x256 : S1x1x16384x256.ShapeCasts S16x4x256x1x256
  bcast_S_S1x1024x1024 : S_.BroadcastsInDim S1x1024x1024 (![] : Fin 0 → Fin S1x1024x1024.rank)
  shapeCasts_S1x1024x1024_S1x4x256x4x256 : S1x1024x1024.ShapeCasts S1x4x256x4x256
  bcast_S16x4x256x1x256_S16x4x256x4x256_0_1_2_3_4 : S16x4x256x1x256.BroadcastsInDim S16x4x256x4x256 (![0, 1, 2, 3, 4] : Fin 5 → Fin S16x4x256x4x256.rank)
  bcast_S1x4x256x4x256_S16x4x256x4x256_0_1_2_3_4 : S1x4x256x4x256.BroadcastsInDim S16x4x256x4x256 (![0, 1, 2, 3, 4] : Fin 5 → Fin S16x4x256x4x256.rank)
  bcast_S_S1x256x1024 : S_.BroadcastsInDim S1x256x1024 (![] : Fin 0 → Fin S1x256x1024.rank)
  shapeCasts_S1x256x1024_S1x1x256x4x256 : S1x256x1024.ShapeCasts S1x1x256x4x256
  bcast_S1x1x256x4x256_S16x4x256x4x256_0_1_2_3_4 : S1x1x256x4x256.BroadcastsInDim S16x4x256x4x256 (![0, 1, 2, 3, 4] : Fin 5 → Fin S16x4x256x4x256.rank)
  shapeCasts_S1x1024_S1024 : S1x1024.ShapeCasts S1024
  bcast_S_S1024 : S_.BroadcastsInDim S1024 (![] : Fin 0 → Fin S1024.rank)
  shapeCasts_S1024_S1x1x1x4x256 : S1024.ShapeCasts S1x1x1x4x256
  bcast_S1x1x1x4x256_S16x4x256x4x256_0_1_2_3_4 : S1x1x1x4x256.BroadcastsInDim S16x4x256x4x256 (![0, 1, 2, 3, 4] : Fin 5 → Fin S16x4x256x4x256.rank)

variable [Facts]

def fn_part2 {F : FTy → Type} [FloatOps F] (main_arg6 : FVec F S1x1024 .f32) (main_arg11 : FVec F S1024 .f32) (main_v35 : IVec S16x4x256x4x256 1) (main_v38 : IVec S1x256x1024 1) : IVec S16x4x256x4x256 1 :=
  let main_v39 : IVec S1x1x256x4x256 1 := shapeCast S1x1x256x4x256 main_v38 shapeCasts_S1x256x1024_S1x1x256x4x256
  let main_v40 : IVec S16x4x256x4x256 1 := broadcastInDim S16x4x256x4x256 ![0, 1, 2, 3, 4] bcast_S1x1x256x4x256_S16x4x256x4x256_0_1_2_3_4 main_v39
  let main_v41 : IVec S16x4x256x4x256 1 := andi main_v35 main_v40
  let main_v42 : FVec F S1024 .f32 := shapeCast S1024 main_arg6 shapeCasts_S1x1024_S1024
  let main_v43 : FVec F S1024 .f32 := Host.absf main_v42
  let main_cst_8 : FVec F S_ .f32 := constant S_ .f32 0x7F800000#32
  let main_v44 : FVec F S1024 .f32 := broadcastInDim S1024 ![] bcast_S_S1024 main_cst_8
  let main_v45 : IVec S1024 1 := cmpf .olt main_v43 main_v44
  let main_v46 : FVec F S1024 .f32 := Host.absf main_arg11
  let main_cst_9 : FVec F S_ .f32 := constant S_ .f32 0x7F800000#32
  let main_v47 : FVec F S1024 .f32 := broadcastInDim S1024 ![] bcast_S_S1024 main_cst_9
  let main_v48 : IVec S1024 1 := cmpf .olt main_v46 main_v47
  let main_v49 : IVec S1024 1 := andi main_v45 main_v48
  let main_v50 : IVec S1x1x1x4x256 1 := shapeCast S1x1x1x4x256 main_v49 shapeCasts_S1024_S1x1x1x4x256
  let main_v51 : IVec S16x4x256x4x256 1 := broadcastInDim S16x4x256x4x256 ![0, 1, 2, 3, 4] bcast_S1x1x1x4x256_S16x4x256x4x256_0_1_2_3_4 main_v50
  let main_v52 : IVec S16x4x256x4x256 1 := andi main_v41 main_v51
  main_v52

def fn_part1 {F : FTy → Type} [FloatOps F] (main_arg1 : FVec F S1x1024x1024 .f32) (main_arg4 : FVec F S1x1024x1024 .f32) (main_arg6 : FVec F S1x1024 .f32) (main_arg7 : FVec F S1x1024x1024 .f32) (main_arg9 : FVec F S1x256x1024 .f32) (main_arg11 : FVec F S1024 .f32) (main_v15 : IVec S16x4x256x4x256 1) (main_v18 : IVec S1x1x16384x256 1) : IVec S16x4x256x4x256 1 :=
  let main_v19 : IVec S16x4x256x1x256 1 := shapeCast S16x4x256x1x256 main_v18 shapeCasts_S1x1x16384x256_S16x4x256x1x256
  let main_v20 : FVec F S1x1024x1024 .f32 := Host.absf main_arg1
  let main_cst_4 : FVec F S_ .f32 := constant S_ .f32 0x7F800000#32
  let main_v21 : FVec F S1x1024x1024 .f32 := broadcastInDim S1x1024x1024 ![] bcast_S_S1x1024x1024 main_cst_4
  let main_v22 : IVec S1x1024x1024 1 := cmpf .olt main_v20 main_v21
  let main_v23 : FVec F S1x1024x1024 .f32 := Host.absf main_arg4
  let main_cst_5 : FVec F S_ .f32 := constant S_ .f32 0x7F800000#32
  let main_v24 : FVec F S1x1024x1024 .f32 := broadcastInDim S1x1024x1024 ![] bcast_S_S1x1024x1024 main_cst_5
  let main_v25 : IVec S1x1024x1024 1 := cmpf .olt main_v23 main_v24
  let main_v26 : IVec S1x1024x1024 1 := andi main_v22 main_v25
  let main_v27 : FVec F S1x1024x1024 .f32 := Host.absf main_arg7
  let main_cst_6 : FVec F S_ .f32 := constant S_ .f32 0x7F800000#32
  let main_v28 : FVec F S1x1024x1024 .f32 := broadcastInDim S1x1024x1024 ![] bcast_S_S1x1024x1024 main_cst_6
  let main_v29 : IVec S1x1024x1024 1 := cmpf .olt main_v27 main_v28
  let main_v30 : IVec S1x1024x1024 1 := andi main_v26 main_v29
  let main_v31 : IVec S1x4x256x4x256 1 := shapeCast S1x4x256x4x256 main_v30 shapeCasts_S1x1024x1024_S1x4x256x4x256
  let main_v32 : IVec S16x4x256x4x256 1 := broadcastInDim S16x4x256x4x256 ![0, 1, 2, 3, 4] bcast_S16x4x256x1x256_S16x4x256x4x256_0_1_2_3_4 main_v19
  let main_v33 : IVec S16x4x256x4x256 1 := andi main_v15 main_v32
  let main_v34 : IVec S16x4x256x4x256 1 := broadcastInDim S16x4x256x4x256 ![0, 1, 2, 3, 4] bcast_S1x4x256x4x256_S16x4x256x4x256_0_1_2_3_4 main_v31
  let main_v35 : IVec S16x4x256x4x256 1 := andi main_v33 main_v34
  let main_v36 : FVec F S1x256x1024 .f32 := Host.absf main_arg9
  let main_cst_7 : FVec F S_ .f32 := constant S_ .f32 0x7F800000#32
  let main_v37 : FVec F S1x256x1024 .f32 := broadcastInDim S1x256x1024 ![] bcast_S_S1x256x1024 main_cst_7
  let main_v38 : IVec S1x256x1024 1 := cmpf .olt main_v36 main_v37
  fn_part2 (F := F) main_arg6 main_arg11 main_v35 main_v38

def fn {F : FTy → Type} [FloatOps F] (main_arg0 : FVec F S1x16384x1024 .f32) (main_arg1 : FVec F S1x1024x1024 .f32) (main_arg2 : FVec F S1x16384x1024 .f32) (main_arg3 : FVec F S1x16384x14344 .f32) (main_arg4 : FVec F S1x1024x1024 .f32) (main_arg5 : FVec F S1x16384x1024 .f32) (main_arg6 : FVec F S1x1024 .f32) (main_arg7 : FVec F S1x1024x1024 .f32) (main_arg8 : FVec F S1x1x16384x256 .f32) (main_arg9 : FVec F S1x256x1024 .f32) (main_arg10 : FVec F S1x16384x1024 .f32) (main_arg11 : FVec F S1024 .f32) : IVec S16x4x256x4x256 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : FVec F S1x16384x1024 .f32 := Host.absf main_arg2
  let main_cst_0 : FVec F S_ .f32 := constant S_ .f32 0x7F800000#32
  let main_v4 : FVec F S1x16384x1024 .f32 := broadcastInDim S1x16384x1024 ![] bcast_S_S1x16384x1024 main_cst_0
  let main_v5 : IVec S1x16384x1024 1 := cmpf .olt main_v3 main_v4
  let main_v6 : IVec S1x16384x1024 1 := andi main_v2 main_v5
  let main_v7 : FVec F S1x16384x1024 .f32 := Host.absf main_arg5
  let main_cst_1 : FVec F S_ .f32 := constant S_ .f32 0x7F800000#32
  let main_v8 : FVec F S1x16384x1024 .f32 := broadcastInDim S1x16384x1024 ![] bcast_S_S1x16384x1024 main_cst_1
  let main_v9 : IVec S1x16384x1024 1 := cmpf .olt main_v7 main_v8
  let main_v10 : IVec S1x16384x1024 1 := andi main_v6 main_v9
  let main_v11 : FVec F S1x16384x1024 .f32 := Host.absf main_arg10
  let main_cst_2 : FVec F S_ .f32 := constant S_ .f32 0x7F800000#32
  let main_v12 : FVec F S1x16384x1024 .f32 := broadcastInDim S1x16384x1024 ![] bcast_S_S1x16384x1024 main_cst_2
  let main_v13 : IVec S1x16384x1024 1 := cmpf .olt main_v11 main_v12
  let main_v14 : IVec S1x16384x1024 1 := andi main_v10 main_v13
  let main_v15 : IVec S16x4x256x4x256 1 := shapeCast S16x4x256x4x256 main_v14 shapeCasts_S1x16384x1024_S16x4x256x4x256
  let main_v16 : FVec F S1x1x16384x256 .f32 := Host.absf main_arg8
  let main_cst_3 : FVec F S_ .f32 := constant S_ .f32 0x7F800000#32
  let main_v17 : FVec F S1x1x16384x256 .f32 := broadcastInDim S1x1x16384x256 ![] bcast_S_S1x1x16384x256 main_cst_3
  let main_v18 : IVec S1x1x16384x256 1 := cmpf .olt main_v16 main_v17
  fn_part1 (F := F) main_arg1 main_arg4 main_arg6 main_arg7 main_arg9 main_arg11 main_v15 main_v18
-- ==== Pre_finite4.lean ====
abbrev S1x16384x1024 : Shape := ⟨3, ![1, 16384, 1024]⟩
abbrev S1x1024 : Shape := ⟨2, ![1, 1024]⟩
abbrev S1x1024x14344 : Shape := ⟨3, ![1, 1024, 14344]⟩
abbrev S1x16384x14344 : Shape := ⟨3, ![1, 16384, 14344]⟩
abbrev S_ : Shape := ⟨0, ![]⟩
abbrev S16x1024x1x1024 : Shape := ⟨4, ![16, 1024, 1, 1024]⟩
abbrev S1x16384x14336 : Shape := ⟨3, ![1, 16384, 14336]⟩
abbrev S16x1024x14x1024 : Shape := ⟨4, ![16, 1024, 14, 1024]⟩
abbrev S1x1024x14336 : Shape := ⟨3, ![1, 1024, 14336]⟩
abbrev S1x1024x14x1024 : Shape := ⟨4, ![1, 1024, 14, 1024]⟩
abbrev S1x1x1x1024 : Shape := ⟨4, ![1, 1, 1, 1024]⟩

class Facts : Prop where
  bcast_S_S1x16384x1024 : S_.BroadcastsInDim S1x16384x1024 (![] : Fin 0 → Fin S1x16384x1024.rank)
  shapeCasts_S1x16384x1024_S16x1024x1x1024 : S1x16384x1024.ShapeCasts S16x1024x1x1024
  bcast_S_S1x16384x14344 : S_.BroadcastsInDim S1x16384x14344 (![] : Fin 0 → Fin S1x16384x14344.rank)
  slices_S1x16384x14344_S1x16384x14336_0_0_0 : S1x16384x14344.Slices ![0, 0, 0] S1x16384x14336
  slices_S1x16384x14344_S1x16384x14336_0_0_8 : S1x16384x14344.Slices ![0, 0, 8] S1x16384x14336
  shapeCasts_S1x16384x14336_S16x1024x14x1024 : S1x16384x14336.ShapeCasts S16x1024x14x1024
  bcast_S16x1024x1x1024_S16x1024x14x1024_0_1_2_3 : S16x1024x1x1024.BroadcastsInDim S16x1024x14x1024 (![0, 1, 2, 3] : Fin 4 → Fin S16x1024x14x1024.rank)
  bcast_S_S1x1024x14344 : S_.BroadcastsInDim S1x1024x14344 (![] : Fin 0 → Fin S1x1024x14344.rank)
  slices_S1x1024x14344_S1x1024x14336_0_0_0 : S1x1024x14344.Slices ![0, 0, 0] S1x1024x14336
  slices_S1x1024x14344_S1x1024x14336_0_0_8 : S1x1024x14344.Slices ![0, 0, 8] S1x1024x14336
  shapeCasts_S1x1024x14336_S1x1024x14x1024 : S1x1024x14336.ShapeCasts S1x1024x14x1024
  bcast_S1x1024x14x1024_S16x1024x14x1024_0_1_2_3 : S1x1024x14x1024.BroadcastsInDim S16x1024x14x1024 (![0, 1, 2, 3] : Fin 4 → Fin S16x1024x14x1024.rank)
  bcast_S_S1x1024 : S_.BroadcastsInDim S1x1024 (![] : Fin 0 → Fin S1x1024.rank)
  shapeCasts_S1x1024_S1x1x1x1024 : S1x1024.ShapeCasts S1x1x1x1024
  bcast_S1x1x1x1024_S16x1024x14x1024_0_1_2_3 : S1x1x1x1024.BroadcastsInDim S16x1024x14x1024 (![0, 1, 2, 3] : Fin 4 → Fin S16x1024x14x1024.rank)

variable [Facts]

def fn_part1 {F : FTy → Type} [FloatOps F] (main_arg1 : FVec F S1x1024 .f32) (main_v12 : IVec S16x1024x14x1024 1) (main_v20 : IVec S16x1024x14x1024 1) : IVec S16x1024x14x1024 1 :=
  let main_v21 : IVec S16x1024x14x1024 1 := andi main_v12 main_v20
  let main_v22 : FVec F S1x1024 .f32 := Host.absf main_arg1
  let main_cst_2 : FVec F S_ .f32 := constant S_ .f32 0x7F800000#32
  let main_v23 : FVec F S1x1024 .f32 := broadcastInDim S1x1024 ![] bcast_S_S1x1024 main_cst_2
  let main_v24 : IVec S1x1024 1 := cmpf .olt main_v22 main_v23
  let main_v25 : IVec S1x1x1x1024 1 := shapeCast S1x1x1x1024 main_v24 shapeCasts_S1x1024_S1x1x1x1024
  let main_v26 : IVec S16x1024x14x1024 1 := broadcastInDim S16x1024x14x1024 ![0, 1, 2, 3] bcast_S1x1x1x1024_S16x1024x14x1024_0_1_2_3 main_v25
  let main_v27 : IVec S16x1024x14x1024 1 := andi main_v21 main_v26
  main_v27

def fn {F : FTy → Type} [FloatOps F] (main_arg0 : FVec F S1x16384x1024 .f32) (main_arg1 : FVec F S1x1024 .f32) (main_arg2 : FVec F S1x1024x14344 .f32) (main_arg3 : FVec F S1x16384x14344 .f32) (main_arg4 : FVec F S1x16384x1024 .f32) : IVec S16x1024x14x1024 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : IVec S16x1024x1x1024 1 := shapeCast S16x1024x1x1024 main_v2 shapeCasts_S1x16384x1024_S16x1024x1x1024
  let main_v4 : FVec F S1x16384x14344 .f32 := Host.absf main_arg3
  let main_cst_0 : FVec F S_ .f32 := constant S_ .f32 0x7F800000#32
  let main_v5 : FVec F S1x16384x14344 .f32 := broadcastInDim S1x16384x14344 ![] bcast_S_S1x16384x14344 main_cst_0
  let main_v6 : IVec S1x16384x14344 1 := cmpf .olt main_v4 main_v5
  let main_v7 : IVec S1x16384x14336 1 := (extractStridedSlice S1x16384x14336 ![0, 0, 0] · slices_S1x16384x14344_S1x16384x14336_0_0_0) main_v6
  let main_v8 : IVec S1x16384x14336 1 := (extractStridedSlice S1x16384x14336 ![0, 0, 8] · slices_S1x16384x14344_S1x16384x14336_0_0_8) main_v6
  let main_v9 : IVec S1x16384x14336 1 := andi main_v7 main_v8
  let main_v10 : IVec S16x1024x14x1024 1 := shapeCast S16x1024x14x1024 main_v9 shapeCasts_S1x16384x14336_S16x1024x14x1024
  let main_v11 : IVec S16x1024x14x1024 1 := broadcastInDim S16x1024x14x1024 ![0, 1, 2, 3] bcast_S16x1024x1x1024_S16x1024x14x1024_0_1_2_3 main_v3
  let main_v12 : IVec S16x1024x14x1024 1 := andi main_v11 main_v10
  let main_v13 : FVec F S1x1024x14344 .f32 := Host.absf main_arg2
  let main_cst_1 : FVec F S_ .f32 := constant S_ .f32 0x7F800000#32
  let main_v14 : FVec F S1x1024x14344 .f32 := broadcastInDim S1x1024x14344 ![] bcast_S_S1x1024x14344 main_cst_1
  let main_v15 : IVec S1x1024x14344 1 := cmpf .olt main_v13 main_v14
  let main_v16 : IVec S1x1024x14336 1 := (extractStridedSlice S1x1024x14336 ![0, 0, 0] · slices_S1x1024x14344_S1x1024x14336_0_0_0) main_v15
  let main_v17 : IVec S1x1024x14336 1 := (extractStridedSlice S1x1024x14336 ![0, 0, 8] · slices_S1x1024x14344_S1x1024x14336_0_0_8) main_v15
  let main_v18 : IVec S1x1024x14336 1 := andi main_v16 main_v17
  let main_v19 : IVec S1x1024x14x1024 1 := shapeCast S1x1024x14x1024 main_v18 shapeCasts_S1x1024x14336_S1x1024x14x1024
  let main_v20 : IVec S16x1024x14x1024 1 := broadcastInDim S16x1024x14x1024 ![0, 1, 2, 3] bcast_S1x1024x14x1024_S16x1024x14x1024_0_1_2_3 main_v19
  fn_part1 (F := F) main_arg1 main_v12 main_v20
-- ==== Kernel.lean ====
abbrev S1x16384x14344 : Shape := ⟨3, ![1, 16384, 14344]⟩
abbrev S1x3x1024 : Shape := ⟨3, ![1, 3, 1024]⟩
abbrev S1x1024 : Shape := ⟨2, ![1, 1024]⟩
abbrev S1x16384x1024 : Shape := ⟨3, ![1, 16384, 1024]⟩
abbrev S16384x14336 : Shape := ⟨2, ![16384, 14336]⟩
abbrev S16384x14344 : Shape := ⟨2, ![16384, 14344]⟩
abbrev S16384x8192 : Shape := ⟨2, ![16384, 8192]⟩
abbrev S16384x4096 : Shape := ⟨2, ![16384, 4096]⟩
abbrev S16384x2048 : Shape := ⟨2, ![16384, 2048]⟩
abbrev S3x1024 : Shape := ⟨2, ![3, 1024]⟩
abbrev S_ : Shape := ⟨0, ![]⟩
abbrev S8x1024 : Shape := ⟨2, ![8, 1024]⟩
abbrev S16384x1024 : Shape := ⟨2, ![16384, 1024]⟩
abbrev S512x1024 : Shape := ⟨2, ![512, 1024]⟩
abbrev S16x1024 : Shape := ⟨2, ![16, 1024]⟩
abbrev S512x4096 : Shape := ⟨2, ![512, 4096]⟩
abbrev S528x1024 : Shape := ⟨2, ![528, 1024]⟩
abbrev S1024 : Shape := ⟨1, ![1024]⟩

abbrev nBuf : Space → Nat
  | .hbm => 19
  | .vmem => 25
  | .smem => 0
  | _ => 0

abbrev bufTy : (tb : Table) → Fin (tcTables nBuf tb) → BufTy
  | .hbm, ⟨0, _⟩ => ⟨S1x16384x14344, .f32⟩
  | .hbm, ⟨1, _⟩ => ⟨S1x3x1024, .f32⟩
  | .hbm, ⟨2, _⟩ => ⟨S1x1024, .f32⟩
  | .hbm, ⟨3, _⟩ => ⟨S1x16384x1024, .f32⟩
  | .hbm, ⟨4, _⟩ => ⟨S16384x14336, .bf16⟩
  | .hbm, ⟨5, _⟩ => ⟨S16384x14344, .f32⟩
  | .hbm, ⟨6, _⟩ => ⟨S16384x8192, .f32⟩
  | .hbm, ⟨7, _⟩ => ⟨S16384x4096, .f32⟩
  | .hbm, ⟨8, _⟩ => ⟨S16384x2048, .f32⟩
  | .hbm, ⟨9, _⟩ => ⟨S16384x14336, .f32⟩
  | .hbm, ⟨10, _⟩ => ⟨S16384x14336, .bf16⟩
  | .hbm, ⟨11, _⟩ => ⟨S3x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S16384x1024, .f32⟩
  | .hbm, ⟨16, _⟩ => ⟨S16384x1024, .bf16⟩
  | .hbm, ⟨17, _⟩ => ⟨S16384x14336, .bf16⟩
  | .hbm, ⟨18, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S8x1024, .f32⟩
  | .local _ .vmem, ⟨21, _⟩ => ⟨S1x1024, .f32⟩
  | .local _ .vmem, ⟨22, _⟩ => ⟨S512x4096, .bf16⟩
  | .local _ .vmem, ⟨23, _⟩ => ⟨S512x4096, .bf16⟩
  | .local _ .vmem, ⟨24, _⟩ => ⟨S8x1024, .f32⟩
  | _, _ => ⟨S1x16384x14344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![32], ![false]⟩

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c9_i32 : BitVec 32 := 9#32
  let c0_i32 : BitVec 32 := 0#32
  ![v2.toNat, c9_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c11_i32 : BitVec 32 := 11#32
  let c0_i32 : BitVec 32 := 0#32
  ![v2.toNat, c11_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x16384x14344 : Shape := ⟨3, ![1, 16384, 14344]⟩
abbrev S1x3x1024 : Shape := ⟨3, ![1, 3, 1024]⟩
abbrev S1x1024 : Shape := ⟨2, ![1, 1024]⟩
abbrev S1x16384x1024 : Shape := ⟨3, ![1, 16384, 1024]⟩
abbrev S16384x14336 : Shape := ⟨2, ![16384, 14336]⟩
abbrev S1x16384x10248 : Shape := ⟨3, ![1, 16384, 10248]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x16386x1024 : Shape := ⟨3, ![1, 16386, 1024]⟩
abbrev S1x1x1024 : Shape := ⟨3, ![1, 1, 1024]⟩
abbrev S16384x8192 : Shape := ⟨2, ![16384, 8192]⟩
abbrev S16384x2048 : Shape := ⟨2, ![16384, 2048]⟩
abbrev S16384x1024 : Shape := ⟨2, ![16384, 1024]⟩
abbrev S4x1024 : Shape := ⟨2, ![4, 1024]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S1x16384x14344, .f32⟩
  | 1 => ⟨S1x3x1024, .f32⟩
  | 2 => ⟨S1x1024, .f32⟩
  | 3 => ⟨S1x16384x1024, .f32⟩
  | 4 => ⟨S16384x14336, .bf16⟩
  | 5 => ⟨S1x16384x1024, .f32⟩
  | 6 => ⟨S1x16384x1024, .f32⟩
  | 7 => ⟨S1x16384x1024, .f32⟩
  | 8 => ⟨S1x16384x1024, .f32⟩
  | 9 => ⟨S1x16384x10248, .f32⟩
  | 10 => ⟨S1x16384x1024, .f32⟩
  | 11 => ⟨S3x1024, .f32⟩
  | 12 => ⟨S1024, .f32⟩
  | 13 => ⟨S_, .f32⟩
  | 14 => ⟨S1x2x1024, .f32⟩
  | 15 => ⟨S1x16386x1024, .f32⟩
  | 16 => ⟨S_, .f32⟩
  | 17 => ⟨S1x2x1024, .f32⟩
  | 18 => ⟨S1x16384x1024, .f32⟩
  | 19 => ⟨S1x1024, .f32⟩
  | 20 => ⟨S1024, .f32⟩
  | 21 => ⟨S1x1x1024, .f32⟩
  | 22 => ⟨S1x16384x1024, .f32⟩
  | 23 => ⟨S1x16384x1024, .f32⟩
  | 24 => ⟨S1x16384x1024, .f32⟩
  | 25 => ⟨S1x1024, .f32⟩
  | 26 => ⟨S1024, .f32⟩
  | 27 => ⟨S1x1x1024, .f32⟩
  | 28 => ⟨S1x16384x1024, .f32⟩
  | 29 => ⟨S1x16384x1024, .f32⟩
  | 30 => ⟨S1x16384x1024, .f32⟩
  | 31 => ⟨S1x16384x1024, .f32⟩
  | 32 => ⟨S1x1024, .f32⟩
  | 33 => ⟨S1024, .f32⟩
  | 34 => ⟨S1x1x1024, .f32⟩
  | 35 => ⟨S1x16384x1024, .f32⟩
  | 36 => ⟨S1x16384x1024, .f32⟩
  | 37 => ⟨S1x16384x1024, .f32⟩
  | 38 => ⟨S1x1x1024, .f32⟩
  | 39 => ⟨S1x16384x1024, .f32⟩
  | 40 => ⟨S1x16384x1024, .f32⟩
  | 41 => ⟨S1x16384x1024, .f32⟩
  | 42 => ⟨S1x16384x1024, .f32⟩
  | 43 => ⟨S1x16384x1024, .f32⟩
  | 44 => ⟨S_, .f32⟩
  | 45 => ⟨S1x16384x1024, .f32⟩
  | 46 => ⟨S1x16384x1024, .f32⟩
  | 47 => ⟨S_, .f32⟩
  | 48 => ⟨S1x16384x1024, .f32⟩
  | 49 => ⟨S1x16384x1024, .f32⟩
  | 50 => ⟨S_, .f32⟩
  | 51 => ⟨S1x16384x1024, .f32⟩
  | 52 => ⟨S1x16384x1024, .f32⟩
  | 53 => ⟨S1x16384x1024, .f32⟩
  | 54 => ⟨S1x16384x1024, .f32⟩
  | 55 => ⟨S1x16384x1024, .f32⟩
  | 56 => ⟨S1x16384x1024, .f32⟩
  | 57 => ⟨S1x16384x1024, .f32⟩
  | 58 => ⟨S1x16384x1024, .f32⟩
  | 59 => ⟨S1x16384x1024, .f32⟩
  | 60 => ⟨S1x16384x1024, .f32⟩
  | 61 => ⟨S1x16384x1024, .f32⟩
  | 62 => ⟨S1x16384x1024, .f32⟩
  | 63 => ⟨S1x16384x1024, .f32⟩
  | 64 => ⟨S_, .f32⟩
  | 65 => ⟨S1x1024, .f32⟩
  | 66 => ⟨S1x1x1024, .f32⟩
  | 67 => ⟨S_, .f32⟩
  | 68 => ⟨S1024, .f32⟩
  | 69 => ⟨S1x16384x1024, .f32⟩
  | 70 => ⟨S_, .f32⟩
  | 71 => ⟨S1x1024, .f32⟩
  | 72 => ⟨S1x1x1024, .f32⟩
  | 73 => ⟨S1x16384x1024, .f32⟩
  | 74 => ⟨S1x16384x1024, .f32⟩
  | 75 => ⟨S_, .f32⟩
  | 76 => ⟨S1024, .f32⟩
  | 77 => ⟨S1x1024, .f32⟩
  | 78 => ⟨S_, .f32⟩
  | 79 => ⟨S3x1024, .f32⟩
  | 80 => ⟨S_, .f32⟩
  | 81 => ⟨S1x16386x1024, .f32⟩
  | 82 => ⟨S1x16384x1024, .f32⟩
  | 83 => ⟨S_, .f32⟩
  | 84 => ⟨S1x1024, .f32⟩
  | 85 => ⟨S1x1x1024, .f32⟩
  | 86 => ⟨S1x16384x1024, .f32⟩
  | 87 => ⟨S1x16384x1024, .f32⟩
  | 88 => ⟨S_, .f32⟩
  | 89 => ⟨S1024, .f32⟩
  | 90 => ⟨S1x1024, .f32⟩
  | 91 => ⟨S_, .f32⟩
  | 92 => ⟨S3x1024, .f32⟩
  | 93 => ⟨S3x1024, .f32⟩
  | 94 => ⟨S_, .f32⟩
  | 95 => ⟨S1x16386x1024, .f32⟩
  | 96 => ⟨S1x16386x1024, .f32⟩
  | 97 => ⟨S1x16384x1024, .f32⟩
  | 98 => ⟨S_, .f32⟩
  | 99 => ⟨S1x1024, .f32⟩
  | 100 => ⟨S1x1x1024, .f32⟩
  | 101 => ⟨S1x16384x1024, .f32⟩
  | 102 => ⟨S1x16384x1024, .f32⟩
  | 103 => ⟨S_, .f32⟩
  | 104 => ⟨S1024, .f32⟩
  | 105 => ⟨S1x1024, .f32⟩
  | 106 => ⟨S_, .f32⟩
  | 107 => ⟨S3x1024, .f32⟩
  | 108 => ⟨S3x1024, .f32⟩
  | 109 => ⟨S_, .f32⟩
  | 110 => ⟨S1x16386x1024, .f32⟩
  | 111 => ⟨S1x16386x1024, .f32⟩
  | 112 => ⟨S1x2x1024, .f32⟩
  | 113 => ⟨S1x16384x1024, .f32⟩
  | 114 => ⟨S1x1024, .f32⟩
  | 115 => ⟨S1x3x1024, .f32⟩
  | 116 => ⟨S1x16384x1024, .f32⟩
  | 117 => ⟨S1x16384x1024, .f32⟩
  | 118 => ⟨S16384x8192, .bf16⟩
  | 119 => ⟨S16384x8192, .f32⟩
  | 120 => ⟨S16384x2048, .bf16⟩
  | 121 => ⟨S16384x2048, .f32⟩
  | 122 => ⟨S16384x1024, .f32⟩
  | 123 => ⟨S16384x1024, .f32⟩
  | 124 => ⟨S16384x1024, .f32⟩
  | 125 => ⟨S16384x1024, .f32⟩
  | 126 => ⟨S16384x14336, .f32⟩
  | 127 => ⟨S16384x14336, .bf16⟩
  | _ => ⟨S1x16384x14344, .f32⟩

abbrev hbmTy0_1 (i : Nat) : BufTy := match i % 128 with
  | 0 => ⟨S3x1024, .f32⟩
  | 1 => ⟨S_, .f32⟩
  | 2 => ⟨S4x1024, .f32⟩
  | 3 => ⟨S8x1024, .f32⟩
  | _ => ⟨S1x16384x14344, .f32⟩

abbrev hbmTy (i : Nat) : BufTy := match i / 128 with
  | 0 => hbmTy0_0 i
  | 1 => hbmTy0_1 i
  | _ => ⟨S1x16384x14344, .f32⟩

abbrev bufTy : (tb : Table) → Fin (tcTables nBuf tb) → BufTy
  | .hbm, ⟨i, _⟩ => hbmTy i
  | _, _ => ⟨S1x16384x14344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]
-- ==== Kernel2.lean ====
abbrev S1x16384x14344 : Shape := ⟨3, ![1, 16384, 14344]⟩
abbrev S1x8 : Shape := ⟨2, ![1, 8]⟩
abbrev S1x2048 : Shape := ⟨2, ![1, 2048]⟩
abbrev S1x2048x1024 : Shape := ⟨3, ![1, 2048, 1024]⟩
abbrev S16384x14344 : Shape := ⟨2, ![16384, 14344]⟩
abbrev S16384x8192 : Shape := ⟨2, ![16384, 8192]⟩
abbrev S16384x4096 : Shape := ⟨2, ![16384, 4096]⟩
abbrev S16384x2048 : Shape := ⟨2, ![16384, 2048]⟩
abbrev S16384x14336 : Shape := ⟨2, ![16384, 14336]⟩
abbrev S_ : Shape := ⟨0, ![]⟩
abbrev S16384x120 : Shape := ⟨2, ![16384, 120]⟩
abbrev S16384x8 : Shape := ⟨2, ![16384, 8]⟩
abbrev S16384x128 : Shape := ⟨2, ![16384, 128]⟩
abbrev S1x128 : Shape := ⟨2, ![1, 128]⟩
abbrev S2048x1024 : Shape := ⟨2, ![2048, 1024]⟩
abbrev S16384x1024 : Shape := ⟨2, ![16384, 1024]⟩
abbrev S64x4x256x512 : Shape := ⟨4, ![64, 4, 256, 512]⟩
abbrev S64x4x8x256 : Shape := ⟨4, ![64, 4, 8, 256]⟩
abbrev S256x1024 : Shape := ⟨2, ![256, 1024]⟩
abbrev S256x2048 : Shape := ⟨2, ![256, 2048]⟩
abbrev S256x128 : Shape := ⟨2, ![256, 128]⟩
abbrev S1x4x256x512 : Shape := ⟨4, ![1, 4, 256, 512]⟩
abbrev S1x4x8x256 : Shape := ⟨4, ![1, 4, 8, 256]⟩
abbrev S4x256x512 : Shape := ⟨3, ![4, 256, 512]⟩
abbrev S4x8x256 : Shape := ⟨3, ![4, 8, 256]⟩
abbrev S4x1x256 : Shape := ⟨3, ![4, 1, 256]⟩
abbrev S256x256 : Shape := ⟨2, ![256, 256]⟩
abbrev S128x256 : Shape := ⟨2, ![128, 256]⟩
abbrev S256x512 : Shape := ⟨2, ![256, 512]⟩
abbrev S256 : Shape := ⟨1, ![256]⟩
abbrev S256x1 : Shape := ⟨2, ![256, 1]⟩
abbrev S1x256 : Shape := ⟨2, ![1, 256]⟩
abbrev S1x1x256 : Shape := ⟨3, ![1, 1, 256]⟩
abbrev S1x1x1 : Shape := ⟨3, ![1, 1, 1]⟩
abbrev S1x1 : Shape := ⟨2, ![1, 1]⟩
abbrev S1 : Shape := ⟨1, ![1]⟩
abbrev S1x256x512 : Shape := ⟨3, ![1, 256, 512]⟩
abbrev S1x512 : Shape := ⟨2, ![1, 512]⟩
abbrev S1x1x256x512 : Shape := ⟨4, ![1, 1, 256, 512]⟩
abbrev S1x8x256 : Shape := ⟨3, ![1, 8, 256]⟩
abbrev S8x256 : Shape := ⟨2, ![8, 256]⟩
abbrev S1x1x8x256 : Shape := ⟨4, ![1, 1, 8, 256]⟩

abbrev nBuf : Space → Nat
  | .hbm => 24
  | .vmem => 27
  | .smem => 0
  | _ => 0

abbrev bufTy : (tb : Table) → Fin (tcTables nBuf tb) → BufTy
  | .hbm, ⟨0, _⟩ => ⟨S1x16384x14344, .f32⟩
  | .hbm, ⟨1, _⟩ => ⟨S1x8, .f32⟩
  | .hbm, ⟨2, _⟩ => ⟨S1x2048, .f32⟩
  | .hbm, ⟨3, _⟩ => ⟨S1x2048x1024, .f32⟩
  | .hbm, ⟨4, _⟩ => ⟨S16384x14344, .f32⟩
  | .hbm, ⟨5, _⟩ => ⟨S16384x8192, .f32⟩
  | .hbm, ⟨6, _⟩ => ⟨S16384x4096, .f32⟩
  | .hbm, ⟨7, _⟩ => ⟨S16384x2048, .f32⟩
  | .hbm, ⟨8, _⟩ => ⟨S16384x14336, .f32⟩
  | .hbm, ⟨9, _⟩ => ⟨S16384x14336, .bf16⟩
  | .hbm, ⟨10, _⟩ => ⟨S_, .f32⟩
  | .hbm, ⟨11, _⟩ => ⟨S16384x120, .f32⟩
  | .hbm, ⟨12, _⟩ => ⟨S16384x8, .f32⟩
  | .hbm, ⟨13, _⟩ => ⟨S16384x128, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S2048x1024, .f32⟩
  | .hbm, ⟨18, _⟩ => ⟨S2048x1024, .bf16⟩
  | .hbm, ⟨19, _⟩ => ⟨S16384x2048, .bf16⟩
  | .hbm, ⟨20, _⟩ => ⟨S16384x1024, .bf16⟩
  | .hbm, ⟨21, _⟩ => ⟨S16384x2048, .bf16⟩
  | .hbm, ⟨22, _⟩ => ⟨S64x4x256x512, .bf16⟩
  | .hbm, ⟨23, _⟩ => ⟨S64x4x8x256, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x2048, .f32⟩
  | .local _ .vmem, ⟨14, _⟩ => ⟨S2048x1024, .bf16⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x2048, .bf16⟩
  | .local _ .vmem, ⟨20, _⟩ => ⟨S256x2048, .bf16⟩
  | .local _ .vmem, ⟨21, _⟩ => ⟨S1x4x256x512, .bf16⟩
  | .local _ .vmem, ⟨22, _⟩ => ⟨S1x4x256x512, .bf16⟩
  | .local _ .vmem, ⟨23, _⟩ => ⟨S1x4x8x256, .f32⟩
  | .local _ .vmem, ⟨24, _⟩ => ⟨S1x4x8x256, .f32⟩
  | .local _ .vmem, ⟨25, _⟩ => ⟨S4x256x512, .f32⟩
  | .local _ .vmem, ⟨26, _⟩ => ⟨S4x8x256, .f32⟩
  | _, _ => ⟨S1x16384x14344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S1x16384x14344 : Shape := ⟨3, ![1, 16384, 14344]⟩
abbrev S1x8 : Shape := ⟨2, ![1, 8]⟩
abbrev S1x2048 : Shape := ⟨2, ![1, 2048]⟩
abbrev S1x2048x1024 : Shape := ⟨3, ![1, 2048, 1024]⟩
abbrev S1x16384x1024 : Shape := ⟨3, ![1, 16384, 1024]⟩
abbrev S1x16384x2048 : Shape := ⟨3, ![1, 16384, 2048]⟩
abbrev S1x16384x4 : Shape := ⟨3, ![1, 16384, 4]⟩
abbrev S1x4 : Shape := ⟨2, ![1, 4]⟩
abbrev S4 : Shape := ⟨1, ![4]⟩
abbrev S1x1x4 : Shape := ⟨3, ![1, 1, 4]⟩
abbrev S1x16384x4x256 : Shape := ⟨4, ![1, 16384, 4, 256]⟩
abbrev S1x16384x4x512 : Shape := ⟨4, ![1, 16384, 4, 512]⟩
abbrev S1x256x64x4x256 : Shape := ⟨5, ![1, 256, 64, 4, 256]⟩
abbrev S256x1x4x64x256 : Shape := ⟨5, ![256, 1, 4, 64, 256]⟩
abbrev S_ : Shape := ⟨0, ![]⟩
abbrev S1x256x64x4x512 : Shape := ⟨5, ![1, 256, 64, 4, 512]⟩
abbrev S256x1x4x64x512 : Shape := ⟨5, ![256, 1, 4, 64, 512]⟩
abbrev S1x256x64x4 : Shape := ⟨4, ![1, 256, 64, 4]⟩
abbrev S256x1x4x64 : Shape := ⟨4, ![256, 1, 4, 64]⟩
abbrev S64x64 : Shape := ⟨2, ![64, 64]⟩
abbrev S1x4x256x512 : Shape := ⟨4, ![1, 4, 256, 512]⟩
abbrev S1x4x256 : Shape := ⟨3, ![1, 4, 256]⟩
abbrev S1x1x4x64x256 : Shape := ⟨5, ![1, 1, 4, 64, 256]⟩
abbrev S1x4x64x256 : Shape := ⟨4, ![1, 4, 64, 256]⟩
abbrev S1x1x4x64x512 : Shape := ⟨5, ![1, 1, 4, 64, 512]⟩
abbrev S1x4x64x512 : Shape := ⟨4, ![1, 4, 64, 512]⟩
abbrev S1x1x4x64 : Shape := ⟨4, ![1, 1, 4, 64]⟩
abbrev S1x4x64 : Shape := ⟨3, ![1, 4, 64]⟩
abbrev S1x4x64x1 : Shape := ⟨4, ![1, 4, 64, 1]⟩
abbrev S1x4x1x64 : Shape := ⟨4, ![1, 4, 1, 64]⟩
abbrev S1x4x64x64 : Shape := ⟨4, ![1, 4, 64, 64]⟩
abbrev S1x4x1 : Shape := ⟨3, ![1, 4, 1]⟩
abbrev S1x4x1x1 : Shape := ⟨4, ![1, 4, 1, 1]⟩
abbrev S2048 : Shape := ⟨1, ![2048]⟩
abbrev S4x512 : Shape := ⟨2, ![4, 512]⟩
abbrev S1x16384x4x1 : Shape := ⟨4, ![1, 16384, 4, 1]⟩
abbrev S1x1x4x512 : Shape := ⟨4, ![1, 1, 4, 512]⟩
abbrev S2048x1024 : Shape := ⟨2, ![2048, 1024]⟩
abbrev S16384x2048 : Shape := ⟨2, ![16384, 2048]⟩
abbrev S16384x1024 : Shape := ⟨2, ![16384, 1024]⟩

abbrev nBuf : Space → Nat
  | .hbm => 248
  | .vmem => 0
  | .smem => 0
  | _ => 0

abbrev hbmTy0_0 (i : Nat) : BufTy := match i % 128 with
  | 0 => ⟨S1x16384x14344, .f32⟩
  | 1 => ⟨S1x8, .f32⟩
  | 2 => ⟨S1x2048, .f32⟩
  | 3 => ⟨S1x2048x1024, .f32⟩
  | 4 => ⟨S1x16384x1024, .f32⟩
  | 5 => ⟨S1x16384x1024, .f32⟩
  | 6 => ⟨S1x16384x2048, .f32⟩
  | 7 => ⟨S1x16384x4, .f32⟩
  | 8 => ⟨S1x16384x4, .f32⟩
  | 9 => ⟨S1x4, .f32⟩
  | 10 => ⟨S4, .f32⟩
  | 11 => ⟨S1x1x4, .f32⟩
  | 12 => ⟨S1x16384x4, .f32⟩
  | 13 => ⟨S1x16384x4, .f32⟩
  | 14 => ⟨S1x4, .f32⟩
  | 15 => ⟨S4, .f32⟩
  | 16 => ⟨S1x1x4, .f32⟩
  | 17 => ⟨S1x16384x4, .f32⟩
  | 18 => ⟨S1x16384x4, .f32⟩
  | 19 => ⟨S1x16384x4x256, .f32⟩
  | 20 => ⟨S1x16384x4x256, .f32⟩
  | 21 => ⟨S1x16384x4x512, .f32⟩
  | 22 => ⟨S1x256x64x4x256, .f32⟩
  | 23 => ⟨S256x1x4x64x256, .f32⟩
  | 24 => ⟨S_, .f32⟩
  | 25 => ⟨S256x1x4x64x256, .f32⟩
  | 26 => ⟨S256x1x4x64x256, .f32⟩
  | 27 => ⟨S1x256x64x4x256, .f32⟩
  | 28 => ⟨S256x1x4x64x256, .f32⟩
  | 29 => ⟨S1x256x64x4x512, .f32⟩
  | 30 => ⟨S256x1x4x64x512, .f32⟩
  | 31 => ⟨S1x256x64x4, .f32⟩
  | 32 => ⟨S256x1x4x64, .f32⟩
  | 33 => ⟨S1x256x64x4, .f32⟩
  | 34 => ⟨S256x1x4x64, .f32⟩
  | 35 => ⟨S256x1x4x64, .f32⟩
  | 36 => ⟨S_, .f32⟩
  | 37 => ⟨S256x1x4x64, .f32⟩
  | 38 => ⟨S256x1x4x64, .f32⟩
  | 39 => ⟨S256x1x4x64, .f32⟩
  | 40 => ⟨S256x1x4x64, .f32⟩
  | 41 => ⟨S256x1x4x64, .i1⟩
  | 42 => ⟨S256x1x4x64, .f32⟩
  | 43 => ⟨S256x1x4x64, .f32⟩
  | 44 => ⟨S256x1x4x64, .f32⟩
  | 45 => ⟨S256x1x4x64, .f32⟩
  | 46 => ⟨S256x1x4x64, .f32⟩
  | 47 => ⟨S256x1x4x64, .f32⟩
  | 48 => ⟨S256x1x4x64, .f32⟩
  | 49 => ⟨S256x1x4x64, .f32⟩
  | 50 => ⟨S256x1x4x64, .f32⟩
  | 51 => ⟨S_, .i1⟩
  | 52 => ⟨S64x64, .i1⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i1⟩
  | 59 => ⟨S_, .i1⟩
  | 60 => ⟨S64x64, .i1⟩
  | 61 => ⟨S64x64, .i1⟩
  | 62 => ⟨S_, .f32⟩
  | 63 => ⟨S1x4x256x512, .f32⟩
  | 64 => ⟨S_, .f32⟩
  | 65 => ⟨S1x4x256, .f32⟩
  | 66 => ⟨S_, .f32⟩
  | 67 => ⟨S1x4, .f32⟩
  | 68 => ⟨S_, .f32⟩
  | 69 => ⟨S256x1x4x64x512, .f32⟩
  | 70 => ⟨S_, .i32⟩
  | 71 => ⟨S256x1x4x64x256, .f32⟩
  | 72 => ⟨S256x1x4x64x256, .f32⟩
  | 73 => ⟨S256x1x4x64x512, .f32⟩
  | 74 => ⟨S256x1x4x64, .f32⟩
  | 75 => ⟨S256x1x4x64, .f32⟩
  | 76 => ⟨S64x64, .i1⟩
  | 77 => ⟨S_, .i32⟩
  | 78 => ⟨S1x4x256x512, .f32⟩
  | 79 => ⟨S1x4x256, .f32⟩
  | 80 => ⟨S1x4, .f32⟩
  | 81 => ⟨S256x1x4x64x512, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1x1x4x64x256, .f32⟩
  | 89 => ⟨S1x4x64x256, .f32⟩
  | 90 => ⟨S_, .i32⟩
  | 91 => ⟨S_, .i32⟩
  | 92 => ⟨S_, .i32⟩
  | 93 => ⟨S_, .i32⟩
  | 94 => ⟨S1x1x4x64x256, .f32⟩
  | 95 => ⟨S1x4x64x256, .f32⟩
  | 96 => ⟨S_, .i32⟩
  | 97 => ⟨S_, .i32⟩
  | 98 => ⟨S_, .i32⟩
  | 99 => ⟨S_, .i32⟩
  | 100 => ⟨S1x1x4x64x512, .f32⟩
  | 101 => ⟨S1x4x64x512, .f32⟩
  | 102 => ⟨S_, .i32⟩
  | 103 => ⟨S_, .i32⟩
  | 104 => ⟨S_, .i32⟩
  | 105 => ⟨S1x1x4x64, .f32⟩
  | 106 => ⟨S1x4x64, .f32⟩
  | 107 => ⟨S_, .i32⟩
  | 108 => ⟨S_, .i32⟩
  | 109 => ⟨S_, .i32⟩
  | 110 => ⟨S1x1x4x64, .f32⟩
  | 111 => ⟨S1x4x64, .f32⟩
  | 112 => ⟨S_, .f32⟩
  | 113 => ⟨S_, .f32⟩
  | 114 => ⟨S1x4x64, .f32⟩
  | 115 => ⟨S1x4x64x1, .f32⟩
  | 116 => ⟨S1x4x1x64, .f32⟩
  | 117 => ⟨S1x4x64x64, .f32⟩
  | 118 => ⟨S1x4x64x64, .f32⟩
  | 119 => ⟨S1x4x64x64, .f32⟩
  | 120 => ⟨S1x4x1x64, .f32⟩
  | 121 => ⟨S1x4x64x64, .f32⟩
  | 122 => ⟨S1x4x64x64, .f32⟩
  | 123 => ⟨S_, .f32⟩
  | 124 => ⟨S_, .f32⟩
  | 125 => ⟨S1x4x64x64, .i1⟩
  | 126 => ⟨S1x4x64x64, .f32⟩
  | 127 => ⟨S1x4x64x64, .f32⟩
  | _ => ⟨S1x16384x14344, .f32⟩

abbrev hbmTy0_1 (i : Nat) : BufTy := match i % 128 with
  | 0 => ⟨S1x4x1, .f32⟩
  | 1 => ⟨S1x4x64, .f32⟩
  | 2 => ⟨S1x4x64, .f32⟩
  | 3 => ⟨S_, .f32⟩
  | 4 => ⟨S1x4x64, .f32⟩
  | 5 => ⟨S1x4x64, .f32⟩
  | 6 => ⟨S1x4x64x64, .f32⟩
  | 7 => ⟨S1x4x64x1, .f32⟩
  | 8 => ⟨S1x4x64x64, .f32⟩
  | 9 => ⟨S1x4x64x64, .f32⟩
  | 10 => ⟨S1x4x64x64, .f32⟩
  | 11 => ⟨S1x4x64x64, .f32⟩
  | 12 => ⟨S1x4x64, .f32⟩
  | 13 => ⟨S1x4x64, .f32⟩
  | 14 => ⟨S1x4x64x512, .f32⟩
  | 15 => ⟨S1x4x64x1, .f32⟩
  | 16 => ⟨S1x4x64x512, .f32⟩
  | 17 => ⟨S1x4x64x512, .f32⟩
  | 18 => ⟨S1x4x64x512, .f32⟩
  | 19 => ⟨S1x4x64x512, .f32⟩
  | 20 => ⟨S_, .f32⟩
  | 21 => ⟨S1x4x64, .f32⟩
  | 22 => ⟨S1x4x64, .f32⟩
  | 23 => ⟨S1x4x64, .f32⟩
  | 24 => ⟨S1x4x64, .f32⟩
  | 25 => ⟨S1x4x64, .f32⟩
  | 26 => ⟨S1x4x64, .f32⟩
  | 27 => ⟨S1x4x64, .f32⟩
  | 28 => ⟨S1x4x64, .f32⟩
  | 29 => ⟨S1x4x64x1, .f32⟩
  | 30 => ⟨S1x4x64x512, .f32⟩
  | 31 => ⟨S1x4x64x512, .f32⟩
  | 32 => ⟨S1x4x1, .f32⟩
  | 33 => ⟨S1x4, .f32⟩
  | 34 => ⟨S1x4x1, .f32⟩
  | 35 => ⟨S1x4x64, .f32⟩
  | 36 => ⟨S1x4x64, .f32⟩
  | 37 => ⟨S1x4x64, .f32⟩
  | 38 => ⟨S1x4, .f32⟩
  | 39 => ⟨S_, .f32⟩
  | 40 => ⟨S1x4, .f32⟩
  | 41 => ⟨S1x4, .f32⟩
  | 42 => ⟨S1x4x1, .f32⟩
  | 43 => ⟨S1x4x64, .f32⟩
  | 44 => ⟨S1x4x64, .f32⟩
  | 45 => ⟨S1x4x64, .f32⟩
  | 46 => ⟨S1x4, .f32⟩
  | 47 => ⟨S1x4, .f32⟩
  | 48 => ⟨S1x4, .f32⟩
  | 49 => ⟨S1x4x1x1, .f32⟩
  | 50 => ⟨S1x4x256x512, .f32⟩
  | 51 => ⟨S1x4x256x512, .f32⟩
  | 52 => ⟨S1x4x64x1, .f32⟩
  | 53 => ⟨S1x4x64x256, .f32⟩
  | 54 => ⟨S1x4x64x256, .f32⟩
  | 55 => ⟨S1x4x256x512, .f32⟩
  | 56 => ⟨S1x4x256x512, .f32⟩
  | 57 => ⟨S1x4x1, .f32⟩
  | 58 => ⟨S1x4x256, .f32⟩
  | 59 => ⟨S1x4x256, .f32⟩
  | 60 => ⟨S1x4x256, .f32⟩
  | 61 => ⟨S1x4x256, .f32⟩
  | 62 => ⟨S1x1x4x64x512, .f32⟩
  | 63 => ⟨S_, .i32⟩
  | 64 => ⟨S_, .i32⟩
  | 65 => ⟨S_, .i32⟩
  | 66 => ⟨S_, .i32⟩
  | 67 => ⟨S256x1x4x64x512, .f32⟩
  | 68 => ⟨S_, .i32⟩
  | 69 => ⟨S_, .i32⟩
  | 70 => ⟨S1x256x64x4x512, .f32⟩
  | 71 => ⟨S1x16384x4x512, .f32⟩
  | 72 => ⟨S1x16384x2048, .f32⟩
  | 73 => ⟨S1x16384x2048, .f32⟩
  | 74 => ⟨S2048, .f32⟩
  | 75 => ⟨S4x512, .f32⟩
  | 76 => ⟨S1x16384x4x512, .f32⟩
  | 77 => ⟨S_, .f32⟩
  | 78 => ⟨S1x16384x4, .f32⟩
  | 79 => ⟨S1x16384x4x1, .f32⟩
  | 80 => ⟨S_, .f32⟩
  | 81 => ⟨S1x16384x4x1, .f32⟩
  | 82 => ⟨S1x16384x4x1, .f32⟩
  | 83 => ⟨S_, .f32⟩
  | 84 => ⟨S1x16384x4x1, .f32⟩
  | 85 => ⟨S1x16384x4x1, .f32⟩
  | 86 => ⟨S1x16384x4x1, .f32⟩
  | 87 => ⟨S1x16384x4x512, .f32⟩
  | 88 => ⟨S1x16384x4x512, .f32⟩
  | 89 => ⟨S1x1x4x512, .f32⟩
  | 90 => ⟨S1x16384x4x512, .f32⟩
  | 91 => ⟨S1x16384x4x512, .f32⟩
  | 92 => ⟨S1x16384x2048, .f32⟩
  | 93 => ⟨S1x16384x2048, .f32⟩
  | 94 => ⟨S1x16384x2048, .f32⟩
  | 95 => ⟨S_, .f32⟩
  | 96 => ⟨S1x16384x2048, .f32⟩
  | 97 => ⟨S1x16384x2048, .f32⟩
  | 98 => ⟨S_, .f32⟩
  | 99 => ⟨S1x16384x2048, .f32⟩
  | 100 => ⟨S1x16384x2048, .f32⟩
  | 101 => ⟨S1x16384x2048, .f32⟩
  | 102 => ⟨S1x16384x2048, .f32⟩
  | 103 => ⟨S1x16384x2048, .f32⟩
  | 104 => ⟨S_, .f32⟩
  | 105 => ⟨S1x16384x2048, .f32⟩
  | 106 => ⟨S1x16384x2048, .f32⟩
  | 107 => ⟨S_, .f32⟩
  | 108 => ⟨S1x16384x2048, .f32⟩
  | 109 => ⟨S1x16384x2048, .f32⟩
  | 110 => ⟨S1x16384x2048, .f32⟩
  | 111 => ⟨S1x16384x2048, .f32⟩
  | 112 => ⟨S2048x1024, .f32⟩
  | 113 => ⟨S1x16384x1024, .f32⟩
  | 114 => ⟨S16384x2048, .f32⟩
  | 115 => ⟨S16384x2048, .bf16⟩
  | 116 => ⟨S16384x1024, .f32⟩
  | 117 => ⟨S16384x1024, .bf16⟩
  | 118 => ⟨S16384x2048, .f32⟩
  | 119 => ⟨S16384x2048, .bf16⟩
  | _ => ⟨S1x16384x14344, .f32⟩

abbrev hbmTy (i : Nat) : BufTy := match i / 128 with
  | 0 => hbmTy0_0 i
  | 1 => hbmTy0_1 i
  | _ => ⟨S1x16384x14344, .f32⟩

abbrev bufTy : (tb : Table) → Fin (tcTables nBuf tb) → BufTy
  | .hbm, ⟨i, _⟩ => hbmTy i
  | _, _ => ⟨S1x16384x14344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_0 : Ref sig .tc := ⟨.hbm, 59, rfl⟩
abbrev main_call1_v5 : Ref sig .tc := ⟨.hbm, 60, rfl⟩
abbrev main_v32 : Ref sig .tc := ⟨.hbm, 61, rfl⟩
abbrev main_cst_0 : Ref sig .tc := ⟨.hbm, 62, rfl⟩
abbrev main_v33 : Ref sig .tc := ⟨.hbm, 63, rfl⟩
abbrev main_cst_1 : Ref sig .tc := ⟨.hbm, 64, rfl⟩
abbrev main_v34 : Ref sig .tc := ⟨.hbm, 65, rfl⟩
abbrev main_cst_2 : Ref sig .tc := ⟨.hbm, 66, rfl⟩
abbrev main_v35 : Ref sig .tc := ⟨.hbm, 67, rfl⟩
abbrev main_cst_3 : Ref sig .tc := ⟨.hbm, 68, rfl⟩
abbrev main_v36 : Ref sig .tc := ⟨.hbm, 69, rfl⟩
abbrev main_c_4 : Ref sig .tc := ⟨.hbm, 70, rfl⟩
abbrev main_v37_0 : Ref sig .tc := ⟨.hbm, 71, rfl⟩
abbrev main_v37_1 : Ref sig .tc := ⟨.hbm, 72, rfl⟩
abbrev main_v37_2 : Ref sig .tc := ⟨.hbm, 73, rfl⟩
abbrev main_v37_3 : Ref sig .tc := ⟨.hbm, 74, rfl⟩
abbrev main_v37_4 : Ref sig .tc := ⟨.hbm, 75, rfl⟩
abbrev main_v37_5 : Ref sig .tc := ⟨.hbm, 76, rfl⟩
abbrev main_v37_6 : Ref sig .tc := ⟨.hbm, 77, rfl⟩
abbrev main_v37_7 : Ref sig .tc := ⟨.hbm, 78, rfl⟩
abbrev main_v37_8 : Ref sig .tc := ⟨.hbm, 79, rfl⟩
abbrev main_v37_9 : Ref sig .tc := ⟨.hbm, 80, rfl⟩
abbrev main_v37_10 : Ref sig .tc := ⟨.hbm, 81, rfl⟩
abbrev main_while0c_c_20 : Ref sig .tc := ⟨.hbm, 82, rfl⟩
abbrev main_while0c_v75 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_c_1 : Ref sig .tc := ⟨.hbm, 86, rfl⟩
abbrev main_while0b_call2_c_2 : Ref sig .tc := ⟨.hbm, 87, rfl⟩
abbrev main_while0b_call2_v0 : Ref sig .tc := ⟨.hbm, 88, rfl⟩
abbrev main_while0b_v75 : Ref sig .tc := ⟨.hbm, 89, rfl⟩
abbrev main_while0b_call3_c : Ref sig .tc := ⟨.hbm, 90, rfl⟩
abbrev main_while0b_call3_c_0 : Ref sig .tc := ⟨.hbm, 91, rfl⟩
abbrev main_while0b_call3_c_1 : Ref sig .tc := ⟨.hbm, 92, rfl⟩
abbrev main_while0b_call3_c_2 : Ref sig .tc := ⟨.hbm, 93, rfl⟩
abbrev main_while0b_call3_v0 : Ref sig .tc := ⟨.hbm, 94, rfl⟩
abbrev main_while0b_v76 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_c_2 : Ref sig .tc := ⟨.hbm, 99, rfl⟩
abbrev main_while0b_call4_v0 : Ref sig .tc := ⟨.hbm, 100, rfl⟩
abbrev main_while0b_v77 : Ref sig .tc := ⟨.hbm, 101, rfl⟩
abbrev main_while0b_call5_c : Ref sig .tc := ⟨.hbm, 102, rfl⟩
abbrev main_while0b_call5_c_0 : Ref sig .tc := ⟨.hbm, 103, rfl⟩
abbrev main_while0b_call5_c_1 : Ref sig .tc := ⟨.hbm, 104, rfl⟩
abbrev main_while0b_call5_v0 : Ref sig .tc := ⟨.hbm, 105, rfl⟩
abbrev main_while0b_v78 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_c_1 : Ref sig .tc := ⟨.hbm, 109, rfl⟩
abbrev main_while0b_call6_v0 : Ref sig .tc := ⟨.hbm, 110, rfl⟩
abbrev main_while0b_v79 : Ref sig .tc := ⟨.hbm, 111, rfl⟩
abbrev main_while0b_call7_call0_cst : Ref sig .tc := ⟨.hbm, 112, rfl⟩
abbrev main_while0b_call7_call0_v0 : Ref sig .tc := ⟨.hbm, 113, rfl⟩
abbrev main_while0b_v80 : Ref sig .tc := ⟨.hbm, 114, rfl⟩
abbrev main_while0b_v81 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_cst_20 : Ref sig .tc := ⟨.hbm, 123, rfl⟩
abbrev main_while0b_call8_v0 : Ref sig .tc := ⟨.hbm, 124, rfl⟩
abbrev main_while0b_call8_v1 : Ref sig .tc := ⟨.hbm, 125, rfl⟩
abbrev main_while0b_call8_v2 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_cst_21 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_v106 : Ref sig .tc := ⟨.hbm, 145, rfl⟩
abbrev main_while0b_v107 : Ref sig .tc := ⟨.hbm, 146, rfl⟩
abbrev main_while0b_v108 : Ref sig .tc := ⟨.hbm, 147, rfl⟩
abbrev main_while0b_cst_22 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_v123 : Ref sig .tc := ⟨.hbm, 163, rfl⟩
abbrev main_while0b_v124 : Ref sig .tc := ⟨.hbm, 164, rfl⟩
abbrev main_while0b_v125 : Ref sig .tc := ⟨.hbm, 165, rfl⟩
abbrev main_while0b_v126 : Ref sig .tc := ⟨.hbm, 166, rfl⟩
abbrev main_while0b_cst_23 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_v144 : Ref sig .tc := ⟨.hbm, 185, rfl⟩
abbrev main_while0b_v145 : Ref sig .tc := ⟨.hbm, 186, rfl⟩
abbrev main_while0b_v146 : Ref sig .tc := ⟨.hbm, 187, rfl⟩
abbrev main_while0b_v147 : Ref sig .tc := ⟨.hbm, 188, rfl⟩
abbrev main_while0b_v148 : Ref sig .tc := ⟨.hbm, 189, rfl⟩
abbrev main_while0b_call9_v0 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_call9_c_1 : Ref sig .tc := ⟨.hbm, 193, rfl⟩
abbrev main_while0b_call9_c_2 : Ref sig .tc := ⟨.hbm, 194, rfl⟩
abbrev main_while0b_v149 : Ref sig .tc := ⟨.hbm, 195, rfl⟩
abbrev main_while0b_c_24 : Ref sig .tc := ⟨.hbm, 196, rfl⟩
abbrev main_while0b_v150 : Ref sig .tc := ⟨.hbm, 197, rfl⟩
abbrev main_v38 : Ref sig .tc := ⟨.hbm, 198, rfl⟩
abbrev main_v39 : Ref sig .tc := ⟨.hbm, 199, rfl⟩
abbrev main_v40 : Ref sig .tc := ⟨.hbm, 200, rfl⟩
abbrev main_v41 : Ref sig .tc := ⟨.hbm, 201, rfl⟩
abbrev main_v42 : Ref sig .tc := ⟨.hbm, 202, rfl⟩
abbrev main_v43 : Ref sig .tc := ⟨.hbm, 203, rfl⟩
abbrev main_v44 : Ref sig .tc := ⟨.hbm, 204, rfl⟩
abbrev main_cst_5 : Ref sig .tc := ⟨.hbm, 205, rfl⟩
abbrev main_v45 : Ref sig .tc := ⟨.hbm, 206, rfl⟩
abbrev main_v46 : Ref sig .tc := ⟨.hbm, 207, rfl⟩
abbrev main_cst_6 : Ref sig .tc := ⟨.hbm, 208, rfl⟩
abbrev main_v47 : Ref sig .tc := ⟨.hbm, 209, rfl⟩
abbrev main_v48 : Ref sig .tc := ⟨.hbm, 210, rfl⟩
abbrev main_cst_7 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_v53 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_v58 : Ref sig .tc := ⟨.hbm, 221, rfl⟩
abbrev main_v59 : Ref sig .tc := ⟨.hbm, 222, rfl⟩
abbrev main_cst_8 : Ref sig .tc := ⟨.hbm, 223, rfl⟩
abbrev main_v60 : Ref sig .tc := ⟨.hbm, 224, rfl⟩
abbrev main_v61 : Ref sig .tc := ⟨.hbm, 225, rfl⟩
abbrev main_cst_9 : Ref sig .tc := ⟨.hbm, 226, rfl⟩
abbrev main_v62 : Ref sig .tc := ⟨.hbm, 227, rfl⟩
abbrev main_v63 : Ref sig .tc := ⟨.hbm, 228, rfl⟩
abbrev main_v64 : Ref sig .tc := ⟨.hbm, 229, rfl⟩
abbrev main_call10_v0 : Ref sig .tc := ⟨.hbm, 230, rfl⟩
abbrev main_call10_v1 : Ref sig .tc := ⟨.hbm, 231, rfl⟩
abbrev main_call10_cst : Ref sig .tc := ⟨.hbm, 232, rfl⟩
abbrev main_call10_v2 : Ref sig .tc := ⟨.hbm, 233, rfl⟩
abbrev main_call10_v3 : Ref sig .tc := ⟨.hbm, 234, rfl⟩
abbrev main_call10_cst_0 : Ref sig .tc := ⟨.hbm, 235, rfl⟩
abbrev main_call10_v4 : Ref sig .tc := ⟨.hbm, 236, rfl⟩
abbrev main_call10_v5 : Ref sig .tc := ⟨.hbm, 237, rfl⟩
abbrev main_v65 : Ref sig .tc := ⟨.hbm, 238, rfl⟩
abbrev main_v66 : Ref sig .tc := ⟨.hbm, 239, rfl⟩
abbrev main_v67 : Ref sig .tc := ⟨.hbm, 240, rfl⟩
abbrev main_v68 : Ref sig .tc := ⟨.hbm, 241, rfl⟩
abbrev main_v69 : Ref sig .tc := ⟨.hbm, 242, rfl⟩
abbrev main_v70 : Ref sig .tc := ⟨.hbm, 243, rfl⟩
abbrev main_v71 : Ref sig .tc := ⟨.hbm, 244, rfl⟩
abbrev main_v72 : Ref sig .tc := ⟨.hbm, 245, rfl⟩
abbrev main_v73 : Ref sig .tc := ⟨.hbm, 246, rfl⟩
abbrev main_v74 : Ref sig .tc := ⟨.hbm, 247, rfl⟩

abbrev nD : Nat := 1
abbrev τ : Topo := Topo.v7x

variable {F : FTy → Type} [FloatOps F]

abbrev main_while0_count : Scf.Loop 32 := ⟨0#32, 256#32, 1#32⟩
-- ==== Kernel3.lean ====
abbrev S1x16384x1024 : Shape := ⟨3, ![1, 16384, 1024]⟩
abbrev S1x1024x1024 : Shape := ⟨3, ![1, 1024, 1024]⟩
abbrev S1x16384x14344 : Shape := ⟨3, ![1, 16384, 14344]⟩
abbrev S1x1024 : Shape := ⟨2, ![1, 1024]⟩
abbrev S1x1x16384x256 : Shape := ⟨4, ![1, 1, 16384, 256]⟩
abbrev S1x256x1024 : Shape := ⟨3, ![1, 256, 1024]⟩
abbrev S1024 : Shape := ⟨1, ![1024]⟩
abbrev S16384x14344 : Shape := ⟨2, ![16384, 14344]⟩
abbrev S16384x8192 : Shape := ⟨2, ![16384, 8192]⟩
abbrev S16384x4096 : Shape := ⟨2, ![16384, 4096]⟩
abbrev S16384x2048 : Shape := ⟨2, ![16384, 2048]⟩
abbrev S16384x14336 : Shape := ⟨2, ![16384, 14336]⟩
abbrev S16384x1024 : Shape := ⟨2, ![16384, 1024]⟩
abbrev S1024x1024 : Shape := ⟨2, ![1024, 1024]⟩
abbrev S16384x256 : Shape := ⟨2, ![16384, 256]⟩
abbrev S256x1024 : Shape := ⟨2, ![256, 1024]⟩
abbrev S8x1024 : Shape := ⟨2, ![8, 1024]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 52
  | .vmem => 37
  | .smem => 0
  | _ => 0

abbrev bufTy : (tb : Table) → Fin (tcTables nBuf tb) → BufTy
  | .hbm, ⟨0, _⟩ => ⟨S1x16384x1024, .f32⟩
  | .hbm, ⟨1, _⟩ => ⟨S1x1024x1024, .f32⟩
  | .hbm, ⟨2, _⟩ => ⟨S1x16384x1024, .f32⟩
  | .hbm, ⟨3, _⟩ => ⟨S1x16384x14344, .f32⟩
  | .hbm, ⟨4, _⟩ => ⟨S1x1024x1024, .f32⟩
  | .hbm, ⟨5, _⟩ => ⟨S1x16384x1024, .f32⟩
  | .hbm, ⟨6, _⟩ => ⟨S1x1024, .f32⟩
  | .hbm, ⟨7, _⟩ => ⟨S1x1024x1024, .f32⟩
  | .hbm, ⟨8, _⟩ => ⟨S1x1x16384x256, .f32⟩
  | .hbm, ⟨9, _⟩ => ⟨S1x256x1024, .f32⟩
  | .hbm, ⟨10, _⟩ => ⟨S1x16384x1024, .f32⟩
  | .hbm, ⟨11, _⟩ => ⟨S1024, .f32⟩
  | .hbm, ⟨12, _⟩ => ⟨S16384x14344, .f32⟩
  | .hbm, ⟨13, _⟩ => ⟨S16384x8192, .f32⟩
  | .hbm, ⟨14, _⟩ => ⟨S16384x4096, .f32⟩
  | .hbm, ⟨15, _⟩ => ⟨S16384x2048, .f32⟩
  | .hbm, ⟨16, _⟩ => ⟨S16384x14336, .f32⟩
  | .hbm, ⟨17, _⟩ => ⟨S16384x14336, .bf16⟩
  | .hbm, ⟨18, _⟩ => ⟨S16384x1024, .f32⟩
  | .hbm, ⟨19, _⟩ => ⟨S16384x1024, .bf16⟩
  | .hbm, ⟨20, _⟩ => ⟨S1024x1024, .f32⟩
  | .hbm, ⟨21, _⟩ => ⟨S1024x1024, .bf16⟩
  | .hbm, ⟨22, _⟩ => ⟨S16384x1024, .f32⟩
  | .hbm, ⟨23, _⟩ => ⟨S16384x1024, .bf16⟩
  | .hbm, ⟨24, _⟩ => ⟨S1024x1024, .f32⟩
  | .hbm, ⟨25, _⟩ => ⟨S1024x1024, .bf16⟩
  | .hbm, ⟨26, _⟩ => ⟨S16384x1024, .f32⟩
  | .hbm, ⟨27, _⟩ => ⟨S1024x1024, .f32⟩
  | .hbm, ⟨28, _⟩ => ⟨S1024x1024, .bf16⟩
  | .hbm, ⟨29, _⟩ => ⟨S16384x256, .f32⟩
  | .hbm, ⟨30, _⟩ => ⟨S256x1024, .f32⟩
  | .hbm, ⟨31, _⟩ => ⟨S256x1024, .bf16⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .bf16⟩
  | .hbm, ⟨36, _⟩ => ⟨S16384x1024, .bf16⟩
  | .hbm, ⟨37, _⟩ => ⟨S16384x14336, .bf16⟩
  | .hbm, ⟨38, _⟩ => ⟨S8x1024, .f32⟩
  | .hbm, ⟨39, _⟩ => ⟨S1024x1024, .bf16⟩
  | .hbm, ⟨40, _⟩ => ⟨S1024x1024, .bf16⟩
  | .hbm, ⟨41, _⟩ => ⟨S1024x1024, .bf16⟩
  | .hbm, ⟨42, _⟩ => ⟨S256x1024, .bf16⟩
  | .hbm, ⟨43, _⟩ => ⟨S16384x2048, .bf16⟩
  | .hbm, ⟨44, _⟩ => ⟨S1x1024, .f32⟩
  | .hbm, ⟨45, _⟩ => ⟨S1024, .f32⟩
  | .hbm, ⟨46, _⟩ => ⟨S_, .f32⟩
  | .hbm, ⟨47, _⟩ => ⟨S_, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1024x1024, .bf16⟩
  | .local _ .vmem, ⟨14, _⟩ => ⟨S256x256, .f32⟩
  | .local _ .vmem, ⟨15, _⟩ => ⟨S256x256, .f32⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .vmem, ⟨28, _⟩ => ⟨S8x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S256x1024, .bf16⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev main_v22_6 : Ref sig .tc := ⟨.hbm, 40, rfl⟩
abbrev main_v22_7 : Ref sig .tc := ⟨.hbm, 41, rfl⟩
abbrev main_v22_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v206 : BitVec 1 := Scalar.cmpi .eq arg0 c63_i32
  let v207 : BitVec 32 := Scalar.extui v206
  let c0_i32_104 : BitVec 32 := 0#32
  let v208 : BitVec 1 := Scalar.cmpi .ne v207 c0_i32_104
  v208

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference3Ideal.lean ====
abbrev S1x16384x1024 : Shape := ⟨3, ![1, 16384, 1024]⟩
abbrev S1x1024x1024 : Shape := ⟨3, ![1, 1024, 1024]⟩
abbrev S1x16384x14344 : Shape := ⟨3, ![1, 16384, 14344]⟩
abbrev S1x1024 : Shape := ⟨2, ![1, 1024]⟩
abbrev S1x1x16384x256 : Shape := ⟨4, ![1, 1, 16384, 256]⟩
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x256 : Shape := ⟨3, ![1, 16384, 256]⟩
abbrev S256x1024 : Shape := ⟨2, ![256, 1024]⟩
abbrev S16384 : Shape := ⟨1, ![16384]⟩
abbrev S1024x256 : Shape := ⟨2, ![1024, 256]⟩
abbrev S16384x1024 : Shape := ⟨2, ![16384, 1024]⟩
abbrev S16384x2048 : Shape := ⟨2, ![16384, 2048]⟩

abbrev nBuf : Space → Nat
  | .hbm => 225
  | .vmem => 0
  | .smem => 0
  | _ => 0

abbrev hbmTy0_0 (i : Nat) : BufTy := match i % 128 with
  | 0 => ⟨S1x16384x1024, .f32⟩
  | 1 => ⟨S1x1024x1024, .f32⟩
  | 2 => ⟨S1x16384x1024, .f32⟩
  | 3 => ⟨S1x16384x14344, .f32⟩
  | 4 => ⟨S1x1024x1024, .f32⟩
  | 5 => ⟨S1x16384x1024, .f32⟩
  | 6 => ⟨S1x1024, .f32⟩
  | 7 => ⟨S1x1024x1024, .f32⟩
  | 8 => ⟨S1x1x16384x256, .f32⟩
  | 9 => ⟨S1x256x1024, .f32⟩
  | 10 => ⟨S1x16384x1024, .f32⟩
  | 11 => ⟨S1024, .f32⟩
  | 12 => ⟨S1x16384x1024, .f32⟩
  | 13 => ⟨S1x16384x1024, .f32⟩
  | 14 => ⟨S1024x1024, .f32⟩
  | 15 => ⟨S1x16384x1024, .f32⟩
  | 16 => ⟨S1x16384x1024, .f32⟩
  | 17 => ⟨S1x16384x1024, .f32⟩
  | 18 => ⟨S_, .f32⟩
  | 19 => ⟨S1x16384x1024, .f32⟩
  | 20 => ⟨S1x16384x1024, .f32⟩
  | 21 => ⟨S_, .f32⟩
  | 22 => ⟨S1x16384x1024, .f32⟩
  | 23 => ⟨S1x16384x1024, .f32⟩
  | 24 => ⟨S_, .f32⟩
  | 25 => ⟨S1x16384x1024, .f32⟩
  | 26 => ⟨S1x16384x1024, .f32⟩
  | 27 => ⟨S1x16384x1024, .f32⟩
  | 28 => ⟨S1x16384x1024, .f32⟩
  | 29 => ⟨S1x16384x1024, .f32⟩
  | 30 => ⟨S1x16384x1024, .f32⟩
  | 31 => ⟨S_, .f32⟩
  | 32 => ⟨S1x16384x1024, .f32⟩
  | 33 => ⟨S1x16384x1024, .f32⟩
  | 34 => ⟨S_, .f32⟩
  | 35 => ⟨S1x16384x1024, .f32⟩
  | 36 => ⟨S1x16384x1024, .f32⟩
  | 37 => ⟨S_, .f32⟩
  | 38 => ⟨S1x16384x1024, .f32⟩
  | 39 => ⟨S1x16384x1024, .f32⟩
  | 40 => ⟨S1x16384x1024, .f32⟩
  | 41 => ⟨S1x16384x1024, .f32⟩
  | 42 => ⟨S1x16384x1024, .f32⟩
  | 43 => ⟨S1024x1024, .f32⟩
  | 44 => ⟨S1x16384x1024, .f32⟩
  | 45 => ⟨S1x16384x1024, .f32⟩
  | 46 => ⟨S1024, .f32⟩
  | 47 => ⟨S1x16384x1024, .f32⟩
  | 48 => ⟨S_, .f32⟩
  | 49 => ⟨S1x16384, .f32⟩
  | 50 => ⟨S1x16384x1, .f32⟩
  | 51 => ⟨S_, .f32⟩
  | 52 => ⟨S1x16384x1, .f32⟩
  | 53 => ⟨S1x16384x1, .f32⟩
  | 54 => ⟨S_, .f32⟩
  | 55 => ⟨S1x16384x1, .f32⟩
  | 56 => ⟨S1x16384x1, .f32⟩
  | 57 => ⟨S1x16384x1, .f32⟩
  | 58 => ⟨S1x16384x1, .f32⟩
  | 59 => ⟨S_, .f32⟩
  | 60 => ⟨S1x16384x1, .f32⟩
  | 61 => ⟨S1x16384x1, .f32⟩
  | 62 => ⟨S1x16384x1024, .f32⟩
  | 63 => ⟨S1x16384x1024, .f32⟩
  | 64 => ⟨S1x1x1024, .f32⟩
  | 65 => ⟨S1x16384x1024, .f32⟩
  | 66 => ⟨S1x16384x1024, .f32⟩
  | 67 => ⟨S1024x1024, .f32⟩
  | 68 => ⟨S1x16384x1024, .f32⟩
  | 69 => ⟨S1x16384x1024, .f32⟩
  | 70 => ⟨S1x16384x1024, .f32⟩
  | 71 => ⟨S_, .f32⟩
  | 72 => ⟨S1x16384x1024, .f32⟩
  | 73 => ⟨S1x16384x1024, .f32⟩
  | 74 => ⟨S_, .f32⟩
  | 75 => ⟨S1x16384x1024, .f32⟩
  | 76 => ⟨S1x16384x1024, .f32⟩
  | 77 => ⟨S_, .f32⟩
  | 78 => ⟨S1x16384x1024, .f32⟩
  | 79 => ⟨S1x16384x1024, .f32⟩
  | 80 => ⟨S1x16384x1024, .f32⟩
  | 81 => ⟨S1x16384x256, .f32⟩
  | 82 => ⟨S256x1024, .f32⟩
  | 83 => ⟨S1x16384x1024, .f32⟩
  | 84 => ⟨S1x16384x1024, .f32⟩
  | 85 => ⟨S1x16384x1024, .f32⟩
  | 86 => ⟨S1x16384x1024, .f32⟩
  | 87 => ⟨S_, .f32⟩
  | 88 => ⟨S1x16384, .f32⟩
  | 89 => ⟨S1x16384x1, .f32⟩
  | 90 => ⟨S_, .f32⟩
  | 91 => ⟨S1x16384x1, .f32⟩
  | 92 => ⟨S1x16384x1, .f32⟩
  | 93 => ⟨S_, .f32⟩
  | 94 => ⟨S1x16384x1, .f32⟩
  | 95 => ⟨S1x16384x1, .f32⟩
  | 96 => ⟨S1x16384x1, .f32⟩
  | 97 => ⟨S1x16384x1, .f32⟩
  | 98 => ⟨S_, .f32⟩
  | 99 => ⟨S1x16384x1, .f32⟩
  | 100 => ⟨S1x16384x1, .f32⟩
  | 101 => ⟨S1x16384x1024, .f32⟩
  | 102 => ⟨S1x16384x1024, .f32⟩
  | 103 => ⟨S1x1x1024, .f32⟩
  | 104 => ⟨S1x16384x1024, .f32⟩
  | 105 => ⟨S1x16384x1024, .f32⟩
  | 106 => ⟨S1x16384x1024, .f32⟩
  | 107 => ⟨S1x16384x1024, .f32⟩
  | 108 => ⟨S_, .f32⟩
  | 109 => ⟨S1x16384x1024, .f32⟩
  | 110 => ⟨S1x16384x1024, .f32⟩
  | 111 => ⟨S_, .f32⟩
  | 112 => ⟨S1x16384, .f32⟩
  | 113 => ⟨S_, .f32⟩
  | 114 => ⟨S1x16384, .f32⟩
  | 115 => ⟨S1x16384, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1x16384, .f32⟩
  | 124 => ⟨S_, .f32⟩
  | 125 => ⟨S1x16384, .f32⟩
  | 126 => ⟨S1x16384, .f32⟩
  | 127 => ⟨S1x16384x1024, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S_, .f32⟩
  | 3 => ⟨S1x1024, .f32⟩
  | 4 => ⟨S1x1x1024, .f32⟩
  | 5 => ⟨S1x16384x1024, .f32⟩
  | 6 => ⟨S1x16384x1024, .f32⟩
  | 7 => ⟨S_, .f32⟩
  | 8 => ⟨S1024, .f32⟩
  | 9 => ⟨S1x16384x1024, .f32⟩
  | 10 => ⟨S_, .f32⟩
  | 11 => ⟨S1x16384, .f32⟩
  | 12 => ⟨S1x16384x1, .f32⟩
  | 13 => ⟨S1x16384x1024, .f32⟩
  | 14 => ⟨S1x16384x1024, .f32⟩
  | 15 => ⟨S1x16384x1, .f32⟩
  | 16 => ⟨S_, .f32⟩
  | 17 => ⟨S1x16384x1, .f32⟩
  | 18 => ⟨S1x16384x1, .f32⟩
  | 19 => ⟨S_, .f32⟩
  | 20 => ⟨S16384, .f32⟩
  | 21 => ⟨S1x16384, .f32⟩
  | 22 => ⟨S1x16384x1024, .f32⟩
  | 23 => ⟨S1x16384x1024, .f32⟩
  | 24 => ⟨S1x16384x1024, .f32⟩
  | 25 => ⟨S1x16384x1024, .f32⟩
  | 26 => ⟨S1x16384x1024, .f32⟩
  | 27 => ⟨S1x16384x1024, .f32⟩
  | 28 => ⟨S1x16384x1024, .f32⟩
  | 29 => ⟨S1024x256, .f32⟩
  | 30 => ⟨S256x1024, .f32⟩
  | 31 => ⟨S1x256x1024, .f32⟩
  | 32 => ⟨S1x16384x1024, .f32⟩
  | 33 => ⟨S1024x1024, .f32⟩
  | 34 => ⟨S1024x1024, .f32⟩
  | 35 => ⟨S1x16384x1024, .f32⟩
  | 36 => ⟨S1x1024x1024, .f32⟩
  | 37 => ⟨S1x16384x1024, .f32⟩
  | 38 => ⟨S_, .f32⟩
  | 39 => ⟨S1x1024, .f32⟩
  | 40 => ⟨S1x1x1024, .f32⟩
  | 41 => ⟨S1x16384x1024, .f32⟩
  | 42 => ⟨S1x16384x1024, .f32⟩
  | 43 => ⟨S_, .f32⟩
  | 44 => ⟨S1024, .f32⟩
  | 45 => ⟨S1x16384x1024, .f32⟩
  | 46 => ⟨S_, .f32⟩
  | 47 => ⟨S1x16384, .f32⟩
  | 48 => ⟨S1x16384x1, .f32⟩
  | 49 => ⟨S1x16384x1024, .f32⟩
  | 50 => ⟨S1x16384x1024, .f32⟩
  | 51 => ⟨S1x16384x1024, .f32⟩
  | 52 => ⟨S1x16384x1, .f32⟩
  | 53 => ⟨S_, .f32⟩
  | 54 => ⟨S1x16384x1, .f32⟩
  | 55 => ⟨S1x16384x1, .f32⟩
  | 56 => ⟨S_, .f32⟩
  | 57 => ⟨S16384, .f32⟩
  | 58 => ⟨S1x16384, .f32⟩
  | 59 => ⟨S1x16384x1024, .f32⟩
  | 60 => ⟨S1x16384x1024, .f32⟩
  | 61 => ⟨S1x16384x1024, .f32⟩
  | 62 => ⟨S1x16384x1024, .f32⟩
  | 63 => ⟨S1x16384x1024, .f32⟩
  | 64 => ⟨S1x1024, .f32⟩
  | 65 => ⟨S1024x1024, .f32⟩
  | 66 => ⟨S1024x1024, .f32⟩
  | 67 => ⟨S1x16384x1024, .f32⟩
  | 68 => ⟨S1x1024x1024, .f32⟩
  | 69 => ⟨S1x16384x1024, .f32⟩
  | 70 => ⟨S1x16384x1024, .f32⟩
  | 71 => ⟨S1x16384x1024, .f32⟩
  | 72 => ⟨S1x16384x1024, .f32⟩
  | 73 => ⟨S1x16384x1024, .f32⟩
  | 74 => ⟨S1x16384x1024, .f32⟩
  | 75 => ⟨S1024x1024, .f32⟩
  | 76 => ⟨S1024x1024, .f32⟩
  | 77 => ⟨S1x16384x1024, .f32⟩
  | 78 => ⟨S1x1024x1024, .f32⟩
  | 79 => ⟨S16384x1024, .f32⟩
  | 80 => ⟨S16384x1024, .f32⟩
  | 81 => ⟨S16384x2048, .f32⟩
  | 82 => ⟨S16384x1024, .f32⟩
  | 83 => ⟨S16384x1024, .f32⟩
  | 84 => ⟨S16384x1024, .bf16⟩
  | 85 => ⟨S16384x1024, .f32⟩
  | 86 => ⟨S16384x1024, .bf16⟩
  | 87 => ⟨S16384x2048, .bf16⟩
  | 88 => ⟨S1024, .f32⟩
  | 89 => ⟨S1024x1024, .f32⟩
  | 90 => ⟨S1024x1024, .bf16⟩
  | 91 => ⟨S1024x1024, .f32⟩
  | 92 => ⟨S1024x1024, .bf16⟩
  | 93 => ⟨S1024x1024, .f32⟩
  | 94 => ⟨S1024x1024, .bf16⟩
  | 95 => ⟨S256x1024, .f32⟩
  | 96 => ⟨S256x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_cst_20 : Ref sig .tc := ⟨.hbm, 118, rfl⟩
abbrev main_v85 : Ref sig .tc := ⟨.hbm, 119, rfl⟩
abbrev main_cst_21 : Ref sig .tc := ⟨.hbm, 120, rfl⟩
abbrev main_cst_22 : Ref sig .tc := ⟨.hbm, 121, rfl⟩
abbrev main_v86 : Ref sig .tc := ⟨.hbm, 122, rfl⟩
abbrev main_v87 : Ref sig .tc := ⟨.hbm, 123, rfl⟩
abbrev main_cst_23 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_24 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_25 : Ref sig .tc := ⟨.hbm, 135, rfl⟩
abbrev main_v97 : Ref sig .tc := ⟨.hbm, 136, rfl⟩
abbrev main_v98 : Ref sig .tc := ⟨.hbm, 137, rfl⟩
abbrev main_cst_26 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_27 : Ref sig .tc := ⟨.hbm, 144, rfl⟩
abbrev main_v104 : Ref sig .tc := ⟨.hbm, 145, rfl⟩
abbrev main_v105 : Ref sig .tc := ⟨.hbm, 146, rfl⟩
abbrev main_cst_28 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_29 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_30 : Ref sig .tc := ⟨.hbm, 171, rfl⟩
abbrev main_v128 : Ref sig .tc := ⟨.hbm, 172, rfl⟩
abbrev main_v129 : Ref sig .tc := ⟨.hbm, 173, rfl⟩
abbrev main_cst_31 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_32 : Ref sig .tc := ⟨.hbm, 181, rfl⟩
abbrev main_v136 : Ref sig .tc := ⟨.hbm, 182, rfl⟩
abbrev main_v137 : Ref sig .tc := ⟨.hbm, 183, rfl⟩
abbrev main_cst_33 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x1024 : Shape := ⟨2, ![1, 1024]⟩
abbrev S1x1024x14344 : Shape := ⟨3, ![1, 1024, 14344]⟩
abbrev S1x16384x14344 : Shape := ⟨3, ![1, 16384, 14344]⟩
abbrev S16384x14344 : Shape := ⟨2, ![16384, 14344]⟩
abbrev S1024x14344 : Shape := ⟨2, ![1024, 14344]⟩
abbrev S16384x8192 : Shape := ⟨2, ![16384, 8192]⟩
abbrev S16384x4096 : Shape := ⟨2, ![16384, 4096]⟩
abbrev S16384x2048 : Shape := ⟨2, ![16384, 2048]⟩
abbrev S16384x14336 : Shape := ⟨2, ![16384, 14336]⟩
abbrev S1024x8192 : Shape := ⟨2, ![1024, 8192]⟩
abbrev S1024x4096 : Shape := ⟨2, ![1024, 4096]⟩
abbrev S1024x2048 : Shape := ⟨2, ![1024, 2048]⟩
abbrev S1024x14336 : Shape := ⟨2, ![1024, 14336]⟩
abbrev S16384x8 : Shape := ⟨2, ![16384, 8]⟩
abbrev S_ : Shape := ⟨0, ![]⟩
abbrev S16384x128 : Shape := ⟨2, ![16384, 128]⟩
abbrev S1024x8 : Shape := ⟨2, ![1024, 8]⟩
abbrev S1024x128 : Shape := ⟨2, ![1024, 128]⟩
abbrev S16384x1024 : Shape := ⟨2, ![16384, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 31
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x14344, .f32⟩
  | .hbm, ⟨3, _⟩ => ⟨S1x16384x14344, .f32⟩
  | .hbm, ⟨4, _⟩ => ⟨S1x16384x1024, .f32⟩
  | .hbm, ⟨5, _⟩ => ⟨S16384x14344, .f32⟩
  | .hbm, ⟨6, _⟩ => ⟨S1024x14344, .f32⟩
  | .hbm, ⟨7, _⟩ => ⟨S16384x8192, .f32⟩
  | .hbm, ⟨8, _⟩ => ⟨S16384x4096, .f32⟩
  | .hbm, ⟨9, _⟩ => ⟨S16384x2048, .f32⟩
  | .hbm, ⟨10, _⟩ => ⟨S16384x14336, .f32⟩
  | .hbm, ⟨11, _⟩ => ⟨S16384x14336, .bf16⟩
  | .hbm, ⟨12, _⟩ => ⟨S1024x8192, .f32⟩
  | .hbm, ⟨13, _⟩ => ⟨S1024x4096, .f32⟩
  | .hbm, ⟨14, _⟩ => ⟨S1024x2048, .f32⟩
  | .hbm, ⟨15, _⟩ => ⟨S1024x14336, .f32⟩
  | .hbm, ⟨16, _⟩ => ⟨S1024x14336, .bf16⟩
  | .hbm, ⟨17, _⟩ => ⟨S16384x8, .f32⟩
  | .hbm, ⟨18, _⟩ => ⟨S_, .i32⟩
  | .hbm, ⟨19, _⟩ => ⟨S_, .f32⟩
  | .hbm, ⟨20, _⟩ => ⟨S16384x128, .f32⟩
  | .hbm, ⟨21, _⟩ => ⟨S16384x128, .bf16⟩
  | .hbm, ⟨22, _⟩ => ⟨S1024x8, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S8x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S8x1024, .f32⟩
  | .local _ .vmem, ⟨15, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 7], ![false, false]⟩

def k0_cond4 (i : grid0.Coords) : BitVec 1 :=
  let arg1 : BitVec 32 := BitVec.ofNat 32 (i 1).val
  let c6_i32 : BitVec 32 := 6#32
  let v11 : BitVec 1 := Scalar.cmpi .eq arg1 c6_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c0_i32_3 : BitVec 32 := 0#32
  let v6 : BitVec 1 := Scalar.cmpi .eq arg0 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S1x16384x1024 : Shape := ⟨3, ![1, 16384, 1024]⟩
abbrev S1x1024 : Shape := ⟨2, ![1, 1024]⟩
abbrev S1x1024x14344 : Shape := ⟨3, ![1, 1024, 14344]⟩
abbrev S1x16384x14344 : Shape := ⟨3, ![1, 16384, 14344]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x14344 : Shape := ⟨2, ![1024, 14344]⟩
abbrev S16384 : Shape := ⟨1, ![16384]⟩
abbrev S16384x1024 : Shape := ⟨2, ![16384, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x14344, .f32⟩
  | .hbm, ⟨3, _⟩ => ⟨S1x16384x14344, .f32⟩
  | .hbm, ⟨4, _⟩ => ⟨S1x16384x1024, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1024, .f32⟩
  | .hbm, ⟨22, _⟩ => ⟨S1x16384x1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S1024x14344, .f32⟩
  | .hbm, ⟨27, _⟩ => ⟨S1x16384x14344, .f32⟩
  | .hbm, ⟨28, _⟩ => ⟨S1x16384x1024, .f32⟩
  | .hbm, ⟨29, _⟩ => ⟨S1x16384x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x16384x1024, .f32⟩
  | .hbm, ⟨34, _⟩ => ⟨S1x16384x1024, .f32⟩
  | .hbm, ⟨35, _⟩ => ⟨S_, .f32⟩
  | .hbm, ⟨36, _⟩ => ⟨S1024, .f32⟩
  | .hbm, ⟨37, _⟩ => ⟨S1x16384x1024, .f32⟩
  | .hbm, ⟨38, _⟩ => ⟨S_, .f32⟩
  | .hbm, ⟨39, _⟩ => ⟨S1x16384, .f32⟩
  | .hbm, ⟨40, _⟩ => ⟨S1x16384x1, .f32⟩
  | .hbm, ⟨41, _⟩ => ⟨S1x16384x1024, .f32⟩
  | .hbm, ⟨42, _⟩ => ⟨S1x16384x1024, .f32⟩
  | .hbm, ⟨43, _⟩ => ⟨S1x16384x1024, .f32⟩
  | .hbm, ⟨44, _⟩ => ⟨S1x16384x1, .f32⟩
  | .hbm, ⟨45, _⟩ => ⟨S_, .f32⟩
  | .hbm, ⟨46, _⟩ => ⟨S1x16384x1, .f32⟩
  | .hbm, ⟨47, _⟩ => ⟨S1x16384x1, .f32⟩
  | .hbm, ⟨48, _⟩ => ⟨S_, .f32⟩
  | .hbm, ⟨49, _⟩ => ⟨S16384, .f32⟩
  | .hbm, ⟨50, _⟩ => ⟨S1x16384, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S1x16384x1024, .f32⟩
  | .hbm, ⟨55, _⟩ => ⟨S1x16384x1024, .f32⟩
  | .hbm, ⟨56, _⟩ => ⟨S1x1024, .f32⟩
  | .hbm, ⟨57, _⟩ => ⟨S16384x1024, .f32⟩
  | .hbm, ⟨58, _⟩ => ⟨S_, .i32⟩
  | .hbm, ⟨59, _⟩ => ⟨S_, .f32⟩
  | .hbm, ⟨60, _⟩ => ⟨S8x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel5.lean ====
abbrev S16384x14336 : Shape := ⟨2, ![16384, 14336]⟩
abbrev S16384x128 : Shape := ⟨2, ![16384, 128]⟩
abbrev S1x128 : Shape := ⟨2, ![1, 128]⟩
abbrev S1x2048 : Shape := ⟨2, ![1, 2048]⟩
abbrev S16384x2048 : Shape := ⟨2, ![16384, 2048]⟩
abbrev S64x4x256x512 : Shape := ⟨4, ![64, 4, 256, 512]⟩
abbrev S64x4x8x256 : Shape := ⟨4, ![64, 4, 8, 256]⟩
abbrev S16384x1024 : Shape := ⟨2, ![16384, 1024]⟩
abbrev S2048x1024 : Shape := ⟨2, ![2048, 1024]⟩
abbrev S8x128 : Shape := ⟨2, ![8, 128]⟩
abbrev S8x2048 : Shape := ⟨2, ![8, 2048]⟩
abbrev S256x1024 : Shape := ⟨2, ![256, 1024]⟩
abbrev S256x2048 : Shape := ⟨2, ![256, 2048]⟩
abbrev S256x128 : Shape := ⟨2, ![256, 128]⟩
abbrev S1x4x256x512 : Shape := ⟨4, ![1, 4, 256, 512]⟩
abbrev S1x4x8x256 : Shape := ⟨4, ![1, 4, 8, 256]⟩
abbrev S256x8192 : Shape := ⟨2, ![256, 8192]⟩
abbrev S4x256x512 : Shape := ⟨3, ![4, 256, 512]⟩
abbrev S4x8x256 : Shape := ⟨3, ![4, 8, 256]⟩
abbrev S256x256 : Shape := ⟨2, ![256, 256]⟩
abbrev S128x256 : Shape := ⟨2, ![128, 256]⟩
abbrev S256x512 : Shape := ⟨2, ![256, 512]⟩
abbrev S256 : Shape := ⟨1, ![256]⟩
abbrev S256x1 : Shape := ⟨2, ![256, 1]⟩
abbrev S1x256 : Shape := ⟨2, ![1, 256]⟩
abbrev S1x1x1x256 : Shape := ⟨4, ![1, 1, 1, 256]⟩
abbrev S1x1x1x1 : Shape := ⟨4, ![1, 1, 1, 1]⟩
abbrev S1x1 : Shape := ⟨2, ![1, 1]⟩
abbrev S1x1x256x512 : Shape := ⟨4, ![1, 1, 256, 512]⟩
abbrev S1 : Shape := ⟨1, ![1]⟩
abbrev S1x512 : Shape := ⟨2, ![1, 512]⟩
abbrev S512 : Shape := ⟨1, ![512]⟩
abbrev S1x256x512 : Shape := ⟨3, ![1, 256, 512]⟩
abbrev S1x1x256 : Shape := ⟨3, ![1, 1, 256]⟩
abbrev S128 : Shape := ⟨1, ![128]⟩

abbrev nBuf : Space → Nat
  | .hbm => 16
  | .vmem => 36
  | .smem => 0
  | _ => 0

abbrev bufTy : (tb : Table) → Fin (tcTables nBuf tb) → BufTy
  | .hbm, ⟨0, _⟩ => ⟨S16384x14336, .bf16⟩
  | .hbm, ⟨1, _⟩ => ⟨S16384x14336, .bf16⟩
  | .hbm, ⟨2, _⟩ => ⟨S16384x128, .f32⟩
  | .hbm, ⟨3, _⟩ => ⟨S1x128, .f32⟩
  | .hbm, ⟨4, _⟩ => ⟨S1x2048, .f32⟩
  | .hbm, ⟨5, _⟩ => ⟨S16384x2048, .bf16⟩
  | .hbm, ⟨6, _⟩ => ⟨S64x4x256x512, .bf16⟩
  | .hbm, ⟨7, _⟩ => ⟨S64x4x8x256, .f32⟩
  | .hbm, ⟨8, _⟩ => ⟨S16384x2048, .bf16⟩
  | .hbm, ⟨9, _⟩ => ⟨S16384x1024, .bf16⟩
  | .hbm, ⟨10, _⟩ => ⟨S2048x1024, .bf16⟩
  | .hbm, ⟨11, _⟩ => ⟨S16384x14336, .bf16⟩
  | .hbm, ⟨12, _⟩ => ⟨S16384x128, .bf16⟩
  | .hbm, ⟨13, _⟩ => ⟨S8x128, .f32⟩
  | .hbm, ⟨14, _⟩ => ⟨S8x2048, .f32⟩
  | .hbm, ⟨15, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S1x4x256x512, .bf16⟩
  | .local _ .vmem, ⟨17, _⟩ => ⟨S1x4x256x512, .bf16⟩
  | .local _ .vmem, ⟨18, _⟩ => ⟨S1x4x8x256, .f32⟩
  | .local _ .vmem, ⟨19, _⟩ => ⟨S1x4x8x256, .f32⟩
  | .local _ .vmem, ⟨20, _⟩ => ⟨S256x2048, .bf16⟩
  | .local _ .vmem, ⟨21, _⟩ => ⟨S256x2048, .bf16⟩
  | .local _ .vmem, ⟨22, _⟩ => ⟨S256x1024, .bf16⟩
  | .local _ .vmem, ⟨23, _⟩ => ⟨S256x1024, .bf16⟩
  | .local _ .vmem, ⟨24, _⟩ => ⟨S2048x1024, .bf16⟩
  | .local _ .vmem, ⟨25, _⟩ => ⟨S256x8192, .bf16⟩
  | .local _ .vmem, ⟨26, _⟩ => ⟨S256x8192, .bf16⟩
  | .local _ .vmem, ⟨27, _⟩ => ⟨S256x128, .bf16⟩
  | .local _ .vmem, ⟨28, _⟩ => ⟨S256x128, .bf16⟩
  | .local _ .vmem, ⟨29, _⟩ => ⟨S8x128, .f32⟩
  | .local _ .vmem, ⟨30, _⟩ => ⟨S8x2048, .f32⟩
  | .local _ .vmem, ⟨31, _⟩ => ⟨S2048x1024, .bf16⟩
  | .local _ .vmem, ⟨32, _⟩ => ⟨S4x256x512, .f32⟩
  | .local _ .vmem, ⟨33, _⟩ => ⟨S4x8x256, .f32⟩
  | .local _ .vmem, ⟨34, _⟩ => ⟨S256x2048, .f32⟩
  | .local _ .vmem, ⟨35, _⟩ => ⟨S2048x1024, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [BitOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1443 : BitVec 1 := Scalar.cmpi .eq arg0 c63_i32
  let v1444 : BitVec 32 := Scalar.extui v1443
  let c0_i32_537 : BitVec 32 := 0#32
  let v1445 : BitVec 1 := Scalar.cmpi .ne v1444 c0_i32_537
  v1445

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Kernel5Ideal.lean ====
variable {F : FTy → Type} [FloatOps F]
-- ==== Kernel6.lean ====
abbrev S1x16384x14344 : Shape := ⟨3, ![1, 16384, 14344]⟩
abbrev S1x3x1024 : Shape := ⟨3, ![1, 3, 1024]⟩
abbrev S1x1024 : Shape := ⟨2, ![1, 1024]⟩
abbrev S16384x14344 : Shape := ⟨2, ![16384, 14344]⟩
abbrev S16384x8192 : Shape := ⟨2, ![16384, 8192]⟩
abbrev S16384x4096 : Shape := ⟨2, ![16384, 4096]⟩
abbrev S16384x2048 : Shape := ⟨2, ![16384, 2048]⟩
abbrev S16384x14336 : Shape := ⟨2, ![16384, 14336]⟩
abbrev S3x1024 : Shape := ⟨2, ![3, 1024]⟩
abbrev S_ : Shape := ⟨0, ![]⟩
abbrev S8x1024 : Shape := ⟨2, ![8, 1024]⟩
abbrev S16384x1024 : Shape := ⟨2, ![16384, 1024]⟩
abbrev S512x1024 : Shape := ⟨2, ![512, 1024]⟩
abbrev S16x1024 : Shape := ⟨2, ![16, 1024]⟩
abbrev S528x1024 : Shape := ⟨2, ![528, 1024]⟩

abbrev nBuf : Space → Nat
  | .hbm => 14
  | .vmem => 16
  | .smem => 0
  | _ => 0

abbrev bufTy : (tb : Table) → Fin (tcTables nBuf tb) → BufTy
  | .hbm, ⟨0, _⟩ => ⟨S1x16384x14344, .f32⟩
  | .hbm, ⟨1, _⟩ => ⟨S1x3x1024, .f32⟩
  | .hbm, ⟨2, _⟩ => ⟨S1x1024, .f32⟩
  | .hbm, ⟨3, _⟩ => ⟨S16384x14344, .f32⟩
  | .hbm, ⟨4, _⟩ => ⟨S16384x8192, .f32⟩
  | .hbm, ⟨5, _⟩ => ⟨S16384x4096, .f32⟩
  | .hbm, ⟨6, _⟩ => ⟨S16384x2048, .f32⟩
  | .hbm, ⟨7, _⟩ => ⟨S16384x14336, .f32⟩
  | .hbm, ⟨8, _⟩ => ⟨S16384x14336, .bf16⟩
  | .hbm, ⟨9, _⟩ => ⟨S3x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S8x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S1x16384x14344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1x16384x14344 : Shape := ⟨3, ![1, 16384, 14344]⟩
abbrev S1x3x1024 : Shape := ⟨3, ![1, 3, 1024]⟩
abbrev S1x1024 : Shape := ⟨2, ![1, 1024]⟩
abbrev S1x16384x1024 : Shape := ⟨3, ![1, 16384, 1024]⟩
abbrev S1x16384x10248 : Shape := ⟨3, ![1, 16384, 10248]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x16386x1024 : Shape := ⟨3, ![1, 16386, 1024]⟩
abbrev S1x1x1024 : Shape := ⟨3, ![1, 1, 1024]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x16384x14344, .f32⟩
  | .hbm, ⟨1, _⟩ => ⟨S1x3x1024, .f32⟩
  | .hbm, ⟨2, _⟩ => ⟨S1x1024, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x16384x10248, .f32⟩
  | .hbm, ⟨8, _⟩ => ⟨S1x16384x1024, .f32⟩
  | .hbm, ⟨9, _⟩ => ⟨S3x1024, .f32⟩
  | .hbm, ⟨10, _⟩ => ⟨S1024, .f32⟩
  | .hbm, ⟨11, _⟩ => ⟨S_, .f32⟩
  | .hbm, ⟨12, _⟩ => ⟨S1x2x1024, .f32⟩
  | .hbm, ⟨13, _⟩ => ⟨S1x16386x1024, .f32⟩
  | .hbm, ⟨14, _⟩ => ⟨S1x16384x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S1x16384x1024, .f32⟩
  | .hbm, ⟨19, _⟩ => ⟨S1x16384x1024, .f32⟩
  | .hbm, ⟨20, _⟩ => ⟨S1x16384x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S1x16384x1024, .f32⟩
  | .hbm, ⟨27, _⟩ => ⟨S1x16384x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S1x16384x1024, .f32⟩
  | .hbm, ⟨34, _⟩ => ⟨S1x1x1024, .f32⟩
  | .hbm, ⟨35, _⟩ => ⟨S1x16384x1024, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S1x16384x1024, .f32⟩
  | .hbm, ⟨40, _⟩ => ⟨S_, .f32⟩
  | .hbm, ⟨41, _⟩ => ⟨S1x16384x1024, .f32⟩
  | .hbm, ⟨42, _⟩ => ⟨S1x16384x1024, .f32⟩
  | .hbm, ⟨43, _⟩ => ⟨S_, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S1x16384x1024, .f32⟩
  | .hbm, ⟨48, _⟩ => ⟨S16384x1024, .f32⟩
  | .hbm, ⟨49, _⟩ => ⟨S16384x1024, .bf16⟩
  | _, _ => ⟨S1x16384x14344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel7.lean ====
abbrev S1x16384x1024 : Shape := ⟨3, ![1, 16384, 1024]⟩
abbrev S1x1024 : Shape := ⟨2, ![1, 1024]⟩
abbrev S16384x1024 : Shape := ⟨2, ![16384, 1024]⟩
abbrev S1024x16384 : Shape := ⟨2, ![1024, 16384]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S16384x1024, .f32⟩
  | .hbm, ⟨3, _⟩ => ⟨S16384x1024, .bf16⟩
  | .hbm, ⟨4, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S1x16384x1024 : Shape := ⟨3, ![1, 16384, 1024]⟩
abbrev S1x1024 : Shape := ⟨2, ![1, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩
abbrev S1024x16384 : Shape := ⟨2, ![1024, 16384]⟩

abbrev nBuf : Space → Nat
  | .hbm => 23
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1024, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1024, .f32⟩
  | .hbm, ⟨15, _⟩ => ⟨S1x16384x1024, .f32⟩
  | .hbm, ⟨16, _⟩ => ⟨S1x1x1024, .f32⟩
  | .hbm, ⟨17, _⟩ => ⟨S1x16384x1024, .f32⟩
  | .hbm, ⟨18, _⟩ => ⟨S1x16384x1024, .f32⟩
  | .hbm, ⟨19, _⟩ => ⟨S16384x1024, .f32⟩
  | .hbm, ⟨20, _⟩ => ⟨S16384x1024, .bf16⟩
  | .hbm, ⟨21, _⟩ => ⟨S1024x16384, .f32⟩
  | .hbm, ⟨22, _⟩ => ⟨S1024x16384, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel8.lean ====
abbrev S1x128x1024 : Shape := ⟨3, ![1, 128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference8Ideal.lean ====
abbrev S1x128x1024 : Shape := ⟨3, ![1, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S8x128x1024 : Shape := ⟨3, ![8, 128, 1024]⟩
abbrev S8x256x1024 : Shape := ⟨3, ![8, 256, 1024]⟩
abbrev S8x256x128 : Shape := ⟨3, ![8, 256, 128]⟩
abbrev S8x32x1024 : Shape := ⟨3, ![8, 32, 1024]⟩
abbrev S8x672x1024 : Shape := ⟨3, ![8, 672, 1024]⟩
abbrev S672x1024 : Shape := ⟨2, ![672, 1024]⟩
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 8
  | .vmem => 4
  | .smem => 0
  | _ => 0

abbrev bufTy : (tb : Table) → Fin (tcTables nBuf tb) → BufTy
  | .hbm, ⟨0, _⟩ => ⟨S8x128x1024, .bf16⟩
  | .hbm, ⟨1, _⟩ => ⟨S8x256x1024, .bf16⟩
  | .hbm, ⟨2, _⟩ => ⟨S8x128x1024, .bf16⟩
  | .hbm, ⟨3, _⟩ => ⟨S8x128x1024, .bf16⟩
  | .hbm, ⟨4, _⟩ => ⟨S8x256x128, .bf16⟩
  | .hbm, ⟨5, _⟩ => ⟨S8x32x1024, .bf16⟩
  | .hbm, ⟨6, _⟩ => ⟨S8x672x1024, .bf16⟩
  | .hbm, ⟨7, _⟩ => ⟨S672x1024, .f32⟩
  | .local _ .vmem, ⟨0, _⟩ => ⟨S8x96x1024, .bf16⟩
  | .local _ .vmem, ⟨1, _⟩ => ⟨S8x96x1024, .bf16⟩
  | .local _ .vmem, ⟨2, _⟩ => ⟨S96x1024, .f32⟩
  | .local _ .vmem, ⟨3, _⟩ => ⟨S96x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S8x128x1024 : Shape := ⟨3, ![8, 128, 1024]⟩
abbrev S8x256x1024 : Shape := ⟨3, ![8, 256, 1024]⟩
abbrev S8x256x128 : Shape := ⟨3, ![8, 256, 128]⟩
abbrev S_ : Shape := ⟨0, ![]⟩
abbrev S128x1024 : Shape := ⟨2, ![128, 1024]⟩
abbrev S256x1024 : Shape := ⟨2, ![256, 1024]⟩
abbrev S256x128 : Shape := ⟨2, ![256, 128]⟩
abbrev S32x1024 : Shape := ⟨2, ![32, 1024]⟩
abbrev S672x1024 : Shape := ⟨2, ![672, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x256x1024, .bf16⟩
  | .hbm, ⟨2, _⟩ => ⟨S8x128x1024, .bf16⟩
  | .hbm, ⟨3, _⟩ => ⟨S8x128x1024, .bf16⟩
  | .hbm, ⟨4, _⟩ => ⟨S8x256x128, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S8x128x1024, .f32⟩
  | .hbm, ⟨12, _⟩ => ⟨S_, .f32⟩
  | .hbm, ⟨13, _⟩ => ⟨S128x1024, .f32⟩
  | .hbm, ⟨14, _⟩ => ⟨S8x128x1024, .f32⟩
  | .hbm, ⟨15, _⟩ => ⟨S_, .f32⟩
  | .hbm, ⟨16, _⟩ => ⟨S128x1024, .f32⟩
  | .hbm, ⟨17, _⟩ => ⟨S8x256x128, .f32⟩
  | .hbm, ⟨18, _⟩ => ⟨S_, .f32⟩
  | .hbm, ⟨19, _⟩ => ⟨S256x128, .f32⟩
  | .hbm, ⟨20, _⟩ => ⟨S32x1024, .f32⟩
  | .hbm, ⟨21, _⟩ => ⟨S672x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel10.lean ====
abbrev S1x1024x14344 : Shape := ⟨3, ![1, 1024, 14344]⟩
abbrev S1024x14344 : Shape := ⟨2, ![1024, 14344]⟩
abbrev S1024x8192 : Shape := ⟨2, ![1024, 8192]⟩
abbrev S1024x4096 : Shape := ⟨2, ![1024, 4096]⟩
abbrev S1024x2048 : Shape := ⟨2, ![1024, 2048]⟩
abbrev S1024x14336 : Shape := ⟨2, ![1024, 14336]⟩
abbrev S1024x8 : Shape := ⟨2, ![1024, 8]⟩
abbrev S_ : Shape := ⟨0, ![]⟩
abbrev S1024x128 : Shape := ⟨2, ![1024, 128]⟩
abbrev S8x1024x1920 : Shape := ⟨3, ![8, 1024, 1920]⟩
abbrev S128x14336 : Shape := ⟨2, ![128, 14336]⟩
abbrev S128x128 : Shape := ⟨2, ![128, 128]⟩
abbrev S8x128x1920 : Shape := ⟨3, ![8, 128, 1920]⟩
abbrev S1x128x128 : Shape := ⟨3, ![1, 128, 128]⟩

abbrev nBuf : Space → Nat
  | .hbm => 13
  | .vmem => 6
  | .smem => 0
  | _ => 0

abbrev bufTy : (tb : Table) → Fin (tcTables nBuf tb) → BufTy
  | .hbm, ⟨0, _⟩ => ⟨S1x1024x14344, .f32⟩
  | .hbm, ⟨1, _⟩ => ⟨S1024x14344, .f32⟩
  | .hbm, ⟨2, _⟩ => ⟨S1024x8192, .f32⟩
  | .hbm, ⟨3, _⟩ => ⟨S1024x4096, .f32⟩
  | .hbm, ⟨4, _⟩ => ⟨S1024x2048, .f32⟩
  | .hbm, ⟨5, _⟩ => ⟨S1024x14336, .f32⟩
  | .hbm, ⟨6, _⟩ => ⟨S1024x14336, .bf16⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S8x1024x1920, .bf16⟩
  | .local _ .vmem, ⟨0, _⟩ => ⟨S128x14336, .bf16⟩
  | .local _ .vmem, ⟨1, _⟩ => ⟨S128x14336, .bf16⟩
  | .local _ .vmem, ⟨2, _⟩ => ⟨S128x128, .bf16⟩
  | .local _ .vmem, ⟨3, _⟩ => ⟨S128x128, .bf16⟩
  | .local _ .vmem, ⟨4, _⟩ => ⟨S8x128x1920, .bf16⟩
  | .local _ .vmem, ⟨5, _⟩ => ⟨S8x128x1920, .bf16⟩
  | _, _ => ⟨S1x1024x14344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S1x1024x14344 : Shape := ⟨3, ![1, 1024, 14344]⟩
abbrev S1024x14344 : Shape := ⟨2, ![1024, 14344]⟩
abbrev S_ : Shape := ⟨0, ![]⟩
abbrev S1024x14471 : Shape := ⟨2, ![1024, 14471]⟩
abbrev S1024x1920 : Shape := ⟨2, ![1024, 1920]⟩
abbrev S1x1024x1920 : Shape := ⟨3, ![1, 1024, 1920]⟩
abbrev S8x1024x1920 : Shape := ⟨3, ![8, 1024, 1920]⟩

abbrev nBuf : Space → Nat
  | .hbm => 23
  | .vmem => 0
  | .smem => 0
  | _ => 0

abbrev bufTy : (tb : Table) → Fin (tcTables nBuf tb) → BufTy
  | .hbm, ⟨0, _⟩ => ⟨S1x1024x14344, .f32⟩
  | .hbm, ⟨1, _⟩ => ⟨S1024x14344, .f32⟩
  | .hbm, ⟨2, _⟩ => ⟨S_, .i32⟩
  | .hbm, ⟨3, _⟩ => ⟨S_, .f32⟩
  | .hbm, ⟨4, _⟩ => ⟨S1024x14471, .f32⟩
  | .hbm, ⟨5, _⟩ => ⟨S1024x1920, .f32⟩
  | .hbm, ⟨6, _⟩ => ⟨S1024x1920, .f32⟩
  | .hbm, ⟨7, _⟩ => ⟨S1024x1920, .f32⟩
  | .hbm, ⟨8, _⟩ => ⟨S1024x1920, .f32⟩
  | .hbm, ⟨9, _⟩ => ⟨S1024x1920, .f32⟩
  | .hbm, ⟨10, _⟩ => ⟨S1024x1920, .f32⟩
  | .hbm, ⟨11, _⟩ => ⟨S1024x1920, .f32⟩
  | .hbm, ⟨12, _⟩ => ⟨S1024x1920, .f32⟩
  | .hbm, ⟨13, _⟩ => ⟨S1x1024x1920, .f32⟩
  | .hbm, ⟨14, _⟩ => ⟨S1x1024x1920, .f32⟩
  | .hbm, ⟨15, _⟩ => ⟨S1x1024x1920, .f32⟩
  | .hbm, ⟨16, _⟩ => ⟨S1x1024x1920, .f32⟩
  | .hbm, ⟨17, _⟩ => ⟨S1x1024x1920, .f32⟩
  | .hbm, ⟨18, _⟩ => ⟨S1x1024x1920, .f32⟩
  | .hbm, ⟨19, _⟩ => ⟨S1x1024x1920, .f32⟩
  | .hbm, ⟨20, _⟩ => ⟨S1x1024x1920, .f32⟩
  | .hbm, ⟨21, _⟩ => ⟨S8x1024x1920, .f32⟩
  | .hbm, ⟨22, _⟩ => ⟨S8x1024x1920, .bf16⟩
  | _, _ => ⟨S1x1024x14344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel11.lean ====
abbrev S8x1024x1793 : Shape := ⟨3, ![8, 1024, 1793]⟩
abbrev S_ : Shape := ⟨0, ![]⟩
abbrev S8x1024x1920 : Shape := ⟨3, ![8, 1024, 1920]⟩
abbrev S1024x14336 : Shape := ⟨2, ![1024, 14336]⟩
abbrev S1024x128 : Shape := ⟨2, ![1024, 128]⟩
abbrev S8x128x1920 : Shape := ⟨3, ![8, 128, 1920]⟩
abbrev S128x14336 : Shape := ⟨2, ![128, 14336]⟩
abbrev S128x128 : Shape := ⟨2, ![128, 128]⟩
abbrev S1x128x128 : Shape := ⟨3, ![1, 128, 128]⟩

abbrev nBuf : Space → Nat
  | .hbm => 7
  | .vmem => 6
  | .smem => 0
  | _ => 0

abbrev bufTy : (tb : Table) → Fin (tcTables nBuf tb) → BufTy
  | .hbm, ⟨0, _⟩ => ⟨S8x1024x1793, .f32⟩
  | .hbm, ⟨1, _⟩ => ⟨S8x1024x1793, .bf16⟩
  | .hbm, ⟨2, _⟩ => ⟨S_, .i32⟩
  | .hbm, ⟨3, _⟩ => ⟨S_, .bf16⟩
  | .hbm, ⟨4, _⟩ => ⟨S8x1024x1920, .bf16⟩
  | .hbm, ⟨5, _⟩ => ⟨S1024x14336, .bf16⟩
  | .hbm, ⟨6, _⟩ => ⟨S1024x128, .bf16⟩
  | .local _ .vmem, ⟨0, _⟩ => ⟨S8x128x1920, .bf16⟩
  | .local _ .vmem, ⟨1, _⟩ => ⟨S8x128x1920, .bf16⟩
  | .local _ .vmem, ⟨2, _⟩ => ⟨S128x14336, .bf16⟩
  | .local _ .vmem, ⟨3, _⟩ => ⟨S128x14336, .bf16⟩
  | .local _ .vmem, ⟨4, _⟩ => ⟨S128x128, .bf16⟩
  | .local _ .vmem, ⟨5, _⟩ => ⟨S128x128, .bf16⟩
  | _, _ => ⟨S8x1024x1793, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8x1024x1793 : Shape := ⟨3, ![8, 1024, 1793]⟩
abbrev S1024x8x1793 : Shape := ⟨3, ![1024, 8, 1793]⟩
abbrev S1024x14344 : Shape := ⟨2, ![1024, 14344]⟩
abbrev S1024x8192 : Shape := ⟨2, ![1024, 8192]⟩
abbrev S1024x4096 : Shape := ⟨2, ![1024, 4096]⟩
abbrev S1024x2048 : Shape := ⟨2, ![1024, 2048]⟩
abbrev S1024x14336 : Shape := ⟨2, ![1024, 14336]⟩
abbrev S1024x8 : Shape := ⟨2, ![1024, 8]⟩
abbrev S_ : Shape := ⟨0, ![]⟩
abbrev S1024x128 : Shape := ⟨2, ![1024, 128]⟩

abbrev nBuf : Space → Nat
  | .hbm => 13
  | .vmem => 0
  | .smem => 0
  | _ => 0

abbrev bufTy : (tb : Table) → Fin (tcTables nBuf tb) → BufTy
  | .hbm, ⟨0, _⟩ => ⟨S8x1024x1793, .f32⟩
  | .hbm, ⟨1, _⟩ => ⟨S1024x8x1793, .f32⟩
  | .hbm, ⟨2, _⟩ => ⟨S1024x14344, .f32⟩
  | .hbm, ⟨3, _⟩ => ⟨S1024x8192, .f32⟩
  | .hbm, ⟨4, _⟩ => ⟨S1024x4096, .f32⟩
  | .hbm, ⟨5, _⟩ => ⟨S1024x2048, .f32⟩
  | .hbm, ⟨6, _⟩ => ⟨S1024x14336, .f32⟩
  | .hbm, ⟨7, _⟩ => ⟨S1024x14336, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | _, _ => ⟨S8x1024x1793, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S1x16384x1024 : Shape := ⟨3, ![1, 16384, 1024]⟩
abbrev S1024x14344 : Shape := ⟨2, ![1024, 14344]⟩
abbrev S1024x8192 : Shape := ⟨2, ![1024, 8192]⟩
abbrev S1024x4096 : Shape := ⟨2, ![1024, 4096]⟩
abbrev S1024x2048 : Shape := ⟨2, ![1024, 2048]⟩
abbrev S1024x14336 : Shape := ⟨2, ![1024, 14336]⟩
abbrev S1024x8 : Shape := ⟨2, ![1024, 8]⟩
abbrev S_ : Shape := ⟨0, ![]⟩
abbrev S1024x128 : Shape := ⟨2, ![1024, 128]⟩
abbrev S16384x1024 : Shape := ⟨2, ![16384, 1024]⟩
abbrev S16384x14336 : Shape := ⟨2, ![16384, 14336]⟩
abbrev S16384x128 : Shape := ⟨2, ![16384, 128]⟩
abbrev S2048x1024 : Shape := ⟨2, ![2048, 1024]⟩
abbrev S1024x1024 : Shape := ⟨2, ![1024, 1024]⟩
abbrev S2048x128 : Shape := ⟨2, ![2048, 128]⟩

abbrev nBuf : Space → Nat
  | .hbm => 16
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024x14344, .f32⟩
  | .hbm, ⟨2, _⟩ => ⟨S1024x8192, .f32⟩
  | .hbm, ⟨3, _⟩ => ⟨S1024x4096, .f32⟩
  | .hbm, ⟨4, _⟩ => ⟨S1024x2048, .f32⟩
  | .hbm, ⟨5, _⟩ => ⟨S1024x14336, .f32⟩
  | .hbm, ⟨6, _⟩ => ⟨S1024x14336, .bf16⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16384x1024, .f32⟩
  | .hbm, ⟨13, _⟩ => ⟨S16384x1024, .bf16⟩
  | .hbm, ⟨14, _⟩ => ⟨S16384x14336, .bf16⟩
  | .hbm, ⟨15, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .f32⟩
  | .local _ .vmem, ⟨8, _⟩ => ⟨S2048x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 14, 1], ![false, false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference12Ideal.lean ====
abbrev S1x16384x1024 : Shape := ⟨3, ![1, 16384, 1024]⟩
abbrev S1024x14344 : Shape := ⟨2, ![1024, 14344]⟩
abbrev S1x16384x14344 : Shape := ⟨3, ![1, 16384, 14344]⟩
abbrev S16384x14344 : Shape := ⟨2, ![16384, 14344]⟩
abbrev S16384x8192 : Shape := ⟨2, ![16384, 8192]⟩
abbrev S16384x4096 : Shape := ⟨2, ![16384, 4096]⟩
abbrev S16384x2048 : Shape := ⟨2, ![16384, 2048]⟩
abbrev S16384x14336 : Shape := ⟨2, ![16384, 14336]⟩
abbrev S16384x8 : Shape := ⟨2, ![16384, 8]⟩
abbrev S_ : Shape := ⟨0, ![]⟩
abbrev S16384x128 : Shape := ⟨2, ![16384, 128]⟩

abbrev nBuf : Space → Nat
  | .hbm => 13
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x14344, .f32⟩
  | .hbm, ⟨2, _⟩ => ⟨S1x16384x14344, .f32⟩
  | .hbm, ⟨3, _⟩ => ⟨S16384x14344, .f32⟩
  | .hbm, ⟨4, _⟩ => ⟨S16384x8192, .f32⟩
  | .hbm, ⟨5, _⟩ => ⟨S16384x4096, .f32⟩
  | .hbm, ⟨6, _⟩ => ⟨S16384x2048, .f32⟩
  | .hbm, ⟨7, _⟩ => ⟨S16384x14336, .f32⟩
  | .hbm, ⟨8, _⟩ => ⟨S16384x14336, .bf16⟩
  | .hbm, ⟨9, _⟩ => ⟨S16384x8, .f32⟩
  | .hbm, ⟨10, _⟩ => ⟨S_, .i32⟩
  | .hbm, ⟨11, _⟩ => ⟨S_, .f32⟩
  | .hbm, ⟨12, _⟩ => ⟨S16384x128, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Conv.Blocks.lean ====
/- The blocks that the short convolution's backward kernel reads, as elements of the arguments. -/
module

public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The projected activations. -/
abbrev PROJ (c : Dev nD) : FVec Ideal S1x16384x14344 .f32 := m ((c : Thread nD τ).loc main_arg0)
/-- The convolution's taps. -/
abbrev TAPS (c : Dev nD) : FVec Ideal S1x3x1024 .f32 := m ((c : Thread nD τ).loc main_arg1)
/-- The convolution's bias. -/
abbrev BIAS (c : Dev nD) : FVec Ideal S1x1024 .f32 := m ((c : Thread nD τ).loc main_arg2)
/-- The gradient of the branch's output. -/
abbrev DYA (c : Dev nD) : FVec Ideal S1x16384x1024 .f32 := m ((c : Thread nD τ).loc main_arg3)

/-- Every window's block index. -/
theorem idx : ∀ t : Fin cfg0.N, t.val < 32 ∧ win0_0.index t = ![t.val, 8] ∧ win0_1.index t = ![t.val, 9] ∧ win0_2.index t = ![t.val, 10]
    ∧ win0_3.index t = ![t.val, 11] ∧ win0_4.index t = ![t.val * 32 - 1, 8] ∧ win0_5.index t = ![t.val * 32 - 1, 10]
    ∧ win0_6.index t = ![t.val, 0] ∧ win0_7.index t = ![min ((t.val + 1) * 32) 1023, 9] ∧ win0_8.index t = ![min ((t.val + 1) * 32) 1023, 11]
    ∧ win0_9.index t = ![min ((t.val + 1) * 32) 1023, 0] ∧ win0_10.index t = ![0, 0] ∧ win0_11.index t = ![0, 0]
    ∧ win0_12.index t = ![t.val, 2] ∧ win0_13.index t = ![0, 0] ∧ (grid0.coords t 0).val = t.val :=
  (by decide +kernel : ∀ t : Fin grid0.N, _)

/-- The four columns of the branch stand after the first 8192 columns of the packed array. -/
theorem packed_at (c : Dev nD) (i : Fin 16384) (j : Fin 4096) :
    V m c main_v5 (ix2 i (⟨8192 + j.val, by omega⟩ : Fin 14336)) = PROJ m c (ix3 0 i (⟨j.val, by omega⟩ : Fin 14344)) := by
  unfold V
  after_reads_at
  after_reads_at

/-- The taps stand in the first three rows of the padded array. -/
theorem taps_at (c : Dev nD) (i : Fin 3) (j : Fin 1024) :
    V m c main_v7 (ix2 (⟨i.val, by omega⟩ : Fin 8) j) = TAPS m c (ix3 0 i j) := by
  unfold V
  after_reads_at

/-- The gradient, with its leading axis dropped. -/
theorem grad_at (c : Dev nD) (i : Fin 16384) (j : Fin 1024) :
    V m c main_v9 (ix2 i j) = DYA m c (ix3 0 i j) := by
  unfold V
  after_reads_at

/-! ## The blocks of a grid point -/

variable (c : Dev nD) (t : Fin cfg0.N)

theorem blk0 (r : Fin 512) (l : Fin 1024) (q : Fin 16384) (hq : q.val = t.val * 512 + r.val) :
    iblk m c 0 t (ix2 r l) = PROJ m c (ix3 0 q (⟨l.val, by omega⟩ : Fin 14344)) := by
  rw [← packed_at m c q ⟨l.val, by omega⟩]
  blk_ext [iblk, idx t]

theorem blk1 (r : Fin 512) (l : Fin 1024) (q : Fin 16384) (hq : q.val = t.val * 512 + r.val) :
    iblk m c 1 t (ix2 r l) = PROJ m c (ix3 0 q (⟨1024 + l.val, by omega⟩ : Fin 14344)) := by
  rw [← packed_at m c q ⟨1024 + l.val, by omega⟩]
  blk_ext [iblk, idx t]

theorem blk2 (r : Fin 512) (l : Fin 1024) (q : Fin 16384) (hq : q.val = t.val * 512 + r.val) :
    iblk m c 2 t (ix2 r l) = PROJ m c (ix3 0 q (⟨2048 + l.val, by omega⟩ : Fin 14344)) := by
  rw [← packed_at m c q ⟨2048 + l.val, by omega⟩]
  blk_ext [iblk, idx t]

theorem blk3 (r : Fin 512) (l : Fin 1024) (q : Fin 16384) (hq : q.val = t.val * 512 + r.val) :
    iblk m c 3 t (ix2 r l) = PROJ m c (ix3 0 q (⟨3072 + l.val, by omega⟩ : Fin 14344)) := by
  rw [← packed_at m c q ⟨3072 + l.val, by omega⟩]
  blk_ext [iblk, idx t]

theorem blk4 (r : Fin 16) (l : Fin 1024) (q : Fin 16384) (hq : q.val = (t.val * 32 - 1) * 16 + r.val) :
    iblk m c 4 t (ix2 r l) = PROJ m c (ix3 0 q (⟨l.val, by omega⟩ : Fin 14344)) := by
  rw [← packed_at m c q ⟨l.val, by omega⟩]
  blk_ext [iblk, idx t]

theorem blk5 (r : Fin 16) (l : Fin 1024) (q : Fin 16384) (hq : q.val = (t.val * 32 - 1) * 16 + r.val) :
    iblk m c 5 t (ix2 r l) = PROJ m c (ix3 0 q (⟨2048 + l.val, by omega⟩ : Fin 14344)) := by
  rw [← packed_at m c q ⟨2048 + l.val, by omega⟩]
  blk_ext [iblk, idx t]

theorem blk7 (r : Fin 16) (l : Fin 1024) (q : Fin 16384) (hq : q.val = min ((t.val + 1) * 32) 1023 * 16 + r.val) :
    iblk m c 7 t (ix2 r l) = PROJ m c (ix3 0 q (⟨1024 + l.val, by omega⟩ : Fin 14344)) := by
  rw [← packed_at m c q ⟨1024 + l.val, by omega⟩]
  blk_ext [iblk, idx t]

theorem blk8 (r : Fin 16) (l : Fin 1024) (q : Fin 16384) (hq : q.val = min ((t.val + 1) * 32) 1023 * 16 + r.val) :
    iblk m c 8 t (ix2 r l) = PROJ m c (ix3 0 q (⟨3072 + l.val, by omega⟩ : Fin 14344)) := by
  rw [← packed_at m c q ⟨3072 + l.val, by omega⟩]
  blk_ext [iblk, idx t]

theorem blk6 (r : Fin 512) (l : Fin 1024) (q : Fin 16384) (hq : q.val = t.val * 512 + r.val) :
    iblk m c 6 t (ix2 r l) = DYA m c (ix3 0 q l) := by
  rw [← grad_at m c q l]
  blk_ext [iblk, idx t]

theorem blk9 (r : Fin 16) (l : Fin 1024) (q : Fin 16384) (hq : q.val = min ((t.val + 1) * 32) 1023 * 16 + r.val) :
    iblk m c 9 t (ix2 r l) = DYA m c (ix3 0 q l) := by
  rw [← grad_at m c q l]
  blk_ext [iblk, idx t]

theorem blk10 (k : Fin 3) (l : Fin 1024) : iblk m c 10 t (ix2 (⟨k.val, by omega⟩ : Fin 8) l) = TAPS m c (ix3 0 k l) := by
  rw [← taps_at m c k l]
  blk_ext [iblk, idx t]

theorem blk11 (l : Fin 1024) : iblk m c 11 t (ix2 0 l) = BIAS m c (ix2 0 l) := by
  blk_ext [iblk, V, idx t]

end Cert.KernelIdeal.Conv

end
-- ==== Proof.Conv.Spec.lean ====
/- The gradient of the gated short convolution, written plainly over time steps and channels. -/
module

public import Idealize.ShloMosaic.PureOps
public import Idealize.ShloMosaic.Lib.Pipeline.ValueKit
public import Idealize.ShloMosaic.Lib.WordCmp

@[expose] public section

noncomputable section

namespace Conv

open Idealize.ShloMosaic

/-- Half the hyperbolic tangent of half the argument plus a half is the logistic function. -/
theorem half_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast; norm_num
  | coe r =>
    rw [Ideal.logistic_coe, ← EReal.coe_mul, Ideal.tanh_coe]
    norm_cast
    have h : Real.exp (-r) = Real.exp (-(1 / 2 * r)) * Real.exp (-(1 / 2 * r)) := by rw [← Real.exp_add]; ring_nf
    have h1 : Real.exp (1 / 2 * r) * Real.exp (-(1 / 2 * r)) = 1 := by rw [← Real.exp_add]; simp
    have p := Real.exp_pos (-(1 / 2 * r))
    have p' := Real.exp_pos (1 / 2 * r)
    rw [Real.tanh_eq_sinh_div_cosh, Real.sinh_eq, Real.cosh_eq, h]
    generalize Real.exp (-(1 / 2 * r)) = y at *
    generalize Real.exp (1 / 2 * r) = z at *
    have : z = 1 / y := by field_simp; linarith
    subst this
    field_simp
    ring

/-- The f32 constant a half. -/
theorem ofBits_half : Ideal.ofBits .f32 0x3F000000#32 = ((1 / 2 : ℝ) : EReal) := by
  simp [Ideal.ofBits, Ideal.ieee, -EReal.coe_mul]; norm_num

/-- A selection by the equality of two small words. -/
theorem select_eq_word {α : Type} (n k : ℕ) (hn : n < 4294967296) (hk : k < 4294967296) (x y : α) :
    Scalar.select (Scalar.cmpi .eq (BitVec.ofNat 32 n) (BitVec.ofNat 32 k)) x y = if n = k then x else y := by
  rw [show Scalar.cmpi .eq (BitVec.ofNat 32 n) (BitVec.ofNat 32 k) = BitVec.ofBool (decide (n = k)) from Idealize.ShloMosaic.WordCmp.cmpi_eq_ofNat hn hk]
  by_cases h : n = k <;> simp [h, Scalar.select]

/-- The arguments of the branch: the four column groups of the projection, the gradient of the branch's output,
the three taps and the bias. -/
structure Data where
  xa : Fin 16384 → Fin 1024 → EReal
  ba : Fin 16384 → Fin 1024 → EReal
  ca : Fin 16384 → Fin 1024 → EReal
  za : Fin 16384 → Fin 1024 → EReal
  dy : Fin 16384 → Fin 1024 → EReal
  w : Fin 3 → Fin 1024 → EReal
  b : Fin 1024 → EReal

namespace Data

variable (a : Data) (q : Fin 16384) (l : Fin 1024)

/-- The convolution's input. -/
def u : EReal := a.ca q l * a.xa q l
/-- The input `k` steps earlier, zero before the first step. -/
def uBack (k : ℕ) : EReal := if h : k ≤ q.val then a.u ⟨q.val - k, by omega⟩ l else 0
/-- The convolution's output. -/
def cv : EReal := a.w 0 l * a.uBack q l 2 + a.w 1 l * a.uBack q l 1 + a.w 2 l * a.u q l + a.b l
/-- The logistic function of the gate. -/
def sg : EReal := Ideal.logistic (a.za q l)
/-- The gate's activation. -/
def silu : EReal := a.za q l * a.sg q l
/-- The gradient of the convolution's output. -/
def dcv : EReal := a.dy q l * a.ba q l * a.silu q l
/-- The gradient of the convolution's output `k` steps later, zero after the last step. -/
def dcvFwd (k : ℕ) : EReal := if h : q.val + k < 16384 then a.dcv ⟨q.val + k, h⟩ l else 0
/-- The gradient of the convolution's input. -/
def du : EReal := a.w 2 l * a.dcv q l + a.w 1 l * a.dcvFwd q l 1 + a.w 0 l * a.dcvFwd q l 2

/-- The gradients of the four column groups. -/
def dxa : EReal := a.du q l * a.ca q l
def dba : EReal := a.dy q l * a.cv q l * a.silu q l
def dca : EReal := a.du q l * a.xa q l
def dza : EReal := a.dy q l * a.ba q l * a.cv q l * a.sg q l * (1 + a.za q l * (1 - a.sg q l))

/-- A group's gradient, by the group's number. -/
def dgroup (g : ℕ) : EReal := if g = 0 then a.dxa q l else if g = 1 then a.dba q l else if g = 2 then a.dca q l else a.dza q l

theorem dgroup_at (j : Fin 4096) (g : ℕ) (h : j.val = g * 1024 + l.val) :
    a.dgroup q ⟨j.val % 1024, Nat.mod_lt _ (by decide)⟩ (j.val / 1024) = a.dgroup q l g := by
  have e : (⟨j.val % 1024, Nat.mod_lt _ (by decide)⟩ : Fin 1024) = l := Fin.ext (by dsimp only; omega)
  rw [e, show j.val / 1024 = g by omega]

/-- What a time step adds to row `r` of the parameters' gradient: the three taps, then the bias. -/
def term (r : ℕ) : EReal :=
  if r = 0 then a.dcv q l * a.uBack q l 2 else if r = 1 then a.dcv q l * a.uBack q l 1
  else if r = 2 then a.dcv q l * a.u q l else if r = 3 then a.dcv q l else 0

/-- A row of the parameters' gradient. -/
def dpar (r : ℕ) : EReal := ∑ q : Fin 16384, a.term q l r

/-- The arguments that may not be infinite: all but the gate. -/
structure Finite : Prop where
  xa : ∀ q l, ∃ r : ℝ, a.xa q l = r
  ba : ∀ q l, ∃ r : ℝ, a.ba q l = r
  ca : ∀ q l, ∃ r : ℝ, a.ca q l = r
  dy : ∀ q l, ∃ r : ℝ, a.dy q l = r
  w : ∀ k l, ∃ r : ℝ, a.w k l = r
  b : ∀ l, ∃ r : ℝ, a.b l = r

variable {a}

theorem Finite.u (h : a.Finite) : ∃ r : ℝ, a.u q l = r := by
  obtain ⟨x, hx⟩ := h.ca q l
  obtain ⟨y, hy⟩ := h.xa q l
  exact ⟨x * y, by rw [Data.u, hx, hy, EReal.coe_mul]⟩

theorem Finite.uBack (h : a.Finite) (k : ℕ) : ∃ r : ℝ, a.uBack q l k = r := by
  unfold Data.uBack
  split
  · exact h.u _ l
  · exact ⟨0, rfl⟩

theorem Finite.cv (h : a.Finite) : ∃ r : ℝ, a.cv q l = r := by
  obtain ⟨u0, h0⟩ := h.u q l
  obtain ⟨u1, h1⟩ := h.uBack q l 1
  obtain ⟨u2, h2⟩ := h.uBack q l 2
  obtain ⟨w0, e0⟩ := h.w 0 l
  obtain ⟨w1, e1⟩ := h.w 1 l
  obtain ⟨w2, e2⟩ := h.w 2 l
  obtain ⟨b, e⟩ := h.b l
  exact ⟨w0 * u2 + w1 * u1 + w2 * u0 + b, by rw [Data.cv, h0, h1, h2, e0, e1, e2, e]; push_cast; rfl⟩

/-- The product rule for the gate: the two summands are one product, also where the gate is infinite. -/
theorem Finite.dza (h : a.Finite) :
    a.ba q l * a.cv q l * a.dy q l * a.sg q l + a.za q l * (a.ba q l * a.cv q l * a.dy q l) * (a.sg q l * (1 - a.sg q l)) = a.dza q l := by
  obtain ⟨b, hb⟩ := h.ba q l
  obtain ⟨v, hv⟩ := h.cv q l
  obtain ⟨d, hd⟩ := h.dy q l
  unfold Data.dza Data.sg
  rw [hb, hv, hd]
  induction a.za q l using EReal.rec with
  | bot => simp [Ideal.logistic_bot]
  | top =>
    have e : (1 : EReal) - 1 = 0 := by rw [← EReal.coe_one, ← EReal.coe_sub, sub_self, EReal.coe_zero]
    simp only [Ideal.logistic_top, e, mul_zero, add_zero, mul_one]
    norm_cast; ring_nf
  | coe z =>
    rw [Ideal.logistic_coe]
    norm_cast
    ring_nf

end Data

end Conv

end
-- ==== Proof.Conv.Point.lean ====
/- What one grid point of the short convolution's backward kernel computes, as elements of the plain gradient. -/
module

public import proofs.«01_k».proof.Proof.Conv.Blocks
public import proofs.«01_k».proof.Proof.Conv.Spec

@[expose] public section

set_option maxRecDepth 16384

noncomputable section

namespace Cert.KernelIdeal.Conv

open Cert.KernelIdeal Cert.KernelIdeal.Gen Idealize.ShloMosaic

/-- Rows moved down by `k`, the first ones from the block before. -/
theorem back_at (k : ℕ) (hk : k = 1 ∨ k = 2) (h : FVec Ideal S16x1024 .f32) (x : FVec Ideal S512x1024 .f32) (r : Fin 512) (l : Fin 1024) :
    extractStridedSlice S512x1024 ![16, 0] (dynamicRotate 0 (BitVec.ofNat 32 k) none (concatenate S528x1024 0 [⟨S16x1024, h⟩, ⟨S512x1024, x⟩] concatenates_S16x1024_S512x1024_S528x1024_d0) rotates_S528x1024_d0) slices_S528x1024_o16_0_S512x1024 (ix2 r l)
      = if hr : r.val < k then h (ix2 ⟨(16 + r.val - k) % 16, Nat.mod_lt _ (by decide)⟩ l) else x (ix2 ⟨r.val - k, by omega⟩ l) := by
  rcases hk with rfl | rfl <;> pointwise <;> split <;> split <;> first | omega | rfl | (congr 2; apply Fin.ext; dsimp only; omega)

/-- Rows moved up by `k`, the last ones from the block after. -/
theorem fwd_at (k : ℕ) (hk : k = 1 ∨ k = 2) (h : FVec Ideal S16x1024 .f32) (x : FVec Ideal S512x1024 .f32) (r : Fin 512) (l : Fin 1024) :
    extractStridedSlice S512x1024 ![0, 0] (dynamicRotate 0 (BitVec.ofNat 32 (528 - k)) none (concatenate S528x1024 0 [⟨S512x1024, x⟩, ⟨S16x1024, h⟩] concatenates_S512x1024_S16x1024_S528x1024_d0) rotates_S528x1024_d0) slices_S528x1024_o0_0_S512x1024 (ix2 r l)
      = if hr : r.val + k < 512 then x (ix2 ⟨r.val + k, hr⟩ l) else h (ix2 ⟨(r.val + k) % 16, Nat.mod_lt _ (by decide)⟩ l) := by
  rcases hk with rfl | rfl <;> pointwise <;> split <;> split <;> first | omega | rfl | (congr 2; apply Fin.ext; dsimp only; omega)

/-- The blocks of grid point `t` hold the elements of the data `a`. -/
structure Reads (a : _root_.Conv.Data) (t : ℕ) (x0 x1 x2 x3 : FVec Ideal S512x1024 .bf16) (x4 x5 : FVec Ideal S16x1024 .bf16)
    (x6 : FVec Ideal S512x1024 .bf16) (x7 x8 x9 : FVec Ideal S16x1024 .bf16) (w0 w1 w2 x11 : FVec Ideal S1x1024 .f32) : Prop where
  lt : t < 32
  h0 : ∀ r l (q : Fin 16384), q.val = t * 512 + r.val → x0 (ix2 r l) = a.xa q l
  h1 : ∀ r l (q : Fin 16384), q.val = t * 512 + r.val → x1 (ix2 r l) = a.ba q l
  h2 : ∀ r l (q : Fin 16384), q.val = t * 512 + r.val → x2 (ix2 r l) = a.ca q l
  h3 : ∀ r l (q : Fin 16384), q.val = t * 512 + r.val → x3 (ix2 r l) = a.za q l
  h4 : ∀ r l (q : Fin 16384), q.val = (t * 32 - 1) * 16 + r.val → x4 (ix2 r l) = a.xa q l
  h5 : ∀ r l (q : Fin 16384), q.val = (t * 32 - 1) * 16 + r.val → x5 (ix2 r l) = a.ca q l
  h6 : ∀ r l (q : Fin 16384), q.val = t * 512 + r.val → x6 (ix2 r l) = a.dy q l
  h7 : ∀ r l (q : Fin 16384), q.val = min ((t + 1) * 32) 1023 * 16 + r.val → x7 (ix2 r l) = a.ba q l
  h8 : ∀ r l (q : Fin 16384), q.val = min ((t + 1) * 32) 1023 * 16 + r.val → x8 (ix2 r l) = a.za q l
  h9 : ∀ r l (q : Fin 16384), q.val = min ((t + 1) * 32) 1023 * 16 + r.val → x9 (ix2 r l) = a.dy q l
  hw0 : ∀ l, w0 (ix2 0 l) = a.w 0 l
  hw1 : ∀ l, w1 (ix2 0 l) = a.w 1 l
  hw2 : ∀ l, w2 (ix2 0 l) = a.w 2 l
  h11 : ∀ l, x11 (ix2 0 l) = a.b l

section
variable {a : _root_.Conv.Data} {x0 x1 x2 x3 : FVec Ideal S512x1024 .bf16} {x4 x5 : FVec Ideal S16x1024 .bf16}
    {x6 : FVec Ideal S512x1024 .bf16} {x7 x8 x9 : FVec Ideal S16x1024 .bf16} {w0 w1 w2 x11 : FVec Ideal S1x1024 .f32}
    {i : grid0.Coords} (R : Reads a (i 0).val x0 x1 x2 x3 x4 x5 x6 x7 x8 x9 w0 w1 w2 x11)
    (r : Fin 512) (l : Fin 1024) (q : Fin 16384) (hq : q.val = (i 0).val * 512 + r.val)

include R

omit R in
theorem sg_at (x : FVec Ideal S512x1024 .f32) : k0_pay18 (F := Ideal) x (ix2 r l) = Ideal.logistic (x (ix2 r l)) := by
  pointwise [k0_pay18, _root_.Conv.ofBits_half]
  exact _root_.Conv.half_tanh _

include hq in
theorem u_at : k0_pay9 (F := Ideal) x0 x2 (ix2 r l) = a.u q l := by
  pointwise [k0_pay9, k0_pay5, k0_pay6]
  rw [R.h0 r l q hq, R.h2 r l q hq]
  rfl

/-- The rows of the block before, zero at the first grid point. -/
theorem halo_at (s : Fin 16) : k0_pay10 (F := Ideal) i x5 x4 (ix2 s l)
      = if h : 16 ≤ (i 0).val * 512 + s.val then a.u ⟨(i 0).val * 512 + s.val - 16, by have := R.lt; omega⟩ l else 0 := by
  have := R.lt
  pointwise [k0_pay10]
  rw [_root_.Conv.select_eq_word _ 0 (by omega) (by decide)]
  by_cases h : (i 0).val = 0
  · rw [if_pos h, dif_neg (by omega)]
  · rw [if_neg h, dif_pos (by omega), R.h4 s l ⟨(i 0).val * 512 + s.val - 16, by omega⟩ (by dsimp only; omega),
      R.h5 s l ⟨(i 0).val * 512 + s.val - 16, by omega⟩ (by dsimp only; omega)]
    rfl

include hq in
theorem uBack_at (k : ℕ) (hk : k = 1 ∨ k = 2) :
    extractStridedSlice S512x1024 ![16, 0] (dynamicRotate 0 (BitVec.ofNat 32 k) none (concatenate S528x1024 0 [⟨S16x1024, k0_pay10 (F := Ideal) i x5 x4⟩, ⟨S512x1024, k0_pay9 x0 x2⟩] concatenates_S16x1024_S512x1024_S528x1024_d0) rotates_S528x1024_d0) slices_S528x1024_o16_0_S512x1024 (ix2 r l)
      = a.uBack q l k := by
  have := R.lt
  rw [back_at k hk, _root_.Conv.Data.uBack]
  by_cases hr : r.val < k
  · rw [dif_pos hr, halo_at R r l q]
    by_cases h : k ≤ q.val
    · rw [dif_pos (by dsimp only; omega), dif_pos h]
      congr 2
      dsimp only
      omega
    · rw [dif_neg (by dsimp only; omega), dif_neg h]
  · rw [dif_neg hr, dif_pos (by omega)]
    exact u_at R _ l _ (by dsimp only; omega)

include hq in
theorem uBack1_at : k0_pay11 (F := Ideal) i x0 x2 x5 x4 (ix2 r l) = a.uBack q l 1 := uBack_at R r l q hq 1 (.inl rfl)

include hq in
theorem uBack2_at : k0_pay12 (F := Ideal) i x0 x2 x5 x4 (ix2 r l) = a.uBack q l 2 := uBack_at R r l q hq 2 (.inr rfl)

include hq in
theorem cv_at : k0_pay17 (F := Ideal) (k0_pay9 x0 x2) (k0_pay11 i x0 x2 x5 x4) (k0_pay14 w1) (k0_pay15 w2)
    (k0_pay16 i x0 x2 x5 x4 w0) x11 (ix2 r l) = a.cv q l := by
  pointwise [k0_pay17, k0_pay16, k0_pay13, k0_pay14, k0_pay15]
  rw [R.hw0, R.hw1, R.hw2, R.h11, u_at R r l q hq, uBack1_at R r l q hq, uBack2_at R r l q hq]
  rfl

include hq in
theorem dcv_at : k0_pay21 (F := Ideal) (k0_pay7 x1) (k0_pay8 x3) x6 (ix2 r l) = a.dcv q l := by
  pointwise [k0_pay21, k0_pay19, k0_pay7, k0_pay8, k0_pay20]
  rw [sg_at]
  pointwise
  rw [R.h1 r l q hq, R.h3 r l q hq, R.h6 r l q hq]
  rfl

theorem halo_fwd_at (s : Fin 16) (q : Fin 16384) (hq : q.val = min (((i 0).val + 1) * 32) 1023 * 16 + s.val) :
    k0_pay22 (F := Ideal) x8 x9 x7 (ix2 s l) = a.dcv q l := by
  pointwise [k0_pay22, _root_.Conv.ofBits_half]
  rw [_root_.Conv.half_tanh, R.h7 s l q hq, R.h8 s l q hq, R.h9 s l q hq]
  rfl

include hq in
theorem dcvFwd_at (k : ℕ) (hk : k = 1 ∨ k = 2) :
    extractStridedSlice S512x1024 ![0, 0] (dynamicRotate 0 (BitVec.ofNat 32 (528 - k)) none (concatenate S528x1024 0 [⟨S512x1024, k0_pay21 (F := Ideal) (k0_pay7 x1) (k0_pay8 x3) x6⟩, ⟨S16x1024, Scalar.select (Scalar.cmpi .eq (BitVec.ofNat 32 (i 0).val) 31#32) (broadcast S16x1024 (FloatOps.ofBits .f32 0#32)) (k0_pay22 x8 x9 x7)⟩] concatenates_S512x1024_S16x1024_S528x1024_d0) rotates_S528x1024_d0) slices_S528x1024_o0_0_S512x1024 (ix2 r l)
      = a.dcvFwd q l k := by
  have := R.lt
  rw [fwd_at k hk, _root_.Conv.Data.dcvFwd]
  by_cases hr : r.val + k < 512
  · rw [dif_pos hr, dif_pos (by omega)]
    exact dcv_at R _ l _ (by dsimp only; omega)
  · rw [dif_neg hr, _root_.Conv.select_eq_word _ 31 (by omega) (by decide)]
    by_cases h : (i 0).val = 31
    · rw [if_pos h, dif_neg (by omega)]
      pointwise
    · rw [if_neg h, dif_pos (by omega)]
      exact halo_fwd_at R l _ _ (by dsimp only; omega)

include hq in
theorem du_at : k0_pay23 (F := Ideal) (k0_pay13 w0) (k0_pay14 w1) (k0_pay15 w2) (k0_pay21 (k0_pay7 x1) (k0_pay8 x3) x6)
    (k0_pay22 x8 x9 x7) (Scalar.cmpi .eq (BitVec.ofNat 32 (i 0).val) 31#32) (FloatOps.ofBits .f32 0#32) (ix2 r l) = a.du q l := by
  unfold k0_pay23
  have e1 := dcvFwd_at R r l q hq 1 (.inl rfl)
  have e2 := dcvFwd_at R r l q hq 2 (.inr rfl)
  have e3 := dcv_at R r l q hq
  dsimp only [addf_apply, mulf_apply]
  rw [show (527#32 : BitVec 32) = BitVec.ofNat 32 (528 - 1) from rfl, show (526#32 : BitVec 32) = BitVec.ofNat 32 (528 - 2) from rfl]
  rw [e1, e2, e3]
  pointwise [k0_pay13, k0_pay14, k0_pay15]
  rw [R.hw0, R.hw1, R.hw2]
  rfl

include hq in
theorem dxa_at : k0_pay24 (F := Ideal) (k0_pay6 x2) (k0_pay13 w0) (k0_pay14 w1) (k0_pay15 w2) (k0_pay21 (k0_pay7 x1) (k0_pay8 x3) x6)
    (k0_pay22 x8 x9 x7) (Scalar.cmpi .eq (BitVec.ofNat 32 (i 0).val) 31#32) (FloatOps.ofBits .f32 0#32) (ix2 r l) = a.dxa q l := by
  have e : k0_pay6 (F := Ideal) x2 (ix2 r l) = a.ca q l := by
    pointwise [k0_pay6]
    exact R.h2 r l q hq
  exact congrArg₂ (· * ·) (du_at R r l q hq) e

include hq in
theorem dca_at : k0_pay26 (F := Ideal) (k0_pay5 x0) (k0_pay13 w0) (k0_pay14 w1) (k0_pay15 w2) (k0_pay21 (k0_pay7 x1) (k0_pay8 x3) x6)
    (k0_pay22 x8 x9 x7) (Scalar.cmpi .eq (BitVec.ofNat 32 (i 0).val) 31#32) (FloatOps.ofBits .f32 0#32) (ix2 r l) = a.dca q l := by
  have e : k0_pay5 (F := Ideal) x0 (ix2 r l) = a.xa q l := by
    pointwise [k0_pay5]
    exact R.h0 r l q hq
  exact congrArg₂ (· * ·) (du_at R r l q hq) e

include hq in
theorem dba_at : k0_pay25 (F := Ideal) (k0_pay17 (k0_pay9 x0 x2) (k0_pay11 i x0 x2 x5 x4) (k0_pay14 w1) (k0_pay15 w2)
    (k0_pay16 i x0 x2 x5 x4 w0) x11) (k0_pay19 (k0_pay8 x3)) (k0_pay20 x6) (ix2 r l) = a.dba q l := by
  pointwise [k0_pay25, k0_pay19, k0_pay20]
  rw [cv_at R r l q hq, sg_at]
  pointwise [k0_pay8]
  rw [R.h3 r l q hq, R.h6 r l q hq]
  rfl

include hq in
theorem dza_at : k0_pay27 (F := Ideal) (k0_pay7 x1) (k0_pay8 x3) (k0_pay17 (k0_pay9 x0 x2) (k0_pay11 i x0 x2 x5 x4) (k0_pay14 w1) (k0_pay15 w2)
    (k0_pay16 i x0 x2 x5 x4 w0) x11) (k0_pay18 (k0_pay8 x3)) (k0_pay20 x6) (ix2 r l) = a.dza q l := by
  pointwise [k0_pay27, k0_pay20]
  rw [cv_at R r l q hq, sg_at]
  pointwise [k0_pay8, k0_pay7]
  rw [R.h1 r l q hq, R.h3 r l q hq, R.h6 r l q hq]
  rfl

end

end Cert.KernelIdeal.Conv

end
-- ==== Proof.Conv.Tiles.lean ====
/- The column gradients: the short convolution's backward kernel writes a block of rows at every grid point. -/
module

public import proofs.«01_k».proof.Proof.Conv.Point

@[expose] public section

set_option maxRecDepth 16384

noncomputable section

namespace Cert.KernelIdeal.Conv

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments' elements, named as in the plain gradient. -/
def data : _root_.Conv.Data where
  xa q l := PROJ m c (ix3 0 q (⟨l.val, by omega⟩ : Fin 14344))
  ba q l := PROJ m c (ix3 0 q (⟨1024 + l.val, by omega⟩ : Fin 14344))
  ca q l := PROJ m c (ix3 0 q (⟨2048 + l.val, by omega⟩ : Fin 14344))
  za q l := PROJ m c (ix3 0 q (⟨3072 + l.val, by omega⟩ : Fin 14344))
  dy q l := DYA m c (ix3 0 q l)
  w k l := TAPS m c (ix3 0 k l)
  b l := BIAS m c (ix2 0 l)

/-- A row of a block of eight. -/
abbrev row (X : FVec Ideal S8x1024 .f32) (o : Fin 2 → ℕ) (h : ∀ a, o a + ![1, 1024] a ≤ S8x1024.size a) : FVec Ideal S1x1024 .f32 :=
  View.ld (Val := Elt Ideal) (S := S8x1024) (e' := .f32) X (Rect.unit (s := S8x1024) o ![1, 1024] h)

theorem ld_row (X : FVec Ideal S8x1024 .f32) (k : Fin 8) (h : ∀ a, ![k.val, 0] a + ![1, 1024] a ≤ S8x1024.size a) (l : Fin 1024) :
    row X ![k.val, 0] h (ix2 0 l) = X (ix2 k l) := by
  refine congrArg X (funext fun a => Fin.ext ?_)
  refine Fin.cases ?_ (fun a => ?_) a
  · simp [Rect.emb, Rect.unit]
  · obtain rfl := Subsingleton.elim a 0
    simp [Rect.emb, Rect.unit]

/-- The blocks of a grid point hold the arguments' elements. -/
theorem reads (t : Fin cfg0.N) : Reads (data m c) (grid0.coords t 0).val (iblk m c 0 t) (iblk m c 1 t) (iblk m c 2 t) (iblk m c 3 t)
    (iblk m c 4 t) (iblk m c 5 t) (iblk m c 6 t) (iblk m c 7 t) (iblk m c 8 t) (iblk m c 9 t)
    (View.ld (iblk m c 10 t) (Rect.unit ![0, 0] ![1, 1024] inb_S8x1024_S1x1024_0_0))
    (View.ld (iblk m c 10 t) (Rect.unit ![1, 0] ![1, 1024] inb_S8x1024_S1x1024_1_0))
    (View.ld (iblk m c 10 t) (Rect.unit ![2, 0] ![1, 1024] inb_S8x1024_S1x1024_2_0)) (iblk m c 11 t) := by
  have hc : (grid0.coords t 0).val = t.val := by have := idx t; tauto
  rw [hc]
  exact {
    lt := (idx t).1
    h0 := blk0 m c t
    h1 := blk1 m c t
    h2 := blk2 m c t
    h3 := blk3 m c t
    h4 := blk4 m c t
    h5 := blk5 m c t
    h6 := blk6 m c t
    h7 := blk7 m c t
    h8 := blk8 m c t
    h9 := blk9 m c t
    hw0 := fun l => (ld_row _ 0 _ l).trans (blk10 m c t 0 l)
    hw1 := fun l => (ld_row _ 1 _ l).trans (blk10 m c t 1 l)
    hw2 := fun l => (ld_row _ 2 _ l).trans (blk10 m c t 2 l)
    h11 := blk11 m c t }

/-- The rows a grid point writes. -/
theorem rows_at (t : Fin cfg0.N) (r : Fin 512) (j : Fin 4096) (q : Fin 16384) (hq : q.val = t.val * 512 + r.val) :
    (outsAt0 m c t.val t.isLt).1 (ix2 r j) = (data m c).dgroup q ⟨j.val % 1024, Nat.mod_lt _ (by decide)⟩ (j.val / 1024) := by
  have hc : (grid0.coords t 0).val = t.val := by have := idx t; tauto
  have hq' : q.val = (grid0.coords t 0).val * 512 + r.val := by rw [hc]; exact hq
  have R := reads m c t
  by_cases h : t.val % 32 = 0
  on_goal 1 => rw [outsAt0_A m c t h]
  on_goal 2 => rw [outsAt0_B m c t h]
  all_goals
    frame_out
    canon_tiles x hx
    all_goals idx_vars x
    · exact (dza_at R _ _ q (by omega)).trans (_root_.Conv.Data.dgroup_at _ _ _ j 3 hx1).symm
    · exact (dca_at R _ _ q (by omega)).trans (_root_.Conv.Data.dgroup_at _ _ _ j 2 hx1).symm
    · exact (dba_at R _ _ q (by omega)).trans (_root_.Conv.Data.dgroup_at _ _ _ j 1 hx1).symm
    · exact (dxa_at R _ _ q (by omega)).trans (_root_.Conv.Data.dgroup_at _ _ _ j 0 (by omega)).symm

/-- The same at an index of the block. -/
theorem rows_at' (t : Fin cfg0.N) (y : S512x4096.Idx) (q : Fin 16384) (hq : q.val = t.val * 512 + (y 0).val) :
    (outsAt0 m c t.val t.isLt).1 y = (data m c).dgroup q ⟨(y 1).val % 1024, Nat.mod_lt _ (by decide)⟩ ((y 1).val / 1024) := by
  idx_vars y
  exact rows_at m c t y0 y1 q hq

/-- The result array starts as the argument it takes the place of. -/
theorem start12 : V m c main_v10_0 = m ((c : Thread nD τ).loc main_arg4) := by
  entry_read
  rfl

/-- The column gradients' array after the run: the four groups in columns 8192 to 12287, the rest as it was. -/
theorem final12 : (dats m 0 c).arrAt 12 cfg0.N = fun i : S16384x14336.Idx =>
    if (i 1).val / 4096 = 2 then (data m c).dgroup (i 0) ⟨(i 1).val % 1024, Nat.mod_lt _ (by decide)⟩ ((i 1).val % 4096 / 1024)
    else (m ((c : Thread nD τ).loc main_arg4) : FVec Ideal S16384x14336 .bf16) i := by
  refine ((dats m 0 c).arrAt_eq_of_coversWhere 12 (fun i : S16384x14336.Idx => (data m c).dgroup (i 0) ⟨(i 1).val % 1024, Nat.mod_lt _ (by decide)⟩ ((i 1).val % 4096 / 1024))
     (fun β => β 1 = 2) (by decide +kernel) (fun t hf y => ?_)
    (P := fun i => (i 1).val / 4096 = 2) (fun j => by blk_simp [Pipeline.Window.cell_apply])).trans ?_
  · blk_simp
    rw [after0_12]
    have ht := (idx t).1
    have b0 := ((cfg0.win 12).xinj (cfg0.grid.coords t) y 0).isLt
    have b1 := ((cfg0.win 12).xinj (cfg0.grid.coords t) y 1).isLt
    rw [Pipeline.Window.xinj_val] at b0 b1
    change (y 0).val < 512 at b0
    change (y 1).val < 4096 at b1
    have e0 : (⟨t.val * 512 + (y 0).val, by omega⟩ : Fin 16384) = ((win0_12.blk t).view.emb y 0) := by
      apply Fin.ext
      blk_simp [idx t]
    rw [← e0]
    refine (rows_at' m c t _ ⟨t.val * 512 + (y 0).val, by omega⟩ rfl).trans ?_
    blk_simp [idx t]
    have e1 : ((cfg0.win 12).xinj (cfg0.grid.coords t) y 1).val = (y 1).val := rfl
    congr 2 <;> omega
  · funext i
    rw [A_eq]
    rw [show V m c (Pipeline.arrRef spec0 12) = _ from start12 m c]

end Cert.KernelIdeal.Conv

end
-- ==== Proof.Conv.Sums.lean ====
/- The parameters' gradient: the short convolution's backward kernel adds up a block of rows at every grid point. -/
module

public import proofs.«01_k».proof.Proof.Conv.Tiles
public import Idealize.ShloMosaic.Lib.Pipeline.ReadBack
public import Idealize.ShloMosaic.Lib.WritesUnit

@[expose] public section

set_option maxRecDepth 16384

noncomputable section

namespace Cert.KernelIdeal.Conv

open Cert.KernelIdeal Cert.KernelIdeal.Gen Idealize.ShloMosaic Idealize.ShloMosaic.TcCoe Idealize.SL.Sem

variable (m : (ℓ : Loc nD τ sig) → Buf (Elt Ideal) ℓ) (c : Dev nD)

/-- What a grid point adds to an element of the parameters' gradient. -/
def part (t : ℕ) (j : S8x1024.Idx) : EReal :=
  ∑ p : Fin 512, if h : t * 512 + p.val < 16384 then (data m c).term ⟨t * 512 + p.val, h⟩ (j 1) (j 0).val else 0

/-- Four rows written on top of a buffer. -/
theorem four_rows {κ : Kind} {sp : Space} (v : View sig κ sp S8x1024 .f32) (f : v.ty.Contents (Elt Ideal))
    (P0 P1 P2 P3 : FVec Ideal S1x1024 .f32) (L : List (View.Piece (Elt Ideal) S8x1024 .f32)) (r : Fin 8) (l : Fin 1024) :
    (v.read (Elt Ideal) (v.writes (Elt Ideal) f (⟨Rect.unit (s := S8x1024) ![3, 0] ![1, 1024] inb_S8x1024_S1x1024_3_0, P3⟩
        :: ⟨Rect.unit (s := S8x1024) ![2, 0] ![1, 1024] inb_S8x1024_S1x1024_2_0, P2⟩
        :: ⟨Rect.unit (s := S8x1024) ![1, 0] ![1, 1024] inb_S8x1024_S1x1024_1_0, P1⟩
        :: ⟨Rect.unit (s := S8x1024) ![0, 0] ![1, 1024] inb_S8x1024_S1x1024_0_0, P0⟩ :: L)) : FVec Ideal S8x1024 .f32) (ix2 r l)
      = if r.val = 3 then P3 (ix2 0 l) else if r.val = 2 then P2 (ix2 0 l) else if r.val = 1 then P1 (ix2 0 l)
        else if r.val = 0 then P0 (ix2 0 l) else (v.read (Elt Ideal) (v.writes (Elt Ideal) f L) : FVec Ideal S8x1024 .f32) (ix2 r l) := by
  split
  · exact View.read_writes_cons_rows_of_mem v f _ P3 _ (ix2 r l) (ix2 0 l) rfl (by assumption) rfl
  · refine (View.read_writes_cons_rows_of_not_mem v f _ P3 _ (ix2 r l) rfl rfl (by change r.val < 3 ∨ 3 + 1 ≤ r.val; omega)).trans ?_
    split
    · exact View.read_writes_cons_rows_of_mem v f _ P2 _ (ix2 r l) (ix2 0 l) rfl (by assumption) rfl
    · refine (View.read_writes_cons_rows_of_not_mem v f _ P2 _ (ix2 r l) rfl rfl (by change r.val < 2 ∨ 2 + 1 ≤ r.val; omega)).trans ?_
      split
      · exact View.read_writes_cons_rows_of_mem v f _ P1 _ (ix2 r l) (ix2 0 l) rfl (by assumption) rfl
      · refine (View.read_writes_cons_rows_of_not_mem v f _ P1 _ (ix2 r l) rfl rfl (by change r.val < 1 ∨ 1 + 1 ≤ r.val; omega)).trans ?_
        split
        · exact View.read_writes_cons_rows_of_mem v f _ P0 _ (ix2 r l) (ix2 0 l) rfl (by change r.val = 0 + 0; omega) rfl
        · exact View.read_writes_cons_rows_of_not_mem v f _ P0 _ (ix2 r l) rfl rfl (by change r.val < 0 ∨ 0 + 1 ≤ r.val; omega)

theorem sum_row (x y : FVec Ideal S512x1024 .f32) (P : FVec Ideal S1x1024 .f32) (l : Fin 1024) :
    k0_pay1 (F := Ideal) x y P (ix2 0 l) = P (ix2 0 l) + ∑ p : Fin 512, y (ix2 p l) * x (ix2 p l) := by
  pointwise [k0_pay1]

theorem sum_row' (y : FVec Ideal S512x1024 .f32) (P : FVec Ideal S1x1024 .f32) (l : Fin 1024) :
    k0_pay4 (F := Ideal) y P (ix2 0 l) = P (ix2 0 l) + ∑ p : Fin 512, y (ix2 p l) := by
  pointwise [k0_pay4]

/-- A grid point's four rows on top of a buffer `X`: the point's part is added. -/
theorem rows_step (t : Fin cfg0.N) (X : FVec Ideal S8x1024 .f32) (E : EReal) (r : Fin 8) (l : Fin 1024) (hE : E = X (ix2 r l)) :
    (if r.val = 3 then
      k0_pay4 (F := Ideal) (k0_pay21 (k0_pay7 (iblk m c 1 t)) (k0_pay8 (iblk m c 3 t)) (iblk m c 6 t))
        (row X ![3, 0] inb_S8x1024_S1x1024_3_0) (ix2 0 l)
    else if r.val = 2 then
      k0_pay3 (F := Ideal) (k0_pay9 (iblk m c 0 t) (iblk m c 2 t))
        (k0_pay21 (k0_pay7 (iblk m c 1 t)) (k0_pay8 (iblk m c 3 t)) (iblk m c 6 t))
        (row X ![2, 0] inb_S8x1024_S1x1024_2_0) (ix2 0 l)
    else if r.val = 1 then
      k0_pay2 (F := Ideal) (k0_pay11 (grid0.coords t) (iblk m c 0 t) (iblk m c 2 t) (iblk m c 5 t) (iblk m c 4 t))
        (k0_pay21 (k0_pay7 (iblk m c 1 t)) (k0_pay8 (iblk m c 3 t)) (iblk m c 6 t))
        (row X ![1, 0] inb_S8x1024_S1x1024_1_0) (ix2 0 l)
    else if r.val = 0 then
      k0_pay1 (F := Ideal) (k0_pay12 (grid0.coords t) (iblk m c 0 t) (iblk m c 2 t) (iblk m c 5 t) (iblk m c 4 t))
        (k0_pay21 (k0_pay7 (iblk m c 1 t)) (k0_pay8 (iblk m c 3 t)) (iblk m c 6 t))
        (row X ![0, 0] inb_S8x1024_S1x1024_0_0) (ix2 0 l)
    else E) = X (ix2 r l) + part m c t.val (ix2 r l) := by
  have R := reads m c t
  have hc : (grid0.coords t 0).val = t.val := by have := idx t; tauto
  have ht := (idx t).1
  have hp : ∀ p : Fin 512, t.val * 512 + p.val < 16384 := fun p => by omega
  have hP : part m c t.val (ix2 r l) = ∑ p : Fin 512, (data m c).term ⟨t.val * 512 + p.val, hp p⟩ l r.val :=
    Finset.sum_congr rfl fun p _ => dif_pos (hp p)
  have hd : ∀ p : Fin 512, _ := fun p => dcv_at R p l ⟨t.val * 512 + p.val, hp p⟩ (by rw [hc])
  rw [hP]
  have hr : r = 3 ∨ r = 2 ∨ r = 1 ∨ r = 0 ∨ 4 ≤ r.val := by omega
  rcases hr with rfl | rfl | rfl | rfl | hr
  · refine (sum_row' _ _ l).trans (congrArg₂ (· + ·) (ld_row X 3 _ l) (Finset.sum_congr rfl fun p _ => hd p))
  · refine (sum_row _ _ _ l).trans (congrArg₂ (· + ·) (ld_row X 2 _ l) (Finset.sum_congr rfl fun p _ =>
      congrArg₂ (· * ·) (hd p) (u_at R p l _ (by rw [hc]))))
  · refine (sum_row _ _ _ l).trans (congrArg₂ (· + ·) (ld_row X 1 _ l) (Finset.sum_congr rfl fun p _ =>
      congrArg₂ (· * ·) (hd p) (uBack1_at R p l _ (by rw [hc]))))
  · refine (sum_row _ _ _ l).trans (congrArg₂ (· + ·) (ld_row X 0 _ l) (Finset.sum_congr rfl fun p _ =>
      congrArg₂ (· * ·) (hd p) (uBack2_at R p l _ (by rw [hc]))))
  · rw [if_neg (by omega), if_neg (by omega), if_neg (by omega), if_neg (by omega), hE]
    have e0 : ∀ p : Fin 512, (data m c).term ⟨t.val * 512 + p.val, hp p⟩ l r.val = 0 := fun p => by
      rw [_root_.Conv.Data.term, if_neg (by omega), if_neg (by omega), if_neg (by omega), if_neg (by omega)]
    simp only [e0, Finset.sum_const_zero, add_zero]

/-- The first point starts from zero. -/
theorem stepA (t : Fin cfg0.N) (h : t.val % 32 = 0) (j : S8x1024.Idx) : (outsAt0 m c t.val t.isLt).2 j = 0 + part m c t.val j := by
  rw [outsAt0_A m c t h]
  frame_open
  simp (disch := decide) only [↓ View.readCov_skip, ↓ View.readCov_cons_toLoadRect, ↓ View.readCov_fill]
  frame_out
  rw [← View.read_writes_junk_apply_eq_canon (ms0_13 t).view]
  idx_vars j
  refine (four_rows _ _ _ _ _ _ _ j0 j1).trans ((rows_step m c t k0_pay28 _ j0 j1 ?_).trans ?_)
  · exact View.read_writes_cons_rows_of_mem (ms0_13 t).view _ _ _ _ (ix2 j0 j1) (ix2 j0 j1) rfl (by change j0.val = 0 + j0.val; omega) rfl
  · refine congrArg (· + _) ?_
    pointwise [k0_pay28]

/-- Every later point adds to what the point before left. -/
theorem stepB (t : Fin cfg0.N) (h : ¬ t.val % 32 = 0) (j : S8x1024.Idx) : (outsAt0 m c t.val t.isLt).2 j = (outsAt0 m c (t.val - 1) (by have := t.isLt; omega)).2 j + part m c t.val j := by
  rw [outsAt0_B m c t h]
  frame_out
  idx_vars j
  refine (four_rows _ _ _ _ _ _ _ j0 j1).trans (rows_step m c t _ _ j0 j1 ?_)
  rw [View.writes_nil]
  exact congrFun (Memref.IsWhole.read_unread _ _) _

/-- The sum over the grid's points and a block's rows is the sum over the time steps. -/
theorem sum_parts (j : S8x1024.Idx) : ∑ s : Fin 32, part m c s.val j = (data m c).dpar (j 1) (j 0).val := by
  unfold part _root_.Conv.Data.dpar
  exact Fin.sum_mul_add_congr fun s k hl => dif_pos hl

/-- The parameters' gradient after the run. -/
theorem final13 : (dats m 0 c).arrAt 13 cfg0.N = fun j : S8x1024.Idx => (data m c).dpar (j 1) (j 0).val := by
  refine (dats m 0 c).arrAt_eq_of_covers 13 _ (by decide +kernel) fun t hf y => ?_
  blk_simp
  rw [after0_13, Pipeline.eq_sum_fin_of_reset_step_apply_of_flush (fun n h => (outsAt0 m c n h).2) 32 (fun _ => 0) (fun t j => part m c t.val j)
    (stepA m c) (stepB m c) t ((flush0_13 t).mp hf) _, zero_add]
  have ht := (idx t).1
  have e0 : t.val / 32 = 0 := by omega
  have e1 : (win0_13.blk t).view.emb y 1 = y 1 := Fin.ext (by blk_simp [idx t])
  have e2 : win0_13.index t 0 * 8 + (y 0).val = (y 0).val := by simp [idx t]
  simp only [e0, e2, mul_zero, zero_add]
  rw [e1]
  exact sum_parts m c _

end Cert.KernelIdeal.Conv

end
-- ==== Proof.Conv.Ref.lean ====
/- The reference's gradients of the short convolution, element by element. -/
module

public import proofs.«01_k».proof.Proof.Gen.ReferenceIdeal.Run
public import proofs.«01_k».proof.Proof.Conv.Spec
public import Idealize.ShloMosaic.Lib.StableHlo.ReadAt

@[expose] public section

set_option maxRecDepth 16384

noncomputable section

namespace Cert.ReferenceIdeal.Conv

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

abbrev PROJ : FVec Ideal S1x16384x14344 .f32 := m ((c.tc : Thread nD τ).loc main_arg0)
abbrev TAPS : FVec Ideal S1x3x1024 .f32 := m ((c.tc : Thread nD τ).loc main_arg1)
abbrev BIAS : FVec Ideal S1x1024 .f32 := m ((c.tc : Thread nD τ).loc main_arg2)
abbrev DYA : FVec Ideal S1x16384x1024 .f32 := m ((c.tc : Thread nD τ).loc main_arg3)

/-- A sum over two axes of one element each. -/
theorem sum_unit (h : S1x1x1024.ReducesTo [0, 1] S1024) (v : S1x1x1024.Idx → EReal) (l : Fin 1024) :
    Ideal.hostReduceAdd h v 0 (ix1 l) = v (ix3 0 0 l) := by
  unfold Ideal.hostReduceAdd
  rw [zero_add]
  refine (Finset.sum_filter_eq_sum_of_fiber _ (fun _ : Fin 1 => ix3 0 0 l) (fun a b _ => Subsingleton.elim a b) (fun i => ⟨fun e => ⟨0, ?_⟩, ?_⟩) v).trans (Fin.sum_univ_one _)
  · idx_vars i
    have e2 := congrFun e 0
    obtain rfl := Subsingleton.elim i0 0
    obtain rfl := Subsingleton.elim i1 0
    exact congrArg (ix3 0 0) e2.symm
  · rintro ⟨_, rfl⟩
    funext b
    obtain rfl := Subsingleton.elim b 0
    rfl

/-- The host's two-step sum over the time steps. -/
theorem sum_steps (h1 : S1x16384x1024.ReducesTo [1] S1x1024) (hc : S1x1024.ShapeCasts S1x1x1024) (h2 : S1x1x1024.ReducesTo [0, 1] S1024)
    (X : FVec Ideal S1x16384x1024 .f32) (l : Fin 1024) :
    Ideal.hostReduceAdd h2 (shapeCast S1x1x1024 (Host.reduceAdd X (constant S_ .f32 0x00000000#32) h1 h_S_) hc) 0 (ix1 l) = ∑ q : Fin 16384, X (ix3 0 q l) := by
  rw [sum_unit]
  pointwise

/-- The arguments' elements, named as in the plain gradient. -/
def data : _root_.Conv.Data where
  xa q l := PROJ m c (ix3 0 q (⟨l.val, by omega⟩ : Fin 14344))
  ba q l := PROJ m c (ix3 0 q (⟨1024 + l.val, by omega⟩ : Fin 14344))
  ca q l := PROJ m c (ix3 0 q (⟨2048 + l.val, by omega⟩ : Fin 14344))
  za q l := PROJ m c (ix3 0 q (⟨3072 + l.val, by omega⟩ : Fin 14344))
  dy q l := DYA m c (ix3 0 q l)
  w k l := TAPS m c (ix3 0 k l)
  b l := BIAS m c (ix2 0 l)

theorem dcv_eq (b y z : EReal) : b * (y * (z * Ideal.div 1 (1 + Ideal.exp (-z)))) = y * b * (z * Ideal.logistic z) := by
  rw [← mul_assoc b y, mul_comm b y]; rfl

/-- The arrays over time steps and channels. -/
abbrev Arr := FVec Ideal S1x16384x1024 .f32

variable (q : Fin 16384) (l : Fin 1024)

/-- The gradient of the convolution's input: the three padded products, added and cut to the time steps. -/
theorem du_read (D W0 W1 W2 : Arr) :
    extractStridedSlice S1x16384x1024 ![0, 2, 0] (addf (addf
      (pad S1x16386x1024 ![0, 2, 0] ![0, 0, 0] ![0, 0, 0] (mulf D W2) (constant (F := Ideal) S_ .f32 0x00000000#32) pads_S1x16384x1024_S1x16386x1024_000_200_000 h_S_)
      (pad S1x16386x1024 ![0, 1, 0] ![0, 1, 0] ![0, 0, 0] (mulf D W1) (constant (F := Ideal) S_ .f32 0x00000000#32) pads_S1x16384x1024_S1x16386x1024_000_110_000 h_S_))
      (pad S1x16386x1024 ![0, 0, 0] ![0, 2, 0] ![0, 0, 0] (mulf D W0) (constant (F := Ideal) S_ .f32 0x00000000#32) pads_S1x16384x1024_S1x16386x1024_000_020_000 h_S_))
      slices_S1x16386x1024_S1x16384x1024_0_2_0 (ix3 0 q l)
    = D (ix3 0 q l) * W2 (ix3 0 q l)
      + (if h : q.val + 1 < 16384 then D (ix3 0 ⟨q.val + 1, h⟩ l) * W1 (ix3 0 ⟨q.val + 1, h⟩ l) else 0)
      + (if h : q.val + 2 < 16384 then D (ix3 0 ⟨q.val + 2, h⟩ l) * W0 (ix3 0 ⟨q.val + 2, h⟩ l) else 0) := by
  pointwise
  congr 1
  · congr 1
    split <;> split
    · congr 3 <;> exact Fin.ext (by dsimp only; omega)
    all_goals first | omega | rfl
  · split <;> split
    · congr 3 <;> exact Fin.ext (by dsimp only; omega)
    all_goals first | omega | rfl

/-- The input behind two rows of zeros, cut `2 - k` rows in: the input `k` steps earlier. -/
theorem back_read (k : Fin 3) (U : Arr) (h : S1x16386x1024.Slices ![0, k.val, 0] S1x16384x1024) :
    extractStridedSlice S1x16384x1024 ![0, k.val, 0]
      (concatenate S1x16386x1024 1 [⟨S1x2x1024, broadcastInDim S1x2x1024 ![] bcast_S_S1x2x1024 (constant (F := Ideal) S_ .f32 0x00000000#32)⟩, ⟨S1x16384x1024, U⟩]
        concatenates_S1x2x1024_S1x16384x1024_S1x16386x1024_d1) h (ix3 0 q l)
    = if h : 2 - k.val ≤ q.val then U (ix3 0 ⟨q.val - (2 - k.val), by omega⟩ l) else 0 := by
  pointwise
  split <;> split
  · omega
  · rfl
  · refine congrArg U (congrArg (ix3 0 · l) (Fin.ext ?_)); dsimp only; omega
  · omega

/-- A tap, spread over the time steps. -/
theorem tap_read (k : Fin 3) (h : S3x1024.Slices ![k.val, 0] S1x1024) :
    broadcastInDim S1x16384x1024 ![0, 1, 2] bcast_S1x1x1024_S1x16384x1024_0_1_2 (broadcastInDim S1x1x1024 ![2] bcast_S1024_S1x1x1024_2
      (shapeCast S1024 (extractStridedSlice S1x1024 ![k.val, 0] (shapeCast S3x1024 (TAPS m c) shapeCasts_S1x3x1024_S3x1024) h) shapeCasts_S1x1024_S1024)) (ix3 0 q l)
    = (data m c).w k l := by
  pointwise
  rfl

/-- The bias, spread over the time steps. -/
theorem bias_read :
    broadcastInDim S1x16384x1024 ![0, 1, 2] bcast_S1x1x1024_S1x16384x1024_0_1_2 (broadcastInDim S1x1x1024 ![2] bcast_S1024_S1x1x1024_2
      (shapeCast S1024 (BIAS m c) shapeCasts_S1x1024_S1024)) (ix3 0 q l)
    = (data m c).b l := by
  pointwise
  rfl

/-- The column blocks side by side. -/
theorem cat_read (A : FVec Ideal S16384x8192 .f32) (X0 X1 X2 X3 : FVec Ideal S16384x1024 .f32) (B : FVec Ideal S16384x2048 .f32) (j : Fin 14336) :
    concatenate S16384x14336 1 [⟨S16384x8192, A⟩, ⟨S16384x1024, X0⟩, ⟨S16384x1024, X1⟩, ⟨S16384x1024, X2⟩, ⟨S16384x1024, X3⟩, ⟨S16384x2048, B⟩]
      concatenates_S16384x8192_S16384x1024_S16384x1024_S16384x1024_S16384x1024_S16384x2048_S16384x14336_d1 (ix2 q j)
    = if h : j.val / 4096 = 2 then (![X0, X1, X2, X3] ⟨j.val % 4096 / 1024, by omega⟩ : FVec Ideal S16384x1024 .f32) (ix2 q ⟨j.val % 1024, by omega⟩)
      else if h : j.val < 8192 then A (ix2 q ⟨j.val, h⟩) else B (ix2 q ⟨j.val - 12288, by omega⟩) := by
  pointwise
  have key : ∀ (g : Fin 4) (n : ℕ) (hn : n < 1024) (h : j.val / 4096 = 2), j.val = 8192 + g.val * 1024 + n →
      (![X0, X1, X2, X3] ⟨j.val % 4096 / 1024, by omega⟩ : FVec Ideal S16384x1024 .f32) (ix2 q ⟨j.val % 1024, by omega⟩) = (![X0, X1, X2, X3] g : FVec Ideal S16384x1024 .f32) (ix2 q ⟨n, hn⟩) := by
    intro g n hn h e
    rw [show (⟨j.val % 4096 / 1024, by omega⟩ : Fin 4) = g from Fin.ext (by dsimp only; omega), show (⟨j.val % 1024, by omega⟩ : Fin 1024) = ⟨n, hn⟩ from Fin.ext (by dsimp only; omega)]
  split
  · rw [dif_neg (by omega)]
  split
  · rw [dif_pos (by omega)]; exact (key 0 _ ‹_› (by omega) (by simp; omega)).symm
  split
  · rw [dif_pos (by omega)]; exact (key 1 _ ‹_› (by omega) (by simp; omega)).symm
  split
  · rw [dif_pos (by omega)]; exact (key 2 _ ‹_› (by omega) (by simp; omega)).symm
  split
  · rw [dif_pos (by omega)]; exact (key 3 _ ‹_› (by omega) (by simp; omega)).symm
  · rw [dif_neg (by omega)]; exact congrArg B (congrArg (ix2 q) (Fin.ext (by dsimp only; omega)))

/-- The gradient of the convolution's output. -/
theorem dcv_read (h1 : S1x16384x14344.Slices ![0, 0, 1024] S1x16384x1024) (h3 : S1x16384x14344.Slices ![0, 0, 3072] S1x16384x1024) :
    mulf (extractStridedSlice S1x16384x1024 ![0, 0, 1024] (PROJ m c) h1) (mulf (DYA m c) (mulf (extractStridedSlice S1x16384x1024 ![0, 0, 3072] (PROJ m c) h3)
      (Host.divf (broadcastInDim S1x16384x1024 ![] bcast_S_S1x16384x1024 (constant (F := Ideal) S_ .f32 0x3F800000#32)) (addf (broadcastInDim S1x16384x1024 ![] bcast_S_S1x16384x1024 (constant (F := Ideal) S_ .f32 0x3F800000#32)) (Host.exp (Host.negf (extractStridedSlice S1x16384x1024 ![0, 0, 3072] (PROJ m c) h3))))))) (ix3 0 q l)
    = (data m c).dcv q l := by
  pointwise
  exact dcv_eq _ _ _

/-- The convolution's input. -/
theorem u_read :
    mulf (extractStridedSlice S1x16384x1024 ![0, 0, 2048] (PROJ m c) slices_S1x16384x14344_S1x16384x1024_0_0_2048)
      (extractStridedSlice S1x16384x1024 ![0, 0, 0] (PROJ m c) slices_S1x16384x14344_S1x16384x1024_0_0_0) (ix3 0 q l) = (data m c).u q l := by
  pointwise
  rfl

/-- The convolution's input some steps earlier. -/
theorem uBack_read (k : Fin 3) (h : S1x16386x1024.Slices ![0, k.val, 0] S1x16384x1024) :
    extractStridedSlice S1x16384x1024 ![0, k.val, 0]
      (concatenate S1x16386x1024 1 [⟨S1x2x1024, broadcastInDim S1x2x1024 ![] bcast_S_S1x2x1024 (constant (F := Ideal) S_ .f32 0x00000000#32)⟩,
        ⟨S1x16384x1024, mulf (extractStridedSlice S1x16384x1024 ![0, 0, 2048] (PROJ m c) slices_S1x16384x14344_S1x16384x1024_0_0_2048)
          (extractStridedSlice S1x16384x1024 ![0, 0, 0] (PROJ m c) slices_S1x16384x14344_S1x16384x1024_0_0_0)⟩]
        concatenates_S1x2x1024_S1x16384x1024_S1x16386x1024_d1) h (ix3 0 q l) = (data m c).uBack q l (2 - k.val) := by
  refine (back_read q l k _ h).trans ?_
  unfold _root_.Conv.Data.uBack
  split
  · exact u_read m c _ l
  · rfl

theorem uBack_zero (a : _root_.Conv.Data) : a.uBack q l 0 = a.u q l := dif_pos (Nat.zero_le _)

/-- One parameter's sum over the time steps. -/
theorem sum_read (k : Fin 3) (h : S1x16386x1024.Slices ![0, k.val, 0] S1x16384x1024) (D : Arr) (hD : ∀ q, D (ix3 0 q l) = (data m c).dcv q l) :
    ∑ q : Fin 16384, mulf (extractStridedSlice S1x16384x1024 ![0, k.val, 0]
      (concatenate S1x16386x1024 1 [⟨S1x2x1024, broadcastInDim S1x2x1024 ![] bcast_S_S1x2x1024 (constant (F := Ideal) S_ .f32 0x00000000#32)⟩,
        ⟨S1x16384x1024, mulf (extractStridedSlice S1x16384x1024 ![0, 0, 2048] (PROJ m c) slices_S1x16384x14344_S1x16384x1024_0_0_2048)
          (extractStridedSlice S1x16384x1024 ![0, 0, 0] (PROJ m c) slices_S1x16384x14344_S1x16384x1024_0_0_0)⟩]
        concatenates_S1x2x1024_S1x16384x1024_S1x16386x1024_d1) h) D (ix3 0 q l) = (data m c).dpar l k.val :=
  Finset.sum_congr rfl fun q _ => (congrArg₂ (fun x y : EReal => x * y) (uBack_read m c q l k h) (hD q)).trans (by
    rw [mul_comm]
    unfold _root_.Conv.Data.term
    obtain ⟨k, hk⟩ := k
    obtain rfl | rfl | rfl : k = 0 ∨ k = 1 ∨ k = 2 := by omega
    · rfl
    · rfl
    · simp [uBack_zero])

/-- The reference's parameter gradients. -/
theorem v94_at (r : Fin 8) (l : Fin 1024) : (res_main_v94 m c : FVec Ideal S8x1024 .f32) (ix2 r l) = (data m c).dpar l r.val := by
  have hD := fun q => dcv_read m c q l slices_S1x16384x14344_S1x16384x1024_0_0_1024 slices_S1x16384x14344_S1x16384x1024_0_0_3072
  have h0 := sum_read m c l 0 slices_S1x16386x1024_S1x16384x1024_0_0_0 _ hD
  have h1 := sum_read m c l 1 slices_S1x16386x1024_S1x16384x1024_0_1_0 _ hD
  have h2 := sum_read m c l 2 slices_S1x16386x1024_S1x16384x1024_0_2_0 _ hD
  have h3 := Finset.sum_congr (rfl : (Finset.univ : Finset (Fin 16384)) = Finset.univ) fun q _ => hD q
  pointwise [res_main_v94]
  simp only [sum_steps]
  obtain ⟨r, hr⟩ := r
  dsimp only
  obtain rfl | rfl | rfl | rfl | h4 : r = 0 ∨ r = 1 ∨ r = 2 ∨ r = 3 ∨ 3 < r := by omega
  · rw [dif_pos (by decide), dif_neg (by decide), dif_neg (by decide), dif_pos (by decide)]
    show (0 : EReal) + 0 + _ = _
    rw [zero_add, zero_add]
    exact h0
  · rw [dif_pos (by decide), dif_neg (by decide), dif_pos (by decide), dif_neg (by decide)]
    show (0 : EReal) + _ + 0 = _
    rw [zero_add, add_zero]
    exact h1
  · rw [dif_pos (by decide), dif_pos (by decide), dif_neg (by decide), dif_neg (by decide)]
    show (_ : EReal) + 0 + 0 = _
    rw [add_zero, add_zero]
    exact h2
  · rw [dif_neg (by decide), dif_pos (by decide)]
    exact h3
  · rw [dif_neg (by omega), dif_neg (by omega)]
    refine (Finset.sum_eq_zero (M := EReal) fun q _ => ?_).symm
    unfold _root_.Conv.Data.term
    rw [if_neg (by omega), if_neg (by omega), if_neg (by omega), if_neg (by omega)]

/-- The convolution's output. -/
theorem cv_read (U0 U1 U2 W0 W1 W2 B : Arr) (h0 : U0 (ix3 0 q l) = (data m c).uBack q l 2) (h1 : U1 (ix3 0 q l) = (data m c).uBack q l 1)
    (h2 : U2 (ix3 0 q l) = (data m c).uBack q l 0) (hw0 : W0 (ix3 0 q l) = (data m c).w 0 l) (hw1 : W1 (ix3 0 q l) = (data m c).w 1 l)
    (hw2 : W2 (ix3 0 q l) = (data m c).w 2 l) (hb : B (ix3 0 q l) = (data m c).b l) :
    addf (addf (addf (mulf U0 W0) (mulf U1 W1)) (mulf U2 W2)) B (ix3 0 q l) = (data m c).cv q l := by
  pointwise
  rw [h0, h1, h2, hw0, hw1, hw2, hb, uBack_zero, mul_comm _ ((data m c).w 0 l), mul_comm _ ((data m c).w 1 l), mul_comm _ ((data m c).w 2 l)]
  rfl

/-- The gradient of the convolution's input. -/
theorem du_of (D W0 W1 W2 : Arr) (x : EReal)
    (hx : x = D (ix3 0 q l) * W2 (ix3 0 q l)
      + (if h : q.val + 1 < 16384 then D (ix3 0 ⟨q.val + 1, h⟩ l) * W1 (ix3 0 ⟨q.val + 1, h⟩ l) else 0)
      + (if h : q.val + 2 < 16384 then D (ix3 0 ⟨q.val + 2, h⟩ l) * W0 (ix3 0 ⟨q.val + 2, h⟩ l) else 0))
    (hD : ∀ q, D (ix3 0 q l) = (data m c).dcv q l) (hw0 : ∀ q, W0 (ix3 0 q l) = (data m c).w 0 l) (hw1 : ∀ q, W1 (ix3 0 q l) = (data m c).w 1 l)
    (hw2 : ∀ q, W2 (ix3 0 q l) = (data m c).w 2 l) : x = (data m c).du q l := by
  simp only [hx, hD, hw0, hw1, hw2]
  unfold _root_.Conv.Data.du _root_.Conv.Data.dcvFwd
  rw [mul_comm (_root_.Conv.Data.dcv _ _ _)]
  congr 1
  · congr 1
    split
    · exact mul_comm _ _
    · exact (mul_zero _).symm
  · split
    · exact mul_comm _ _
    · exact (mul_zero _).symm

theorem cast_read (X : Arr) : shapeCast S16384x1024 X shapeCasts_S1x16384x1024_S16384x1024 (ix2 q l) = X (ix3 0 q l) := by
  pointwise

theorem one_read : broadcastInDim S1x16384x1024 ![] bcast_S_S1x16384x1024 (constant (F := Ideal) S_ .f32 0x3F800000#32) (ix3 0 q l) = (1 : EReal) := by
  pointwise

/-- A block of columns. -/
theorem col_read (o : ℕ) (ho : o ≤ 3072) (h : S1x16384x14344.Slices ![0, 0, o] S1x16384x1024) :
    extractStridedSlice S1x16384x1024 ![0, 0, o] (PROJ m c) h (ix3 0 q l) = PROJ m c (ix3 0 q (⟨o + l.val, by omega⟩ : Fin 14344)) := by
  pointwise

/-- The logistic function of the gate. -/
theorem sg_read (h3 : S1x16384x14344.Slices ![0, 0, 3072] S1x16384x1024) :
    Host.divf (broadcastInDim S1x16384x1024 ![] bcast_S_S1x16384x1024 (constant (F := Ideal) S_ .f32 0x3F800000#32)) (addf (broadcastInDim S1x16384x1024 ![] bcast_S_S1x16384x1024 (constant (F := Ideal) S_ .f32 0x3F800000#32)) (Host.exp (Host.negf (extractStridedSlice S1x16384x1024 ![0, 0, 3072] (PROJ m c) h3)))) (ix3 0 q l)
    = (data m c).sg q l := by
  pointwise
  rfl

/-- The reference's column gradients. -/
theorem v91_at (hf : (data m c).Finite) (q : Fin 16384) (j : Fin 14336) : (res_main_v91 m c : FVec Ideal S16384x14336 .bf16) (ix2 q j)
    = if j.val / 4096 = 2 then (data m c).dgroup q ⟨j.val % 1024, Nat.mod_lt _ (by decide)⟩ (j.val % 4096 / 1024)
      else (m ((c.tc : Thread nD τ).loc main_arg4) : FVec Ideal S16384x14336 .bf16) (ix2 q j) := by
  have hsg := fun q l => sg_read m c q l slices_S1x16384x14344_S1x16384x1024_0_0_3072
  unfold res_main_v91
  refine (cat_read q _ _ _ _ _ _ j).trans ?_
  have hcv := fun q l => cv_read m c q l _ _ _ _ _ _ _ (uBack_read m c q l 0 slices_S1x16386x1024_S1x16384x1024_0_0_0) (uBack_read m c q l 1 slices_S1x16386x1024_S1x16384x1024_0_1_0)
    (uBack_read m c q l 2 slices_S1x16386x1024_S1x16384x1024_0_2_0) (tap_read m c q l 0 slices_S3x1024_S1x1024_0_0) (tap_read m c q l 1 slices_S3x1024_S1x1024_1_0)
    (tap_read m c q l 2 slices_S3x1024_S1x1024_2_0) (bias_read m c q l)
  have hdu := fun q l => du_of m c q l _ _ _ _ _ (du_read q l _ _ _ _) (fun q => dcv_read m c q l slices_S1x16384x14344_S1x16384x1024_0_0_1024 slices_S1x16384x14344_S1x16384x1024_0_0_3072)
    (fun q => tap_read m c q l 0 slices_S3x1024_S1x1024_0_0) (fun q => tap_read m c q l 1 slices_S3x1024_S1x1024_1_0) (fun q => tap_read m c q l 2 slices_S3x1024_S1x1024_2_0)
  split
  · generalize (⟨j.val % 1024, _⟩ : Fin 1024) = l
    generalize hg : (⟨j.val % 4096 / 1024, _⟩ : Fin 4) = g
    rw [show j.val % 4096 / 1024 = g.val from congrArg Fin.val hg]
    obtain ⟨g, hg⟩ := g
    obtain rfl | rfl | rfl | rfl : g = 0 ∨ g = 1 ∨ g = 2 ∨ g = 3 := by omega
    · refine (cast_read q l (mulf _ _)).trans ?_
      refine (congrArg₂ (fun x y : EReal => x * y) (col_read m c q l 2048 (by omega) _) (hdu q l)).trans ?_
      exact mul_comm _ _
    · refine (cast_read q l (mulf (mulf _ (mulf _ _)) _)).trans ?_
      refine (congrArg₂ (fun x y : EReal => x * y) (congrArg₂ (fun x y : EReal => x * y) (rfl : DYA m c (ix3 0 q l) = (data m c).dy q l) (congrArg₂ (fun x y : EReal => x * y) (col_read m c q l 3072 (by omega) slices_S1x16384x14344_S1x16384x1024_0_0_3072) (hsg q l))) (hcv q l)).trans ?_
      exact mul_right_comm _ _ _
    · refine (cast_read q l (mulf _ _)).trans ?_
      refine (congrArg₂ (fun x y : EReal => x * y) (hdu q l) (col_read m c q l 0 (by omega) slices_S1x16384x14344_S1x16384x1024_0_0_0)).trans ?_
      simp only [zero_add]; rfl
    · refine Eq.trans ?_ (hf.dza q l)
      refine (cast_read q l (addf _ _)).trans ?_
      have hg := congrArg₂ (fun x y : EReal => x * y) (congrArg₂ (fun x y : EReal => x * y) (col_read m c q l 1024 (by omega) slices_S1x16384x14344_S1x16384x1024_0_0_1024) (hcv q l)) (rfl : DYA m c (ix3 0 q l) = (data m c).dy q l)
      exact congrArg₂ (fun x y : EReal => x + y) (congrArg₂ (fun x y : EReal => x * y) hg (hsg q l))
        (congrArg₂ (fun x y : EReal => x * y) (congrArg₂ (fun x y : EReal => x * y) (col_read m c q l 3072 (by omega) slices_S1x16384x14344_S1x16384x1024_0_0_3072) hg)
          (congrArg₂ (fun x y : EReal => x * y) (hsg q l) (congrArg₂ (fun x y : EReal => x - y) (one_read q l) (hsg q l))))
  · split
    · pointwise
    · pointwise
      exact congrArg (m ((c.tc : Thread nD τ).loc main_arg4) : FVec Ideal S16384x14336 .bf16) (congrArg (ix2 q) (Fin.ext (by dsimp only; omega)))

end Cert.ReferenceIdeal.Conv

end
-- ==== Proof.Conv.Pre.lean ====
/- The precondition of the convolution's gradients, read as finite arguments. -/
module

public import proofs.«01_k».proof.Defs
public import proofs.«01_k».proof.Proof.Conv.Tiles
public import Idealize.ShloMosaic.Lib.StableHlo.ReadAt
public import Idealize.ShloMosaic.Lib.Affine

@[expose] public section

set_option maxRecDepth 16384

noncomputable section

namespace Cert.Pre_finite

theorem facts : Facts := by constructor <;> decide

end Cert.Pre_finite

namespace Cert.KernelIdeal.Conv

open Cert.KernelIdeal Cert.KernelIdeal.Gen Idealize.ShloMosaic Idealize.ShloMosaic.TcCoe Idealize.SL.Sem

/-- An absolute value below infinity is a real number's. -/
theorem real_of_abs (x : EReal) (h : BitVec.ofBool (decide ((FloatOps.absf (F := Ideal) (φ := .f32) x : EReal) < Ideal.ofBits .f32 0x7F800000#32)) = 1#1) : ∃ r : ℝ, x = r := by
  rw [WordCmp.ofBool_eq_one_iff, decide_eq_true_iff, show Ideal.ofBits .f32 0x7F800000#32 = (⊤ : EReal) by simp [Ideal.ofBits, Ideal.ieee]] at h
  change max x (-x) < ⊤ at h
  induction x using EReal.rec with
  | bot => simp at h
  | top => simp at h
  | coe r => exact ⟨r, rfl⟩

theorem finite_of_pre (m : (ℓ : Loc nD τ sig) → Buf (Elt Ideal) ℓ) (c : Dev nD) (h : Cert.Pre_KernelIdeal_finite (hPre_finite := Cert.Pre_finite.facts) m) :
    (data m c).Finite := by
  have e := fun q l => congrFun (h c) (ix2 q l)
  pointwise [Cert.Pre_finite.fn, Cert.Pre_finite.fn_part1, Cert.Pre_finite.fn_part2] at e
  simp only [IntOp.andi_eq_one] at e
  exact {
    xa := fun q l => real_of_abs _ (e q l).1.1.1.1
    ba := fun q l => real_of_abs _ (e q l).1.1.1.2
    ca := fun q l => real_of_abs _ (e q l).1.1.2
    dy := fun q l => real_of_abs _ (e q l).1.2
    w := fun k l => by
      obtain ⟨k, hk⟩ := k
      obtain rfl | rfl | rfl : k = 0 ∨ k = 1 ∨ k = 2 := by omega
      · exact real_of_abs _ (e 0 l).2.1.1.1
      · exact real_of_abs _ (e 0 l).2.1.1.2
      · exact real_of_abs _ (e 0 l).2.1.2
    b := fun l => real_of_abs _ (e 0 l).2.2 }

end Cert.KernelIdeal.Conv

end
-- ==== Proof.Mlstm.Math.lean ====
/- The gated recurrence in closed form: what a chunk of any length computes from the sums up to its first position. -/
module

public import Idealize.ShloMosaic.Lib.Pipeline.ValueKit

@[expose] public section

noncomputable section

namespace Mlstm

open Idealize.ShloMosaic

/-- The logarithm of the logistic function, as the programs spell it. -/
def lsig (x : ℝ) : ℝ := min x 0 - Real.log (1 + Real.exp (-|x|))

/-- A head's forget gates from their arguments. -/
def lsigs (f : ℕ → ℝ) (n : ℕ) : ℝ := lsig (f n)

/-! ## One head's gates -/

variable (li lf : ℕ → ℝ)

/-- The sum of the forget gates before position `n`. -/
def cum (n : ℕ) : ℝ := ∑ i ∈ Finset.range n, lf i

/-- The exponent with which position `s` enters at boundary `c`. -/
def ent (c s : ℕ) : ℝ := cum lf c - cum lf (s + 1) + li s

/-- The greatest exponent at boundary `c`, `-∞` before the first position. -/
def run (c : ℕ) : EReal := (Finset.range c).sup fun s => ((ent li lf c s : ℝ) : EReal)

/-- The greatest exponent as a real number. -/
def top (c : ℕ) : ℝ := (run li lf c).toReal

/-- What the sums of boundary `c` are scaled by at boundary `t`. -/
def carry (c t : ℕ) : ℝ := if c = 0 then 0 else Real.exp (cum lf t - cum lf c + top li lf c - top li lf t)

/-- The sum of `f` over the positions before `c`, each with its exponent less the greatest. -/
def mem (f : ℕ → ℝ) (c : ℕ) : ℝ := ∑ s ∈ Finset.range c, Real.exp (ent li lf c s - top li lf c) * f s

theorem run_zero : run li lf 0 = ⊥ := by simp [run]

theorem run_eq {c : ℕ} (hc : 0 < c) : run li lf c = ((top li lf c : ℝ) : EReal) := by
  unfold top
  rw [EReal.coe_toReal]
  · unfold run
    rw [← Finset.sup'_eq_sup (Finset.nonempty_range_iff.mpr hc.ne')]
    obtain ⟨s, -, hs⟩ := Finset.exists_mem_eq_sup' (Finset.nonempty_range_iff.mpr hc.ne') fun s => ((ent li lf c s : ℝ) : EReal)
    rw [hs]
    exact EReal.coe_ne_top _
  · unfold run
    rw [← Finset.sup'_eq_sup (Finset.nonempty_range_iff.mpr hc.ne')]
    obtain ⟨s, -, hs⟩ := Finset.exists_mem_eq_sup' (Finset.nonempty_range_iff.mpr hc.ne') fun s => ((ent li lf c s : ℝ) : EReal)
    rw [hs]
    exact EReal.coe_ne_bot _

theorem coe_add_sup (a : ℝ) (n : ℕ) (f : ℕ → EReal) :
    (a : EReal) + (Finset.range n).sup f = (Finset.range n).sup fun s => (a : EReal) + f s := by
  induction n with
  | zero => simp
  | succ n ih =>
    rw [Finset.range_add_one, Finset.sup_insert, Finset.sup_insert, ← ih]
    exact (show Monotone fun x : EReal => (a : EReal) + x from fun x y h => add_le_add le_rfl h).map_sup _ _

theorem sup_range_add (g : ℕ → EReal) (c j : ℕ) :
    (Finset.range (c + j)).sup g = max ((Finset.range c).sup g) ((Finset.range j).sup fun s => g (c + s)) := by
  induction j with
  | zero => simp
  | succ j ih =>
    rw [← Nat.add_assoc, Finset.range_add_one, Finset.sup_insert, ih, Finset.range_add_one, Finset.sup_insert]
    show max _ (max _ _) = max _ (max _ _)
    rw [max_left_comm]

theorem ent_shift (c t s : ℕ) : ent li lf t s = cum lf t - cum lf c + ent li lf c s := by
  unfold ent; ring

/-- The greatest exponent after `j` more positions. -/
theorem run_add (c j : ℕ) : run li lf (c + j) =
    max (((cum lf (c + j) - cum lf c : ℝ) : EReal) + run li lf c) ((Finset.range j).sup fun s => ((ent li lf (c + j) (c + s) : ℝ) : EReal)) := by
  have e : run li lf (c + j) = max ((Finset.range c).sup fun s => ((ent li lf (c + j) s : ℝ) : EReal))
      ((Finset.range j).sup fun s => ((ent li lf (c + j) (c + s) : ℝ) : EReal)) :=
    sup_range_add (fun s => ((ent li lf (c + j) s : ℝ) : EReal)) c j
  rw [e]
  congr 1
  unfold run
  rw [coe_add_sup]
  refine Finset.sup_congr rfl fun s _ => ?_
  rw [ent_shift li lf c, EReal.coe_add]

theorem exp_coe (x : ℝ) : Ideal.exp (x : EReal) = ((Real.exp x : ℝ) : EReal) := rfl

theorem exp_bot : Ideal.exp ⊥ = 0 := rfl

/-- What the sums carried in are scaled by, as the programs compute it. -/
theorem exp_carry (c t : ℕ) : Ideal.exp (((cum lf t - cum lf c : ℝ) : EReal) + run li lf c - ((top li lf t : ℝ) : EReal))
    = ((carry li lf c t : ℝ) : EReal) := by
  unfold carry
  split
  · next h => subst h; rw [run_zero, EReal.add_bot, EReal.bot_sub]; exact exp_bot
  · next h =>
    rw [run_eq li lf (Nat.pos_of_ne_zero h), ← EReal.coe_add, ← EReal.coe_sub, exp_coe]

/-- The sums after `j` more positions: those carried in, rescaled, and the new positions' own. -/
theorem mem_add (f : ℕ → ℝ) (c j : ℕ) : mem li lf f (c + j) =
    carry li lf c (c + j) * mem li lf f c + ∑ s ∈ Finset.range j, Real.exp (ent li lf (c + j) (c + s) - top li lf (c + j)) * f (c + s) := by
  rw [mem, Finset.sum_range_add]
  congr 1
  unfold carry mem
  split
  · next h => subst h; simp
  · rw [Finset.mul_sum]
    refine Finset.sum_congr rfl fun s _ => ?_
    rw [← mul_assoc, ← Real.exp_add, ent_shift li lf c (c + j)]
    congr 2
    ring

theorem mem_zero (f : ℕ → ℝ) : mem li lf f 0 = 0 := by simp [mem]

theorem mem_mul (f : ℕ → ℝ) (a : ℝ) (c : ℕ) : a * mem li lf f c = mem li lf (fun s => a * f s) c := by
  unfold mem
  rw [Finset.mul_sum]
  exact Finset.sum_congr rfl fun s _ => by ring

theorem mem_sum {ι : Type} (S : Finset ι) (f : ι → ℕ → ℝ) (c : ℕ) : ∑ d ∈ S, mem li lf (f d) c = mem li lf (fun s => ∑ d ∈ S, f d s) c := by
  unfold mem
  rw [Finset.sum_comm]
  exact Finset.sum_congr rfl fun s _ => by rw [Finset.mul_sum]

/-- A masked sum over a chunk runs over the positions up to the row's own. -/
theorem sum_mask {L : ℕ} (g : ℕ → ℝ) (l : Fin L) : ∑ s : Fin L, (if s.val ≤ l.val then g s.val else 0) = ∑ s ∈ Finset.range (l.val + 1), g s := by
  rw [Fin.sum_univ_eq_sum_range (fun s => if s ≤ l.val then g s else 0) L, ← Finset.sum_filter]
  refine Finset.sum_congr ?_ fun _ _ => rfl
  ext s
  simp only [Finset.mem_filter, Finset.mem_range]
  omega

theorem sup_mask {L : ℕ} (g : ℕ → EReal) (l : Fin L) :
    (Finset.univ : Finset (Fin L)).sup (fun s => if s.val ≤ l.val then g s.val else ⊥) = (Finset.range (l.val + 1)).sup g := by
  apply le_antisymm
  · refine Finset.sup_le fun s _ => ?_
    split
    · exact Finset.le_sup (f := g) (Finset.mem_range.mpr (by omega))
    · exact bot_le
  · refine Finset.sup_le fun s hs => ?_
    have h := Finset.mem_range.mp hs
    refine le_trans ?_ (Finset.le_sup (f := fun s : Fin L => if s.val ≤ l.val then g s.val else ⊥) (Finset.mem_univ (⟨s, by omega⟩ : Fin L)))
    simp only
    rw [if_pos (by omega)]

theorem sup_all {L : ℕ} (g : ℕ → EReal) : (Finset.univ : Finset (Fin L)).sup (fun s => g s.val) = (Finset.range L).sup g := by
  apply le_antisymm
  · exact Finset.sup_le fun s _ => Finset.le_sup (f := g) (Finset.mem_range.mpr s.isLt)
  · refine Finset.sup_le fun s hs => ?_
    exact Finset.le_sup (f := fun s : Fin L => g s.val) (Finset.mem_univ (⟨s, Finset.mem_range.mp hs⟩ : Fin L))

/-- The running sum of the forget gates inside a chunk. -/
theorem cum_row {L : ℕ} (c : ℕ) (l : Fin L) :
    ∑ s : Fin L, (if s.val ≤ l.val then lf (c + s.val) else 0) = cum lf (c + (l.val + 1)) - cum lf c := by
  have e := Finset.sum_range_add lf c (l.val + 1)
  rw [sum_mask (fun s => lf (c + s))]
  unfold cum
  linarith

theorem cum_all {L : ℕ} (c : ℕ) : ∑ s : Fin L, lf (c + s.val) = cum lf (c + L) - cum lf c := by
  have e := Finset.sum_range_add lf c L
  rw [Fin.sum_univ_eq_sum_range (fun s => lf (c + s)) L]
  unfold cum
  linarith

theorem ent_row (c j s : ℕ) : ent li lf (c + j) (c + s)
    = (cum lf (c + j) - cum lf c) - (cum lf (c + (s + 1)) - cum lf c) + li (c + s) := by
  unfold ent
  rw [← Nat.add_assoc]
  ring

/-- A row's greatest exponent, from the one carried in and the chunk's own positions. -/
theorem top_row {L : ℕ} (c : ℕ) (l : Fin L) :
    max (((cum lf (c + (l.val + 1)) - cum lf c : ℝ) : EReal) + run li lf c)
      ((Finset.univ : Finset (Fin L)).sup fun s => if s.val ≤ l.val then ((ent li lf (c + (l.val + 1)) (c + s.val) : ℝ) : EReal) else ⊥)
    = ((top li lf (c + (l.val + 1)) : ℝ) : EReal) := by
  rw [sup_mask (fun s => ((ent li lf (c + (l.val + 1)) (c + s) : ℝ) : EReal)) l, ← run_add, run_eq li lf (by omega)]

/-- The greatest exponent at the chunk's end. -/
theorem top_all {L : ℕ} (c : ℕ) (hL : 0 < L) :
    max (((cum lf (c + L) - cum lf c : ℝ) : EReal) + run li lf c)
      ((Finset.univ : Finset (Fin L)).sup fun s => ((ent li lf (c + L) (c + s.val) : ℝ) : EReal))
    = ((top li lf (c + L) : ℝ) : EReal) := by
  rw [sup_all (fun s => ((ent li lf (c + L) (c + s) : ℝ) : EReal)), ← run_add, run_eq li lf (by omega)]

/-- A row's own sum over the chunk and its share of what was carried in. -/
theorem mem_row {L : ℕ} (f : ℕ → ℝ) (c : ℕ) (l : Fin L) :
    ∑ s : Fin L, (if s.val ≤ l.val then Real.exp (ent li lf (c + (l.val + 1)) (c + s.val) - top li lf (c + (l.val + 1))) else 0) * f (c + s.val)
      + carry li lf c (c + (l.val + 1)) * mem li lf f c = mem li lf f (c + (l.val + 1)) := by
  rw [mem_add, add_comm]
  congr 1
  rw [← sum_mask (fun s => Real.exp (ent li lf (c + (l.val + 1)) (c + s) - top li lf (c + (l.val + 1))) * f (c + s)) l]
  exact Finset.sum_congr rfl fun s _ => by split <;> simp

/-- The sums at the chunk's end. -/
theorem mem_all {L : ℕ} (f : ℕ → ℝ) (c : ℕ) :
    carry li lf c (c + L) * mem li lf f c + ∑ s : Fin L, Real.exp (ent li lf (c + L) (c + s.val) - top li lf (c + L)) * f (c + s.val)
    = mem li lf f (c + L) := by
  rw [mem_add, Fin.sum_univ_eq_sum_range (fun s => Real.exp (ent li lf (c + L) (c + s) - top li lf (c + L)) * f (c + s)) L]

/-! ## One head -/

variable (q k : ℕ → Fin 256 → ℝ) (v : ℕ → Fin 512 → ℝ)

/-- The score of position `s` for the query at `t`. -/
def score (t s : ℕ) : ℝ := (∑ d, q t d * k s d) * (1 / 16)

/-- The weighted values up to position `t`. -/
def num (t : ℕ) (e : Fin 512) : ℝ := mem li lf (fun s => score q k t s * v s e) (t + 1)

/-- The weights up to position `t`. -/
def den (t : ℕ) : ℝ := mem li lf (fun s => score q k t s) (t + 1)

/-- The head's output at position `t`. -/
def hid (t : ℕ) (e : Fin 512) : ℝ := num li lf q k v t e / max |den li lf q k t| (Real.exp (-top li lf (t + 1)))

theorem floor_pos (t : ℕ) : 0 < max |den li lf q k t| (Real.exp (-top li lf (t + 1))) := lt_max_of_lt_right (Real.exp_pos _)

/-- The matrix carried at boundary `c`. -/
def matC (c : ℕ) (d : Fin 256) (e : Fin 512) : ℝ := mem li lf (fun s => k s d * v s e) c

/-- The vector carried at boundary `c`. -/
def vecN (c : ℕ) (d : Fin 256) : ℝ := mem li lf (fun s => k s d) c

theorem query_matC (c t : ℕ) (e : Fin 512) : (∑ d, q t d * matC li lf k v c d e) * (1 / 16) = mem li lf (fun s => score q k t s * v s e) c := by
  unfold matC score
  rw [mul_comm, Finset.sum_congr rfl fun d _ => mem_mul li lf (fun s => k s d * v s e) (q t d) c, mem_sum, mem_mul]
  congr 1
  funext s
  rw [Finset.sum_mul, Finset.mul_sum, Finset.sum_mul]
  exact Finset.sum_congr rfl fun d _ => by ring

theorem query_vecN (c t : ℕ) : (∑ d, q t d * vecN li lf k c d) * (1 / 16) = mem li lf (fun s => score q k t s) c := by
  unfold vecN score
  rw [mul_comm, Finset.sum_congr rfl fun d _ => mem_mul li lf (fun s => k s d) (q t d) c, mem_sum, mem_mul]
  congr 1
  funext s
  rw [mul_comm]

end Mlstm

end
-- ==== Proof.Mlstm.Head.lean ====
/- One head of the forward kernel at one grid point: its stored values as one function of what the head reads. -/
module

public import proofs.«01_k».proof.Proof.Gen.Kernel2Ideal.Value
public import proofs.«01_k».proof.Proof.Mlstm.Math
public import Idealize.ShloMosaic.Lib.Pipeline.ValueKit
public import Idealize.ShloMosaic.Lib.StableHlo.ReadAt

@[expose] public section

set_option maxRecDepth 16384

noncomputable section

namespace Cert.Kernel2Ideal.Mlstm

open Cert.Kernel2Ideal Cert.Kernel2Ideal.Gen Idealize.ShloMosaic Idealize.ShloMosaic.TcCoe Idealize.SL.Sem

/-- What a head reads: the lanes of its two gates, the gates' block and bias, its columns of the projections, of the
    norm's weights, and the sums carried in. -/
structure HeadIn where
  wi : BitVec 32
  wf : BitVec 32
  gates : Vec Ideal S256x128 .f32
  bias : Vec Ideal S1x128 .f32
  q : Vec Ideal S256x256 .bf16
  k : Vec Ideal S256x256 .bf16
  v : Vec Ideal S256x512 .bf16
  n : Vec Ideal S1x1x256 .f32
  m : Vec Ideal S1x1x1 .f32
  mat : Vec Ideal S1x256x512 .f32

/-- The logarithm of the logistic function, elementwise. -/
def lsigV {s : Shape} (x : FVec Ideal s .f32) : FVec Ideal s .f32 :=
  subf (minimumf x (broadcast s (Scalar.ofBits .f32 0x00000000#32)))
    (log (addf (broadcast s (Scalar.ofBits .f32 0x3F800000#32)) (exp (subf (broadcast s (Scalar.ofBits .f32 0x00000000#32)) (absf x)))))

/-- One lane of the gates as a column. -/
def pickCol (w : BitVec 32) (x : FVec Ideal S256x128 .f32) : FVec Ideal S256x1 .f32 :=
  shapeCast S256x1 (multiReduction .add [1] S256 (select (cmpi .eq (iota .tc S256x128 32 [1] iota_S256x128_d1_w32) (broadcast S256x128 w)) x
    (broadcast S256x128 (Scalar.ofBits .f32 0x00000000#32))) 0x00000000#32 reduces_S256x128_S256 (.inl rfl) rfl) shapeCasts_S256_S256x1

/-- The running sums down the rows. -/
def sumRows (low : IVec S256x256 1) (x : FVec Ideal S1x256 .f32) : FVec Ideal S256x1 .f32 :=
  shapeCast S256x1 (multiReduction .add [1] S256 (select low (broadcastTo S256x256 (shapeCast S1x256 x shapeCasts_S1x256_S1x256) broadcasts_S1x256_S256x256)
    (broadcast S256x256 (Scalar.ofBits .f32 0x00000000#32))) 0x00000000#32 reduces_S256x256_S256 (.inl rfl) rfl) shapeCasts_S256_S256x1

namespace HeadIn

variable (A : HeadIn)

/-- Row and column numbers. -/
abbrev rows : IVec S256x256 32 := iota .tc S256x256 32 [0] iota_S256x256_d0_w32
abbrev cols : IVec S256x256 32 := iota .tc S256x256 32 [1] iota_S256x256_d1_w32

def liRow : FVec Ideal S1x256 .f32 :=
  k0_pay56 (k0_pay5 A.gates A.bias) (iota .tc S128x256 32 [0] iota_S128x256_d0_w32) (broadcast S128x256 A.wi)
def lfRow : FVec Ideal S1x256 .f32 :=
  lsigV (k0_pay56 (k0_pay5 A.gates A.bias) (iota .tc S128x256 32 [0] iota_S128x256_d0_w32) (broadcast S128x256 A.wf))
def liCol : FVec Ideal S256x1 .f32 := pickCol A.wi (k0_pay4 A.gates A.bias)
def lfCol : FVec Ideal S256x1 .f32 := lsigV (pickCol A.wf (k0_pay4 A.gates A.bias))
def low : IVec S256x256 1 := k0_pay16 rows cols
def upp : IVec S256x256 1 := k0_pay18 rows cols
def bCol : FVec Ideal S256x1 .f32 := sumRows low A.lfRow
def wide : FVec Ideal S256x256 .f32 := broadcastTo S256x256 (shapeCast S256x1 A.lfCol shapeCasts_S256x1_S256x1) broadcasts_S256x1_S256x256
def mIn : FVec Ideal S1x1 .f32 := k0_pay14 A.m
def nIn : FVec Ideal S1x256 .f32 := k0_pay13 A.n
def expo : FVec Ideal S256x256 .f32 := k0_pay22 A.liRow low A.bCol upp A.wide k0_pay20
def topCol : FVec Ideal S256x1 .f32 := k0_pay24 A.liRow A.mIn low A.bCol upp A.wide k0_pay20
def weight : FVec Ideal S256x256 .f32 := k0_pay25 (k0_pay6 A.q) (k0_pay7 A.k) A.liRow A.mIn low A.bCol upp A.wide k0_pay20
def inter : FVec Ideal S256x1 .f32 := k0_pay26 A.liRow A.mIn low A.bCol upp A.wide k0_pay20
def denCol : FVec Ideal S256x1 .f32 := k0_pay27 (k0_pay6 A.q) (k0_pay7 A.k) A.liRow A.nIn A.mIn low A.bCol upp A.wide k0_pay20
def total : FVec Ideal S1x1 .f32 := k0_pay28 A.lfRow
def aRow : FVec Ideal S1x256 .f32 := k0_pay29 A.liRow A.lfRow upp A.wide k0_pay20
def aCol : FVec Ideal S256x1 .f32 := k0_pay30 A.liCol A.lfRow A.bCol
def mSum : FVec Ideal S1x1 .f32 := k0_pay31 A.mIn A.lfRow
def mNew : FVec Ideal S1x1 .f32 := k0_pay32 A.aRow A.mSum
def share : FVec Ideal S256x1 .f32 := k0_pay33 A.aRow A.aCol A.mSum
def decay : FVec Ideal S1x1 .f32 := k0_pay34 A.mIn A.total A.aRow A.mSum
def hOut : FVec Ideal S256x512 .f32 := k0_pay37 (k0_pay6 A.q) (k0_pay8 A.v) A.weight A.inter A.denCol A.mat
/-- The output of the head, before it is stored. -/
def hRaw : FVec Ideal S256x512 .bf16 := k0_pay42 A.hOut
/-- The head's output after its norm and gates. -/
def yOut (g : Vec Ideal S1x512 .f32) (o z : Vec Ideal S256x512 .bf16) : FVec Ideal S256x512 .bf16 :=
  k0_pay41 (k0_pay38 (k0_pay6 A.q) (k0_pay8 A.v) A.weight A.inter A.denCol A.mat g) (k0_pay39 z) (k0_pay40 o)
def matNew : FVec Ideal S1x256x512 .f32 :=
  k0_pay47 (k0_pay46 (k0_pay7 A.k) (k0_pay8 A.v) A.share A.decay (k0_pay35 A.mat))
def vecNew : FVec Ideal S1x1x256 .f32 := k0_pay48 A.nIn A.decay (k0_pay45 (k0_pay7 A.k) A.share)
def topNew : FVec Ideal S1x1x256 .f32 := k0_pay49 A.mNew

end HeadIn

end Cert.Kernel2Ideal.Mlstm

end
-- ==== Proof.Mlstm.Words.lean ====
/- Scalar equations of the gated recurrence: the logistic's logarithm, maxima and masked selections over the extended reals. -/
module

public import proofs.«01_k».proof.Proof.Mlstm.Math
public import Idealize.ShloMosaic.Lib.WordCmp

@[expose] public section

noncomputable section

namespace Mlstm

open Idealize.ShloMosaic

theorem sixteenth : Ideal.ofBits .f32 0x3D800000#32 = ((1 / 16 : ℝ) : EReal) := by
  simp [Ideal.ofBits, Ideal.ieee, -EReal.coe_mul]; norm_num

theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

theorem coe_min (x y : ℝ) : ((min x y : ℝ) : EReal) = min (x : EReal) (y : EReal) := by
  rcases le_total x y with h | h
  · rw [min_eq_left h, min_eq_left (EReal.coe_le_coe_iff.mpr h)]
  · rw [min_eq_right h, min_eq_right (EReal.coe_le_coe_iff.mpr h)]

theorem coe_sum {ι : Type} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

theorem coe_ite (p : Prop) [Decidable p] (x : ℝ) : (if p then (x : EReal) else 0) = ((if p then x else 0 : ℝ) : EReal) := by
  split <;> simp

theorem abs_coe (x : ℝ) : FloatOps.absf (F := Ideal) (φ := .f32) (x : EReal) = ((|x| : ℝ) : EReal) := by
  show max (x : EReal) (-(x : EReal)) = _
  rw [← EReal.coe_neg, ← coe_max]
  rfl

theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]

theorem lsig_coe (x : ℝ) : min (x : EReal) 0 - Ideal.log (1 + Ideal.exp (0 - FloatOps.absf (F := Ideal) (φ := .f32) (x : EReal)))
    = ((lsig x : ℝ) : EReal) := by
  rw [abs_coe, ← EReal.coe_zero, ← EReal.coe_one, ← EReal.coe_sub, exp_coe, ← EReal.coe_add, ← coe_min, log_coe (by positivity), ← EReal.coe_sub, zero_sub]
  rfl

theorem fold_max {ι : Type} [Fintype ι] (g : ι → EReal) : Finset.fold max (Ideal.ofBits .f32 0xFF800000#32) g Finset.univ = Finset.univ.sup g := by
  rw [show Ideal.ofBits .f32 0xFF800000#32 = (⊥ : EReal) by simp [Ideal.ofBits, Ideal.ieee]]
  rfl

theorem select_eq (n k : ℕ) (hn : n < 4294967296) (hk : k < 4294967296) {α : Type} (x y : α) :
    Scalar.select (IntOp.cmpi .eq (BitVec.ofNat 32 n) (BitVec.ofNat 32 k)) x y = if n = k then x else y := by
  rw [show IntOp.cmpi .eq (BitVec.ofNat 32 n) (BitVec.ofNat 32 k) = BitVec.ofBool (decide (n = k)) from WordCmp.cmpi_eq_ofNat hn hk]
  by_cases h : n = k <;> simp [h, Scalar.select]

theorem select_le (n k : ℕ) (hn : n < 2147483648) (hk : k < 2147483648) {α : Type} (x y : α) :
    Scalar.select (IntOp.cmpi .sle (BitVec.ofNat 32 n) (BitVec.ofNat 32 k)) x y = if n ≤ k then x else y := by
  rw [WordCmp.cmpi_sle_ofNat (by omega) (by omega)]
  by_cases h : n ≤ k <;> simp [h, Scalar.select]

/-- One lane of a row of gates. -/
theorem pick (j : Fin 128) (g : Fin 128 → EReal) :
    ∑ x : Fin 128, Scalar.select (IntOp.cmpi CmpIPredicate.eq (BitVec.ofNat 32 x.val) (BitVec.ofNat 32 j.val)) (g x) 0 = g j := by
  rw [Finset.sum_congr rfl fun x _ => select_eq x.val j.val (by omega) (by omega) (g x) 0]
  simp only [← Fin.ext_iff]
  rw [Finset.sum_ite_eq' Finset.univ j g, if_pos (Finset.mem_univ _)]

/-- A quotient of real numbers by a positive one. -/
theorem div_coe_pos (x : ℝ) {y : ℝ} (h : 0 < y) : Ideal.div (x : EReal) (y : EReal) = ((x / y : ℝ) : EReal) := by
  rw [Ideal.div_coe h.ne', ← EReal.coe_mul, mul_one_div]

/-- A weight: the exponential of a masked exponent less the greatest. -/
theorem exp_mask (p : Prop) [Decidable p] (x M : ℝ) :
    Ideal.exp ((if p then (x : EReal) else ⊥) - (M : EReal)) = ((if p then Real.exp (x - M) else 0 : ℝ) : EReal) := by
  split
  · rw [← EReal.coe_sub, exp_coe]
  · rw [EReal.bot_sub, exp_bot, EReal.coe_zero]

end Mlstm

end
-- ==== Proof.Mlstm.Rows.lean ====
/- What one head of the forward kernel computes at a grid point, element by element, in terms of the recurrence's closed form. -/
module

public import proofs.«01_k».proof.Proof.Mlstm.Head
public import proofs.«01_k».proof.Proof.Mlstm.Words

@[expose] public section

set_option maxRecDepth 16384

noncomputable section

namespace Cert.Kernel2Ideal.Mlstm

open Cert.Kernel2Ideal Cert.Kernel2Ideal.Gen Idealize.ShloMosaic Idealize.ShloMosaic.TcCoe Idealize.SL.Sem
open _root_.Mlstm

theorem mask_eq : (Named.named κ "mask" 0xF149F2CA#32 : Ideal .f32) = (⊥ : EReal) := by
  simp [Named.named, κ]

/-- The head reads real gates, projections and carried sums: those of the positions from `c` on, and of boundary `c`. -/
structure Reads (A : HeadIn) (c : ℕ) (li f : ℕ → ℝ) (q k : ℕ → Fin 256 → ℝ) (v : ℕ → Fin 512 → ℝ) : Prop where
  at_i : ∃ j : Fin 128, A.wi = BitVec.ofNat 32 j.val ∧ ∀ s : Fin 256, A.gates (ix2 s j) + A.bias (ix2 0 j) = ((li (c + s.val) : ℝ) : EReal)
  at_f : ∃ j : Fin 128, A.wf = BitVec.ofNat 32 j.val ∧ ∀ s : Fin 256, A.gates (ix2 s j) + A.bias (ix2 0 j) = ((f (c + s.val) : ℝ) : EReal)
  at_q : ∀ (s d : Fin 256), A.q (ix2 s d) = ((q (c + s.val) d : ℝ) : EReal)
  at_k : ∀ (s d : Fin 256), A.k (ix2 s d) = ((k (c + s.val) d : ℝ) : EReal)
  at_v : ∀ (s : Fin 256) (e : Fin 512), A.v (ix2 s e) = ((v (c + s.val) e : ℝ) : EReal)
  at_n : ∀ d : Fin 256, A.n (ix3 0 0 d) = ((vecN li (lsigs f) k c d : ℝ) : EReal)
  at_m : A.m (ix3 0 0 0) = run li (lsigs f) c
  at_mat : ∀ (d : Fin 256) (e : Fin 512), A.mat (ix3 0 d e) = ((matC li (lsigs f) k v c d e : ℝ) : EReal)

variable {A : HeadIn} {c : ℕ} {li f : ℕ → ℝ} {q k : ℕ → Fin 256 → ℝ} {v : ℕ → Fin 512 → ℝ}

section
variable (R : Reads A c li f q k v)
include R

theorem liRow_at (s : Fin 256) : A.liRow (ix2 0 s) = ((li (c + s.val) : ℝ) : EReal) := by
  obtain ⟨j, hj, h⟩ := R.at_i
  rw [← h s]
  pointwise [HeadIn.liRow, k0_pay56, k0_pay5, k0_pay4]
  rw [hj, pick j fun x => A.gates (ix2 s x) + A.bias (ix2 0 x)]

theorem lfRow_at (s : Fin 256) : A.lfRow (ix2 0 s) = ((lsigs f (c + s.val) : ℝ) : EReal) := by
  obtain ⟨j, hj, h⟩ := R.at_f
  pointwise [HeadIn.lfRow, lsigV, k0_pay56, k0_pay5, k0_pay4]
  rw [hj, pick j fun x => A.gates (ix2 s x) + A.bias (ix2 0 x), h s, lsig_coe, lsigs]

theorem liCol_at (s : Fin 256) : A.liCol (ix2 s 0) = ((li (c + s.val) : ℝ) : EReal) := by
  obtain ⟨j, hj, h⟩ := R.at_i
  rw [← h s]
  pointwise [HeadIn.liCol, pickCol, k0_pay4]
  rw [hj, pick j fun x => A.gates (ix2 s x) + A.bias (ix2 0 x)]

theorem lfCol_at (s : Fin 256) : A.lfCol (ix2 s 0) = ((lsigs f (c + s.val) : ℝ) : EReal) := by
  obtain ⟨j, hj, h⟩ := R.at_f
  pointwise [HeadIn.lfCol, lsigV, pickCol, k0_pay4]
  rw [hj, pick j fun x => A.gates (ix2 s x) + A.bias (ix2 0 x), h s, lsig_coe, lsigs]

theorem bCol_at (l : Fin 256) : A.bCol (ix2 l 0) = ((cum (lsigs f) (c + (l.val + 1)) - cum (lsigs f) c : ℝ) : EReal) := by
  rw [← cum_row (lsigs f) c l, coe_sum]
  pointwise [HeadIn.bCol, sumRows, HeadIn.low, k0_pay16]
  refine Finset.sum_congr rfl fun s _ => ?_
  rw [select_le s.val l.val (by omega) (by omega), lfRow_at R s, coe_ite]

theorem bRow_at (l : Fin 256) : k0_pay21 (F := Ideal) HeadIn.upp A.wide k0_pay20 (ix2 0 l) = ((cum (lsigs f) (c + (l.val + 1)) - cum (lsigs f) c : ℝ) : EReal) := by
  rw [← cum_row (lsigs f) c l, coe_sum]
  pointwise [k0_pay21, HeadIn.upp, HeadIn.wide, k0_pay18, k0_pay20]
  refine Finset.sum_congr rfl fun s _ => ?_
  rw [select_le s.val l.val (by omega) (by omega), lfCol_at R s, coe_ite]

theorem expo_at (l s : Fin 256) : A.expo (ix2 l s) = if s.val ≤ l.val then ((ent li (lsigs f) (c + (l.val + 1)) (c + s.val) : ℝ) : EReal) else ⊥ := by
  pointwise [HeadIn.expo, k0_pay22, HeadIn.low, k0_pay16]
  rw [mask_eq, select_le s.val l.val (by omega) (by omega), bRow_at R, bCol_at R, liRow_at R, ← EReal.coe_sub, ← EReal.coe_add, ent_row]

theorem total_at : A.total (ix2 0 0) = ((cum (lsigs f) (c + 256) - cum (lsigs f) c : ℝ) : EReal) := by
  rw [← cum_all (L := 256) (lsigs f) c, coe_sum]
  pointwise [HeadIn.total, k0_pay28]
  exact Finset.sum_congr rfl fun s _ => lfRow_at R s

theorem mIn_at : A.mIn (ix2 0 0) = run li (lsigs f) c := by
  rw [← R.at_m]
  pointwise [HeadIn.mIn, k0_pay14]

theorem nIn_at (d : Fin 256) : A.nIn (ix2 0 d) = ((vecN li (lsigs f) k c d : ℝ) : EReal) := by
  rw [← R.at_n]
  pointwise [HeadIn.nIn, k0_pay13]

theorem topCol_at (l : Fin 256) : A.topCol (ix2 l 0) = ((top li (lsigs f) (c + (l.val + 1)) : ℝ) : EReal) := by
  rw [← top_row li (lsigs f) c l, ← fold_max]
  have e : ∀ s : Fin 256, k0_pay22 (F := Ideal) A.liRow HeadIn.low A.bCol HeadIn.upp A.wide k0_pay20 (ix2 l s) = _ := fun s => expo_at R l s
  simp only [← e]
  pointwise [HeadIn.topCol, k0_pay24, k0_pay23]
  rw [bCol_at R, mIn_at R]

theorem q_at (s d : Fin 256) : k0_pay6 (F := Ideal) A.q (ix2 s d) = ((q (c + s.val) d : ℝ) : EReal) := by
  rw [← R.at_q]
  pointwise [k0_pay6]

theorem k_at (s d : Fin 256) : k0_pay7 (F := Ideal) A.k (ix2 s d) = ((k (c + s.val) d : ℝ) : EReal) := by
  rw [← R.at_k]
  pointwise [k0_pay7]

theorem v_at (s : Fin 256) (e : Fin 512) : k0_pay8 (F := Ideal) A.v (ix2 s e) = ((v (c + s.val) e : ℝ) : EReal) := by
  rw [← R.at_v]
  pointwise [k0_pay8]

theorem weight_at (l s : Fin 256) : A.weight (ix2 l s) = ((score q k (c + l.val) (c + s.val)
    * (if s.val ≤ l.val then Real.exp (ent li (lsigs f) (c + (l.val + 1)) (c + s.val) - top li (lsigs f) (c + (l.val + 1))) else 0) : ℝ) : EReal) := by
  have e := expo_at R l s
  have g := topCol_at R l
  unfold HeadIn.expo at e
  unfold HeadIn.topCol at g
  pointwise [HeadIn.weight, k0_pay25]
  rw [e, g, exp_mask, sixteenth]
  simp only [q_at R, k_at R, ← EReal.coe_mul, ← coe_sum]
  rfl

theorem inter_at (l : Fin 256) : A.inter (ix2 l 0) = ((carry li (lsigs f) c (c + (l.val + 1)) : ℝ) : EReal) := by
  have g := topCol_at R l
  unfold HeadIn.topCol at g
  pointwise [HeadIn.inter, k0_pay26, k0_pay23]
  rw [bCol_at R, mIn_at R, g, exp_carry]

theorem denCol_at (l : Fin 256) : A.denCol (ix2 l 0) = ((max |den li (lsigs f) q k (c + l.val)| (Real.exp (-top li (lsigs f) (c + l.val + 1))) : ℝ) : EReal) := by
  have g := topCol_at R l
  have i := inter_at R l
  have w := fun s => weight_at R l s
  unfold HeadIn.topCol at g
  unfold HeadIn.inter at i
  unfold HeadIn.weight at w
  pointwise [HeadIn.denCol, k0_pay27]
  simp only [g, i, w, nIn_at R, q_at R, sixteenth, ← EReal.coe_mul, ← coe_sum, ← EReal.coe_add, ← EReal.coe_zero, ← EReal.coe_sub, exp_coe, abs_coe, ← coe_max, zero_sub]
  rw [den, Nat.add_assoc, ← mem_row li (lsigs f) (fun s => score q k (c + l.val) s) c l, ← query_vecN]
  rw [show carry li (lsigs f) c (c + (l.val + 1)) * (1 / 16) * ∑ d, q (c + l.val) d * vecN li (lsigs f) k c d
    = carry li (lsigs f) c (c + (l.val + 1)) * ((∑ d, q (c + l.val) d * vecN li (lsigs f) k c d) * (1 / 16)) by ring]
  simp only [mul_comm (score q k _ _)]

theorem hOut_at (l : Fin 256) (e : Fin 512) : A.hOut (ix2 l e) = ((hid li (lsigs f) q k v (c + l.val) e : ℝ) : EReal) := by
  pointwise [HeadIn.hOut, k0_pay37, k0_pay36, k0_pay35]
  simp only [denCol_at R, inter_at R, weight_at R, v_at R, q_at R, R.at_mat, sixteenth, ← EReal.coe_mul, ← coe_sum, ← EReal.coe_add]
  rw [div_coe_pos _ (floor_pos li (lsigs f) q k (c + l.val)), hid, num, Nat.add_assoc, ← mem_row li (lsigs f) (fun s => score q k (c + l.val) s * v s e) c l, ← query_matC]
  congr 3
  · exact Finset.sum_congr rfl fun s _ => by ring
  · ring

/-! ## What the head carries out -/

theorem aRow_at (s : Fin 256) : A.aRow (ix2 0 s) = ((ent li (lsigs f) (c + 256) (c + s.val) : ℝ) : EReal) := by
  have g := total_at R
  unfold HeadIn.total at g
  pointwise [HeadIn.aRow, k0_pay29]
  rw [g, bRow_at R, liRow_at R, ← EReal.coe_sub, ← EReal.coe_add, ent_row]

theorem aCol_at (s : Fin 256) : A.aCol (ix2 s 0) = ((ent li (lsigs f) (c + 256) (c + s.val) : ℝ) : EReal) := by
  have g := total_at R
  unfold HeadIn.total at g
  pointwise [HeadIn.aCol, k0_pay30]
  rw [g, bCol_at R, liCol_at R, ← EReal.coe_sub, ← EReal.coe_add, ent_row]

theorem mSum_at : A.mSum (ix2 0 0) = ((cum (lsigs f) (c + 256) - cum (lsigs f) c : ℝ) : EReal) + run li (lsigs f) c := by
  have g := total_at R
  unfold HeadIn.total at g
  pointwise [HeadIn.mSum, k0_pay31]
  rw [g, mIn_at R]

theorem mNew_at : A.mNew (ix2 0 0) = ((top li (lsigs f) (c + 256) : ℝ) : EReal) := by
  rw [← top_all (L := 256) li (lsigs f) c (by norm_num), ← fold_max]
  simp only [← aRow_at R]
  pointwise [HeadIn.mNew, k0_pay32]
  rw [mSum_at R]

theorem share_at (s : Fin 256) : A.share (ix2 s 0) = ((Real.exp (ent li (lsigs f) (c + 256) (c + s.val) - top li (lsigs f) (c + 256)) : ℝ) : EReal) := by
  have g := mNew_at R
  unfold HeadIn.mNew at g
  pointwise [HeadIn.share, k0_pay33]
  rw [g, aCol_at R, ← EReal.coe_sub, exp_coe]

theorem decay_at : A.decay (ix2 0 0) = ((carry li (lsigs f) c (c + 256) : ℝ) : EReal) := by
  have g := mNew_at R
  unfold HeadIn.mNew at g
  pointwise [HeadIn.decay, k0_pay34]
  rw [g, mIn_at R, total_at R, exp_carry]

theorem matNew_at (d : Fin 256) (e : Fin 512) : A.matNew (ix3 0 d e) = ((matC li (lsigs f) k v (c + 256) d e : ℝ) : EReal) := by
  pointwise [HeadIn.matNew, k0_pay47, k0_pay46, k0_pay45, k0_pay35]
  simp only [decay_at R, share_at R, k_at R, v_at R, R.at_mat, ← EReal.coe_mul, ← coe_sum, ← EReal.coe_add]
  unfold matC
  rw [← mem_all (L := 256) li (lsigs f) (fun s => k s d * v s e) c]
  congr 2
  exact Finset.sum_congr rfl fun s _ => by ring

theorem vecNew_at (d : Fin 256) : A.vecNew (ix3 0 0 d) = ((vecN li (lsigs f) k (c + 256) d : ℝ) : EReal) := by
  pointwise [HeadIn.vecNew, k0_pay48, k0_pay45]
  simp only [decay_at R, share_at R, k_at R, nIn_at R, ← EReal.coe_mul, ← coe_sum, ← EReal.coe_add]
  unfold vecN
  rw [← mem_all (L := 256) li (lsigs f) (fun s => k s d) c]
  congr 2
  exact Finset.sum_congr rfl fun s _ => by ring

theorem topNew_at (d : Fin 256) : A.topNew (ix3 0 0 d) = run li (lsigs f) (c + 256) := by
  rw [run_eq li (lsigs f) (by omega)]
  pointwise [HeadIn.topNew, k0_pay49]
  exact mNew_at R

end

end Cert.Kernel2Ideal.Mlstm

end
-- ==== Proof.Mlstm.Blocks.lean ====
/- The blocks that the mLSTM's forward kernel reads, as elements of the arguments. -/
module

public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Kernel2Ideal.Mlstm

open Cert.Kernel2Ideal Cert.Kernel2Ideal.Gen Idealize.ShloMosaic Idealize.ShloMosaic.TcCoe Idealize.SL.Sem

variable (m : (ℓ : Loc nD τ sig) → Buf (Elt Ideal) ℓ)

/-- The projected activations. -/
abbrev PROJ (c : Dev nD) : FVec Ideal S1x16384x14344 .f32 := m ((c : Thread nD τ).loc main_arg0)
/-- The gates' biases. -/
abbrev GATE (c : Dev nD) : FVec Ideal S1x8 .f32 := m ((c : Thread nD τ).loc main_arg1)
/-- The weights of the heads' norm. -/
abbrev NORM (c : Dev nD) : FVec Ideal S1x2048 .f32 := m ((c : Thread nD τ).loc main_arg2)
/-- The weights of the branch's output. -/
abbrev OUTW (c : Dev nD) : FVec Ideal S1x2048x1024 .f32 := m ((c : Thread nD τ).loc main_arg3)

/-- Every window's block index. -/
theorem idx : ∀ t : Fin cfg0.N, t.val < 64 ∧ win0_0.index t = ![t.val, 0] ∧ win0_1.index t = ![t.val, 1] ∧ win0_2.index t = ![t.val, 1]
    ∧ win0_3.index t = ![t.val, 2] ∧ win0_4.index t = ![t.val, 3] ∧ win0_5.index t = ![t.val, 0]
    ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

/-- The branch's columns stand first in the packed array. -/
theorem packed_at (c : Dev nD) (i : Fin 16384) (j : Fin 8192) :
    V m c main_v5 (ix2 i (⟨j.val, by omega⟩ : Fin 14336)) = PROJ m c (ix3 0 i (⟨4096 + j.val, by omega⟩ : Fin 14344)) := by
  unfold V
  after_reads_at
  after_reads_at

/-- The gates' columns stand in the last eight of 128 lanes. -/
theorem gates_at (c : Dev nD) (i : Fin 16384) (j : Fin 8) :
    V m c main_v8 (ix2 i (⟨120 + j.val, by omega⟩ : Fin 128)) = PROJ m c (ix3 0 i (⟨12288 + j.val, by omega⟩ : Fin 14344)) := by
  unfold V
  after_reads_at

/-- So do their biases. -/
theorem bias_at (c : Dev nD) (j : Fin 8) :
    V m c main_v9 (ix2 0 (⟨120 + j.val, by omega⟩ : Fin 128)) = GATE m c (ix2 0 j) := by
  unfold V
  after_reads_at

theorem outw_at (c : Dev nD) (i : Fin 2048) (j : Fin 1024) :
    V m c main_v11 (ix2 i j) = OUTW m c (ix3 0 i j) := by
  unfold V
  after_reads_at

/-! ## The blocks of a grid point -/

variable (c : Dev nD) (t : Fin cfg0.N)

theorem blk0 (r : Fin 256) (l : Fin 1024) (p : Fin 16384) (hp : p.val = t.val * 256 + r.val) :
    iblk m c 0 t (ix2 r l) = PROJ m c (ix3 0 p (⟨4096 + l.val, by omega⟩ : Fin 14344)) := by
  rw [← packed_at m c p ⟨l.val, by omega⟩]
  blk_ext [iblk, idx t]

theorem blk1 (r : Fin 256) (l : Fin 1024) (p : Fin 16384) (hp : p.val = t.val * 256 + r.val) :
    iblk m c 1 t (ix2 r l) = PROJ m c (ix3 0 p (⟨4096 + (1024 + l.val), by omega⟩ : Fin 14344)) := by
  rw [← packed_at m c p ⟨1024 + l.val, by omega⟩]
  blk_ext [iblk, idx t]

theorem blk2 (r : Fin 256) (l : Fin 2048) (p : Fin 16384) (hp : p.val = t.val * 256 + r.val) :
    iblk m c 2 t (ix2 r l) = PROJ m c (ix3 0 p (⟨4096 + (2048 + l.val), by omega⟩ : Fin 14344)) := by
  rw [← packed_at m c p ⟨2048 + l.val, by omega⟩]
  blk_ext [iblk, idx t]

theorem blk3 (r : Fin 256) (l : Fin 2048) (p : Fin 16384) (hp : p.val = t.val * 256 + r.val) :
    iblk m c 3 t (ix2 r l) = PROJ m c (ix3 0 p (⟨4096 + (4096 + l.val), by omega⟩ : Fin 14344)) := by
  rw [← packed_at m c p ⟨4096 + l.val, by omega⟩]
  blk_ext [iblk, idx t]

theorem blk4 (r : Fin 256) (l : Fin 2048) (p : Fin 16384) (hp : p.val = t.val * 256 + r.val) :
    iblk m c 4 t (ix2 r l) = PROJ m c (ix3 0 p (⟨4096 + (6144 + l.val), by omega⟩ : Fin 14344)) := by
  rw [← packed_at m c p ⟨6144 + l.val, by omega⟩]
  blk_ext [iblk, idx t]

theorem blk5 (r : Fin 256) (j : Fin 8) (p : Fin 16384) (hp : p.val = t.val * 256 + r.val) :
    iblk m c 5 t (ix2 r (⟨120 + j.val, by omega⟩ : Fin 128)) = PROJ m c (ix3 0 p (⟨12288 + j.val, by omega⟩ : Fin 14344)) := by
  rw [← gates_at m c p j]
  blk_ext [iblk, idx t]

theorem blk6 (j : Fin 8) :
    iblk m c 6 t (ix2 0 (⟨120 + j.val, by omega⟩ : Fin 128)) = GATE m c (ix2 0 j) := by
  rw [← bias_at m c j]
  blk_ext [iblk, idx t]

theorem blk7 (l : Fin 2048) : iblk m c 7 t (ix2 0 l) = NORM m c (ix2 0 l) := by
  have e : V m c main_arg2 (ix2 0 l) = NORM m c (ix2 0 l) := by
    entry_read
    rfl
  rw [← e]
  blk_ext [iblk, idx t]

theorem blk8 (i : Fin 2048) (j : Fin 1024) : iblk m c 8 t (ix2 i j) = OUTW m c (ix3 0 i j) := by
  rw [← outw_at m c i j]
  blk_ext [iblk, idx t]

end Cert.Kernel2Ideal.Mlstm

end
-- ==== Proof.Mlstm.Point.lean ====
/- What the forward kernel leaves behind at a grid point, head by head. -/
module

public import proofs.«01_k».proof.Proof.Mlstm.Head
public import Idealize.ShloMosaic.Lib.Pipeline.ReadBack
public import Idealize.ShloMosaic.Lib.WritesUnit

@[expose] public section

set_option maxRecDepth 16384

noncomputable section

namespace Cert.Kernel2Ideal.Mlstm

open Cert.Kernel2Ideal Cert.Kernel2Ideal.Gen Idealize.ShloMosaic Idealize.ShloMosaic.TcCoe Idealize.SL.Sem

variable (m : (ℓ : Loc nD τ sig) → Buf (Elt Ideal) ℓ)

/-- The carried vector, maximum and matrix of every head. -/
structure Carried where
  n : Fin 4 → Vec Ideal S1x1x256 .f32
  m : Fin 4 → Vec Ideal S1x1x1 .f32
  mat : Fin 4 → Vec Ideal S1x256x512 .f32

/-- The blocks that head `h` reads at a point, over the sums carried in. -/
def inp (c : Dev nD) (t : Fin cfg0.N) (s : Carried) : Fin 4 → HeadIn
  | 0 => ⟨120#32, 124#32, iblk m c 5 t, iblk m c 6 t, View.ld (iblk m c 0 t) (Rect.unit ![0, 0] ![256, 256] inb_S256x1024_S256x256_0_0),
      View.ld (iblk m c 1 t) (Rect.unit ![0, 0] ![256, 256] inb_S256x1024_S256x256_0_0),
      View.ld (iblk m c 2 t) (Rect.unit ![0, 0] ![256, 512] inb_S256x2048_S256x512_0_0), s.n 0, s.m 0, s.mat 0⟩
  | 1 => ⟨121#32, 125#32, iblk m c 5 t, iblk m c 6 t, View.ld (iblk m c 0 t) (Rect.unit ![0, 256] ![256, 256] inb_S256x1024_S256x256_0_256),
      View.ld (iblk m c 1 t) (Rect.unit ![0, 256] ![256, 256] inb_S256x1024_S256x256_0_256),
      View.ld (iblk m c 2 t) (Rect.unit ![0, 512] ![256, 512] inb_S256x2048_S256x512_0_512), s.n 1, s.m 1, s.mat 1⟩
  | 2 => ⟨122#32, 126#32, iblk m c 5 t, iblk m c 6 t, View.ld (iblk m c 0 t) (Rect.unit ![0, 512] ![256, 256] inb_S256x1024_S256x256_0_512),
      View.ld (iblk m c 1 t) (Rect.unit ![0, 512] ![256, 256] inb_S256x1024_S256x256_0_512),
      View.ld (iblk m c 2 t) (Rect.unit ![0, 1024] ![256, 512] inb_S256x2048_S256x512_0_1024), s.n 2, s.m 2, s.mat 2⟩
  | 3 => ⟨123#32, 127#32, iblk m c 5 t, iblk m c 6 t, View.ld (iblk m c 0 t) (Rect.unit ![0, 768] ![256, 256] inb_S256x1024_S256x256_0_768),
      View.ld (iblk m c 1 t) (Rect.unit ![0, 768] ![256, 256] inb_S256x1024_S256x256_0_768),
      View.ld (iblk m c 2 t) (Rect.unit ![0, 1536] ![256, 512] inb_S256x2048_S256x512_0_1536), s.n 3, s.m 3, s.mat 3⟩

/-- Head `h`'s columns of the norm's weights and of the two gates' columns. -/
def gIn (c : Dev nD) (t : Fin cfg0.N) : Fin 4 → Vec Ideal S1x512 .f32
  | 0 => View.ld (iblk m c 7 t) (Rect.unit ![0, 0] ![1, 512] inb_S1x2048_S1x512_0_0)
  | 1 => View.ld (iblk m c 7 t) (Rect.unit ![0, 512] ![1, 512] inb_S1x2048_S1x512_0_512)
  | 2 => View.ld (iblk m c 7 t) (Rect.unit ![0, 1024] ![1, 512] inb_S1x2048_S1x512_0_1024)
  | 3 => View.ld (iblk m c 7 t) (Rect.unit ![0, 1536] ![1, 512] inb_S1x2048_S1x512_0_1536)
def oIn (c : Dev nD) (t : Fin cfg0.N) : Fin 4 → Vec Ideal S256x512 .bf16
  | 0 => View.ld (iblk m c 3 t) (Rect.unit ![0, 0] ![256, 512] inb_S256x2048_S256x512_0_0)
  | 1 => View.ld (iblk m c 3 t) (Rect.unit ![0, 512] ![256, 512] inb_S256x2048_S256x512_0_512)
  | 2 => View.ld (iblk m c 3 t) (Rect.unit ![0, 1024] ![256, 512] inb_S256x2048_S256x512_0_1024)
  | 3 => View.ld (iblk m c 3 t) (Rect.unit ![0, 1536] ![256, 512] inb_S256x2048_S256x512_0_1536)
def zIn (c : Dev nD) (t : Fin cfg0.N) : Fin 4 → Vec Ideal S256x512 .bf16
  | 0 => View.ld (iblk m c 4 t) (Rect.unit ![0, 0] ![256, 512] inb_S256x2048_S256x512_0_0)
  | 1 => View.ld (iblk m c 4 t) (Rect.unit ![0, 512] ![256, 512] inb_S256x2048_S256x512_0_512)
  | 2 => View.ld (iblk m c 4 t) (Rect.unit ![0, 1024] ![256, 512] inb_S256x2048_S256x512_0_1024)
  | 3 => View.ld (iblk m c 4 t) (Rect.unit ![0, 1536] ![256, 512] inb_S256x2048_S256x512_0_1536)

/-- What a point over the scratch `s0`, `s1` carries in. -/
def prev (s0 : Vec Ideal S4x256x512 .f32) (s1 : Vec Ideal S4x8x256 .f32) : Carried where
  n
  | 0 => View.ld s1 (Rect.unit ![0, 0, 0] ![1, 1, 256] inb_S4x8x256_S1x1x256_0_0_0)
  | 1 => View.ld s1 (Rect.unit ![1, 0, 0] ![1, 1, 256] inb_S4x8x256_S1x1x256_1_0_0)
  | 2 => View.ld s1 (Rect.unit ![2, 0, 0] ![1, 1, 256] inb_S4x8x256_S1x1x256_2_0_0)
  | 3 => View.ld s1 (Rect.unit ![3, 0, 0] ![1, 1, 256] inb_S4x8x256_S1x1x256_3_0_0)
  m
  | 0 => View.ld s1 (Rect.unit ![0, 1, 0] ![1, 1, 1] inb_S4x8x256_S1x1x1_0_1_0)
  | 1 => View.ld s1 (Rect.unit ![1, 1, 0] ![1, 1, 1] inb_S4x8x256_S1x1x1_1_1_0)
  | 2 => View.ld s1 (Rect.unit ![2, 1, 0] ![1, 1, 1] inb_S4x8x256_S1x1x1_2_1_0)
  | 3 => View.ld s1 (Rect.unit ![3, 1, 0] ![1, 1, 1] inb_S4x8x256_S1x1x1_3_1_0)
  mat
  | 0 => View.ld s0 (Rect.unit ![0, 0, 0] ![1, 256, 512] inb_S4x256x512_S1x256x512_0_0_0)
  | 1 => View.ld s0 (Rect.unit ![1, 0, 0] ![1, 256, 512] inb_S4x256x512_S1x256x512_1_0_0)
  | 2 => View.ld s0 (Rect.unit ![2, 0, 0] ![1, 256, 512] inb_S4x256x512_S1x256x512_2_0_0)
  | 3 => View.ld s0 (Rect.unit ![3, 0, 0] ![1, 256, 512] inb_S4x256x512_S1x256x512_3_0_0)

/-- The scratch as the first point clears it. -/
abbrev zeroMat : Vec Ideal S4x256x512 .f32 := k0_pay1 (F := Ideal)
abbrev zeroVec : Vec Ideal S4x8x256 .f32 := k0_pay2 (F := Ideal)

/-- What the first point carries in: no sums, and a maximum over nothing. -/
def init : Carried where
  n
  | 0 => View.ld zeroVec (Rect.unit ![0, 0, 0] ![1, 1, 256] inb_S4x8x256_S1x1x256_0_0_0)
  | 1 => View.ld zeroVec (Rect.unit ![1, 0, 0] ![1, 1, 256] inb_S4x8x256_S1x1x256_1_0_0)
  | 2 => View.ld zeroVec (Rect.unit ![2, 0, 0] ![1, 1, 256] inb_S4x8x256_S1x1x256_2_0_0)
  | 3 => View.ld zeroVec (Rect.unit ![3, 0, 0] ![1, 1, 256] inb_S4x8x256_S1x1x256_3_0_0)
  m
  | 0 => (View.whole cc0_scratch1).readCov [⟨Rect.unit ![0, 1, 0] ![4, 1, 256] inb_S4x8x256_S4x1x256_0_1_0, k0_pay3 (F := Ideal)⟩,
      ⟨Rect.unit ![0, 0, 0] ![4, 8, 256] inb_S4x8x256_S4x8x256_0_0_0, k0_pay2 (F := Ideal)⟩] (Rect.unit ![0, 1, 0] ![1, 1, 1] inb_S4x8x256_S1x1x1_0_1_0).toLoadRect
  | 1 => (View.whole cc0_scratch1).readCov [⟨Rect.unit ![0, 1, 0] ![4, 1, 256] inb_S4x8x256_S4x1x256_0_1_0, k0_pay3 (F := Ideal)⟩,
      ⟨Rect.unit ![0, 0, 0] ![4, 8, 256] inb_S4x8x256_S4x8x256_0_0_0, k0_pay2 (F := Ideal)⟩] (Rect.unit ![1, 1, 0] ![1, 1, 1] inb_S4x8x256_S1x1x1_1_1_0).toLoadRect
  | 2 => (View.whole cc0_scratch1).readCov [⟨Rect.unit ![0, 1, 0] ![4, 1, 256] inb_S4x8x256_S4x1x256_0_1_0, k0_pay3 (F := Ideal)⟩,
      ⟨Rect.unit ![0, 0, 0] ![4, 8, 256] inb_S4x8x256_S4x8x256_0_0_0, k0_pay2 (F := Ideal)⟩] (Rect.unit ![2, 1, 0] ![1, 1, 1] inb_S4x8x256_S1x1x1_2_1_0).toLoadRect
  | 3 => (View.whole cc0_scratch1).readCov [⟨Rect.unit ![0, 1, 0] ![4, 1, 256] inb_S4x8x256_S4x1x256_0_1_0, k0_pay3 (F := Ideal)⟩,
      ⟨Rect.unit ![0, 0, 0] ![4, 8, 256] inb_S4x8x256_S4x8x256_0_0_0, k0_pay2 (F := Ideal)⟩] (Rect.unit ![3, 1, 0] ![1, 1, 1] inb_S4x8x256_S1x1x1_3_1_0).toLoadRect
  mat
  | 0 => View.ld zeroMat (Rect.unit ![0, 0, 0] ![1, 256, 512] inb_S4x256x512_S1x256x512_0_0_0)
  | 1 => View.ld zeroMat (Rect.unit ![1, 0, 0] ![1, 256, 512] inb_S4x256x512_S1x256x512_1_0_0)
  | 2 => View.ld zeroMat (Rect.unit ![2, 0, 0] ![1, 256, 512] inb_S4x256x512_S1x256x512_2_0_0)
  | 3 => View.ld zeroMat (Rect.unit ![3, 0, 0] ![1, 256, 512] inb_S4x256x512_S1x256x512_3_0_0)

/-! ## Where a head's tile stands -/

theorem tile_mat {f : Fin 4 → Vec Ideal S1x256x512 .f32} {p : Vec Ideal S1x256x512 .f32} (h : Fin 4) {x : S4x256x512.Idx} {y : S1x256x512.Idx}
    (h0 : (x 0).val = h.val + (y 0).val) (h1 : (x 1).val = (y 1).val) (h2 : (x 2).val = (y 2).val) (e : p = f h) :
    p y = f (x 0) (ix3 0 (x 1) (x 2)) := by
  have y0 : (y 0).val < 1 := (y 0).isLt
  have a : x 0 = h := Fin.ext (by omega)
  rw [a, e]
  congr 1
  funext i
  fin_cases i
  · exact Fin.ext (by show (y 0).val = 0; omega)
  · exact Fin.ext h1.symm
  · exact Fin.ext h2.symm

theorem tile_out {f : Fin 4 → Vec Ideal S256x512 .bf16} {p : Vec Ideal S256x512 .bf16} (h : Fin 4) {k : Fin 4} {l : Fin 512} {x : S256x2048.Idx} {y : S256x512.Idx}
    (h0 : (x 0).val = (y 0).val) (h1 : (x 1).val = 512 * h.val + (y 1).val) (hx : (x 1).val = 512 * k.val + l.val) (e : p = f h) :
    p y = f k (ix2 (x 0) l) := by
  have y1 : (y 1).val < 512 := (y 1).isLt
  have a : k = h := Fin.ext (by omega)
  subst a
  rw [e]
  congr 1
  funext i
  fin_cases i
  · exact Fin.ext h0.symm
  · exact Fin.ext (by show (y 1).val = l.val; omega)

section
variable {κ : Kind} {sp : Space}

theorem canon_cons_mat (o : ℕ) (inb : ∀ a, (![o, 0, 0] : Fin 3 → ℕ) a + (![1, 256, 512] : Fin 3 → ℕ) a ≤ S4x256x512.size a) (w : Vec Ideal S1x256x512 .f32)
    (L : List (View.Piece (Elt Ideal) S4x256x512 .f32)) (h : Fin 4) (d : Fin 256) (e : Fin 512) :
    View.canon (Val := Elt Ideal) (⟨Rect.unit ![o, 0, 0] ![1, 256, 512] inb, w⟩ :: L) (ix3 h d e)
      = if h.val = o then w (ix3 0 d e) else View.canon (Val := Elt Ideal) L (ix3 h d e) := by
  split
  · next c =>
    rw [← Rect.emb_eq_of_coords (Rect.unit ![o, 0, 0] ![1, 256, 512] inb) (ix3 0 d e) (ix3 h d e) (by intro a; fin_cases a <;> simp [Rect.unit, c])]
    exact View.canon_cons_emb _ _ _ _
  · next c => exact View.canon_cons_of_not_mem _ _ (Rect.not_mem_set_of_axis _ _ 0 o 1 rfl rfl rfl (by show h.val < o ∨ o + 1 ≤ h.val; omega))

theorem read_cons_row (v : View sig κ sp S4x8x256 .f32) (g : v.ty.Contents (Elt Ideal)) (o p : ℕ)
    (inb : ∀ a, (![o, p, 0] : Fin 3 → ℕ) a + (![1, 1, 256] : Fin 3 → ℕ) a ≤ S4x8x256.size a) (w : Vec Ideal S1x1x256 .f32)
    (L : List (View.Piece (Elt Ideal) S4x8x256 .f32)) (h : Fin 4) (i : Fin 8) (d : Fin 256) :
    v.read (Elt Ideal) (v.writes (Elt Ideal) g (⟨Rect.unit ![o, p, 0] ![1, 1, 256] inb, w⟩ :: L)) (ix3 h i d)
      = if h.val = o ∧ i.val = p then w (ix3 0 0 d) else v.read (Elt Ideal) (v.writes (Elt Ideal) g L) (ix3 h i d) := by
  split
  · next c =>
    exact View.read_writes_cons_hit_of_coords v g (Rect.unit ![o, p, 0] ![1, 1, 256] inb) w L (ix3 0 0 d) (ix3 h i d)
      (by intro a; fin_cases a <;> simp [Rect.unit, c.1, c.2])
  · next c =>
    by_cases ho : h.val = o
    · exact View.read_writes_cons_miss_of_axis v g _ _ _ 1 p 1 rfl rfl rfl (by show i.val < p ∨ p + 1 ≤ i.val; omega)
    · exact View.read_writes_cons_miss_of_axis v g _ _ _ 0 o 1 rfl rfl rfl (by show h.val < o ∨ o + 1 ≤ h.val; omega)

/-- The matrices of the four heads, stored one by one over any earlier stores. -/
theorem stored_mat (f : Fin 4 → Vec Ideal S1x256x512 .f32) (w3 w2 w1 w0 : Vec Ideal S1x256x512 .f32) (L : List (View.Piece (Elt Ideal) S4x256x512 .f32))
    (e3 : w3 = f 3) (e2 : w2 = f 2) (e1 : w1 = f 1) (e0 : w0 = f 0) (h : Fin 4) (d : Fin 256) (e : Fin 512) :
    View.canon (Val := Elt Ideal) (⟨Rect.unit ![3, 0, 0] ![1, 256, 512] inb_S4x256x512_S1x256x512_3_0_0, w3⟩ ::
      ⟨Rect.unit ![2, 0, 0] ![1, 256, 512] inb_S4x256x512_S1x256x512_2_0_0, w2⟩ ::
      ⟨Rect.unit ![1, 0, 0] ![1, 256, 512] inb_S4x256x512_S1x256x512_1_0_0, w1⟩ ::
      ⟨Rect.unit ![0, 0, 0] ![1, 256, 512] inb_S4x256x512_S1x256x512_0_0_0, w0⟩ :: L) (ix3 h d e) = f h (ix3 0 d e) := by
  subst e3 e2 e1 e0
  rw [canon_cons_mat, canon_cons_mat, canon_cons_mat, canon_cons_mat]
  fin_cases h <;> rfl

/-- The rows of the four heads' vectors and maxima, stored one by one over any earlier stores. -/
theorem stored_rows (v : View sig κ sp S4x8x256 .f32) (g : v.ty.Contents (Elt Ideal)) (f t : Fin 4 → Vec Ideal S1x1x256 .f32)
    (u3 w3 u2 w2 u1 w1 u0 w0 : Vec Ideal S1x1x256 .f32) (L : List (View.Piece (Elt Ideal) S4x8x256 .f32))
    (a3 : u3 = t 3) (e3 : w3 = f 3) (a2 : u2 = t 2) (e2 : w2 = f 2) (a1 : u1 = t 1) (e1 : w1 = f 1) (a0 : u0 = t 0) (e0 : w0 = f 0)
    (h : Fin 4) (d : Fin 256) :
    let r := v.read (Elt Ideal) (v.writes (Elt Ideal) g (⟨Rect.unit ![3, 1, 0] ![1, 1, 256] inb_S4x8x256_S1x1x256_3_1_0, u3⟩ ::
      ⟨Rect.unit ![3, 0, 0] ![1, 1, 256] inb_S4x8x256_S1x1x256_3_0_0, w3⟩ ::
      ⟨Rect.unit ![2, 1, 0] ![1, 1, 256] inb_S4x8x256_S1x1x256_2_1_0, u2⟩ ::
      ⟨Rect.unit ![2, 0, 0] ![1, 1, 256] inb_S4x8x256_S1x1x256_2_0_0, w2⟩ ::
      ⟨Rect.unit ![1, 1, 0] ![1, 1, 256] inb_S4x8x256_S1x1x256_1_1_0, u1⟩ ::
      ⟨Rect.unit ![1, 0, 0] ![1, 1, 256] inb_S4x8x256_S1x1x256_1_0_0, w1⟩ ::
      ⟨Rect.unit ![0, 1, 0] ![1, 1, 256] inb_S4x8x256_S1x1x256_0_1_0, u0⟩ ::
      ⟨Rect.unit ![0, 0, 0] ![1, 1, 256] inb_S4x8x256_S1x1x256_0_0_0, w0⟩ :: L))
    r (ix3 h 0 d) = f h (ix3 0 0 d) ∧ r (ix3 h 1 d) = t h (ix3 0 0 d) := by
  subst e3 e2 e1 e0 a3 a2 a1 a0
  constructor
  all_goals
    simp only [read_cons_row]
    fin_cases h <;> rfl

/-- The four heads' tiles side by side. -/
def sideBySide (f : Fin 4 → Vec Ideal S256x512 .bf16) : Vec Ideal S256x2048 .bf16 := fun x =>
  f ⟨(x 1).val / 512, by have h : (x 1).val < 2048 := (x 1).isLt; omega⟩ (ix2 (x 0) ⟨(x 1).val % 512, by omega⟩)

theorem stored_out (f : Fin 4 → Vec Ideal S256x512 .bf16) (w3 w2 w1 w0 : Vec Ideal S256x512 .bf16)
    (e3 : w3 = f 3) (e2 : w2 = f 2) (e1 : w1 = f 1) (e0 : w0 = f 0) :
    View.canon (Val := Elt Ideal) (e := .bf16) [⟨Rect.unit ![0, 1536] ![256, 512] inb_S256x2048_S256x512_0_1536, w3⟩,
      ⟨Rect.unit ![0, 1024] ![256, 512] inb_S256x2048_S256x512_0_1024, w2⟩,
      ⟨Rect.unit ![0, 512] ![256, 512] inb_S256x2048_S256x512_0_512, w1⟩,
      ⟨Rect.unit ![0, 0] ![256, 512] inb_S256x2048_S256x512_0_0, w0⟩] = sideBySide f := by
  funext x
  have hx : (x 1).val = 512 * ((x 1).val / 512) + (x 1).val % 512 := by omega
  unfold sideBySide
  canon_tiles x g
  · exact tile_out 3 g0 g1 hx e3
  · exact tile_out 2 g0 g1 hx e2
  · exact tile_out 1 g0 g1 hx e1
  · exact tile_out 0 g0 (by simpa using g1) hx e0

/-- Read back whole, the four tiles are the same array. -/
theorem loaded_out (v : View sig κ sp S256x2048 .bf16) (f : Fin 4 → Vec Ideal S256x512 .bf16) (w3 w2 w1 w0 : Vec Ideal S256x512 .bf16)
    (e3 : w3 = f 3) (e2 : w2 = f 2) (e1 : w1 = f 1) (e0 : w0 = f 0) :
    v.readCov (Val := Elt Ideal) [⟨Rect.unit ![0, 1536] ![256, 512] inb_S256x2048_S256x512_0_1536, w3⟩,
      ⟨Rect.unit ![0, 1024] ![256, 512] inb_S256x2048_S256x512_0_1024, w2⟩,
      ⟨Rect.unit ![0, 512] ![256, 512] inb_S256x2048_S256x512_0_512, w1⟩,
      ⟨Rect.unit ![0, 0] ![256, 512] inb_S256x2048_S256x512_0_0, w0⟩] (Rect.unit ![0, 0] ![256, 2048] inb_S256x2048_S256x2048_0_0).toLoadRect = sideBySide f := by
  rw [View.readCov_eq_canon', stored_out f w3 w2 w1 w0 e3 e2 e1 e0]
  funext j
  refine congrArg (sideBySide f) (Rect.emb_eq_of_coords (Rect.unit ![0, 0] ![256, 2048] inb_S256x2048_S256x2048_0_0) j j ?_)
  intro a
  fin_cases a <;> simp [Rect.unit]

end

/-- What a point leaves behind, the heads having read `A`. -/
structure After (c : Dev nD) (t : Fin cfg0.N) (A : Fin 4 → HeadIn) : Prop where
  mat : ∀ (h : Fin 4) (d : Fin 256) (e : Fin 512), (outsAt0 m c t.val t.isLt).2.2.2.2.2.1 (ix3 h d e) = (A h).matNew (ix3 0 d e)
  row : ∀ (h : Fin 4) (d : Fin 256), (outsAt0 m c t.val t.isLt).2.2.2.2.2.2 (ix3 h 0 d) = (A h).vecNew (ix3 0 0 d)
    ∧ (outsAt0 m c t.val t.isLt).2.2.2.2.2.2 (ix3 h 1 d) = (A h).topNew (ix3 0 0 d)
  raw : ∀ x, (outsAt0 m c t.val t.isLt).2.2.1 x = sideBySide (fun h => (A h).hRaw) x
  out : ∀ x, (outsAt0 m c t.val t.isLt).1 x = sideBySide (fun h => (A h).yOut (gIn m c t h) (oIn m c t h) (zIn m c t h)) x
  prod : ∀ x, (outsAt0 m c t.val t.isLt).2.1 x
    = k0_pay168 (sideBySide fun h => (A h).yOut (gIn m c t h) (oIn m c t h) (zIn m c t h)) (iblk m c 8 t) x

theorem after_first (c : Dev nD) (t : Fin cfg0.N) (h0 : t.val % 64 = 0) : After m c t (inp m c t init) := by
  constructor
  all_goals rw [outsAt0_A m c t h0]
  all_goals intros
  all_goals frame_open
  all_goals simp (disch := decide) only [↓ View.readCov_skip, ↓ View.readCov_cons_toLoadRect, ↓ View.readCov_fill]
  all_goals frame_out
  · refine stored_mat (fun h => (inp m c t init h).matNew) _ _ _ _ _ ?_ ?_ ?_ ?_ _ _ _ <;> sl_kernel_rfl
  · simp only [← View.read_writes_junk_eq_canon (View.whole cc0_scratch1)]
    refine stored_rows _ _ (fun h => (inp m c t init h).vecNew) (fun h => (inp m c t init h).topNew) _ _ _ _ _ _ _ _ _ ?_ ?_ ?_ ?_ ?_ ?_ ?_ ?_ _ _ <;> sl_kernel_rfl
  · refine congrFun (stored_out (fun h => (inp m c t init h).hRaw) _ _ _ _ ?_ ?_ ?_ ?_) _ <;> sl_kernel_rfl
  · refine congrFun (stored_out (fun h => (inp m c t init h).yOut (gIn m c t h) (oIn m c t h) (zIn m c t h)) _ _ _ _ ?_ ?_ ?_ ?_) _ <;> sl_kernel_rfl
  · refine congrFun (congrArg (fun z => k0_pay168 z _) (loaded_out _ (fun h => (inp m c t init h).yOut (gIn m c t h) (oIn m c t h) (zIn m c t h)) _ _ _ _ ?_ ?_ ?_ ?_)) _ <;> sl_kernel_rfl

theorem after_next (c : Dev nD) (t : Fin cfg0.N) (h0 : ¬t.val % 64 = 0) (ht : t.val - 1 < cfg0.N) :
    After m c t (inp m c t (prev (outsAt0 m c (t.val - 1) ht).2.2.2.2.2.1 (outsAt0 m c (t.val - 1) ht).2.2.2.2.2.2)) := by
  constructor
  all_goals rw [outsAt0_B m c t h0]
  all_goals intros
  all_goals frame_out
  all_goals simp only [read_unread_whole]
  all_goals generalize (outsAt0 m c (t.val - 1) _).2.2.2.2.2.1 = s0
  all_goals generalize (outsAt0 m c (t.val - 1) _).2.2.2.2.2.2 = s1
  · refine stored_mat (fun h => (inp m c t (prev s0 s1) h).matNew) _ _ _ _ _ ?_ ?_ ?_ ?_ _ _ _ <;> sl_kernel_rfl
  · refine stored_rows _ _ (fun h => (inp m c t (prev s0 s1) h).vecNew) (fun h => (inp m c t (prev s0 s1) h).topNew) _ _ _ _ _ _ _ _ _ ?_ ?_ ?_ ?_ ?_ ?_ ?_ ?_ _ _
      <;> sl_kernel_rfl
  · refine congrFun (stored_out (fun h => (inp m c t (prev s0 s1) h).hRaw) _ _ _ _ ?_ ?_ ?_ ?_) _ <;> sl_kernel_rfl
  · refine congrFun (stored_out (fun h => (inp m c t (prev s0 s1) h).yOut (gIn m c t h) (oIn m c t h) (zIn m c t h)) _ _ _ _ ?_ ?_ ?_ ?_) _ <;> sl_kernel_rfl
  · refine congrFun (congrArg (fun z => k0_pay168 z _) (loaded_out _ (fun h => (inp m c t (prev s0 s1) h).yOut (gIn m c t h) (oIn m c t h) (zIn m c t h)) _ _ _ _
      ?_ ?_ ?_ ?_)) _ <;> sl_kernel_rfl

end Cert.Kernel2Ideal.Mlstm

end
-- ==== Proof.Mlstm.Spec.lean ====
/- The mLSTM branch of the block, written over positions and heads. -/
module

public import Idealize.ShloMosaic.PureOps
public import Idealize.ShloMosaic.Lib.Pipeline.ValueKit
public import proofs.«01_k».proof.Proof.Mlstm.Math
public import proofs.«01_k».proof.Proof.Mlstm.Words

@[expose] public section

noncomputable section

namespace Mlstm

open Idealize.ShloMosaic

/-- The branch's arguments: the columns of the projection that the gates and the heads read, and the weights. -/
structure Data where
  q : Fin 16384 → Fin 1024 → EReal
  k : Fin 16384 → Fin 1024 → EReal
  v : Fin 16384 → Fin 2048 → EReal
  o : Fin 16384 → Fin 2048 → EReal
  z : Fin 16384 → Fin 2048 → EReal
  gate : Fin 16384 → Fin 8 → EReal
  bias : Fin 8 → EReal
  norm : Fin 2048 → EReal
  w : Fin 2048 → Fin 1024 → EReal

namespace Data

variable (D : Data)

/-- What the recurrence reads is real. -/
structure Real : Prop where
  q : ∀ p j, ∃ r : ℝ, D.q p j = r
  k : ∀ p j, ∃ r : ℝ, D.k p j = r
  v : ∀ p j, ∃ r : ℝ, D.v p j = r
  gate : ∀ p j, ∃ r : ℝ, D.gate p j = r
  bias : ∀ j, ∃ r : ℝ, D.bias j = r

/-- A position. -/
def pos (p : ℕ) : Fin 16384 := ⟨p % 16384, by omega⟩

/-- The gates, queries, keys and values of head `h` at a position, as real numbers. -/
def li (h : Fin 4) (p : ℕ) : ℝ := (D.gate (pos p) ⟨h.val, by omega⟩ + D.bias ⟨h.val, by omega⟩).toReal
def f (h : Fin 4) (p : ℕ) : ℝ := (D.gate (pos p) ⟨4 + h.val, by omega⟩ + D.bias ⟨4 + h.val, by omega⟩).toReal
def qr (h : Fin 4) (p : ℕ) (d : Fin 256) : ℝ := (D.q (pos p) ⟨256 * h.val + d.val, by omega⟩).toReal
def kr (h : Fin 4) (p : ℕ) (d : Fin 256) : ℝ := (D.k (pos p) ⟨256 * h.val + d.val, by omega⟩).toReal
def vr (h : Fin 4) (p : ℕ) (e : Fin 512) : ℝ := (D.v (pos p) ⟨512 * h.val + e.val, by omega⟩).toReal

theorem pos_val (p : Fin 16384) : pos p.val = p := Fin.ext (Nat.mod_eq_of_lt p.isLt)

section
variable {D} (R : D.Real)
include R

theorem li_coe (h : Fin 4) (p : Fin 16384) : D.gate p ⟨h.val, by omega⟩ + D.bias ⟨h.val, by omega⟩ = ((D.li h p.val : ℝ) : EReal) := by
  obtain ⟨a, ha⟩ := R.gate p ⟨h.val, by omega⟩
  obtain ⟨b, hb⟩ := R.bias ⟨h.val, by omega⟩
  rw [li, pos_val, ha, hb, ← EReal.coe_add, EReal.toReal_coe]

theorem f_coe (h : Fin 4) (p : Fin 16384) : D.gate p ⟨4 + h.val, by omega⟩ + D.bias ⟨4 + h.val, by omega⟩ = ((D.f h p.val : ℝ) : EReal) := by
  obtain ⟨a, ha⟩ := R.gate p ⟨4 + h.val, by omega⟩
  obtain ⟨b, hb⟩ := R.bias ⟨4 + h.val, by omega⟩
  rw [f, pos_val, ha, hb, ← EReal.coe_add, EReal.toReal_coe]

theorem q_coe (h : Fin 4) (p : Fin 16384) (d : Fin 256) : D.q p ⟨256 * h.val + d.val, by omega⟩ = ((D.qr h p.val d : ℝ) : EReal) := by
  obtain ⟨a, ha⟩ := R.q p ⟨256 * h.val + d.val, by omega⟩
  rw [qr, pos_val, ha, EReal.toReal_coe]

theorem k_coe (h : Fin 4) (p : Fin 16384) (d : Fin 256) : D.k p ⟨256 * h.val + d.val, by omega⟩ = ((D.kr h p.val d : ℝ) : EReal) := by
  obtain ⟨a, ha⟩ := R.k p ⟨256 * h.val + d.val, by omega⟩
  rw [kr, pos_val, ha, EReal.toReal_coe]

theorem v_coe (h : Fin 4) (p : Fin 16384) (e : Fin 512) : D.v p ⟨512 * h.val + e.val, by omega⟩ = ((D.vr h p.val e : ℝ) : EReal) := by
  obtain ⟨a, ha⟩ := R.v p ⟨512 * h.val + e.val, by omega⟩
  rw [vr, pos_val, ha, EReal.toReal_coe]

end

/-- Head `h`'s output at a position. -/
def head (h : Fin 4) (p : ℕ) (e : Fin 512) : EReal :=
  ((hid (D.li h) (lsigs (D.f h)) (D.qr h) (D.kr h) (D.vr h) p e : ℝ) : EReal)

/-- The column of head `h`'s element `e`. -/
def col (h : Fin 4) (e : Fin 512) : Fin 2048 := ⟨512 * h.val + e.val, by omega⟩

/-- A head's output after its norm and its two gates. -/
def gated (H : Fin 512 → EReal) (g o z : EReal) (e : Fin 512) : EReal :=
  Ideal.logistic o * (H e * Ideal.rsqrt (Ideal.div (∑ x, H x * H x) (Ideal.ofBits .f32 0x44000000#32) + Ideal.ofBits .f32 0x358637BD#32) * g)
    * (z * Ideal.logistic z)

def headOf (j : Fin 2048) : Fin 4 := ⟨j.val / 512, by omega⟩
def laneOf (j : Fin 2048) : Fin 512 := ⟨j.val % 512, by omega⟩

/-- The heads' outputs. -/
def raw (p : Fin 16384) (j : Fin 2048) : EReal := D.head (headOf j) p.val (laneOf j)
/-- The branch before its output product. -/
def out (p : Fin 16384) (j : Fin 2048) : EReal :=
  gated (fun e => D.head (headOf j) p.val e) (D.norm j) (D.o p j) (D.z p j) (laneOf j)
/-- The branch. -/
def prod (p : Fin 16384) (d : Fin 1024) : EReal := ∑ j, D.out p j * D.w j d

end Data

end Mlstm

end
-- ==== Proof.Mlstm.State.lean ====
/- The forward kernel's results: the recurrence's closed form at every grid point. -/
module

public import proofs.«01_k».proof.Proof.Mlstm.Rows
public import proofs.«01_k».proof.Proof.Mlstm.Blocks
public import proofs.«01_k».proof.Proof.Mlstm.Point
public import proofs.«01_k».proof.Proof.Mlstm.Spec
public import proofs.«01_k».proof.Proof.Conv.Spec

@[expose] public section

set_option maxRecDepth 16384

noncomputable section

namespace Cert.Kernel2Ideal.Mlstm

open Cert.Kernel2Ideal Cert.Kernel2Ideal.Gen Idealize.ShloMosaic Idealize.ShloMosaic.TcCoe Idealize.SL.Sem
open _root_.Mlstm

variable (m : (ℓ : Loc nD τ sig) → Buf (Elt Ideal) ℓ) (c : Dev nD)

/-- The branch's arguments on a device. -/
def data : _root_.Mlstm.Data where
  q p j := PROJ m c (ix3 0 p (⟨4096 + j.val, by omega⟩ : Fin 14344))
  k p j := PROJ m c (ix3 0 p (⟨4096 + (1024 + j.val), by omega⟩ : Fin 14344))
  v p j := PROJ m c (ix3 0 p (⟨4096 + (2048 + j.val), by omega⟩ : Fin 14344))
  o p j := PROJ m c (ix3 0 p (⟨4096 + (4096 + j.val), by omega⟩ : Fin 14344))
  z p j := PROJ m c (ix3 0 p (⟨4096 + (6144 + j.val), by omega⟩ : Fin 14344))
  gate p j := PROJ m c (ix3 0 p (⟨12288 + j.val, by omega⟩ : Fin 14344))
  bias j := GATE m c (ix2 0 j)
  norm j := NORM m c (ix2 0 j)
  w i j := OUTW m c (ix3 0 i j)

/-- What the sums carried into boundary `p` are. -/
structure Holds (D : _root_.Mlstm.Data) (p : ℕ) (s : Carried) : Prop where
  n : ∀ h (d : Fin 256), s.n h (ix3 0 0 d) = ((vecN (D.li h) (lsigs (D.f h)) (D.kr h) p d : ℝ) : EReal)
  m : ∀ h, s.m h (ix3 0 0 0) = run (D.li h) (lsigs (D.f h)) p
  mat : ∀ h (d : Fin 256) (e : Fin 512), s.mat h (ix3 0 d e) = ((matC (D.li h) (lsigs (D.f h)) (D.kr h) (D.vr h) p d e : ℝ) : EReal)

/-! ## A head's fields -/

section
variable (t : Fin cfg0.N) (s : Carried) (h : Fin 4)

theorem inp_wi : (inp m c t s h).wi = BitVec.ofNat 32 (120 + h.val) := by
  fin_cases h <;> rfl

theorem inp_wf : (inp m c t s h).wf = BitVec.ofNat 32 (120 + (4 + h.val)) := by
  fin_cases h <;> rfl

theorem inp_gates : (inp m c t s h).gates = iblk m c 5 t := by
  match h with | 0 => rfl | 1 => rfl | 2 => rfl | 3 => rfl

theorem inp_bias : (inp m c t s h).bias = iblk m c 6 t := by
  match h with | 0 => rfl | 1 => rfl | 2 => rfl | 3 => rfl

theorem inp_n : (inp m c t s h).n = s.n h := by
  match h with | 0 => rfl | 1 => rfl | 2 => rfl | 3 => rfl

theorem inp_m : (inp m c t s h).m = s.m h := by
  match h with | 0 => rfl | 1 => rfl | 2 => rfl | 3 => rfl

theorem inp_mat : (inp m c t s h).mat = s.mat h := by
  match h with | 0 => rfl | 1 => rfl | 2 => rfl | 3 => rfl

theorem inp_q (r d : Fin 256) : (inp m c t s h).q (ix2 r d) = iblk m c 0 t (ix2 r (⟨256 * h.val + d.val, by omega⟩ : Fin 1024)) := by
  match h with | 0 | 1 | 2 | 3 => pointwise [inp] <;> simp

theorem inp_k (r d : Fin 256) : (inp m c t s h).k (ix2 r d) = iblk m c 1 t (ix2 r (⟨256 * h.val + d.val, by omega⟩ : Fin 1024)) := by
  match h with | 0 | 1 | 2 | 3 => pointwise [inp] <;> simp

theorem inp_v (r : Fin 256) (e : Fin 512) : (inp m c t s h).v (ix2 r e) = iblk m c 2 t (ix2 r (⟨512 * h.val + e.val, by omega⟩ : Fin 2048)) := by
  match h with | 0 | 1 | 2 | 3 => pointwise [inp] <;> simp

theorem gIn_at (e : Fin 512) : gIn m c t h (ix2 0 e) = (data m c).norm (Data.col h e) := by
  refine Eq.trans ?_ (blk7 m c t (Data.col h e))
  match h with | 0 | 1 | 2 | 3 => pointwise [gIn, Data.col] <;> simp

theorem oIn_at (r : Fin 256) (e : Fin 512) (p : Fin 16384) (hp : p.val = t.val * 256 + r.val) : oIn m c t h (ix2 r e) = (data m c).o p (Data.col h e) := by
  refine Eq.trans ?_ (blk3 m c t r (Data.col h e) p hp)
  match h with | 0 | 1 | 2 | 3 => pointwise [oIn, Data.col] <;> simp

theorem zIn_at (r : Fin 256) (e : Fin 512) (p : Fin 16384) (hp : p.val = t.val * 256 + r.val) : zIn m c t h (ix2 r e) = (data m c).z p (Data.col h e) := by
  refine Eq.trans ?_ (blk4 m c t r (Data.col h e) p hp)
  match h with | 0 | 1 | 2 | 3 => pointwise [zIn, Data.col] <;> simp

end

variable {m c} in
/-- Over such sums every head reads what the element lemmas ask for. -/
theorem reads (R : (data m c).Real) (t : Fin cfg0.N) (s : Carried) (S : Holds (data m c) (256 * t.val) s) (h : Fin 4) :
    Reads (inp m c t s h) (256 * t.val) ((data m c).li h) ((data m c).f h) ((data m c).qr h) ((data m c).kr h) ((data m c).vr h) := by
  have ht := (idx t).1
  have P (r : Fin 256) : 256 * t.val + r.val < 16384 := by omega
  have T (r : Fin 256) : 256 * t.val + r.val = t.val * 256 + r.val := by omega
  refine ⟨⟨⟨120 + h.val, by omega⟩, inp_wi m c t s h, fun r => ?_⟩, ⟨⟨120 + (4 + h.val), by omega⟩, inp_wf m c t s h, fun r => ?_⟩,
    fun r d => ?_, fun r d => ?_, fun r e => ?_, fun d => ?_, ?_, fun d e => ?_⟩
  · rw [inp_gates, inp_bias, ← Data.li_coe R h ⟨_, P r⟩]
    exact congrArg₂ (fun x y : EReal => x + y) (blk5 m c t r ⟨h.val, by omega⟩ ⟨_, P r⟩ (T r)) (blk6 m c t ⟨h.val, by omega⟩)
  · rw [inp_gates, inp_bias, ← Data.f_coe R h ⟨_, P r⟩]
    exact congrArg₂ (fun x y : EReal => x + y) (blk5 m c t r ⟨4 + h.val, by omega⟩ ⟨_, P r⟩ (T r)) (blk6 m c t ⟨4 + h.val, by omega⟩)
  · exact (inp_q m c t s h r d).trans ((blk0 m c t r ⟨256 * h.val + d.val, by omega⟩ ⟨_, P r⟩ (T r)).trans (Data.q_coe R h ⟨_, P r⟩ d))
  · exact (inp_k m c t s h r d).trans ((blk1 m c t r ⟨256 * h.val + d.val, by omega⟩ ⟨_, P r⟩ (T r)).trans (Data.k_coe R h ⟨_, P r⟩ d))
  · exact (inp_v m c t s h r e).trans ((blk2 m c t r ⟨512 * h.val + e.val, by omega⟩ ⟨_, P r⟩ (T r)).trans (Data.v_coe R h ⟨_, P r⟩ e))
  · rw [inp_n]; exact S.n h d
  · rw [inp_m]; exact S.m h
  · rw [inp_mat]; exact S.mat h d e

/-! ## Every point -/

theorem readCov_row (o : ℕ) (ho : o < 4) (inb : ∀ a, (![o, 1, 0] : Fin 3 → ℕ) a + (![1, 1, 1] : Fin 3 → ℕ) a ≤ S4x8x256.size a)
    (w : Vec Ideal S4x1x256 .f32) (L : List (View.Piece (Elt Ideal) S4x8x256 .f32)) (x : (Rect.unit (s := S4x8x256) ![o, 1, 0] ![1, 1, 1] inb).shape.Idx) :
    (View.whole cc0_scratch1).readCov (Val := Elt Ideal) (⟨Rect.unit ![0, 1, 0] ![4, 1, 256] inb_S4x8x256_S4x1x256_0_1_0, w⟩ :: L)
      (Rect.unit (s := S4x8x256) ![o, 1, 0] ![1, 1, 1] inb).toLoadRect x = w (ix3 ⟨o, ho⟩ 0 0) := by
  have x0 : (x 0).val < 1 := (x 0).isLt
  have x1 : (x 1).val < 1 := (x 1).isLt
  have x2 : (x 2).val < 1 := (x 2).isLt
  have e : (Rect.unit ![0, 1, 0] ![4, 1, 256] inb_S4x8x256_S4x1x256_0_1_0).emb (ix3 (⟨o, ho⟩ : Fin 4) (0 : Fin 1) (0 : Fin 256))
      = (Rect.unit (s := S4x8x256) ![o, 1, 0] ![1, 1, 1] inb).toLoadRect.idx x := by
    funext a
    refine Fin.ext ?_
    fin_cases a
    · show 0 + 1 * o = o + 1 * (x 0).val; omega
    · show 1 + 1 * 0 = 1 + 1 * (x 1).val; omega
    · show 0 + 1 * 0 = 0 + 1 * (x 2).val; omega
  rw [View.readCov_eq_canon']
  show View.canon (Val := Elt Ideal) _ ((Rect.unit (s := S4x8x256) ![o, 1, 0] ![1, 1, 1] inb).toLoadRect.idx x) = _
  rw [← e]
  exact View.canon_cons_emb (Val := Elt Ideal) _ _ _ _

theorem pay3_at (x : S4x1x256.Idx) : k0_pay3 (F := Ideal) x = (⊥ : EReal) := mask_eq

theorem holds_init (D : _root_.Mlstm.Data) : Holds D 0 init where
  n h d := by
    rw [vecN, mem_zero]
    match h with | 0 | 1 | 2 | 3 => pointwise [init, k0_pay2] <;> simp
  m h := by
    rw [run_zero]
    match h with
    | 0 =>
      simp only [init]
      exact (readCov_row 0 (by decide) _ _ _ _).trans (pay3_at _)
    | 1 =>
      simp only [init]
      exact (readCov_row 1 (by decide) _ _ _ _).trans (pay3_at _)
    | 2 =>
      simp only [init]
      exact (readCov_row 2 (by decide) _ _ _ _).trans (pay3_at _)
    | 3 =>
      simp only [init]
      exact (readCov_row 3 (by decide) _ _ _ _).trans (pay3_at _)
  mat h d e := by
    rw [matC, mem_zero]
    match h with | 0 | 1 | 2 | 3 => pointwise [init, k0_pay1] <;> simp

/-- What a point carries in is the closed form at the boundary before it. -/
theorem holds_prev {A : Fin 4 → HeadIn} (t u : Fin cfg0.N) (hu : u.val = t.val + 1) (B : After m c t A)
    (R : ∀ h, Reads (A h) (256 * t.val) ((data m c).li h) ((data m c).f h) ((data m c).qr h) ((data m c).kr h) ((data m c).vr h)) :
    Holds (data m c) (256 * u.val) (prev (outsAt0 m c t.val t.isLt).2.2.2.2.2.1 (outsAt0 m c t.val t.isLt).2.2.2.2.2.2) := by
  have e : 256 * u.val = 256 * t.val + 256 := by omega
  rw [e]
  refine ⟨fun h d => ?_, fun h => ?_, fun h d e => ?_⟩
  · rw [← vecNew_at (R h) d, ← (B.row h d).1]
    match h with | 0 | 1 | 2 | 3 => pointwise [prev]
  · rw [← topNew_at (R h) 0, ← (B.row h 0).2]
    match h with | 0 | 1 | 2 | 3 => pointwise [prev]
  · rw [← matNew_at (R h) d e, ← B.mat h d e]
    match h with | 0 | 1 | 2 | 3 => pointwise [prev]

/-- At every point the heads read the closed form, and leave what they computed. -/
theorem point (R : (data m c).Real) : ∀ (n : ℕ) (hn : n < cfg0.N), ∃ A, After m c ⟨n, hn⟩ A ∧
    ∀ h, Reads (A h) (256 * n) ((data m c).li h) ((data m c).f h) ((data m c).qr h) ((data m c).kr h) ((data m c).vr h)
  | 0, hn => ⟨_, after_first m c ⟨0, hn⟩ rfl, fun h => reads R ⟨0, hn⟩ init (holds_init _) h⟩
  | n + 1, hn => by
    obtain ⟨A, B, S⟩ := point R n (by omega)
    have hlt := (idx ⟨n + 1, hn⟩).1
    refine ⟨_, after_next m c ⟨n + 1, hn⟩ (by show ¬(n + 1) % 64 = 0; change n + 1 < 64 at hlt; omega) (by show n < _; omega), fun h => ?_⟩
    exact reads R ⟨n + 1, hn⟩ _ (holds_prev m c ⟨n, by omega⟩ ⟨n + 1, hn⟩ rfl B S) h

end Cert.Kernel2Ideal.Mlstm

end
-- ==== Proof.Mlstm.Tiles.lean ====
/- The forward kernel's result arrays: the branch over positions and heads. -/
module

public import proofs.«01_k».proof.Proof.Mlstm.State

@[expose] public section

set_option maxRecDepth 16384

noncomputable section

namespace Cert.Kernel2Ideal.Mlstm

open Cert.Kernel2Ideal Cert.Kernel2Ideal.Gen Idealize.ShloMosaic Idealize.ShloMosaic.TcCoe Idealize.SL.Sem
open _root_.Mlstm

theorem hRaw_at (A : HeadIn) (r : Fin 256) (e : Fin 512) : A.hRaw (ix2 r e) = A.hOut (ix2 r e) := by
  pointwise [HeadIn.hRaw, k0_pay42]

theorem yOut_at (A : HeadIn) (g : Vec Ideal S1x512 .f32) (o z : Vec Ideal S256x512 .bf16) (r : Fin 256) (e : Fin 512) :
    A.yOut g o z (ix2 r e) = Data.gated (fun x => A.hOut (ix2 r x)) (g (ix2 0 e)) (o (ix2 r e)) (z (ix2 r e)) e := by
  unfold Data.gated
  rw [← _root_.Conv.half_tanh, ← _root_.Conv.half_tanh, ← _root_.Conv.ofBits_half]
  pointwise [HeadIn.yOut, HeadIn.hOut, k0_pay38, k0_pay39, k0_pay40, k0_pay41]

theorem pay168_at (y : Vec Ideal S256x2048 .bf16) (w : Vec Ideal S2048x1024 .bf16) (r : Fin 256) (d : Fin 1024) :
    k0_pay168 y w (ix2 r d) = ∑ j : Fin 2048, (y (ix2 r j) : EReal) * (w (ix2 j d) : EReal) := by
  pointwise [k0_pay168]

variable (m : (ℓ : Loc nD τ sig) → Buf (Elt Ideal) ℓ) (c : Dev nD)

variable {m c} in
theorem hOut_pos {A : Fin 4 → HeadIn} {t : Fin cfg0.N}
    (S : ∀ h, Reads (A h) (256 * t.val) ((data m c).li h) ((data m c).f h) ((data m c).qr h) ((data m c).kr h) ((data m c).vr h))
    (h : Fin 4) (r : Fin 256) (e : Fin 512) (p : Fin 16384) (hp : p.val = t.val * 256 + r.val) : (A h).hOut (ix2 r e) = (data m c).head h p.val e := by
  rw [hOut_at (S h), Data.head, show 256 * t.val + r.val = p.val by omega]

variable {m c} in
theorem out_pos {A : Fin 4 → HeadIn} {t : Fin cfg0.N}
    (S : ∀ h, Reads (A h) (256 * t.val) ((data m c).li h) ((data m c).f h) ((data m c).qr h) ((data m c).kr h) ((data m c).vr h))
    (y : S256x2048.Idx) (p : Fin 16384) (hp : p.val = t.val * 256 + (y 0).val) :
    sideBySide (fun h => (A h).yOut (gIn m c t h) (oIn m c t h) (zIn m c t h)) y = (data m c).out p (y 1) := by
  idx_vars y
  show (A (Data.headOf y1)).yOut (gIn m c t (Data.headOf y1)) (oIn m c t (Data.headOf y1)) (zIn m c t (Data.headOf y1)) (ix2 y0 (Data.laneOf y1)) = _
  have e : Data.col (Data.headOf y1) (Data.laneOf y1) = y1 := Fin.ext (Nat.div_add_mod _ _)
  rw [yOut_at, gIn_at, oIn_at m c t _ _ _ p hp, zIn_at m c t _ _ _ p hp, e]
  show _ = Data.out _ _ _
  unfold Data.out
  congr 1
  funext x
  exact hOut_pos S _ _ _ p hp

variable (R : (data m c).Real)
include R

theorem raw_tile (t : Fin cfg0.N) (y : S256x2048.Idx) (p : Fin 16384) (hp : p.val = t.val * 256 + (y 0).val) :
    (outsAt0 m c t.val t.isLt).2.2.1 y = (data m c).raw p (y 1) := by
  obtain ⟨A, B, S⟩ := point m c R t.val t.isLt
  refine (B.raw y).trans ?_
  idx_vars y
  exact (hRaw_at _ _ _).trans (hOut_pos S _ _ _ p hp)

theorem out_tile (t : Fin cfg0.N) (y : S256x2048.Idx) (p : Fin 16384) (hp : p.val = t.val * 256 + (y 0).val) :
    (outsAt0 m c t.val t.isLt).1 y = (data m c).out p (y 1) := by
  obtain ⟨A, B, S⟩ := point m c R t.val t.isLt
  exact (B.out y).trans (out_pos S y p hp)

theorem prod_tile (t : Fin cfg0.N) (y : S256x1024.Idx) (p : Fin 16384) (hp : p.val = t.val * 256 + (y 0).val) :
    (outsAt0 m c t.val t.isLt).2.1 y = (data m c).prod p (y 1) := by
  obtain ⟨A, B, S⟩ := point m c R t.val t.isLt
  refine (B.prod y).trans ?_
  idx_vars y
  refine (pay168_at _ _ y0 y1).trans ?_
  refine Finset.sum_congr rfl fun j _ => congrArg₂ (fun x y : EReal => x * y) (out_pos S (ix2 y0 j) p hp) ?_
  exact blk8 m c t j y1

omit R in
/-- An entry of a block of rows, told at its own position. -/
theorem at_cell {n : Nat} (G : Fin 16384 → Fin n → EReal) (t : Fin cfg0.N) (y : (⟨2, ![256, n]⟩ : Shape).Idx) (z : EReal)
    (i : (⟨2, ![16384, n]⟩ : Shape).Idx)
    (H : ∀ p : Fin 16384, p.val = t.val * 256 + (y 0).val → z = G p (y 1))
    (e0 : (i 0).val = t.val * 256 + (y 0).val) (e1 : (i 1).val = (y 1).val) : z = G (i 0) (i 1) := by
  rw [H (i 0) e0, show i 1 = y 1 from Fin.ext e1]

/-- The branch before the output product. -/
theorem final9 : (dats m 0 c).arrAt 9 cfg0.N = fun i : S16384x2048.Idx => (data m c).out (i 0) (i 1) := by
  refine (dats m 0 c).arrAt_eq_of_covers 9 (fun i : S16384x2048.Idx => (data m c).out (i 0) (i 1)) (by decide +kernel) fun t hf y => ?_
  blk_simp
  rw [after0_9]
  exact at_cell (fun p j => (data m c).out p j) t y _ _ (fun p hp => out_tile m c R t y p hp) (by blk_simp [idx t]) (by blk_simp [idx t])

/-- The output product. -/
theorem final10 : (dats m 0 c).arrAt 10 cfg0.N = fun i : S16384x1024.Idx => (data m c).prod (i 0) (i 1) := by
  refine (dats m 0 c).arrAt_eq_of_covers 10 (fun i : S16384x1024.Idx => (data m c).prod (i 0) (i 1)) (by decide +kernel) fun t hf y => ?_
  blk_simp
  rw [after0_10]
  exact at_cell (fun p j => (data m c).prod p j) t y _ _ (fun p hp => prod_tile m c R t y p hp) (by blk_simp [idx t]) (by blk_simp [idx t])

/-- The states' readout. -/
theorem final11 : (dats m 0 c).arrAt 11 cfg0.N = fun i : S16384x2048.Idx => (data m c).raw (i 0) (i 1) := by
  refine (dats m 0 c).arrAt_eq_of_covers 11 (fun i : S16384x2048.Idx => (data m c).raw (i 0) (i 1)) (by decide +kernel) fun t hf y => ?_
  blk_simp
  rw [after0_11]
  exact at_cell (fun p j => (data m c).raw p j) t y _ _ (fun p hp => raw_tile m c R t y p hp) (by blk_simp [idx t]) (by blk_simp [idx t])

end Cert.Kernel2Ideal.Mlstm

end
-- ==== Proof.Mlstm.RefRead.lean ====
/- The reference's operations of one trip, read at an index. -/
module

public import proofs.«01_k».proof.Proof.Gen.Reference2Ideal.Run
public import proofs.«01_k».proof.Proof.Mlstm.Spec
public import Idealize.ShloMosaic.Lib.StableHlo.ReadAt

@[expose] public section

set_option maxRecDepth 16384

noncomputable section

namespace Cert.Reference2Ideal.Mlstm

open Cert.Reference2Ideal Cert.Reference2Ideal.Gen Cert.Reference2Ideal.Value Idealize.ShloMosaic Idealize.ShloMosaic.TcCoe Idealize.SL.Sem
open _root_.Mlstm

/-! ## The running sum -/

theorem foldl_sum {n : ℕ} (g : Fin n → EReal) : (List.finRange n).foldl (fun r i => r + g i) 0 = ∑ i, g i := by
  rw [← List.foldl_map (f := g) (g := fun r x => r + x), ← List.sum_eq_foldl, ← List.ofFn_eq_map, List.sum_ofFn]

/-- The window of all the positions up to a row's own. -/
theorem sum_window (l : Fin 64) (g : Fin 64 → EReal) :
    ∑ w : Fin 64, (if h : 63 ≤ l.val + w.val ∧ l.val + w.val - 63 < 64 then g ⟨l.val + w.val - 63, h.2⟩ else 0) = ∑ s : Fin 64, if s.val ≤ l.val then g s else 0 := by
  have e (w : Fin 64) : (if h : 63 ≤ l.val + w.val ∧ l.val + w.val - 63 < 64 then g ⟨l.val + w.val - 63, h.2⟩ else 0)
      = if 63 ≤ l.val + w.val then g ⟨l.val + w.val - 63, by omega⟩ else 0 := by
    by_cases h : 63 ≤ l.val + w.val
    · rw [dif_pos ⟨h, by omega⟩, if_pos h]
    · rw [dif_neg (fun h' => h h'.1), if_neg h]
  rw [Finset.sum_congr rfl fun w _ => e w, ← Finset.sum_filter, ← Finset.sum_filter]
  refine Finset.sum_bij' (fun w _ => ⟨l.val + w.val - 63, by omega⟩) (fun s _ => ⟨(s.val + 63 - l.val) % 64, by omega⟩) ?_ ?_ ?_ ?_ ?_
  · intro w hw; simp only [Finset.mem_filter, Finset.mem_univ, true_and] at hw ⊢; omega
  · intro w hw; simp only [Finset.mem_filter, Finset.mem_univ, true_and] at hw ⊢; omega
  · intro w hw; simp only [Finset.mem_filter, Finset.mem_univ, true_and] at hw; exact Fin.ext (by dsimp only; omega)
  · intro w hw; simp only [Finset.mem_filter, Finset.mem_univ, true_and] at hw; exact Fin.ext (by dsimp only; omega)
  · intro w hw; rfl

/-- The host's running sum along the last axis. -/
theorem cumsum_read (x : FVec Ideal S1x4x64 .f32) (init : FVec Ideal S_ .f32) (h0 : init (Shape.Idx.first h_S_) = (0 : EReal)) (h : Fin 4) (l : Fin 64) :
    Host.reduceWindowAdd ![1, 1, 64] ![1, 1, 1] ![0, 0, 63] ![0, 0, 0] x init reduceWindows_S1x4x64_S1x4x64_w1s1p0_0_w1s1p0_0_w64s1p63_0 h_S_ (ix3 0 h l)
      = ∑ s : Fin 64, if s.val ≤ l.val then (x (ix3 0 h s) : EReal) else 0 := by
  have unfolded : Host.reduceWindowAdd ![1, 1, 64] ![1, 1, 1] ![0, 0, 63] ![0, 0, 0] x init reduceWindows_S1x4x64_S1x4x64_w1s1p0_0_w1s1p0_0_w64s1p63_0 h_S_
    = Host.reduceWindow (fun a b : EReal => a + b) ![1, 1, 64] ![1, 1, 1] ![0, 0, 63] ![0, 0, 0] x (fun _ : S_.Idx => init (Shape.Idx.first h_S_)) reduceWindows_S1x4x64_S1x4x64_w1s1p0_0_w1s1p0_0_w64s1p63_0 h_S_ := rfl
  rw [unfolded, h0]
  unfold Host.reduceWindow
  dsimp only
  refine (foldl_sum _).trans ?_
  refine Eq.trans ?_ (sum_window l fun s => x (ix3 0 h s))
  refine Fintype.sum_equiv (((⟨3, ![1, 1, 64]⟩ : Shape).rowMajor.symm).trans
    ⟨fun w : (⟨3, ![1, 1, 64]⟩ : Shape).Idx => (w 2 : Fin 64), fun n => ix3 (0 : Fin 1) (0 : Fin 1) n, fun w => ?_, fun n => rfl⟩) _ _ fun n => ?_
  · funext a
    match a with
    | 0 => exact Subsingleton.elim (α := Fin 1) _ _
    | 1 => exact Subsingleton.elim (α := Fin 1) _ _
    | 2 => rfl
  · show _ = if h' : 63 ≤ l.val + (((⟨3, ![1, 1, 64]⟩ : Shape).rowMajor.symm n) 2).val ∧ l.val + (((⟨3, ![1, 1, 64]⟩ : Shape).rowMajor.symm n) 2).val - 63 < 64 then _ else _
    set w := (⟨3, ![1, 1, 64]⟩ : Shape).rowMajor.symm n
    have w0 : (w 0).val = 0 := Nat.lt_one_iff.mp (w 0).isLt
    have w1 : (w 1).val = 0 := Nat.lt_one_iff.mp (w 1).isLt
    by_cases g : 63 ≤ l.val + (w 2).val ∧ l.val + (w 2).val - 63 < 64
    · rw [dif_pos g, dif_pos]
      · congr 1
        funext a
        match a with
        | 0 => exact Subsingleton.elim (α := Fin 1) _ _
        | 1 => exact Fin.ext (show h.val * 1 + (w 1).val - 0 = h.val by omega)
        | 2 => exact Fin.ext (show l.val * 1 + (w 2).val - 63 = l.val + (w 2).val - 63 by omega)
      · intro a
        match a with
        | 0 => exact ⟨Nat.zero_le _, show 0 * 1 + (w 0).val - 0 < 1 by omega⟩
        | 1 => exact ⟨Nat.zero_le _, show h.val * 1 + (w 1).val - 0 < 4 by omega⟩
        | 2 => exact ⟨show 63 ≤ l.val * 1 + (w 2).val by omega, show l.val * 1 + (w 2).val - 63 < 64 by omega⟩
    · rw [dif_neg g, dif_neg]
      intro g'
      have := g' 2
      have a1 : 63 ≤ l.val * 1 + (w 2).val := this.1
      have a2 : l.val * 1 + (w 2).val - 63 < 64 := this.2
      exact g (by omega)

/-! ## Greatest along the last axis -/

theorem max_rows (X : FVec Ideal S1x4x64x64 .f32) (h : Fin 4) (l : Fin 64) :
    Host.reduce FloatOps.maximumf X (constant S_ .f32 0xFF800000#32) reducesTo_S1x4x64x64_S1x4x64_d3 h_S_ (ix3 0 h l) = (Finset.univ : Finset (Fin 64)).sup fun s => (X (ix4 0 h l s) : EReal) := by
  rw [Host.reduce_eq_fold_single _ _ _ _ (by decide)]
  refine Eq.trans ?_ (fold_max fun s : Fin 64 => (X (ix4 0 h l s) : EReal))
  refine Finset.fold_congr fun s _ => congrArg X ?_
  funext a
  match a with
  | 0 => rfl
  | 1 => rfl
  | 2 => rfl
  | 3 => rfl

theorem max_lanes (X : FVec Ideal S1x4x64 .f32) (h : Fin 4) :
    Host.reduce FloatOps.maximumf X (constant S_ .f32 0xFF800000#32) reducesTo_S1x4x64_S1x4_d2 h_S_ (ix2 0 h) = (Finset.univ : Finset (Fin 64)).sup fun s => (X (ix3 0 h s) : EReal) := by
  rw [Host.reduce_eq_fold_single _ _ _ _ (by decide)]
  refine Eq.trans ?_ (fold_max fun s : Fin 64 => (X (ix3 0 h s) : EReal))
  refine Finset.fold_congr fun s _ => congrArg X ?_
  funext a
  match a with
  | 0 => rfl
  | 1 => rfl
  | 2 => rfl

/-! ## One chunk of an array -/

theorem toInt_small {n : ℕ} (hn : n < 256) : (BitVec.ofNat 32 n).toInt = (n : ℤ) := by
  rw [BitVec.toInt_eq_toNat_of_lt] <;> simp only [BitVec.toNat_ofNat] <;> omega

theorem zero_start : (constantI S_ 32 0#32 (Shape.Idx.first h_S_)).toInt = ((0 : ℕ) : ℤ) := rfl

theorem at5 {α : Type} {a b c d e : ℕ} (X : (⟨5, ![a, b, c, d, e]⟩ : Shape).Idx → α) {i j k l m : ℕ} {i' : Fin a} {j' : Fin b} {k' : Fin c} {l' : Fin d} {m' : Fin e} {hi hj hk hl hm}
    (h0 : i = i'.val) (h1 : j = j'.val) (h2 : k = k'.val) (h3 : l = l'.val) (h4 : m = m'.val) : X (ix5 ⟨i, hi⟩ ⟨j, hj⟩ ⟨k, hk⟩ ⟨l, hl⟩ ⟨m, hm⟩) = X (ix5 i' j' k' l' m') := by
  subst h0 h1 h2 h3 h4; rfl

theorem at4 {α : Type} {a b c d : ℕ} (X : (⟨4, ![a, b, c, d]⟩ : Shape).Idx → α) {i j k l : ℕ} {i' : Fin a} {j' : Fin b} {k' : Fin c} {l' : Fin d} {hi hj hk hl}
    (h0 : i = i'.val) (h1 : j = j'.val) (h2 : k = k'.val) (h3 : l = l'.val) : X (ix4 ⟨i, hi⟩ ⟨j, hj⟩ ⟨k, hk⟩ ⟨l, hl⟩) = X (ix4 i' j' k' l') := by
  subst h0 h1 h2 h3; rfl

theorem start_add {s t : Shape} {ht : t.rank = s.rank} {st : Fin s.rank → ℤ} {a : Fin s.rank} {k x y : ℕ}
    (hk : st a = k) (hle : k + t.size (a.cast ht.symm) ≤ s.size a) (e : k + x = y) : Host.clampedStart s t ht st a + x = y := by
  rw [Host.clampedStart_of_le ht st a k hk hle, e]

section
variable {n : ℕ} (hn : n < 256) (w : IVec S_ 32) (hc : w (Shape.Idx.first h_S_) = BitVec.ofNat 32 n)
include hc hn

theorem wide_chunk (X : FVec Ideal S256x1x4x64x256 .f32) (h : Fin 4) (l : Fin 64) (d : Fin 256) :
    shapeCast S1x4x64x256 (Host.dynamicSlice S1x1x4x64x256 X (fun k => (((![w, constantI S_ 32 0#32, constantI S_ 32 0#32, constantI S_ 32 0#32, constantI S_ 32 0#32] : Fin 5 → IVec S_ 32)) k (Shape.Idx.first h_S_)).toInt) sliceFits_S256x1x4x64x256_S1x1x4x64x256) shapeCasts_S1x1x4x64x256_S1x4x64x256 (ix4 0 h l d)
      = X (ix5 ⟨n, hn⟩ 0 h l d) := by
  pointwise []
  refine at5 X ?_ ?_ ?_ ?_ ?_
  · refine Host.clampedStart_of_le _ _ _ n ?_ ?_
    · show (w (Shape.Idx.first h_S_)).toInt = _
      rw [hc]
      exact toInt_small hn
    · show n + 1 ≤ 256
      omega
  · exact Host.clampedStart_of_le _ _ _ 0 zero_start (show 0 + 1 ≤ 1 by omega)
  · exact start_add (k := 0) zero_start (show 0 + 4 ≤ 4 by omega) (Nat.zero_add _)
  · exact start_add (k := 0) zero_start (show 0 + 64 ≤ 64 by omega) (Nat.zero_add _)
  · exact start_add (k := 0) zero_start (show 0 + 256 ≤ 256 by omega) (Nat.zero_add _)

theorem wider_chunk (X : FVec Ideal S256x1x4x64x512 .f32) (h : Fin 4) (l : Fin 64) (d : Fin 512) :
    shapeCast S1x4x64x512 (Host.dynamicSlice S1x1x4x64x512 X (fun k => (((![w, constantI S_ 32 0#32, constantI S_ 32 0#32, constantI S_ 32 0#32, constantI S_ 32 0#32] : Fin 5 → IVec S_ 32)) k (Shape.Idx.first h_S_)).toInt) sliceFits_S256x1x4x64x512_S1x1x4x64x512) shapeCasts_S1x1x4x64x512_S1x4x64x512 (ix4 0 h l d)
      = X (ix5 ⟨n, hn⟩ 0 h l d) := by
  pointwise []
  refine at5 X ?_ ?_ ?_ ?_ ?_
  · refine Host.clampedStart_of_le _ _ _ n ?_ ?_
    · show (w (Shape.Idx.first h_S_)).toInt = _
      rw [hc]
      exact toInt_small hn
    · show n + 1 ≤ 256
      omega
  · exact Host.clampedStart_of_le _ _ _ 0 zero_start (show 0 + 1 ≤ 1 by omega)
  · exact start_add (k := 0) zero_start (show 0 + 4 ≤ 4 by omega) (Nat.zero_add _)
  · exact start_add (k := 0) zero_start (show 0 + 64 ≤ 64 by omega) (Nat.zero_add _)
  · exact start_add (k := 0) zero_start (show 0 + 512 ≤ 512 by omega) (Nat.zero_add _)

theorem gate_chunk (X : FVec Ideal S256x1x4x64 .f32) (h : Fin 4) (l : Fin 64) :
    shapeCast S1x4x64 (Host.dynamicSlice S1x1x4x64 X (fun k => (((![w, constantI S_ 32 0#32, constantI S_ 32 0#32, constantI S_ 32 0#32] : Fin 4 → IVec S_ 32)) k (Shape.Idx.first h_S_)).toInt) sliceFits_S256x1x4x64_S1x1x4x64) shapeCasts_S1x1x4x64_S1x4x64 (ix3 0 h l)
      = X (ix4 ⟨n, hn⟩ 0 h l) := by
  pointwise []
  refine at4 X ?_ ?_ ?_ ?_
  · refine Host.clampedStart_of_le _ _ _ n ?_ ?_
    · show (w (Shape.Idx.first h_S_)).toInt = _
      rw [hc]
      exact toInt_small hn
    · show n + 1 ≤ 256
      omega
  · exact Host.clampedStart_of_le _ _ _ 0 zero_start (show 0 + 1 ≤ 1 by omega)
  · exact start_add (k := 0) zero_start (show 0 + 4 ≤ 4 by omega) (Nat.zero_add _)
  · exact start_add (k := 0) zero_start (show 0 + 64 ≤ 64 by omega) (Nat.zero_add _)

theorem put_chunk (X : FVec Ideal S256x1x4x64x512 .f32) (Y : FVec Ideal S1x4x64x512 .f32) (c : Fin 256) (h : Fin 4) (l : Fin 64) (e : Fin 512) :
    Host.dynamicUpdateSlice X (broadcastInDim S1x1x4x64x512 ![1, 2, 3, 4] bcast_S1x4x64x512_S1x1x4x64x512_1_2_3_4 Y) (fun k => (((![w, constantI S_ 32 0#32, constantI S_ 32 0#32, constantI S_ 32 0#32, constantI S_ 32 0#32] : Fin 5 → IVec S_ 32)) k (Shape.Idx.first h_S_)).toInt) updateFits_S256x1x4x64x512_S1x1x4x64x512 (ix5 c 0 h l e)
      = if c.val = n then Y (ix4 0 h l e) else X (ix5 c 0 h l e) := by
  have fits : S256x1x4x64x512.Slices ![n, 0, 0, 0, 0] S1x1x4x64x512 := ⟨rfl, fun a => by
    match a with
    | 0 => exact (show n + 1 ≤ 256 by omega)
    | 1 => exact (show 0 + 1 ≤ 1 by omega)
    | 2 => exact (show 0 + 4 ≤ 4 by omega)
    | 3 => exact (show 0 + 64 ≤ 64 by omega)
    | 4 => exact (show 0 + 512 ≤ 512 by omega)⟩
  rw [WordCmp.dynamicUpdateSlice_eq_update _ _ _ _ ![n, 0, 0, 0, 0] fits fun a => by
    match a with
    | 0 => exact (congrArg BitVec.toInt hc).trans (toInt_small hn)
    | 1 => exact zero_start
    | 2 => exact zero_start
    | 3 => exact zero_start
    | 4 => exact zero_start]
  unfold updateSlice
  by_cases g : c.val = n
  · rw [if_pos g, dif_pos]
    · pointwise []
    · intro a
      match a with
      | 0 => exact ⟨show n ≤ c.val by omega, show c.val < n + 1 by omega⟩
      | 1 => exact ⟨show 0 ≤ 0 by omega, show 0 < 0 + 1 by omega⟩
      | 2 => exact ⟨show 0 ≤ h.val by omega, show h.val < 0 + 4 by omega⟩
      | 3 => exact ⟨show 0 ≤ l.val by omega, show l.val < 0 + 64 by omega⟩
      | 4 => exact ⟨show 0 ≤ e.val by omega, show e.val < 0 + 512 by omega⟩
  · rw [if_neg g, dif_neg]
    intro g'
    have a0 : n ≤ c.val ∧ c.val < n + 1 := g' 0
    omega

end

end Cert.Reference2Ideal.Mlstm

end
-- ==== Proof.Mlstm.Trip.lean ====
/- One trip of the reference's loop over chunks, in terms of the recurrence's closed form. -/
module

public import proofs.«01_k».proof.Proof.Mlstm.RefRead
public import proofs.«01_k».proof.Proof.Mlstm.Words

@[expose] public section

set_option maxRecDepth 16384

noncomputable section

namespace Cert.Reference2Ideal.Mlstm

open Cert.Reference2Ideal Cert.Reference2Ideal.Gen Cert.Reference2Ideal.Value Idealize.ShloMosaic Idealize.ShloMosaic.TcCoe Idealize.SL.Sem
open _root_.Mlstm

theorem neg_top : Ideal.ofBits .f32 0xFF800000#32 = (⊥ : EReal) := by
  simp [Ideal.ofBits, Ideal.ieee]

/-- The reference scales the query before it is multiplied. -/
theorem scaled_dot (a b : Fin 256 → ℝ) : ∑ d, a d * (1 / 16) * b d = (∑ d, a d * b d) * (1 / 16) := by
  rw [Finset.sum_mul]
  exact Finset.sum_congr rfl fun d _ => by ring

theorem quot_read (X : FVec Ideal S1x4x64x512 .f32) (D : FVec Ideal S1x4x64 .f32) (h : Fin 4) (l : Fin 64) (e : Fin 512) :
    Host.divf X (broadcastInDim S1x4x64x512 ![0, 1, 2, 3] bcast_S1x4x64x1_S1x4x64x512_0_1_2_3 (broadcastInDim S1x4x64x1 ![0, 1, 2] bcast_S1x4x64_S1x4x64x1_0_1_2 D)) (ix4 0 h l e)
      = Ideal.div (X (ix4 0 h l e)) (D (ix3 0 h l)) := by
  pointwise []

/-- The heads' gates, queries, keys and values. -/
structure Heads where
  li : Fin 4 → ℕ → ℝ
  f : Fin 4 → ℕ → ℝ
  q : Fin 4 → ℕ → Fin 256 → ℝ
  k : Fin 4 → ℕ → Fin 256 → ℝ
  v : Fin 4 → ℕ → Fin 512 → ℝ

/-- What the loop carries into trip `n`: the projections in chunks, the causal mask, the counter, the sums at boundary `64 n` and the outputs so far. -/
structure Carried (H : Heads) (n : ℕ) (V : Valuation τ sig (Elt Ideal)) : Prop where
  at_q : ∀ (c : Fin 256) (h : Fin 4) (l : Fin 64) (d : Fin 256),
    (V (Proc.devRef .tc main_v37_0) : FVec Ideal S256x1x4x64x256 .f32) (ix5 c 0 h l d) = ((H.q h (64 * c.val + l.val) d * (1 / 16) : ℝ) : EReal)
  at_k : ∀ (c : Fin 256) (h : Fin 4) (l : Fin 64) (d : Fin 256),
    (V (Proc.devRef .tc main_v37_1) : FVec Ideal S256x1x4x64x256 .f32) (ix5 c 0 h l d) = ((H.k h (64 * c.val + l.val) d : ℝ) : EReal)
  at_v : ∀ (c : Fin 256) (h : Fin 4) (l : Fin 64) (e : Fin 512),
    (V (Proc.devRef .tc main_v37_2) : FVec Ideal S256x1x4x64x512 .f32) (ix5 c 0 h l e) = ((H.v h (64 * c.val + l.val) e : ℝ) : EReal)
  at_i : ∀ (c : Fin 256) (h : Fin 4) (l : Fin 64),
    (V (Proc.devRef .tc main_v37_3) : FVec Ideal S256x1x4x64 .f32) (ix4 c 0 h l) = ((H.li h (64 * c.val + l.val) : ℝ) : EReal)
  at_f : ∀ (c : Fin 256) (h : Fin 4) (l : Fin 64),
    (V (Proc.devRef .tc main_v37_4) : FVec Ideal S256x1x4x64 .f32) (ix4 c 0 h l) = ((lsigs (H.f h) (64 * c.val + l.val) : ℝ) : EReal)
  at_mask : ∀ l s : Fin 64, (V (Proc.devRef .tc main_v37_5) : IVec S64x64 1) (ix2 l s) = (if s.val ≤ l.val then 1#1 else 0#1 : BitVec 1)
  at_count : (V (Proc.devRef .tc main_v37_6) : IVec S_ 32) = fun _ => BitVec.ofNat 32 n
  at_mat : ∀ (h : Fin 4) (d : Fin 256) (e : Fin 512),
    (V (Proc.devRef .tc main_v37_7) : FVec Ideal S1x4x256x512 .f32) (ix4 0 h d e) = ((matC (H.li h) (lsigs (H.f h)) (H.k h) (H.v h) (64 * n) d e : ℝ) : EReal)
  at_n : ∀ (h : Fin 4) (d : Fin 256),
    (V (Proc.devRef .tc main_v37_8) : FVec Ideal S1x4x256 .f32) (ix3 0 h d) = ((vecN (H.li h) (lsigs (H.f h)) (H.k h) (64 * n) d : ℝ) : EReal)
  at_m : ∀ h : Fin 4, (V (Proc.devRef .tc main_v37_9) : FVec Ideal S1x4 .f32) (ix2 0 h) = run (H.li h) (lsigs (H.f h)) (64 * n)
  at_h : ∀ (c : Fin 256) (h : Fin 4) (l : Fin 64) (e : Fin 512), c.val < n →
    (V (Proc.devRef .tc main_v37_10) : FVec Ideal S256x1x4x64x512 .f32) (ix5 c 0 h l e)
      = ((hid (H.li h) (lsigs (H.f h)) (H.q h) (H.k h) (H.v h) (64 * c.val + l.val) e : ℝ) : EReal)

variable {H : Heads} {n : ℕ} {V : Valuation τ sig (Elt Ideal)}

section
variable (hn : n < 256) (R : Carried H n V)
include R

theorem count_at : (V (Proc.devRef .tc main_v37_6) : IVec S_ 32) (Shape.Idx.first h_S_) = BitVec.ofNat 32 n := congrFun R.at_count _

include hn

theorem q_at (h : Fin 4) (l : Fin 64) (d : Fin 256) : (res_main_while0b_v75 V : FVec Ideal S1x4x64x256 .f32) (ix4 0 h l d) = ((H.q h (64 * n + l.val) d * (1 / 16) : ℝ) : EReal) :=
  (wide_chunk hn _ (count_at R) _ h l d).trans (R.at_q ⟨n, hn⟩ h l d)

theorem k_at (h : Fin 4) (l : Fin 64) (d : Fin 256) : (res_main_while0b_v76 V : FVec Ideal S1x4x64x256 .f32) (ix4 0 h l d) = ((H.k h (64 * n + l.val) d : ℝ) : EReal) :=
  (wide_chunk hn _ (count_at R) _ h l d).trans (R.at_k ⟨n, hn⟩ h l d)

theorem v_at (h : Fin 4) (l : Fin 64) (e : Fin 512) : (res_main_while0b_v77 V : FVec Ideal S1x4x64x512 .f32) (ix4 0 h l e) = ((H.v h (64 * n + l.val) e : ℝ) : EReal) :=
  (wider_chunk hn _ (count_at R) _ h l e).trans (R.at_v ⟨n, hn⟩ h l e)

theorem li_at (h : Fin 4) (l : Fin 64) : (res_main_while0b_v78 V : FVec Ideal S1x4x64 .f32) (ix3 0 h l) = ((H.li h (64 * n + l.val) : ℝ) : EReal) :=
  (gate_chunk hn _ (count_at R) _ h l).trans (R.at_i ⟨n, hn⟩ h l)

theorem cum_at (h : Fin 4) (l : Fin 64) : (res_main_while0b_v80 V : FVec Ideal S1x4x64 .f32) (ix3 0 h l)
    = ((cum (lsigs (H.f h)) (64 * n + (l.val + 1)) - cum (lsigs (H.f h)) (64 * n) : ℝ) : EReal) := by
  rw [← cum_row (lsigs (H.f h)) (64 * n) l, coe_sum]
  refine (cumsum_read _ _ ?_ h l).trans (Finset.sum_congr rfl fun s _ => ?_)
  · pointwise []
  · rw [← coe_ite]
    exact congrArg (fun x : EReal => if s.val ≤ l.val then x else 0) ((gate_chunk hn _ (count_at R) _ h s).trans (R.at_f ⟨n, hn⟩ h s))

theorem expo_at (h : Fin 4) (l s : Fin 64) : (res_main_while0b_v89 V : FVec Ideal S1x4x64x64 .f32) (ix4 0 h l s)
    = (if s.val ≤ l.val then ((ent (H.li h) (lsigs (H.f h)) (64 * n + (l.val + 1)) (64 * n + s.val) : ℝ) : EReal) else ⊥ : EReal) := by
  have bl := cum_at hn R h l
  have bs := cum_at hn R h s
  have is := li_at hn R h s
  have mk := R.at_mask l s
  unfold res_main_while0b_v89
  pointwise []
  rw [mk, bl, bs, is]
  show Scalar.select _ _ (Ideal.ofBits .f32 0xFF800000#32) = _
  rw [neg_top, ← EReal.coe_sub, ← EReal.coe_add, ← ent_row (H.li h) (lsigs (H.f h)) (64 * n) (l.val + 1) s.val]
  split <;> rfl

theorem m_at (h : Fin 4) : (V (Proc.devRef .tc main_v37_9) : FVec Ideal S1x4 .f32) (ix2 0 h) = run (H.li h) (lsigs (H.f h)) (64 * n) := R.at_m h

theorem mem_at (h : Fin 4) (l : Fin 64) : (res_main_while0b_v92 V : FVec Ideal S1x4x64 .f32) (ix3 0 h l)
    = (((cum (lsigs (H.f h)) (64 * n + (l.val + 1)) - cum (lsigs (H.f h)) (64 * n) : ℝ) : EReal) + run (H.li h) (lsigs (H.f h)) (64 * n) : EReal) := by
  have e := cum_at hn R h l
  have m := R.at_m h
  unfold res_main_while0b_v92
  pointwise []
  rw [e, m]

theorem top_at (h : Fin 4) (l : Fin 64) : (res_main_while0b_v94 V : FVec Ideal S1x4x64 .f32) (ix3 0 h l)
    = ((top (H.li h) (lsigs (H.f h)) (64 * n + (l.val + 1)) : ℝ) : EReal) := by
  have e := mem_at hn R h l
  have x := fun s => expo_at hn R h l s
  unfold res_main_while0b_v94
  rw [← top_row (H.li h) (lsigs (H.f h)) (64 * n) l]
  refine congrArg₂ (fun x y : EReal => max x y) e ((max_rows _ h l).trans ?_)
  exact congrArg _ (funext x)

theorem weight_at (h : Fin 4) (l s : Fin 64) : (res_main_while0b_v100 V : FVec Ideal S1x4x64x64 .f32) (ix4 0 h l s)
    = ((score (H.q h) (H.k h) (64 * n + l.val) (64 * n + s.val)
    * (if s.val ≤ l.val then Real.exp (ent (H.li h) (lsigs (H.f h)) (64 * n + (l.val + 1)) (64 * n + s.val) - top (H.li h) (lsigs (H.f h)) (64 * n + (l.val + 1))) else 0) : ℝ) : EReal) := by
  have e := expo_at hn R h l s
  have g := top_at hn R h l
  have q := fun d => q_at hn R h l d
  have k := fun d => k_at hn R h s d
  unfold res_main_while0b_v100
  pointwise []
  rw [e, g, exp_mask]
  simp only [q, k, ← EReal.coe_mul, ← coe_sum]
  rw [scaled_dot, score]

theorem inter_at (h : Fin 4) (l : Fin 64) : (res_main_while0b_v102 V : FVec Ideal S1x4x64 .f32) (ix3 0 h l)
    = ((carry (H.li h) (lsigs (H.f h)) (64 * n) (64 * n + (l.val + 1)) : ℝ) : EReal) := by
  have e := mem_at hn R h l
  have g := top_at hn R h l
  unfold res_main_while0b_v102
  pointwise []
  rw [e, g]
  exact exp_carry ..

theorem last_at (h : Fin 4) : (res_main_while0b_v121 V : FVec Ideal S1x4 .f32) (ix2 0 h)
    = ((cum (lsigs (H.f h)) (64 * n + 64) - cum (lsigs (H.f h)) (64 * n) : ℝ) : EReal) := by
  refine Eq.trans ?_ (cum_at hn R h ⟨63, by omega⟩)
  unfold res_main_while0b_v121
  pointwise []

theorem exit_at (h : Fin 4) (s : Fin 64) : (res_main_while0b_v125 V : FVec Ideal S1x4x64 .f32) (ix3 0 h s)
    = ((ent (H.li h) (lsigs (H.f h)) (64 * n + 64) (64 * n + s.val) : ℝ) : EReal) := by
  have t := last_at hn R h
  have b := cum_at hn R h s
  have i := li_at hn R h s
  unfold res_main_while0b_v125
  pointwise []
  rw [t, b, i]
  show ((_ : EReal) - _ + _ : EReal) = _
  rw [← EReal.coe_sub, ← EReal.coe_add, ← ent_row (H.li h) (lsigs (H.f h)) (64 * n) 64 s.val]

theorem mNew_at (h : Fin 4) : (res_main_while0b_v128 V : FVec Ideal S1x4 .f32) (ix2 0 h)
    = ((top (H.li h) (lsigs (H.f h)) (64 * n + 64) : ℝ) : EReal) := by
  have t := last_at hn R h
  have m := R.at_m h
  have x := fun s => exit_at hn R h s
  unfold res_main_while0b_v128
  rw [← top_all (L := 64) (H.li h) (lsigs (H.f h)) (64 * n) (by norm_num)]
  refine congrArg₂ (fun x y : EReal => max x y) (congrArg₂ (fun x y : EReal => x + y) t m) ((max_lanes _ h).trans ?_)
  exact congrArg _ (funext x)

theorem share_at (h : Fin 4) (s : Fin 64) : (res_main_while0b_v132 V : FVec Ideal S1x4x64 .f32) (ix3 0 h s)
    = ((Real.exp (ent (H.li h) (lsigs (H.f h)) (64 * n + 64) (64 * n + s.val) - top (H.li h) (lsigs (H.f h)) (64 * n + 64)) : ℝ) : EReal) := by
  have x := exit_at hn R h s
  have g := mNew_at hn R h
  unfold res_main_while0b_v132
  pointwise []
  rw [x, g]
  exact (congrArg Ideal.exp (EReal.coe_sub _ _).symm).trans (exp_coe _)

theorem decay_at (h : Fin 4) : (res_main_while0b_v135 V : FVec Ideal S1x4 .f32) (ix2 0 h)
    = ((carry (H.li h) (lsigs (H.f h)) (64 * n) (64 * n + 64) : ℝ) : EReal) := by
  have t := last_at hn R h
  have m := R.at_m h
  have g := mNew_at hn R h
  unfold res_main_while0b_v135
  pointwise []
  rw [t, m, g]
  exact exp_carry ..

/-- The divisor of a row's output. -/
theorem den_at (h : Fin 4) (l : Fin 64) :
    maximumf (F := Ideal) (φ := .f32) (Host.absf (addf (Host.reduceAdd (res_main_while0b_v100 V) (constant S_ .f32 0x00000000#32) reducesTo_S1x4x64x64_S1x4x64_d3 h_S_) (mulf (res_main_while0b_v102 V) (Host.dotGeneral (φ₁ := .f32) (φ₂ := .f32) dot_S1x4x64x256_S1x4x256_S1x4x64_3_2_2_n_01_01 none (res_main_while0b_v75 V) (V (Proc.devRef .tc main_v37_8)))))) (Host.exp (Host.negf (res_main_while0b_v94 V))) (ix3 0 h l)
    = ((max |den (H.li h) (lsigs (H.f h)) (H.q h) (H.k h) (64 * n + l.val)| (Real.exp (-top (H.li h) (lsigs (H.f h)) (64 * n + l.val + 1))) : ℝ) : EReal) := by
  have w := fun s => weight_at hn R h l s
  have i := inter_at hn R h l
  have g := top_at hn R h l
  have q := fun d => q_at hn R h l d
  have nn := fun d => R.at_n h d
  pointwise []
  simp only [w, i, g, q, nn, ← EReal.coe_mul, ← coe_sum, ← EReal.coe_neg, exp_coe, zero_add]
  rw [scaled_dot, query_vecN, ← EReal.coe_add, abs_coe, ← coe_max, den, Nat.add_assoc, ← mem_row (H.li h) (lsigs (H.f h)) (fun s => score (H.q h) (H.k h) (64 * n + l.val) s) (64 * n) l]
  simp only [mul_comm (score _ _ _ _)]

theorem hid_at (h : Fin 4) (l : Fin 64) (e : Fin 512) :
    (step_main_v37_10 V : FVec Ideal S256x1x4x64x512 .f32) (ix5 ⟨n, hn⟩ 0 h l e)
      = ((hid (H.li h) (lsigs (H.f h)) (H.q h) (H.k h) (H.v h) (64 * n + l.val) e : ℝ) : EReal) := by
  have w := fun s => weight_at hn R h l s
  have i := inter_at hn R h l
  have q := fun d => q_at hn R h l d
  have v := fun s => v_at hn R h s e
  have mt := fun d => R.at_mat h d e
  have dn := den_at hn R h l
  refine (put_chunk hn _ (count_at R) _ _ ⟨n, hn⟩ h l e).trans ((if_pos rfl).trans ?_)
  rw [hid, ← div_coe_pos _ (floor_pos (H.li h) (lsigs (H.f h)) (H.q h) (H.k h) (64 * n + l.val))]
  refine (quot_read _ _ h l e).trans (congrArg₂ (fun x y : EReal => Ideal.div x y) ?_ dn)
  pointwise []
  simp only [w, i, q, v, mt, ← EReal.coe_mul, ← coe_sum]
  rw [← EReal.coe_add, scaled_dot, query_matC, num, Nat.add_assoc, ← mem_row (H.li h) (lsigs (H.f h)) (fun s => score (H.q h) (H.k h) (64 * n + l.val) s * H.v h s e) (64 * n) l]
  congr 2
  exact Finset.sum_congr rfl fun s _ => by ring

theorem kept_at (c : Fin 256) (hc : c.val ≠ n) (h : Fin 4) (l : Fin 64) (e : Fin 512) :
    (step_main_v37_10 V : FVec Ideal S256x1x4x64x512 .f32) (ix5 c 0 h l e) = (V (Proc.devRef .tc main_v37_10) : FVec Ideal S256x1x4x64x512 .f32) (ix5 c 0 h l e) :=
  (put_chunk hn _ (count_at R) _ _ c h l e).trans (if_neg hc)

theorem matNew_at (h : Fin 4) (d : Fin 256) (e : Fin 512) :
    (step_main_v37_7 V : FVec Ideal S1x4x256x512 .f32) (ix4 0 h d e) = ((matC (H.li h) (lsigs (H.f h)) (H.k h) (H.v h) (64 * n + 64) d e : ℝ) : EReal) := by
  have dc := decay_at hn R h
  have w := fun s => share_at hn R h s
  have k := fun s => k_at hn R h s d
  have v := fun s => v_at hn R h s e
  have mt := R.at_mat h d e
  unfold step_main_v37_7 id
  pointwise []
  simp only [dc, w, k, v, mt, ← EReal.coe_mul, ← coe_sum]
  rw [← EReal.coe_add]
  unfold matC
  rw [← mem_all (L := 64) (H.li h) (lsigs (H.f h)) (fun s => H.k h s d * H.v h s e) (64 * n)]
  congr 2
  exact Finset.sum_congr rfl fun s _ => by ring

theorem vecNew_at (h : Fin 4) (d : Fin 256) :
    (step_main_v37_8 V : FVec Ideal S1x4x256 .f32) (ix3 0 h d) = ((vecN (H.li h) (lsigs (H.f h)) (H.k h) (64 * n + 64) d : ℝ) : EReal) := by
  have dc := decay_at hn R h
  have w := fun s => share_at hn R h s
  have k := fun s => k_at hn R h s d
  have mt := R.at_n h d
  unfold step_main_v37_8 id
  pointwise []
  simp only [dc, w, k, mt, ← EReal.coe_mul, ← coe_sum]
  rw [← EReal.coe_add]
  unfold vecN
  rw [← mem_all (L := 64) (H.li h) (lsigs (H.f h)) (fun s => H.k h s d) (64 * n)]

theorem topNew_at (h : Fin 4) :
    (step_main_v37_9 V : FVec Ideal S1x4 .f32) (ix2 0 h) = run (H.li h) (lsigs (H.f h)) (64 * n + 64) := by
  rw [run_eq (H.li h) (lsigs (H.f h)) (by omega)]
  exact mNew_at hn R h

theorem countNew_at : (step_main_v37_6 V : IVec S_ 32) = fun _ => BitVec.ofNat 32 (n + 1) := by
  funext i
  refine (congrArg (fun x : BitVec 32 => x + 1#32) (congrFun R.at_count i)).trans ?_
  exact BitVec.ofNat_add .. |>.symm

/-- One trip. -/
theorem step : Carried H (n + 1) (STEP V) where
  at_q c h l d := by rw [STEP_main_v37_0]; exact R.at_q c h l d
  at_k c h l d := by rw [STEP_main_v37_1]; exact R.at_k c h l d
  at_v c h l e := by rw [STEP_main_v37_2]; exact R.at_v c h l e
  at_i c h l := by rw [STEP_main_v37_3]; exact R.at_i c h l
  at_f c h l := by rw [STEP_main_v37_4]; exact R.at_f c h l
  at_mask l s := by rw [STEP_main_v37_5]; exact R.at_mask l s
  at_count := by rw [STEP_main_v37_6]; exact countNew_at hn R
  at_mat h d e := by rw [STEP_main_v37_7, Nat.mul_succ]; exact matNew_at hn R h d e
  at_n h d := by rw [STEP_main_v37_8, Nat.mul_succ]; exact vecNew_at hn R h d
  at_m h := by rw [STEP_main_v37_9, Nat.mul_succ]; exact topNew_at hn R h
  at_h c h l e hc := by
    rw [STEP_main_v37_10]
    by_cases g : c.val = n
    · obtain rfl : c = ⟨n, hn⟩ := Fin.ext g
      exact hid_at hn R h l e
    · exact (kept_at hn R c g h l e).trans (R.at_h c h l e (by omega))

end

/-- All the trips. -/
theorem trips {V : Valuation τ sig (Elt Ideal)} (R : Carried H 0 V) : ∀ n, n ≤ 256 → Carried H n (STEP^[n] V)
  | 0, _ => R
  | n + 1, h => by
    rw [Function.iterate_succ_apply']
    exact step (by omega) (trips R n (by omega))

end Cert.Reference2Ideal.Mlstm

end
-- ==== Proof.Mlstm.Entry.lean ====
/- What the reference's loop is entered with, and its results. -/
module

public import proofs.«01_k».proof.Proof.Mlstm.Trip

@[expose] public section

set_option maxRecDepth 16384

noncomputable section

namespace Cert.Reference2Ideal.Mlstm

open Cert.Reference2Ideal Cert.Reference2Ideal.Gen Cert.Reference2Ideal.Value Idealize.ShloMosaic Idealize.ShloMosaic.TcCoe Idealize.SL.Sem
open _root_.Mlstm Idealize.ShloMosaic.StableHlo

variable (m : (ℓ : Loc nD τ sig) → Buf (Elt Ideal) ℓ) (c : Dev nD)

abbrev PROJ : FVec Ideal S1x16384x14344 .f32 := m ((c.tc : Thread nD τ).loc main_arg0)
abbrev GATE : FVec Ideal S1x8 .f32 := m ((c.tc : Thread nD τ).loc main_arg1)
abbrev NORM : FVec Ideal S1x2048 .f32 := m ((c.tc : Thread nD τ).loc main_arg2)
abbrev OUTW : FVec Ideal S1x2048x1024 .f32 := m ((c.tc : Thread nD τ).loc main_arg3)

/-- The arguments, named as in the branch's plain form. -/
def data : _root_.Mlstm.Data where
  q p j := PROJ m c (ix3 0 p (⟨4096 + j.val, by omega⟩ : Fin 14344))
  k p j := PROJ m c (ix3 0 p (⟨4096 + (1024 + j.val), by omega⟩ : Fin 14344))
  v p j := PROJ m c (ix3 0 p (⟨4096 + (2048 + j.val), by omega⟩ : Fin 14344))
  o p j := PROJ m c (ix3 0 p (⟨4096 + (4096 + j.val), by omega⟩ : Fin 14344))
  z p j := PROJ m c (ix3 0 p (⟨4096 + (6144 + j.val), by omega⟩ : Fin 14344))
  gate p j := PROJ m c (ix3 0 p (⟨12288 + j.val, by omega⟩ : Fin 14344))
  bias j := GATE m c (ix2 0 j)
  norm j := NORM m c (ix2 0 j)
  w i j := OUTW m c (ix3 0 i j)

/-- The heads of the branch. -/
def heads (D : _root_.Mlstm.Data) : Heads := ⟨D.li, D.f, D.qr, D.kr, D.vr⟩

theorem at3 {α : Type} {a b c : ℕ} (X : (⟨3, ![a, b, c]⟩ : Shape).Idx → α) {i : Fin a} {j k : ℕ} {j' : Fin b} {k' : Fin c} {hj hk}
    (h1 : j = j'.val) (h2 : k = k'.val) : X (ix3 i ⟨j, hj⟩ ⟨k, hk⟩) = X (ix3 i j' k') := by
  subst h1 h2; rfl

theorem log1p_coe {x : ℝ} (h : 0 < 1 + x) : Ideal.log1p (x : EReal) = ((Real.log (1 + x) : ℝ) : EReal) := by
  rw [← log_coe h, EReal.coe_add, EReal.coe_one]
  rfl

/-- The host's logarithm of the logistic function. -/
theorem lsig_host (x : ℝ) :
    (-(if -(x : EReal) ≠ -(x : EReal) then -(x : EReal) else max (-(x : EReal)) 0 + Ideal.log1p (Ideal.exp (-FloatOps.absf (F := Ideal) (φ := .f32) (-(x : EReal))))) : EReal)
      = ((lsig x : ℝ) : EReal) := by
  rw [if_neg (not_not.mpr rfl), ← EReal.coe_neg, abs_coe, ← EReal.coe_neg, exp_coe, log1p_coe (by positivity), ← EReal.coe_zero, ← coe_max, ← EReal.coe_add, ← EReal.coe_neg, lsig, abs_neg]
  congr 1
  rcases le_total x 0 with h | h
  · rw [max_eq_left (by linarith), min_eq_left h]; ring
  · rw [max_eq_right (by linarith), min_eq_right h]; ring

section
variable (ch : Fin 256) (h : Fin 4) (l : Fin 64)

/-- A row of a chunk. -/
abbrev row : Fin 16384 := ⟨64 * ch.val + l.val, by omega⟩

theorem entry_q (d : Fin 256) :
    (entryContents preI m c (Proc.devRef .tc main_v37_0) : FVec Ideal S256x1x4x64x256 .f32) (ix5 ch 0 h l d)
      = ((data m c).q (row ch l) ⟨256 * h.val + d.val, by omega⟩ * Ideal.ofBits .f32 0x3D800000#32 : EReal) := by
  simp only [entryContents, afterL_cons, afterL_nil]
  after_reads_at
  unfold id
  pointwise []
  exact congrArg (fun x : EReal => x * Ideal.ofBits .f32 0x3D800000#32) (at3 (PROJ m c) (by dsimp only; omega) (by dsimp only; omega))

theorem entry_k (d : Fin 256) :
    (entryContents preI m c (Proc.devRef .tc main_v37_1) : FVec Ideal S256x1x4x64x256 .f32) (ix5 ch 0 h l d)
      = (data m c).k (row ch l) ⟨256 * h.val + d.val, by omega⟩ := by
  simp only [entryContents, afterL_cons, afterL_nil]
  after_reads_at
  unfold id
  pointwise []
  exact at3 (PROJ m c) (by dsimp only; omega) (by dsimp only; omega)

theorem entry_v (e : Fin 512) :
    (entryContents preI m c (Proc.devRef .tc main_v37_2) : FVec Ideal S256x1x4x64x512 .f32) (ix5 ch 0 h l e)
      = (data m c).v (row ch l) ⟨512 * h.val + e.val, by omega⟩ := by
  simp only [entryContents, afterL_cons, afterL_nil]
  after_reads_at
  unfold id
  pointwise []
  exact at3 (PROJ m c) (by dsimp only; omega) (by dsimp only; omega)

theorem entry_i :
    (entryContents preI m c (Proc.devRef .tc main_v37_3) : FVec Ideal S256x1x4x64 .f32) (ix4 ch 0 h l)
      = ((data m c).gate (row ch l) ⟨h.val, by omega⟩ + (data m c).bias ⟨h.val, by omega⟩ : EReal) := by
  simp only [entryContents, afterL_cons, afterL_nil]
  after_reads_at
  unfold id
  pointwise []
  exact congrArg₂ (fun x y : EReal => x + y) (at3 (PROJ m c) (by dsimp only; omega) (by dsimp only)) rfl

theorem entry_f (R : (data m c).Real) :
    (entryContents preI m c (Proc.devRef .tc main_v37_4) : FVec Ideal S256x1x4x64 .f32) (ix4 ch 0 h l)
      = ((lsigs ((data m c).f h) (64 * ch.val + l.val) : ℝ) : EReal) := by
  have e := (congrArg (fun x : EReal => x + (data m c).bias ⟨4 + h.val, by omega⟩) (at3 (PROJ m c) (i := 0) (j := ch.val * 64 + l.val) (k := 12292 + h.val) (hj := by omega) (hk := by omega) (j' := row ch l) (k' := ⟨12288 + (4 + h.val), by omega⟩) (by dsimp only; omega) (by dsimp only; omega))).trans (_root_.Mlstm.Data.f_coe R h (row ch l))
  simp only [entryContents, afterL_cons, afterL_nil]
  after_reads_at
  unfold id
  pointwise []
  exact (congrArg (fun x : EReal => -(if -x ≠ -x then -x else max (-x) 0 + Ideal.log1p (Ideal.exp (-FloatOps.absf (F := Ideal) (φ := .f32) (-x))))) e).trans (lsig_host _)

theorem entry_mask (l s : Fin 64) : (entryContents preI m c (Proc.devRef .tc main_v37_5) : IVec S64x64 1) (ix2 l s) = (if s.val ≤ l.val then 1#1 else 0#1 : BitVec 1) := by
  simp only [entryContents, afterL_cons, afterL_nil]
  after_reads_at
  unfold id
  pointwise []
  exact (congrArg (Scalar.select · 1#1 0#1) (by rw [IntOp.addi, BitVec.add_zero]; rfl)).trans (select_le s.val l.val (by omega) (by omega) 1#1 0#1)

theorem entry_mat (h : Fin 4) (d : Fin 256) (e : Fin 512) : (entryContents preI m c (Proc.devRef .tc main_v37_7) : FVec Ideal S1x4x256x512 .f32) (ix4 0 h d e) = (0 : EReal) := by
  simp only [entryContents, afterL_cons, afterL_nil]
  after_reads_at
  unfold id
  pointwise []

theorem entry_n (h : Fin 4) (d : Fin 256) : (entryContents preI m c (Proc.devRef .tc main_v37_8) : FVec Ideal S1x4x256 .f32) (ix3 0 h d) = (0 : EReal) := by
  simp only [entryContents, afterL_cons, afterL_nil]
  after_reads_at
  unfold id
  pointwise []

theorem entry_m (h : Fin 4) : (entryContents preI m c (Proc.devRef .tc main_v37_9) : FVec Ideal S1x4 .f32) (ix2 0 h) = (⊥ : EReal) := by
  simp only [entryContents, afterL_cons, afterL_nil]
  after_reads_at
  unfold id
  pointwise []
  exact neg_top

end

/-- The loop is entered with the projections in chunks and nothing summed. -/
theorem entry (R : (data m c).Real) : Carried (heads (data m c)) 0 (entryContents preI m c) where
  at_q ch h l d := (entry_q m c ch h l d).trans (by rw [_root_.Mlstm.Data.q_coe R h (row ch l) d, sixteenth, ← EReal.coe_mul]; rfl)
  at_k ch h l d := (entry_k m c ch h l d).trans (_root_.Mlstm.Data.k_coe R h (row ch l) d)
  at_v ch h l e := (entry_v m c ch h l e).trans (_root_.Mlstm.Data.v_coe R h (row ch l) e)
  at_i ch h l := (entry_i m c ch h l).trans (_root_.Mlstm.Data.li_coe R h (row ch l))
  at_f ch h l := entry_f m c ch h l R
  at_mask l s := entry_mask m c l s
  at_count := ctr_entry m c
  at_mat h d e := (entry_mat m c h d e).trans (by rw [matC, Nat.mul_zero, mem_zero]; rfl)
  at_n h d := (entry_n m c h d).trans (by rw [vecN, Nat.mul_zero, mem_zero]; rfl)
  at_m h := (entry_m m c h).trans (by rw [Nat.mul_zero, run_zero])
  at_h _ _ _ _ hc := absurd hc (Nat.not_lt_zero _)

/-! ## The results -/

/-- The buffers after the loop. -/
abbrev AFTER : Valuation τ sig (Elt Ideal) := STEP^[256] (entryContents preI m c)

theorem head_at (R : (data m c).Real) (p : Fin 16384) (j : Fin 2048) (e : Fin 512) :
    AFTER m c (Proc.devRef .tc main_v37_10) (ix5 (⟨p.val / 64, by omega⟩ : Fin 256) (0 : Fin 1) (⟨j.val / 512, by omega⟩ : Fin 4) (⟨p.val % 64, by omega⟩ : Fin 64) e)
      = (data m c).head (_root_.Mlstm.Data.headOf j) p.val e := by
  have r := (trips (entry m c R) 256 (Nat.le_refl _)).at_h ⟨p.val / 64, by omega⟩ ⟨j.val / 512, by omega⟩ ⟨p.val % 64, by omega⟩ e (by dsimp only; omega)
  rw [show 64 * (p.val / 64) + p.val % 64 = p.val by omega] at r
  exact r

theorem raw_at (R : (data m c).Real) (p : Fin 16384) (j : Fin 2048) :
    (out_main_v74 (AFTER m c) : FVec Ideal S16384x2048 .bf16) (ix2 p j) = (data m c).raw p j := by
  unfold out_main_v74
  pointwise []
  exact head_at m c R p j _

theorem o_at (p : Fin 16384) (j : Fin 2048) : PROJ m c (ix3 0 p (⟨8192 + j.val, by omega⟩ : Fin 14344)) = (data m c).o p j := congrArg (fun l => PROJ m c (ix3 0 p l)) (Fin.ext (by dsimp only; omega))
theorem z_at (p : Fin 16384) (j : Fin 2048) : PROJ m c (ix3 0 p (⟨10240 + j.val, by omega⟩ : Fin 14344)) = (data m c).z p j := congrArg (fun l => PROJ m c (ix3 0 p l)) (Fin.ext (by dsimp only; omega))

theorem out_at (R : (data m c).Real) (p : Fin 16384) (j : Fin 2048) :
    (out_main_v70 (AFTER m c) : FVec Ideal S16384x2048 .bf16) (ix2 p j) = (data m c).out p j := by
  unfold out_main_v70
  rw [show AFTER m c (Proc.devRef .tc main_arg0) = PROJ m c from iter_main_arg0 m c 256, show AFTER m c (Proc.devRef .tc main_arg2) = NORM m c from iter_main_arg2 m c 256]
  pointwise []
  simp only [head_at m c R]
  unfold _root_.Mlstm.Data.out _root_.Mlstm.Data.gated
  simp only [← o_at, ← z_at]
  rfl

theorem prod_at (R : (data m c).Real) (p : Fin 16384) (j : Fin 1024) :
    (out_main_v72 (AFTER m c) : FVec Ideal S16384x1024 .bf16) (ix2 p j) = (data m c).prod p j := by
  unfold out_main_v72
  rw [show AFTER m c (Proc.devRef .tc main_arg0) = PROJ m c from iter_main_arg0 m c 256, show AFTER m c (Proc.devRef .tc main_arg2) = NORM m c from iter_main_arg2 m c 256, show AFTER m c (Proc.devRef .tc main_arg3) = OUTW m c from iter_main_arg3 m c 256]
  pointwise []
  simp only [head_at m c R]
  unfold _root_.Mlstm.Data.prod _root_.Mlstm.Data.out _root_.Mlstm.Data.gated
  simp only [← o_at, ← z_at]
  rfl

end Cert.Reference2Ideal.Mlstm

end
-- ==== Proof.Mlstm.Pre.lean ====
/- The precondition of the recurrent branch, read as real q, k, v and gates. -/
module

public import proofs.«01_k».proof.Proof.Conv.Pre
public import proofs.«01_k».proof.Proof.Mlstm.State

@[expose] public section

set_option maxRecDepth 16384

noncomputable section

namespace Cert.Pre_finite2

theorem facts : Facts := by constructor <;> decide

end Cert.Pre_finite2

namespace Cert.Kernel2Ideal.Mlstm

open Cert.Kernel2Ideal Cert.Kernel2Ideal.Gen Idealize.ShloMosaic Idealize.ShloMosaic.TcCoe Idealize.SL.Sem
open Cert.KernelIdeal.Conv (real_of_abs)

theorem real_of_pre (m : (ℓ : Loc nD τ sig) → Buf (Elt Ideal) ℓ) (c : Dev nD) (h : Cert.Pre_Kernel2Ideal_finite2 (hPre_finite2 := Cert.Pre_finite2.facts) m) :
    (data m c).Real := by
  have e := fun p a b => congrFun (h c) (ix3 p a b)
  pointwise [Cert.Pre_finite2.fn, Cert.Pre_finite2.fn_part1] at e
  simp only [IntOp.andi_eq_one] at e
  have low : ∀ (n : ℕ) (p : Fin 16384) (j : ℕ) (hj : j < 1024) (hn : n + 1024 ≤ 14344), (∀ (a : Fin 128) (b : Fin 8), ∃ r : ℝ, PROJ m c (ix3 0 p (⟨n + (a.val * 8 + b.val), by omega⟩ : Fin 14344)) = r)
      → ∃ r : ℝ, PROJ m c (ix3 0 p (⟨n + j, by omega⟩ : Fin 14344)) = r := fun n p j hj hn hx => by
    obtain ⟨r, hr⟩ := hx ⟨j / 8, by omega⟩ ⟨j % 8, by omega⟩
    exact ⟨r, (congrArg (fun l => PROJ m c (ix3 0 p l)) (Fin.ext (by dsimp only; omega))).trans hr⟩
  exact {
    q := fun p j => low 4096 p j.val j.isLt (by omega) fun a b => real_of_abs _ (e p a b).1.1.1.1
    k := fun p j => by
      obtain ⟨r, hr⟩ := low 5120 p j.val j.isLt (by omega) fun a b => real_of_abs _ (e p a b).1.1.1.2
      exact ⟨r, (congrArg (fun l => PROJ m c (ix3 0 p l)) (Fin.ext (by dsimp only; omega))).trans hr⟩
    v := fun p j => by
      rcases lt_or_ge j.val 1024 with hj | hj
      · obtain ⟨r, hr⟩ := low 6144 p j.val hj (by omega) fun a b => real_of_abs _ (e p a b).1.1.2
        exact ⟨r, (congrArg (fun l => PROJ m c (ix3 0 p l)) (Fin.ext (by dsimp only; omega))).trans hr⟩
      · obtain ⟨r, hr⟩ := low 7168 p (j.val - 1024) (by omega) (by omega) fun a b => real_of_abs _ (e p a b).1.2
        exact ⟨r, (congrArg (fun l => PROJ m c (ix3 0 p l)) (Fin.ext (by dsimp only; omega))).trans hr⟩
    gate := fun p j => real_of_abs _ (e p 0 j).2.1
    bias := fun j => real_of_abs _ (e 0 0 j).2.2 }

end Cert.Kernel2Ideal.Mlstm

end
-- ==== Proof.Chain.Body.lean ====
/- The token chain's kernel at one grid point: what each of its buffers holds afterwards, as a function of the blocks read and of the sums carried. -/
module

public import proofs.«01_k».proof.Proof.Gen.Kernel3Ideal.Frame.Runs
public import Idealize.ShloMosaic.Lib.VecWindow
public import Idealize.ShloMosaic.Lib.Pipeline.ValueKit

@[expose] public section

set_option maxRecDepth 16384

noncomputable section

namespace Cert.Kernel3Ideal.Chain

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks that a grid point reads. -/
structure Blocks (F : FTy → Type) where
  yap : Vec F S256x1024 .bf16
  wa : Vec F S1024x1024 .bf16
  yb : Vec F S256x1024 .bf16
  ga : Vec F S256x1024 .bf16
  gb : Vec F S256x1024 .bf16
  wo : Vec F S1024x1024 .bf16
  x : Vec F S256x1024 .f32
  gp : Vec F S1x1024 .f32
  wpg : Vec F S1024x1024 .bf16
  p : Vec F S256x256 .f32
  wpl : Vec F S256x1024 .bf16
  tg : Vec F S256x1024 .f32
  gf : Vec F S1x1024 .f32

/-- The sums carried from point to point: the three rows of the small array, and the gradients of the four weight matrices. -/
structure Sums (F : FTy → Type) where
  sm : Vec F S8x1024 .f32
  wa : Vec F S1024x1024 .f32
  wo : Vec F S1024x1024 .f32
  wpg : Vec F S1024x1024 .f32
  wpl : Vec F S256x1024 .f32

namespace Blocks

variable (b : Blocks F)

/-- The merged branches, the gates and the first branch's output. -/
def mgd : FVec F S256x1024 .bf16 := k0_pay17 b.yap b.wa b.yb b.ga b.gb
def ya : FVec F S256x1024 .f32 := k0_pay13 b.yap b.wa
def sa : FVec F S256x1024 .f32 := k0_pay15 b.ga
def sb : FVec F S256x1024 .f32 := k0_pay16 b.gb
/-- The embeddings' norm, product, gate and sum. -/
def r1 : FVec F S256x1 .f32 := k0_pay19 b.mgd b.wo b.x
def xh1 : FVec F S256x1024 .f32 := k0_pay20 b.mgd b.wo b.x
def hn : FVec F S256x1024 .bf16 := k0_pay21 b.mgd b.wo b.x b.gp
def gt : FVec F S256x1024 .f32 := k0_pay22 b.mgd b.wo b.x b.gp b.wpg
def pe : FVec F S256x1024 .f32 := k0_pay24 b.p b.wpl
def x2 : FVec F S256x1024 .f32 := k0_pay25 b.mgd b.wo b.x b.gp b.wpg b.p b.wpl
def sq2 : FVec F S256 .f32 := k0_pay26 b.mgd b.wo b.x b.gp b.wpg b.p b.wpl
/-- The final norm, the loss and the gradient on the sum. -/
def xh2 : FVec F S256x1024 .f32 := k0_pay28 b.x2 b.sq2
def losses : FVec F S256x1024 .f32 := k0_pay30 b.x2 b.sq2 b.gf b.tg
def dy : FVec F S256x1024 .f32 := k0_pay31 b.x2 b.sq2 b.gf b.tg
def dx2 : FVec F S256x1024 .f32 := k0_pay32 b.x2 b.sq2 b.gf b.tg
def dgp : FVec F S256x1024 .bf16 := k0_pay33 b.gt b.pe b.x2 b.sq2 b.gf b.tg
/-- The gradients behind the embeddings' norm. -/
def dhn : FVec F S256x1024 .f32 := k0_pay36 b.dgp b.wpg
def dm : FVec F S256x1024 .f32 := k0_pay40 b.r1 b.xh1 b.gp b.dx2 b.dgp b.wpg b.wo
def dya : FVec F S256x1024 .bf16 := k0_pay41 b.sa b.r1 b.xh1 b.gp b.dx2 b.dgp b.wpg b.wo

/-- The blocks that a point writes back. -/
def out13 : Vec F S256x1024 .f32 := k0_pay37 b.r1 b.xh1 b.gp b.dx2 b.dgp b.wpg
def out14 : Vec F S256x1024 .bf16 := k0_pay43 b.sb b.dm
def out15 : Vec F S256x1024 .bf16 := k0_pay46 b.dya b.wa
def out16 : Vec F S256x2048 .bf16 :=
  VecWindow.put (s := S256x2048) (fun y => k0_pay44 b.ya b.sa b.dm (ix2 (y 0) ⟨(y 1).val % 1024, Nat.mod_lt _ (by decide)⟩)) ![0, 1024] S256x1024.size
    (k0_pay45 (k0_pay14 b.yb) b.sb b.dm)

/-- A row of the small array. -/
def row (k : ℕ) (hk : k < 8) (s : Vec F S8x1024 .f32) : Vec F S1x1024 .f32 :=
  VecWindow.window s ![k, 0] S1x1024.size (by intro a; fin_cases a <;> simp [S1x1024, S8x1024] <;> omega)

/-- The sums after a point that found `s`. -/
def next (s : Sums F) : Sums F where
  sm := VecWindow.put (VecWindow.put (VecWindow.put s.sm ![0, 0] S1x1024.size (k0_pay47 b.losses (row 0 (by decide) s.sm)))
    ![1, 0] S1x1024.size (k0_pay1 b.xh2 b.dy (row 1 (by decide) s.sm))) ![2, 0] S1x1024.size (k0_pay2 b.xh1 b.dhn (row 2 (by decide) s.sm))
  wa := k0_pay42 (k0_pay12 b.yap) b.dya s.wa
  wo := k0_pay39 b.mgd b.r1 b.xh1 b.gp b.dx2 b.dgp b.wpg s.wo
  wpg := k0_pay34 b.hn b.gt b.pe b.x2 b.sq2 b.gf b.tg s.wpg
  wpl := k0_pay35 b.gt (k0_pay23 b.p) b.dx2 s.wpl

end Blocks

/-- The sums as the first point clears them. -/
def Sums.zero : Sums F := ⟨k0_pay7, k0_pay8, k0_pay9, k0_pay10, k0_pay11⟩

/-- The buffers that the body works on. -/
structure Bufs where
  a1 : Memref sig .tc .vmem S256x1024 .bf16
  h1 : a1.IsWhole
  a2 : Memref sig .tc .vmem S1024x1024 .bf16
  h2 : a2.IsWhole
  a3 : Memref sig .tc .vmem S256x1024 .bf16
  h3 : a3.IsWhole
  a4 : Memref sig .tc .vmem S256x1024 .bf16
  h4 : a4.IsWhole
  a5 : Memref sig .tc .vmem S256x1024 .bf16
  h5 : a5.IsWhole
  a6 : Memref sig .tc .vmem S1024x1024 .bf16
  h6 : a6.IsWhole
  a7 : Memref sig .tc .vmem S256x1024 .f32
  h7 : a7.IsWhole
  a8 : Memref sig .tc .vmem S1x1024 .f32
  h8 : a8.IsWhole
  a9 : Memref sig .tc .vmem S1024x1024 .bf16
  h9 : a9.IsWhole
  a10 : Memref sig .tc .vmem S256x256 .f32
  h10 : a10.IsWhole
  a11 : Memref sig .tc .vmem S256x1024 .bf16
  h11 : a11.IsWhole
  a12 : Memref sig .tc .vmem S256x1024 .f32
  h12 : a12.IsWhole
  a13 : Memref sig .tc .vmem S1x1024 .f32
  h13 : a13.IsWhole
  a14 : Memref sig .tc .vmem S256x1024 .f32
  h14 : a14.IsWhole
  a15 : Memref sig .tc .vmem S256x1024 .bf16
  h15 : a15.IsWhole
  a16 : Memref sig .tc .vmem S256x1024 .bf16
  h16 : a16.IsWhole
  a17 : Memref sig .tc .vmem S256x2048 .bf16
  h17 : a17.IsWhole
  a18 : Memref sig .tc .vmem S8x1024 .f32
  h18 : a18.IsWhole
  a19 : Memref sig .tc .vmem S1024x1024 .bf16
  h19 : a19.IsWhole
  a20 : Memref sig .tc .vmem S1024x1024 .bf16
  h20 : a20.IsWhole
  a21 : Memref sig .tc .vmem S1024x1024 .bf16
  h21 : a21.IsWhole
  a22 : Memref sig .tc .vmem S256x1024 .bf16
  h22 : a22.IsWhole
  a23 : Memref sig .tc .vmem S1024x1024 .f32
  h23 : a23.IsWhole
  a24 : Memref sig .tc .vmem S1024x1024 .f32
  h24 : a24.IsWhole
  a25 : Memref sig .tc .vmem S1024x1024 .f32
  h25 : a25.IsWhole
  a26 : Memref sig .tc .vmem S256x1024 .f32
  h26 : a26.IsWhole

/-- The body on the buffers `B`. -/
abbrev Bufs.body (B : Bufs) (i : grid0.Coords) : Prog (TpuEff nD τ sig (Elt F) Λ₀ .tc) PUnit :=
  cc0_token_chain i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26

variable (c : Dev nD) (B : Bufs) (b : Blocks F) (s : Sums F)

/-- Two halves stored one after the other: nothing is left of what was there. -/
theorem put_halves (old : Vec F S256x2048 .bf16) (l r : Vec F S256x1024 .bf16) :
    VecWindow.put (s := S256x2048) (VecWindow.put old ![0, 0] S256x1024.size l) ![0, 1024] S256x1024.size r
      = VecWindow.put (s := S256x2048) (fun y => l (ix2 (y 0) ⟨(y 1).val % 1024, Nat.mod_lt _ (by decide)⟩)) ![0, 1024] S256x1024.size r := by
  funext y
  have h0 : (y 0).val < 256 := (y 0).isLt
  have h1 : (y 1).val < 2048 := (y 1).isLt
  unfold VecWindow.put
  split
  · rfl
  · next h =>
    have hc : (y 1).val < 1024 := by
      by_contra hc
      refine h fun a => ?_
      fin_cases a
      · exact ⟨Nat.zero_le _, by show (y 0).val < 0 + 256; omega⟩
      · exact ⟨by show 1024 ≤ (y 1).val; omega, by show (y 1).val < 1024 + 1024; omega⟩
    rw [dif_pos (by
      intro a
      fin_cases a
      · exact ⟨Nat.zero_le _, by show (y 0).val < 0 + 256; omega⟩
      · exact ⟨Nat.zero_le _, by show (y 1).val < 0 + 1024; omega⟩)]
    congr 1
    funext a
    fin_cases a
    · exact Fin.ext (by show (y 0).val - 0 = (y 0).val; omega)
    · exact Fin.ext (by show (y 1).val - 0 = (y 1).val % 1024; omega)

/-- The blocks read, held. -/
def reading : sProp 𝕄 :=
  iprop(owns (c : Thread nD τ) B.a1 fullShare b.yap ∗ owns (c : Thread nD τ) B.a2 fullShare b.wa ∗ owns (c : Thread nD τ) B.a3 fullShare b.yb ∗ owns (c : Thread nD τ) B.a4 fullShare b.ga ∗ owns (c : Thread nD τ) B.a5 fullShare b.gb ∗ owns (c : Thread nD τ) B.a6 fullShare b.wo ∗ owns (c : Thread nD τ) B.a7 fullShare b.x ∗ owns (c : Thread nD τ) B.a8 fullShare b.gp ∗ owns (c : Thread nD τ) B.a9 fullShare b.wpg ∗ owns (c : Thread nD τ) B.a10 fullShare b.p ∗ owns (c : Thread nD τ) B.a11 fullShare b.wpl ∗ owns (c : Thread nD τ) B.a12 fullShare b.tg ∗ owns (c : Thread nD τ) B.a13 fullShare b.gf)
/-- The sums, held. -/
def keeping : sProp 𝕄 :=
  iprop(owns (c : Thread nD τ) B.a18 fullShare s.sm ∗ owns (c : Thread nD τ) B.a23 fullShare s.wa ∗ owns (c : Thread nD τ) B.a24 fullShare s.wo ∗ owns (c : Thread nD τ) B.a25 fullShare s.wpg ∗ owns (c : Thread nD τ) B.a26 fullShare s.wpl)
/-- The same buffers at anything. -/
def keepingAny : sProp (𝕄) :=
  iprop((∃ d, owns (c : Thread nD τ) B.a18 fullShare d) ∗ (∃ d, owns (c : Thread nD τ) B.a23 fullShare d) ∗ (∃ d, owns (c : Thread nD τ) B.a24 fullShare d) ∗ (∃ d, owns (c : Thread nD τ) B.a25 fullShare d) ∗ (∃ d, owns (c : Thread nD τ) B.a26 fullShare d))
/-- The blocks written at every point, at anything and as the point leaves them. -/
def writingAny : sProp (𝕄) :=
  iprop((∃ d, owns (c : Thread nD τ) B.a14 fullShare d) ∗ (∃ d, owns (c : Thread nD τ) B.a15 fullShare d) ∗ (∃ d, owns (c : Thread nD τ) B.a16 fullShare d) ∗ (∃ d, owns (c : Thread nD τ) B.a17 fullShare d))
def written : sProp 𝕄 :=
  iprop(owns (c : Thread nD τ) B.a14 fullShare b.out13 ∗ owns (c : Thread nD τ) B.a15 fullShare b.out14 ∗ owns (c : Thread nD τ) B.a16 fullShare b.out15 ∗ owns (c : Thread nD τ) B.a17 fullShare b.out16)
/-- The blocks of the weights' gradients, at anything and as the last point leaves them. -/
def weightsAny : sProp (𝕄) :=
  iprop((∃ d, owns (c : Thread nD τ) B.a19 fullShare d) ∗ (∃ d, owns (c : Thread nD τ) B.a20 fullShare d) ∗ (∃ d, owns (c : Thread nD τ) B.a21 fullShare d) ∗ (∃ d, owns (c : Thread nD τ) B.a22 fullShare d))
def weights : sProp 𝕄 :=
  iprop(owns (c : Thread nD τ) B.a19 fullShare (k0_pay3 s.wa) ∗ owns (c : Thread nD τ) B.a20 fullShare (k0_pay4 s.wo) ∗ owns (c : Thread nD τ) B.a21 fullShare (k0_pay5 s.wpg) ∗ owns (c : Thread nD τ) B.a22 fullShare (k0_pay6 s.wpl))

/-- The blocks as the body's loads read them, and the sums. -/
def Bufs.seen : Blocks F where
  yap := B.a1.view.readAt (Elt F) (Rect.unit ![0, 0] S256x1024.size inb_S256x1024_S256x1024_0_0).toLoadRect (B.h1.unread b.yap)
  wa := B.a2.view.readAt (Elt F) (Rect.unit ![0, 0] S1024x1024.size inb_S1024x1024_S1024x1024_0_0).toLoadRect (B.h2.unread b.wa)
  yb := B.a3.view.readAt (Elt F) (Rect.unit ![0, 0] S256x1024.size inb_S256x1024_S256x1024_0_0).toLoadRect (B.h3.unread b.yb)
  ga := B.a4.view.readAt (Elt F) (Rect.unit ![0, 0] S256x1024.size inb_S256x1024_S256x1024_0_0).toLoadRect (B.h4.unread b.ga)
  gb := B.a5.view.readAt (Elt F) (Rect.unit ![0, 0] S256x1024.size inb_S256x1024_S256x1024_0_0).toLoadRect (B.h5.unread b.gb)
  wo := B.a6.view.readAt (Elt F) (Rect.unit ![0, 0] S1024x1024.size inb_S1024x1024_S1024x1024_0_0).toLoadRect (B.h6.unread b.wo)
  x := B.a7.view.readAt (Elt F) (Rect.unit ![0, 0] S256x1024.size inb_S256x1024_S256x1024_0_0).toLoadRect (B.h7.unread b.x)
  gp := B.a8.view.readAt (Elt F) (Rect.unit ![0, 0] S1x1024.size inb_S1x1024_S1x1024_0_0).toLoadRect (B.h8.unread b.gp)
  wpg := B.a9.view.readAt (Elt F) (Rect.unit ![0, 0] S1024x1024.size inb_S1024x1024_S1024x1024_0_0).toLoadRect (B.h9.unread b.wpg)
  p := B.a10.view.readAt (Elt F) (Rect.unit ![0, 0] S256x256.size inb_S256x256_S256x256_0_0).toLoadRect (B.h10.unread b.p)
  wpl := B.a11.view.readAt (Elt F) (Rect.unit ![0, 0] S256x1024.size inb_S256x1024_S256x1024_0_0).toLoadRect (B.h11.unread b.wpl)
  tg := B.a12.view.readAt (Elt F) (Rect.unit ![0, 0] S256x1024.size inb_S256x1024_S256x1024_0_0).toLoadRect (B.h12.unread b.tg)
  gf := B.a13.view.readAt (Elt F) (Rect.unit ![0, 0] S1x1024.size inb_S1x1024_S1x1024_0_0).toLoadRect (B.h13.unread b.gf)
def Bufs.found : Sums F where
  sm := B.a18.view.read (Elt F) (B.h18.unread s.sm)
  wa := B.a23.view.readAt (Elt F) (Rect.unit ![0, 0] S1024x1024.size inb_S1024x1024_S1024x1024_0_0).toLoadRect (B.h23.unread s.wa)
  wo := B.a24.view.readAt (Elt F) (Rect.unit ![0, 0] S1024x1024.size inb_S1024x1024_S1024x1024_0_0).toLoadRect (B.h24.unread s.wo)
  wpg := B.a25.view.readAt (Elt F) (Rect.unit ![0, 0] S1024x1024.size inb_S1024x1024_S1024x1024_0_0).toLoadRect (B.h25.unread s.wpg)
  wpl := B.a26.view.readAt (Elt F) (Rect.unit ![0, 0] S256x1024.size inb_S256x1024_S256x1024_0_0).toLoadRect (B.h26.unread s.wpl)

theorem Bufs.seen_eq : B.seen b = b := by
  cases b
  unfold Bufs.seen
  congr 1 <;> exact (View.readAt_full _ _ _).trans (Memref.IsWhole.read_unread _ _)

theorem Bufs.found_eq : B.found s = s := by
  cases s
  unfold Bufs.found
  congr 1 <;> first | exact (View.readAt_full _ _ _).trans (Memref.IsWhole.read_unread _ _) | exact Memref.IsWhole.read_unread _ _

/-- The sums as the first point's loads read them. -/
def Bufs.cleared : Sums F where
  sm := Sums.zero.sm
  wa := B.a23.view.readCov [⟨Rect.unit ![0, 0] S1024x1024.size inb_S1024x1024_S1024x1024_0_0, k0_pay8⟩] (Rect.unit ![0, 0] S1024x1024.size inb_S1024x1024_S1024x1024_0_0).toLoadRect
  wo := B.a24.view.readCov [⟨Rect.unit ![0, 0] S1024x1024.size inb_S1024x1024_S1024x1024_0_0, k0_pay9⟩] (Rect.unit ![0, 0] S1024x1024.size inb_S1024x1024_S1024x1024_0_0).toLoadRect
  wpg := B.a25.view.readCov [⟨Rect.unit ![0, 0] S1024x1024.size inb_S1024x1024_S1024x1024_0_0, k0_pay10⟩] (Rect.unit ![0, 0] S1024x1024.size inb_S1024x1024_S1024x1024_0_0).toLoadRect
  wpl := B.a26.view.readCov [⟨Rect.unit ![0, 0] S256x1024.size inb_S256x1024_S256x1024_0_0, k0_pay11⟩] (Rect.unit ![0, 0] S256x1024.size inb_S256x1024_S256x1024_0_0).toLoadRect

theorem Bufs.cleared_eq : B.cleared = (Sums.zero : Sums F) := by
  unfold Bufs.cleared Sums.zero
  congr 1 <;> exact View.readCov_full _ _ _ _ _

/-- The rows of the small array as the first point stores them. -/
def Bufs.row0 : Vec F S1x1024 .f32 :=
  k0_pay47 (B.seen b).losses (B.a18.view.readCov [⟨Rect.unit ![0, 0] S8x1024.size inb_S8x1024_S8x1024_0_0, k0_pay7⟩]
    (Rect.unit ![0, 0] ![1, 1024] inb_S8x1024_S1x1024_0_0).toLoadRect)
def Bufs.row1 : Vec F S1x1024 .f32 :=
  k0_pay1 (B.seen b).xh2 (B.seen b).dy (B.a18.view.readCov [⟨Rect.unit ![0, 0] ![1, 1024] inb_S8x1024_S1x1024_0_0, B.row0 b⟩,
    ⟨Rect.unit ![0, 0] S8x1024.size inb_S8x1024_S8x1024_0_0, k0_pay7⟩] (Rect.unit (s := S8x1024) ![1, 0] ![1, 1024] inb_S8x1024_S1x1024_1_0).toLoadRect)
def Bufs.row2 : Vec F S1x1024 .f32 :=
  k0_pay2 (B.seen b).xh1 (B.seen b).dhn (B.a18.view.readCov [⟨Rect.unit ![1, 0] ![1, 1024] inb_S8x1024_S1x1024_1_0, B.row1 b⟩,
    ⟨Rect.unit ![0, 0] ![1, 1024] inb_S8x1024_S1x1024_0_0, B.row0 b⟩, ⟨Rect.unit ![0, 0] S8x1024.size inb_S8x1024_S8x1024_0_0, k0_pay7⟩]
    (Rect.unit (s := S8x1024) ![2, 0] ![1, 1024] inb_S8x1024_S1x1024_2_0).toLoadRect)

theorem Bufs.rows_eq (f : BufTy.Contents (Elt F) B.a18.view.ty) :
    B.a18.view.read (Elt F) (B.a18.view.writes (Elt F) f [⟨Rect.unit ![2, 0] ![1, 1024] inb_S8x1024_S1x1024_2_0, B.row2 b⟩,
      ⟨Rect.unit ![1, 0] ![1, 1024] inb_S8x1024_S1x1024_1_0, B.row1 b⟩, ⟨Rect.unit ![0, 0] ![1, 1024] inb_S8x1024_S1x1024_0_0, B.row0 b⟩,
      ⟨Rect.unit ![0, 0] S8x1024.size inb_S8x1024_S8x1024_0_0, k0_pay7⟩]) = (b.next Sums.zero).sm := by
  rw [View.read_writes_cons_put _ _ _ _ _ rfl, View.read_writes_cons_put _ _ _ _ _ rfl, View.read_writes_cons_put _ _ _ _ _ rfl, View.read_writes_full]
  have e0 : B.row0 b = k0_pay47 b.losses (Blocks.row 0 (by decide) k0_pay7) := by
    unfold Bufs.row0 View.readCov
    rw [View.readAt_unit _ _ _ rfl inb_S8x1024_S1x1024_0_0, View.read_writes_full, B.seen_eq]
    rfl
  have e1 : B.row1 b = k0_pay1 b.xh2 b.dy (Blocks.row 1 (by decide) k0_pay7) := by
    unfold Bufs.row1 View.readCov
    rw [View.readAt_unit _ _ _ rfl inb_S8x1024_S1x1024_1_0, View.read_writes_cons_put _ _ _ _ _ rfl, View.read_writes_full, B.seen_eq,
      VecWindow.window_put_of_disjoint _ _ _ _ _ _ _ 0 (Or.inr (by decide))]
    rfl
  have e2 : B.row2 b = k0_pay2 b.xh1 b.dhn (Blocks.row 2 (by decide) k0_pay7) := by
    unfold Bufs.row2 View.readCov
    rw [View.readAt_unit _ _ _ rfl inb_S8x1024_S1x1024_2_0, View.read_writes_cons_put _ _ _ _ _ rfl, View.read_writes_cons_put _ _ _ _ _ rfl,
      View.read_writes_full, B.seen_eq, VecWindow.window_put_of_disjoint _ _ _ _ _ _ _ 0 (Or.inr (by decide)),
      VecWindow.window_put_of_disjoint _ _ _ _ _ _ _ 0 (Or.inr (by decide))]
    rfl
  rw [e0, e1, e2]
  rfl

set_option maxHeartbeats 4000000 in
/-- A point between: the sums found are added to. -/
theorem run_middle (i : grid0.Coords) (hc0 : ¬cond0_0 i) (hc1 : ¬cond0_1 i) (E : Set ℕ) (K : PUnit → sProp 𝕄) :
    iprop(reading c B b ∗ writingAny (F := F) c B ∗ keeping c B s
        ∗ (iprop(reading c B b ∗ written c B b ∗ keeping c B (b.next s) ) -∗ K ⟨⟩))
      ⊢ wp frame (wpE (defs₀ (F := F)) Variants.none c none) E (B.body i) K := by
  unfold Bufs.body reading writingAny written keeping
  simp only [cc0_token_chain_eq_skeleton]; unfold cc0_token_chain_skel
  simp only [k0_part1_eq_skeleton, k0_part2_eq_skeleton, k0_part3_eq_skeleton, k0_part4_eq_skeleton, k0_part5_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, ⟨⟨%d14, %f14, %e14, H14⟩, ⟨%d15, %f15, %e15, H15⟩, ⟨%d16, %f16, %e16, H16⟩, ⟨%d17, %f17, %e17, H17⟩⟩, ⟨⟨%f18, %e18, H18⟩, ⟨%f23, %e23, H23⟩, ⟨%f24, %e24, H24⟩, ⟨%f25, %e25, H25⟩, ⟨%f26, %e26, H26⟩⟩, Hk⟩
  obtain rfl := B.h1.eq_unread e1
  obtain rfl := B.h2.eq_unread e2
  obtain rfl := B.h3.eq_unread e3
  obtain rfl := B.h4.eq_unread e4
  obtain rfl := B.h5.eq_unread e5
  obtain rfl := B.h6.eq_unread e6
  obtain rfl := B.h7.eq_unread e7
  obtain rfl := B.h8.eq_unread e8
  obtain rfl := B.h9.eq_unread e9
  obtain rfl := B.h10.eq_unread e10
  obtain rfl := B.h11.eq_unread e11
  obtain rfl := B.h12.eq_unread e12
  obtain rfl := B.h13.eq_unread e13
  obtain rfl := B.h18.eq_unread e18
  obtain rfl := B.h23.eq_unread e23
  obtain rfl := B.h24.eq_unread e24
  obtain rfl := B.h25.eq_unread e25
  obtain rfl := B.h26.eq_unread e26
  sl_exec (disch := first | sl_exact hc0 | sl_exact hc1)
  sl_step
  iapply Hk
  isplitl [H1 H2 H3 H4 H5 H6 H7 H8 H9 H10 H11 H12 H13]
  · isplitl [H1]; · iexists _; isplitr; swap; iexact H1; ipureintro; exact B.h1.read_unread _
    isplitl [H2]; · iexists _; isplitr; swap; iexact H2; ipureintro; exact B.h2.read_unread _
    isplitl [H3]; · iexists _; isplitr; swap; iexact H3; ipureintro; exact B.h3.read_unread _
    isplitl [H4]; · iexists _; isplitr; swap; iexact H4; ipureintro; exact B.h4.read_unread _
    isplitl [H5]; · iexists _; isplitr; swap; iexact H5; ipureintro; exact B.h5.read_unread _
    isplitl [H6]; · iexists _; isplitr; swap; iexact H6; ipureintro; exact B.h6.read_unread _
    isplitl [H7]; · iexists _; isplitr; swap; iexact H7; ipureintro; exact B.h7.read_unread _
    isplitl [H8]; · iexists _; isplitr; swap; iexact H8; ipureintro; exact B.h8.read_unread _
    isplitl [H9]; · iexists _; isplitr; swap; iexact H9; ipureintro; exact B.h9.read_unread _
    isplitl [H10]; · iexists _; isplitr; swap; iexact H10; ipureintro; exact B.h10.read_unread _
    isplitl [H11]; · iexists _; isplitr; swap; iexact H11; ipureintro; exact B.h11.read_unread _
    isplitl [H12]; · iexists _; isplitr; swap; iexact H12; ipureintro; exact B.h12.read_unread _
    iexists _; isplitr; swap; iexact H13; ipureintro; exact B.h13.read_unread _
  isplitl [H14 H15 H16 H17]
  · isplitl [H14]; · iexists _; isplitr; swap; iexact H14; ipureintro; refine (View.read_writes_full _ _ _ _ _).trans (Eq.trans ?_ (congrArg Blocks.out13 (B.seen_eq b))); sl_kernel_rfl
    isplitl [H15]; · iexists _; isplitr; swap; iexact H15; ipureintro; refine (View.read_writes_full _ _ _ _ _).trans (Eq.trans ?_ (congrArg Blocks.out14 (B.seen_eq b))); sl_kernel_rfl
    isplitl [H16]; · iexists _; isplitr; swap; iexact H16; ipureintro; refine (View.read_writes_full _ _ _ _ _).trans (Eq.trans ?_ (congrArg Blocks.out15 (B.seen_eq b))); sl_kernel_rfl
    iexists _; isplitr; swap; iexact H17; ipureintro; rw [View.read_writes_cons_put _ _ _ _ _ rfl, View.read_writes_cons_put _ _ _ _ _ rfl]; refine (put_halves _ _ _).trans (Eq.trans ?_ (congrArg Blocks.out16 (B.seen_eq b))); sl_kernel_rfl
  isplitl [H18]; · iexists _; isplitr; swap; iexact H18; ipureintro; rw [View.read_writes_cons_put _ _ _ _ _ rfl, View.read_writes_cons_put _ _ _ _ _ rfl, View.read_writes_cons_put _ _ _ _ _ rfl, View.writes_nil]; refine Eq.trans rfl (Eq.trans ?_ (congrArg₂ (fun b s => (Blocks.next b s).sm) (B.seen_eq b) (B.found_eq s))); sl_kernel_rfl
  isplitl [H23]; · iexists _; isplitr; swap; iexact H23; ipureintro; refine (View.read_writes_full _ _ _ _ _).trans (Eq.trans ?_ (congrArg₂ (fun b s => (Blocks.next b s).wa) (B.seen_eq b) (B.found_eq s))); sl_kernel_rfl
  isplitl [H24]; · iexists _; isplitr; swap; iexact H24; ipureintro; refine (View.read_writes_full _ _ _ _ _).trans (Eq.trans ?_ (congrArg₂ (fun b s => (Blocks.next b s).wo) (B.seen_eq b) (B.found_eq s))); sl_kernel_rfl
  isplitl [H25]; · iexists _; isplitr; swap; iexact H25; ipureintro; refine (View.read_writes_full _ _ _ _ _).trans (Eq.trans ?_ (congrArg₂ (fun b s => (Blocks.next b s).wpg) (B.seen_eq b) (B.found_eq s))); sl_kernel_rfl
  iexists _; isplitr; swap; iexact H26; ipureintro; refine (View.read_writes_full _ _ _ _ _).trans (Eq.trans ?_ (congrArg₂ (fun b s => (Blocks.next b s).wpl) (B.seen_eq b) (B.found_eq s))); sl_kernel_rfl
set_option maxHeartbeats 4000000 in
/-- The last point: the sums are cast and written out. -/
theorem run_last (i : grid0.Coords) (hc0 : ¬cond0_0 i) (hc1 : cond0_1 i) (E : Set ℕ) (K : PUnit → sProp 𝕄) :
    iprop(reading c B b ∗ writingAny (F := F) c B ∗ keeping c B s ∗ weightsAny (F := F) c B
        ∗ (iprop(reading c B b ∗ written c B b ∗ keeping c B (b.next s) ∗ weights c B (b.next s)) -∗ K ⟨⟩))
      ⊢ wp frame (wpE (defs₀ (F := F)) Variants.none c none) E (B.body i) K := by
  unfold Bufs.body reading writingAny written keeping weightsAny weights
  simp only [cc0_token_chain_eq_skeleton]; unfold cc0_token_chain_skel
  simp only [k0_part1_eq_skeleton, k0_part2_eq_skeleton, k0_part3_eq_skeleton, k0_part4_eq_skeleton, k0_part5_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, ⟨⟨%d14, %f14, %e14, H14⟩, ⟨%d15, %f15, %e15, H15⟩, ⟨%d16, %f16, %e16, H16⟩, ⟨%d17, %f17, %e17, H17⟩⟩, ⟨⟨%f18, %e18, H18⟩, ⟨%f23, %e23, H23⟩, ⟨%f24, %e24, H24⟩, ⟨%f25, %e25, H25⟩, ⟨%f26, %e26, H26⟩⟩, ⟨⟨%d19, %f19, %e19, H19⟩, ⟨%d20, %f20, %e20, H20⟩, ⟨%d21, %f21, %e21, H21⟩, ⟨%d22, %f22, %e22, H22⟩⟩, Hk⟩
  obtain rfl := B.h1.eq_unread e1
  obtain rfl := B.h2.eq_unread e2
  obtain rfl := B.h3.eq_unread e3
  obtain rfl := B.h4.eq_unread e4
  obtain rfl := B.h5.eq_unread e5
  obtain rfl := B.h6.eq_unread e6
  obtain rfl := B.h7.eq_unread e7
  obtain rfl := B.h8.eq_unread e8
  obtain rfl := B.h9.eq_unread e9
  obtain rfl := B.h10.eq_unread e10
  obtain rfl := B.h11.eq_unread e11
  obtain rfl := B.h12.eq_unread e12
  obtain rfl := B.h13.eq_unread e13
  obtain rfl := B.h18.eq_unread e18
  obtain rfl := B.h23.eq_unread e23
  obtain rfl := B.h24.eq_unread e24
  obtain rfl := B.h25.eq_unread e25
  obtain rfl := B.h26.eq_unread e26
  sl_exec (disch := first | sl_exact hc0 | sl_exact hc1)
  sl_step
  iapply Hk
  isplitl [H1 H2 H3 H4 H5 H6 H7 H8 H9 H10 H11 H12 H13]
  · isplitl [H1]; · iexists _; isplitr; swap; iexact H1; ipureintro; exact B.h1.read_unread _
    isplitl [H2]; · iexists _; isplitr; swap; iexact H2; ipureintro; exact B.h2.read_unread _
    isplitl [H3]; · iexists _; isplitr; swap; iexact H3; ipureintro; exact B.h3.read_unread _
    isplitl [H4]; · iexists _; isplitr; swap; iexact H4; ipureintro; exact B.h4.read_unread _
    isplitl [H5]; · iexists _; isplitr; swap; iexact H5; ipureintro; exact B.h5.read_unread _
    isplitl [H6]; · iexists _; isplitr; swap; iexact H6; ipureintro; exact B.h6.read_unread _
    isplitl [H7]; · iexists _; isplitr; swap; iexact H7; ipureintro; exact B.h7.read_unread _
    isplitl [H8]; · iexists _; isplitr; swap; iexact H8; ipureintro; exact B.h8.read_unread _
    isplitl [H9]; · iexists _; isplitr; swap; iexact H9; ipureintro; exact B.h9.read_unread _
    isplitl [H10]; · iexists _; isplitr; swap; iexact H10; ipureintro; exact B.h10.read_unread _
    isplitl [H11]; · iexists _; isplitr; swap; iexact H11; ipureintro; exact B.h11.read_unread _
    isplitl [H12]; · iexists _; isplitr; swap; iexact H12; ipureintro; exact B.h12.read_unread _
    iexists _; isplitr; swap; iexact H13; ipureintro; exact B.h13.read_unread _
  isplitl [H14 H15 H16 H17]
  · isplitl [H14]; · iexists _; isplitr; swap; iexact H14; ipureintro; refine (View.read_writes_full _ _ _ _ _).trans (Eq.trans ?_ (congrArg Blocks.out13 (B.seen_eq b))); sl_kernel_rfl
    isplitl [H15]; · iexists _; isplitr; swap; iexact H15; ipureintro; refine (View.read_writes_full _ _ _ _ _).trans (Eq.trans ?_ (congrArg Blocks.out14 (B.seen_eq b))); sl_kernel_rfl
    isplitl [H16]; · iexists _; isplitr; swap; iexact H16; ipureintro; refine (View.read_writes_full _ _ _ _ _).trans (Eq.trans ?_ (congrArg Blocks.out15 (B.seen_eq b))); sl_kernel_rfl
    iexists _; isplitr; swap; iexact H17; ipureintro; rw [View.read_writes_cons_put _ _ _ _ _ rfl, View.read_writes_cons_put _ _ _ _ _ rfl]; refine (put_halves _ _ _).trans (Eq.trans ?_ (congrArg Blocks.out16 (B.seen_eq b))); sl_kernel_rfl
  isplitl [H18 H23 H24 H25 H26]
  · isplitl [H18]; · iexists _; isplitr; swap; iexact H18; ipureintro; rw [View.read_writes_cons_put _ _ _ _ _ rfl, View.read_writes_cons_put _ _ _ _ _ rfl, View.read_writes_cons_put _ _ _ _ _ rfl, View.writes_nil]; refine Eq.trans rfl (Eq.trans ?_ (congrArg₂ (fun b s => (Blocks.next b s).sm) (B.seen_eq b) (B.found_eq s))); sl_kernel_rfl
    isplitl [H23]; · iexists _; isplitr; swap; iexact H23; ipureintro; refine (View.read_writes_full _ _ _ _ _).trans (Eq.trans ?_ (congrArg₂ (fun b s => (Blocks.next b s).wa) (B.seen_eq b) (B.found_eq s))); sl_kernel_rfl
    isplitl [H24]; · iexists _; isplitr; swap; iexact H24; ipureintro; refine (View.read_writes_full _ _ _ _ _).trans (Eq.trans ?_ (congrArg₂ (fun b s => (Blocks.next b s).wo) (B.seen_eq b) (B.found_eq s))); sl_kernel_rfl
    isplitl [H25]; · iexists _; isplitr; swap; iexact H25; ipureintro; refine (View.read_writes_full _ _ _ _ _).trans (Eq.trans ?_ (congrArg₂ (fun b s => (Blocks.next b s).wpg) (B.seen_eq b) (B.found_eq s))); sl_kernel_rfl
    iexists _; isplitr; swap; iexact H26; ipureintro; refine (View.read_writes_full _ _ _ _ _).trans (Eq.trans ?_ (congrArg₂ (fun b s => (Blocks.next b s).wpl) (B.seen_eq b) (B.found_eq s))); sl_kernel_rfl
  isplitl [H19]; · iexists _; isplitr; swap; iexact H19; ipureintro; refine (View.read_writes_full _ _ _ _ _).trans (congrArg k0_pay3 ((View.readCov_full _ _ _ _ _).trans (Eq.trans ?_ (congrArg₂ (fun b s => (Blocks.next b s).wa) (B.seen_eq b) (B.found_eq s))))); sl_kernel_rfl
  isplitl [H20]; · iexists _; isplitr; swap; iexact H20; ipureintro; refine (View.read_writes_full _ _ _ _ _).trans (congrArg k0_pay4 ((View.readCov_full _ _ _ _ _).trans (Eq.trans ?_ (congrArg₂ (fun b s => (Blocks.next b s).wo) (B.seen_eq b) (B.found_eq s))))); sl_kernel_rfl
  isplitl [H21]; · iexists _; isplitr; swap; iexact H21; ipureintro; refine (View.read_writes_full _ _ _ _ _).trans (congrArg k0_pay5 ((View.readCov_full _ _ _ _ _).trans (Eq.trans ?_ (congrArg₂ (fun b s => (Blocks.next b s).wpg) (B.seen_eq b) (B.found_eq s))))); sl_kernel_rfl
  iexists _; isplitr; swap; iexact H22; ipureintro; refine (View.read_writes_full _ _ _ _ _).trans (congrArg k0_pay6 ((View.readCov_full _ _ _ _ _).trans (Eq.trans ?_ (congrArg₂ (fun b s => (Blocks.next b s).wpl) (B.seen_eq b) (B.found_eq s))))); sl_kernel_rfl
set_option maxHeartbeats 4000000 in
/-- The first point: the sums are cleared before they are added to. -/
theorem run_first (i : grid0.Coords) (hc0 : cond0_0 i) (hc1 : ¬cond0_1 i) (E : Set ℕ) (K : PUnit → sProp 𝕄) :
    iprop(reading c B b ∗ writingAny (F := F) c B ∗ keepingAny (F := F) c B
        ∗ (iprop(reading c B b ∗ written c B b ∗ keeping c B (b.next Sums.zero) ) -∗ K ⟨⟩))
      ⊢ wp frame (wpE (defs₀ (F := F)) Variants.none c none) E (B.body i) K := by
  unfold Bufs.body reading writingAny written keepingAny keeping
  simp only [cc0_token_chain_eq_skeleton]; unfold cc0_token_chain_skel
  simp only [k0_part1_eq_skeleton, k0_part2_eq_skeleton, k0_part3_eq_skeleton, k0_part4_eq_skeleton, k0_part5_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, ⟨⟨%d14, %f14, %e14, H14⟩, ⟨%d15, %f15, %e15, H15⟩, ⟨%d16, %f16, %e16, H16⟩, ⟨%d17, %f17, %e17, H17⟩⟩, ⟨⟨%d18, %f18, %e18, H18⟩, ⟨%d23, %f23, %e23, H23⟩, ⟨%d24, %f24, %e24, H24⟩, ⟨%d25, %f25, %e25, H25⟩, ⟨%d26, %f26, %e26, H26⟩⟩, Hk⟩
  obtain rfl := B.h1.eq_unread e1
  obtain rfl := B.h2.eq_unread e2
  obtain rfl := B.h3.eq_unread e3
  obtain rfl := B.h4.eq_unread e4
  obtain rfl := B.h5.eq_unread e5
  obtain rfl := B.h6.eq_unread e6
  obtain rfl := B.h7.eq_unread e7
  obtain rfl := B.h8.eq_unread e8
  obtain rfl := B.h9.eq_unread e9
  obtain rfl := B.h10.eq_unread e10
  obtain rfl := B.h11.eq_unread e11
  obtain rfl := B.h12.eq_unread e12
  obtain rfl := B.h13.eq_unread e13
  sl_exec (disch := first | sl_exact hc0 | sl_exact hc1)
  sl_step
  iapply Hk
  isplitl [H1 H2 H3 H4 H5 H6 H7 H8 H9 H10 H11 H12 H13]
  · isplitl [H1]; · iexists _; isplitr; swap; iexact H1; ipureintro; exact B.h1.read_unread _
    isplitl [H2]; · iexists _; isplitr; swap; iexact H2; ipureintro; exact B.h2.read_unread _
    isplitl [H3]; · iexists _; isplitr; swap; iexact H3; ipureintro; exact B.h3.read_unread _
    isplitl [H4]; · iexists _; isplitr; swap; iexact H4; ipureintro; exact B.h4.read_unread _
    isplitl [H5]; · iexists _; isplitr; swap; iexact H5; ipureintro; exact B.h5.read_unread _
    isplitl [H6]; · iexists _; isplitr; swap; iexact H6; ipureintro; exact B.h6.read_unread _
    isplitl [H7]; · iexists _; isplitr; swap; iexact H7; ipureintro; exact B.h7.read_unread _
    isplitl [H8]; · iexists _; isplitr; swap; iexact H8; ipureintro; exact B.h8.read_unread _
    isplitl [H9]; · iexists _; isplitr; swap; iexact H9; ipureintro; exact B.h9.read_unread _
    isplitl [H10]; · iexists _; isplitr; swap; iexact H10; ipureintro; exact B.h10.read_unread _
    isplitl [H11]; · iexists _; isplitr; swap; iexact H11; ipureintro; exact B.h11.read_unread _
    isplitl [H12]; · iexists _; isplitr; swap; iexact H12; ipureintro; exact B.h12.read_unread _
    iexists _; isplitr; swap; iexact H13; ipureintro; exact B.h13.read_unread _
  isplitl [H14 H15 H16 H17]
  · isplitl [H14]; · iexists _; isplitr; swap; iexact H14; ipureintro; refine (View.read_writes_full _ _ _ _ _).trans (Eq.trans ?_ (congrArg Blocks.out13 (B.seen_eq b))); sl_kernel_rfl
    isplitl [H15]; · iexists _; isplitr; swap; iexact H15; ipureintro; refine (View.read_writes_full _ _ _ _ _).trans (Eq.trans ?_ (congrArg Blocks.out14 (B.seen_eq b))); sl_kernel_rfl
    isplitl [H16]; · iexists _; isplitr; swap; iexact H16; ipureintro; refine (View.read_writes_full _ _ _ _ _).trans (Eq.trans ?_ (congrArg Blocks.out15 (B.seen_eq b))); sl_kernel_rfl
    iexists _; isplitr; swap; iexact H17; ipureintro; rw [View.read_writes_cons_put _ _ _ _ _ rfl, View.read_writes_cons_put _ _ _ _ _ rfl]; refine (put_halves _ _ _).trans (Eq.trans ?_ (congrArg Blocks.out16 (B.seen_eq b))); sl_kernel_rfl
  isplitl [H18]; · iexists _; isplitr; swap; iexact H18; ipureintro; refine Eq.trans ?_ (B.rows_eq b f18); sl_kernel_rfl
  isplitl [H23]; · iexists _; isplitr; swap; iexact H23; ipureintro; refine (View.read_writes_full _ _ _ _ _).trans (Eq.trans ?_ (congrArg₂ (fun b s => (Blocks.next b s).wa) (B.seen_eq b) B.cleared_eq)); sl_kernel_rfl
  isplitl [H24]; · iexists _; isplitr; swap; iexact H24; ipureintro; refine (View.read_writes_full _ _ _ _ _).trans (Eq.trans ?_ (congrArg₂ (fun b s => (Blocks.next b s).wo) (B.seen_eq b) B.cleared_eq)); sl_kernel_rfl
  isplitl [H25]; · iexists _; isplitr; swap; iexact H25; ipureintro; refine (View.read_writes_full _ _ _ _ _).trans (Eq.trans ?_ (congrArg₂ (fun b s => (Blocks.next b s).wpg) (B.seen_eq b) B.cleared_eq)); sl_kernel_rfl
  iexists _; isplitr; swap; iexact H26; ipureintro; refine (View.read_writes_full _ _ _ _ _).trans (Eq.trans ?_ (congrArg₂ (fun b s => (Blocks.next b s).wpl) (B.seen_eq b) B.cleared_eq)); sl_kernel_rfl

end Cert.Kernel3Ideal.Chain

end
-- ==== Proof.Chain.Frame.lean ====
/- The token chain's kernel over its grid: the proof data from the blocks and the carried sums, the body's obligation at every point, and the run. -/
module

public import proofs.«01_k».proof.Proof.Chain.Body
public import Idealize.ShloMosaic.Lib.Claim

@[expose] public section

set_option maxRecDepth 16384

noncomputable section

namespace Cert.Kernel3Ideal.Chain

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of point `t`. -/
def bufs (t : Fin cfg0.N) : Bufs where
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := ms0_8 t
  h9 := hs0_8 t
  a10 := ms0_9 t
  h10 := hs0_9 t
  a11 := ms0_10 t
  h11 := hs0_10 t
  a12 := ms0_11 t
  h12 := hs0_11 t
  a13 := ms0_12 t
  h13 := hs0_12 t
  a14 := ms0_13 t
  h14 := hs0_13 t
  a15 := ms0_14 t
  h15 := hs0_14 t
  a16 := ms0_15 t
  h16 := hs0_15 t
  a17 := ms0_16 t
  h17 := hs0_16 t
  a18 := ms0_17 t
  h18 := hs0_17 t
  a19 := ms0_18 t
  h19 := hs0_18 t
  a20 := ms0_19 t
  h20 := hs0_19 t
  a21 := ms0_20 t
  h21 := hs0_20 t
  a22 := ms0_21 t
  h22 := hs0_21 t
  a23 := scM0_0
  h23 := Memref.isWhole_whole _
  a24 := scM0_1
  h24 := Memref.isWhole_whole _
  a25 := scM0_2
  h25 := Memref.isWhole_whole _
  a26 := scM0_3
  h26 := Memref.isWhole_whole _

/-- The blocks that point `t` reads. -/
def blocks (c : Dev nD) (t : Fin cfg0.N) : Blocks F where
  yap := iblk m c 0 t
  wa := iblk m c 1 t
  yb := iblk m c 2 t
  ga := iblk m c 3 t
  gb := iblk m c 4 t
  wo := iblk m c 5 t
  x := iblk m c 6 t
  gp := iblk m c 7 t
  wpg := iblk m c 8 t
  p := iblk m c 9 t
  wpl := iblk m c 10 t
  tg := iblk m c 11 t
  gf := iblk m c 12 t

/-- The sums before point `n`. -/
def sums (c : Dev nD) : ℕ → Sums F
  | 0 => Sums.zero
  | n + 1 => if h : n < cfg0.N then (blocks m c ⟨n, h⟩).next (sums c n) else sums c n

theorem sums_succ (c : Dev nD) (t : Fin cfg0.N) : sums m c (t.val + 1) = (blocks m c t).next (sums m c t.val) := dif_pos t.isLt

/-- What is carried: before the first point anything, after it the sums. -/
def carried (c : Dev nD) : ℕ → sProp 𝕄
  | 0 => Pipeline.ΦA spec0 c
  | n + 1 => iprop(iprop(owns (c : Thread nD τ) scM0_0 fullShare (sums m c (n + 1)).wa ∗ owns (c : Thread nD τ) scM0_1 fullShare (sums m c (n + 1)).wo
      ∗ owns (c : Thread nD τ) scM0_2 fullShare (sums m c (n + 1)).wpg ∗ owns (c : Thread nD τ) scM0_3 fullShare (sums m c (n + 1)).wpl)
      ∗ (∃ r, prngReg c r))

theorem carried_succ (c : Dev nD) (n : ℕ) :
    carried m c (n + 1) = iprop(iprop(owns (c : Thread nD τ) scM0_0 fullShare (sums m c (n + 1)).wa ∗ owns (c : Thread nD τ) scM0_1 fullShare (sums m c (n + 1)).wo
      ∗ owns (c : Thread nD τ) scM0_2 fullShare (sums m c (n + 1)).wpg ∗ owns (c : Thread nD τ) scM0_3 fullShare (sums m c (n + 1)).wpl)
      ∗ (∃ r, prngReg c r)) := rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (blocks m c t).out13
    | ⟨14, _⟩ => (blocks m c t).out14
    | ⟨15, _⟩ => (blocks m c t).out15
    | ⟨16, _⟩ => (blocks m c t).out16
    | ⟨17, _⟩ => (sums m c (t.val + 1)).sm
    | ⟨18, _⟩ => k0_pay3 (sums m c (t.val + 1)).wa
    | ⟨19, _⟩ => k0_pay4 (sums m c (t.val + 1)).wo
    | ⟨20, _⟩ => k0_pay5 (sums m c (t.val + 1)).wpg
    | ⟨21, _⟩ => k0_pay6 (sums m c (t.val + 1)).wpl
    | ⟨k + 22, h⟩ => absurd h (by show ¬ k + 22 < 22; omega)
  Φ t := carried m c t.val
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d
theorem before_11 (c : Dev nD) (t : Fin cfg0.N) (d) : (dats m 0 c).before 11 t d = iblk m c 11 t :=
  before0_11_of m (dats m 0 c) (A_eq m c 11) (fun _ => by dsimp only [dats]) t d
theorem before_12 (c : Dev nD) (t : Fin cfg0.N) (d) : (dats m 0 c).before 12 t d = iblk m c 12 t :=
  before0_12_of m (dats m 0 c) (A_eq m c 12) (fun _ => by dsimp only [dats]) t d

/-- The small array's block stays in its buffer from point to point. -/
theorem before_17 (c : Dev nD) (t : Fin cfg0.N) (h0 : ¬t.val = 0) (d) : (dats m 0 c).before 17 t d = (sums m c t.val).sm := by
  have hN : t.val < 64 := lt_of_lt_of_eq t.isLt (show cfg0.N = 64 from N_0)
  rw [Dat.before_out_kept _ 17 rfl t (by omega) (Bool.eq_false_iff.mpr fun h => by have := (flush0_17 _).mp h; dsimp only at this; omega)
    (fun _ => rfl) (fun _ _ => rfl)]
  dsimp only [dats]
  rw [show t.val - 1 + 1 = t.val by omega]

/-- A window that the point works on is left at what the proof data says. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window as the point finds it. -/
abbrev found (c : Dev nD) (w : Fin cfg0.W) (t : Fin cfg0.N) : sProp 𝕄 :=
  iprop(∃ d, owns (c : Thread nD τ) ((cfg0.win w).stage (cfg0.slots t w)) fullShare ((dats m 0 c).before w t d))

/-- The weights' windows as the point finds them, and as it leaves them. -/
abbrev foundW (c : Dev nD) (t : Fin cfg0.N) : sProp 𝕄 := iprop(found m c 18 t ∗ found m c 19 t ∗ found m c 20 t ∗ found m c 21 t)
abbrev leftW (c : Dev nD) (t : Fin cfg0.N) : sProp 𝕄 :=
  iprop((dats m 0 c).leavesExact 18 t ∗ (dats m 0 c).leavesExact 19 t ∗ (dats m 0 c).leavesExact 20 t ∗ (dats m 0 c).leavesExact 21 t)

set_option maxHeartbeats 4000000 in
/-- The body at a point, from its run there on the blocks, on the sums as found in `KI`, and on the weights' windows. -/
theorem body_of_run (c : Dev nD) (t : Fin cfg0.N) (KI : sProp 𝕄)
    (hin : iprop(carried m c t.val ∗ found m c 17 t) ⊢ iprop(KI ∗ (∃ r, prngReg c r)))
    (run : ∀ K : PUnit → sProp 𝕄,
      iprop(reading c (bufs t) (blocks m c t) ∗ writingAny (F := F) c (bufs t) ∗ KI ∗ foundW m c t
        ∗ (iprop(reading c (bufs t) (blocks m c t) ∗ written c (bufs t) (blocks m c t) ∗ keeping c (bufs t) (sums m c (t.val + 1)) ∗ leftW m c t) -∗ K ⟨⟩))
      ⊢ wp frame (wpE (defs₀ (F := F)) Variants.none c none) Set.univ ((bufs t).body (grid0.coords t)) K) :
    iprop((dats m 0 c).Φ t.castSucc ∗ (dats m 0 c).owesAt () t.castSucc ∗ found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t)
    ⊢ wp frame (wpE (defs₀ (F := F)) Variants.none c none) Set.univ ((bufs t).body (grid0.coords t))
      (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t)) := by
  unfold found
  simp only [before_0, before_1, before_2, before_3, before_4, before_5, before_6, before_7, before_8, before_9, before_10, before_11, before_12]
  rw [show (dats m 0 c).owesAt () t.succ = (dats m 0 c).owesAt () t.castSucc from rfl,
    show (dats m 0 c).Φ t.castSucc = carried m c t.val from rfl, show (dats m 0 c).Φ t.succ = carried m c (t.val + 1) from rfl, carried_succ,
    leaves_live m c 0 t (liveAt0_0 t), leaves_live m c 1 t (liveAt0_1 t), leaves_live m c 2 t (liveAt0_2 t), leaves_live m c 3 t (liveAt0_3 t), leaves_live m c 4 t (liveAt0_4 t), leaves_live m c 5 t (liveAt0_5 t), leaves_live m c 6 t (liveAt0_6 t), leaves_live m c 7 t (liveAt0_7 t), leaves_live m c 8 t (liveAt0_8 t), leaves_live m c 9 t (liveAt0_9 t), leaves_live m c 10 t (liveAt0_10 t), leaves_live m c 11 t (liveAt0_11 t), leaves_live m c 12 t (liveAt0_12 t), leaves_live m c 13 t (liveAt0_13 t), leaves_live m c 14 t (liveAt0_14 t), leaves_live m c 15 t (liveAt0_15 t), leaves_live m c 16 t (liveAt0_16 t), leaves_live m c 17 t (liveAt0_17 t)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, HW⟩
  ihave HK := hin $$ [HΦ H17]
  · isplitl [HΦ]; · iexact HΦ
    iexact H17
  icases HK with ⟨HK, Hg⟩
  iapply (run _)
  unfold reading writingAny written keeping
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13 H14 H15 H16]
  · isplitl [H13]; · icases H13 with ⟨%d, H13⟩; iexists _; iexact H13
    isplitl [H14]; · icases H14 with ⟨%d, H14⟩; iexists _; iexact H14
    isplitl [H15]; · icases H15 with ⟨%d, H15⟩; iexists _; iexact H15
    icases H16 with ⟨%d, H16⟩; iexists _; iexact H16
  isplitl [HK]; · iexact HK
  isplitl [HW]; · iexact HW
  iintro ⟨⟨H0, H1, H2, H3, H4, H5, H6, H7, H8, H9, H10, H11, H12⟩, ⟨H13, H14, H15, H16⟩, ⟨H17, HS0, HS1, HS2, HS3⟩, HW⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HW

/-- After the first point the carried buffers hold the sums. -/
theorem carried_sums (c : Dev nD) (t : Fin cfg0.N) (h0 : ¬t.val = 0) :
    iprop(carried m c t.val ∗ found m c 17 t) ⊢ iprop(keeping c (bufs t) (sums m c t.val) ∗ (∃ r, prngReg c r)) := by
  unfold found keeping
  simp only [before_17 m c t h0]
  obtain ⟨n, hn⟩ : ∃ n, t.val = n + 1 := ⟨t.val - 1, by omega⟩
  rw [hn, carried_succ]
  iintro ⟨⟨⟨HS0, HS1, HS2, HS3⟩, Hg⟩, ⟨%d, H17⟩⟩
  isplitl [H17 HS0 HS1 HS2 HS3]
  · isplitl [H17]; · iexact H17
    isplitl [HS0]; · iexact HS0
    isplitl [HS1]; · iexact HS1
    isplitl [HS2]; · iexact HS2
    iexact HS3
  iexact Hg

/-- Before it they hold anything. -/
theorem carried_any (c : Dev nD) (t : Fin cfg0.N) (h0 : t.val = 0) :
    iprop(carried m c t.val ∗ found m c 17 t) ⊢ iprop(keepingAny (F := F) c (bufs t) ∗ (∃ r, prngReg c r)) := by
  unfold found keepingAny
  rw [h0, show carried m c 0 = Pipeline.ΦA spec0 c from rfl, PhiA0_eq]
  iintro ⟨⟨⟨HS0, HS1, HS2, HS3⟩, Hg⟩, ⟨%d, H17⟩⟩
  isplitl [H17 HS0 HS1 HS2 HS3]
  · isplitl [H17]; · iexists _; iexact H17
    isplitl [HS0]; · iexact HS0
    isplitl [HS1]; · iexact HS1
    isplitl [HS2]; · iexact HS2
    iexact HS3
  iexact Hg

/-- The body's triple at every point. -/
theorem sound (c : Dev nD) (t : Fin cfg0.N) :
    iprop((dats m 0 c).Φ t.castSucc ∗ (dats m 0 c).owesAt () t.castSucc ∗ found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t)
    ⊢ wp frame (wpE (defs₀ (F := F)) Variants.none c none) Set.univ ((bufs t).body (grid0.coords t))
      (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t)) := by
  have hN : t.val < 64 := lt_of_lt_of_eq t.isLt (show cfg0.N = 64 from N_0)
  by_cases h0 : t.val % 64 = 0
  · have hc0 := (hcond0_0 t).mpr h0
    have hc1 : ¬cond0_1 (grid0.coords t) := fun h => by have := (hcond0_1 t).mp h; omega
    refine body_of_run m c t _ (carried_any m c t (by omega)) fun K => ?_
    unfold leftW
    rw [sums_succ, show sums m c t.val = Sums.zero from by rw [show t.val = 0 by omega]; rfl,
      Dat.leavesExact_idle (dats m 0 c) 18 t (idleAt0_18_A t hc0 hc1) (noFlush0_18_A t hc0 hc1), Dat.leavesExact_idle (dats m 0 c) 19 t (idleAt0_19_A t hc0 hc1) (noFlush0_19_A t hc0 hc1), Dat.leavesExact_idle (dats m 0 c) 20 t (idleAt0_20_A t hc0 hc1) (noFlush0_20_A t hc0 hc1), Dat.leavesExact_idle (dats m 0 c) 21 t (idleAt0_21_A t hc0 hc1) (noFlush0_21_A t hc0 hc1)]
    iintro ⟨HR, HV, HK, HW, Hk⟩
    iapply (run_first c (bufs t) (blocks m c t) (grid0.coords t) hc0 hc1 Set.univ K)
    isplitl [HR]; · iexact HR
    isplitl [HV]; · iexact HV
    isplitl [HK]; · iexact HK
    iintro ⟨HR, HV, HK⟩
    iapply Hk
    isplitl [HR]; · iexact HR
    isplitl [HV]; · iexact HV
    isplitl [HK]; · iexact HK
    iexact HW
  have hc0 : ¬cond0_0 (grid0.coords t) := fun h => h0 ((hcond0_0 t).mp h)
  refine body_of_run m c t _ (carried_sums m c t (by omega)) fun K => ?_
  unfold leftW
  by_cases h1 : t.val % 64 = 63
  · have hc1 := (hcond0_1 t).mpr h1
    rw [leaves_live m c 18 t (liveAt0_18_C t hc0 hc1), leaves_live m c 19 t (liveAt0_19_C t hc0 hc1), leaves_live m c 20 t (liveAt0_20_C t hc0 hc1), leaves_live m c 21 t (liveAt0_21_C t hc0 hc1)]
    have hw : iprop(foundW m c t) ⊢ weightsAny (F := F) c (bufs t) := by
      unfold foundW found weightsAny
      iintro ⟨⟨%d18, H18⟩, ⟨%d19, H19⟩, ⟨%d20, H20⟩, ⟨%d21, H21⟩⟩
      isplitl [H18]; · iexists _; iexact H18
      isplitl [H19]; · iexists _; iexact H19
      isplitl [H20]; · iexists _; iexact H20
      iexists _; iexact H21
    iintro ⟨HR, HV, HK, HW, Hk⟩
    ihave HW := hw $$ HW
    iapply (run_last c (bufs t) (blocks m c t) (sums m c t.val) (grid0.coords t) hc0 hc1 Set.univ K)
    isplitl [HR]; · iexact HR
    isplitl [HV]; · iexact HV
    isplitl [HK]; · iexact HK
    isplitl [HW]; · iexact HW
    rw [← sums_succ]
    iexact Hk
  · have hc1 : ¬cond0_1 (grid0.coords t) := fun h => h1 ((hcond0_1 t).mp h)
    rw [sums_succ,
      Dat.leavesExact_idle (dats m 0 c) 18 t (idleAt0_18_B t hc0 hc1) (noFlush0_18_B t hc0 hc1), Dat.leavesExact_idle (dats m 0 c) 19 t (idleAt0_19_B t hc0 hc1) (noFlush0_19_B t hc0 hc1), Dat.leavesExact_idle (dats m 0 c) 20 t (idleAt0_20_B t hc0 hc1) (noFlush0_20_B t hc0 hc1), Dat.leavesExact_idle (dats m 0 c) 21 t (idleAt0_21_B t hc0 hc1) (noFlush0_21_B t hc0 hc1)]
    iintro ⟨HR, HV, HK, HW, Hk⟩
    iapply (run_middle c (bufs t) (blocks m c t) (sums m c t.val) (grid0.coords t) hc0 hc1 Set.univ K)
    isplitl [HR]; · iexact HR
    isplitl [HV]; · iexact HV
    isplitl [HK]; · iexact HK
    iintro ⟨HR, HV, HK⟩
    iapply Hk
    isplitl [HR]; · iexact HR
    isplitl [HV]; · iexact HV
    isplitl [HK]; · iexact HK
    iexact HW

/-- The body that the table names at point `t`'s slots. -/
theorem table_row (t : Fin cfg0.N) : defs₀ (F := F) .tc cfg0.body (cfg0.bodyArgs t (cfg0.slots t)) = (bufs t).body (grid0.coords t) := by
  unfold defs₀; rw [Defs.onTc_tc]; rfl

theorem obligation (c : Dev nD) : BodyObligation (dats (F := F) m 0 c) (defs₀ (F := F)) Variants.none () Set.univ := fun t => by
  rw [bigSep_W0, bigSep_W0, table_row]
  exact triple_restated (sound m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = carried m c (63 + 1) from by
    show carried m c (Fin.last cfg0.N).val = _; rw [Fin.val_last, show cfg0.N = 63 + 1 from N_0], PhiA0_eq, carried_succ]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- Every execution ends, with the pipeline's arrays at what the proof data says, the other buffers as the lines after the region leave them, and the counters at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end unchanged, and the counters end at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_quiet m ρ))

end Cert.Kernel3Ideal.Chain

end
-- ==== Proof.Chain.Math.lean ====
/- The chain from the merge of the two branches to the loss, and its gradients, written plainly over real numbers. -/
module

public import Idealize.ShloMosaic.PureOps
public import Idealize.ShloMosaic.Lib.Pipeline.ValueKit
public import proofs.«01_k».proof.Proof.Conv.Spec
public import proofs.«01_k».proof.Proof.Mlstm.Words

@[expose] public section

noncomputable section

namespace Chain

open Idealize.ShloMosaic

/-- What both norms add to the mean of squares: the float next to a millionth. -/
def eps : ℝ := 8796093 / 8796093022208

/-- The logistic function. -/
def sg (x : EReal) : ℝ := (Ideal.logistic x).toReal

/-- The chain's arguments as real numbers; the two gates come as their logistic functions. -/
structure Args where
  yap : Fin 16384 → Fin 1024 → ℝ
  wa : Fin 1024 → Fin 1024 → ℝ
  yb : Fin 16384 → Fin 1024 → ℝ
  sa : Fin 16384 → Fin 1024 → ℝ
  sb : Fin 16384 → Fin 1024 → ℝ
  wo : Fin 1024 → Fin 1024 → ℝ
  x : Fin 16384 → Fin 1024 → ℝ
  gp : Fin 1024 → ℝ
  wpg : Fin 1024 → Fin 1024 → ℝ
  p : Fin 16384 → Fin 256 → ℝ
  wpl : Fin 256 → Fin 1024 → ℝ
  tg : Fin 16384 → Fin 1024 → ℝ
  gf : Fin 1024 → ℝ

/-- The mean of squares of a row, with what the norm adds. -/
def meanSq (f : Fin 1024 → ℝ) : ℝ := (∑ j, f j * f j) / 1024 + eps
/-- The reciprocal root of a row's mean square. -/
def rms (f : Fin 1024 → ℝ) : ℝ := (√(meanSq f))⁻¹
/-- The gradient of a row from that of the row divided by its root mean square. -/
def normGrad (f g : Fin 1024 → ℝ) (j : Fin 1024) : ℝ := rms f * (g j - f j * rms f * ((∑ k, g k * (f k * rms f)) / 1024))

namespace Args

variable (a : Args) (q : Fin 16384)

/-- The first branch's output. -/
def ya (j : Fin 1024) : ℝ := ∑ k, a.yap q k * a.wa k j
/-- The two branches, gated and added. -/
def mg (j : Fin 1024) : ℝ := a.sa q j * a.ya q j + a.sb q j * a.yb q j
/-- The stream after the merge. -/
def x1 (j : Fin 1024) : ℝ := (∑ k, a.mg q k * a.wo k j) + a.x q j
/-- The stream divided by its root mean square. -/
def xh1 (j : Fin 1024) : ℝ := a.x1 q j * rms (a.x1 q)
/-- The norm of the stream. -/
def hn (j : Fin 1024) : ℝ := a.xh1 q j * a.gp j
/-- The gate of the layer's own embedding. -/
def gt (j : Fin 1024) : ℝ := sg ((∑ k, a.hn q k * a.wpg k j : ℝ) : EReal)
/-- The layer's own embedding, projected. -/
def pe (j : Fin 1024) : ℝ := ∑ k, a.p q k * a.wpl k j
/-- The stream at the end of the layer. -/
def x2 (j : Fin 1024) : ℝ := a.x1 q j + a.gt q j * a.pe q j
def xh2 (j : Fin 1024) : ℝ := a.x2 q j * rms (a.x2 q)
/-- The error of the final norm against the target. -/
def err (j : Fin 1024) : ℝ := a.xh2 q j * a.gf j - a.tg q j

/-- The gradients, from the loss back. -/
def dy (j : Fin 1024) : ℝ := a.err q j * (1 / 1024)
def dxh2 (j : Fin 1024) : ℝ := a.dy q j * a.gf j
def dx2 (j : Fin 1024) : ℝ := normGrad (a.x2 q) (a.dxh2 q) j
def dpe (j : Fin 1024) : ℝ := a.dx2 q j * a.gt q j
def dgp (j : Fin 1024) : ℝ := a.dx2 q j * a.pe q j * a.gt q j * (1 - a.gt q j)
def dhn (k : Fin 1024) : ℝ := ∑ j, a.dgp q j * a.wpg k j
def dxh1 (j : Fin 1024) : ℝ := a.dhn q j * a.gp j
def dx1 (j : Fin 1024) : ℝ := a.dx2 q j + normGrad (a.x1 q) (a.dxh1 q) j
def dm (k : Fin 1024) : ℝ := ∑ j, a.dx1 q j * a.wo k j
def dya (j : Fin 1024) : ℝ := a.dm q j * a.sa q j
def dyb (j : Fin 1024) : ℝ := a.dm q j * a.sb q j
def dga (j : Fin 1024) : ℝ := a.dm q j * a.ya q j * a.sa q j * (1 - a.sa q j)
def dgb (j : Fin 1024) : ℝ := a.dm q j * a.yb q j * a.sb q j * (1 - a.sb q j)
def dyap (k : Fin 1024) : ℝ := ∑ j, a.dya q j * a.wa k j

/-- What a row adds to each of the sums over rows. -/
def tWa (k j : Fin 1024) : ℝ := a.yap q k * a.dya q j
def tWo (k j : Fin 1024) : ℝ := a.mg q k * a.dx1 q j
def tPg (k j : Fin 1024) : ℝ := a.hn q k * a.dgp q j
def tPl (k : Fin 256) (j : Fin 1024) : ℝ := a.p q k * a.dpe q j
def tGf (j : Fin 1024) : ℝ := a.dy q j * a.xh2 q j
def tGp (j : Fin 1024) : ℝ := a.dhn q j * a.xh1 q j
def tLoss (j : Fin 1024) : ℝ := 1 / 2048 * (a.err q j * a.err q j)

end Args

theorem eps_pos : 0 < eps := by unfold eps; positivity

theorem meanSq_pos (f : Fin 1024 → ℝ) : 0 < meanSq f :=
  add_pos_of_nonneg_of_pos (div_nonneg (Finset.sum_nonneg fun j _ => mul_self_nonneg _) (by norm_num)) eps_pos

theorem rms_sq (f : Fin 1024 → ℝ) : rms f * rms f = (meanSq f)⁻¹ := by
  rw [rms, ← mul_inv, Real.mul_self_sqrt (meanSq_pos f).le]

/-! ## Words and their real numbers -/

theorem ofBits_eps : Ideal.ofBits .f32 0x358637BD#32 = ((eps : ℝ) : EReal) := by
  simp [Ideal.ofBits, Ideal.ieee, eps, -EReal.coe_mul]; norm_num
theorem ofBits_one : Ideal.ofBits .f32 0x3F800000#32 = ((1 : ℝ) : EReal) := by
  simp [Ideal.ofBits, Ideal.ieee, -EReal.coe_mul]; try norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

theorem logistic_sg (x : EReal) : Ideal.logistic x = ((sg x : ℝ) : EReal) := by
  unfold sg
  induction x using EReal.rec with
  | bot => rw [Ideal.logistic_bot, EReal.toReal_zero, EReal.coe_zero]
  | top => rw [Ideal.logistic_top, EReal.toReal_one, EReal.coe_one]
  | coe r => rw [Ideal.logistic_coe, EReal.toReal_coe]

theorem half_tanh_sg (x : EReal) :
    ((1 / 2 : ℝ) : EReal) * Ideal.tanh (((1 / 2 : ℝ) : EReal) * x) + ((1 / 2 : ℝ) : EReal) = ((sg x : ℝ) : EReal) :=
  (_root_.Conv.half_tanh x).trans (logistic_sg x)

theorem div_1024 (x : ℝ) : Ideal.div (x : EReal) ((1024 : ℝ) : EReal) = ((x / 1024 : ℝ) : EReal) :=
  _root_.Mlstm.div_coe_pos x (by norm_num)

theorem rsqrt_mean (f : Fin 1024 → ℝ) : Ideal.rsqrt (((∑ j, f j * f j) / 1024 + eps : ℝ) : EReal) = ((rms f : ℝ) : EReal) := by
  have h : 0 < (∑ j, f j * f j) / 1024 + eps := meanSq_pos f
  rw [Ideal.rsqrt_coe, if_neg (not_lt.mpr h.le), if_neg h.ne']
  rfl

end Chain

end
-- ==== Proof.Chain.Rows.lean ====
/- What one grid point of the token chain's kernel computes, row by row, as the plain chain over real numbers. -/
module

public import proofs.«01_k».proof.Proof.Chain.Body
public import proofs.«01_k».proof.Proof.Chain.Math

@[expose] public section

set_option maxRecDepth 16384

noncomputable section

namespace Cert.Kernel3Ideal.Chain

open Cert.Kernel3Ideal Cert.Kernel3Ideal.Gen Idealize.ShloMosaic _root_.Chain
open _root_.Mlstm (coe_sum)

/-- The blocks hold the rows `r` of the chain's arguments. -/
structure Fits (b : Blocks Ideal) (a : Args) (r : Fin 256 → Fin 16384) : Prop where
  yap : ∀ i k, b.yap (ix2 i k) = ((a.yap (r i) k : ℝ) : EReal)
  wa : ∀ k j, b.wa (ix2 k j) = ((a.wa k j : ℝ) : EReal)
  yb : ∀ i j, b.yb (ix2 i j) = ((a.yb (r i) j : ℝ) : EReal)
  ga : ∀ i j, sg (b.ga (ix2 i j)) = a.sa (r i) j
  gb : ∀ i j, sg (b.gb (ix2 i j)) = a.sb (r i) j
  wo : ∀ k j, b.wo (ix2 k j) = ((a.wo k j : ℝ) : EReal)
  x : ∀ i j, b.x (ix2 i j) = ((a.x (r i) j : ℝ) : EReal)
  gp : ∀ j, b.gp (ix2 0 j) = ((a.gp j : ℝ) : EReal)
  wpg : ∀ k j, b.wpg (ix2 k j) = ((a.wpg k j : ℝ) : EReal)
  p : ∀ i k, b.p (ix2 i k) = ((a.p (r i) k : ℝ) : EReal)
  wpl : ∀ k j, b.wpl (ix2 k j) = ((a.wpl k j : ℝ) : EReal)
  tg : ∀ i j, b.tg (ix2 i j) = ((a.tg (r i) j : ℝ) : EReal)
  gf : ∀ j, b.gf (ix2 0 j) = ((a.gf j : ℝ) : EReal)

variable {b : Blocks Ideal} {a : Args} {r : Fin 256 → Fin 16384} (R : Fits b a r) (i : Fin 256) (j : Fin 1024)

include R

/-! ## The chain forward -/

theorem ya_at : b.ya (ix2 i j) = ((a.ya (r i) j : ℝ) : EReal) := by
  pointwise [Blocks.ya, k0_pay13, k0_pay12]
  simp only [R.yap, R.wa, ← EReal.coe_mul, ← coe_sum]
  rfl

theorem sa_at : b.sa (ix2 i j) = ((a.sa (r i) j : ℝ) : EReal) := by
  pointwise [Blocks.sa, k0_pay15, _root_.Conv.ofBits_half]
  rw [half_tanh_sg, R.ga]

theorem sb_at : b.sb (ix2 i j) = ((a.sb (r i) j : ℝ) : EReal) := by
  pointwise [Blocks.sb, k0_pay16, _root_.Conv.ofBits_half]
  rw [half_tanh_sg, R.gb]

theorem yb_at : k0_pay14 b.yb (ix2 i j) = ((a.yb (r i) j : ℝ) : EReal) := by
  pointwise [k0_pay14]
  exact R.yb i j

theorem mg_at : b.mgd (ix2 i j) = ((a.mg (r i) j : ℝ) : EReal) := by
  have h1 := ya_at R i j
  have h2 := sa_at R i j
  have h3 := sb_at R i j
  unfold Blocks.ya at h1
  unfold Blocks.sa at h2
  unfold Blocks.sb at h3
  pointwise [Blocks.mgd, k0_pay17]
  simp only [h1, h2, h3, yb_at R, ← EReal.coe_mul, ← EReal.coe_add]
  rfl

theorem x1_at : k0_pay18 b.mgd b.wo b.x (ix2 i j) = ((a.x1 (r i) j : ℝ) : EReal) := by
  pointwise [k0_pay18]
  simp only [mg_at R, R.wo, R.x, ← EReal.coe_mul, ← coe_sum, ← EReal.coe_add]
  rfl

theorem r1_at : b.r1 (ix2 i 0) = ((rms (a.x1 (r i)) : ℝ) : EReal) := by
  pointwise [Blocks.r1, k0_pay19, ofBits_1024, ofBits_eps]
  simp only [x1_at R, ← EReal.coe_mul, ← coe_sum, div_1024, ← EReal.coe_add]
  exact rsqrt_mean _

theorem xh1_at : b.xh1 (ix2 i j) = ((a.xh1 (r i) j : ℝ) : EReal) := by
  have h := r1_at R i
  unfold Blocks.r1 at h
  pointwise [Blocks.xh1, k0_pay20]
  simp only [x1_at R, h, ← EReal.coe_mul]
  rfl

theorem hn_at : b.hn (ix2 i j) = ((a.hn (r i) j : ℝ) : EReal) := by
  have h := xh1_at R i j
  unfold Blocks.xh1 at h
  pointwise [Blocks.hn, k0_pay21]
  simp only [h, R.gp, ← EReal.coe_mul]
  rfl

theorem gt_at : b.gt (ix2 i j) = ((a.gt (r i) j : ℝ) : EReal) := by
  have h := fun k => hn_at R i k
  unfold Blocks.hn at h
  pointwise [Blocks.gt, k0_pay22, _root_.Conv.ofBits_half]
  simp only [h, R.wpg, ← EReal.coe_mul, ← coe_sum]
  rw [EReal.coe_mul, half_tanh_sg]
  rfl

theorem p_at (k : Fin 256) : k0_pay23 b.p (ix2 i k) = ((a.p (r i) k : ℝ) : EReal) := by
  pointwise [k0_pay23]
  exact R.p i k

theorem pe_at : b.pe (ix2 i j) = ((a.pe (r i) j : ℝ) : EReal) := by
  pointwise [Blocks.pe, k0_pay24]
  simp only [p_at R, R.wpl, ← EReal.coe_mul, ← coe_sum]
  rfl

theorem x2_at : b.x2 (ix2 i j) = ((a.x2 (r i) j : ℝ) : EReal) := by
  have h1 := gt_at R i j
  have h2 := pe_at R i j
  unfold Blocks.gt at h1
  unfold Blocks.pe at h2
  pointwise [Blocks.x2, k0_pay25]
  simp only [h1, h2, x1_at R, ← EReal.coe_mul, ← EReal.coe_add]
  rfl

theorem sq2_at : b.sq2 (ix1 i) = ((∑ k, a.x2 (r i) k * a.x2 (r i) k : ℝ) : EReal) := by
  have h := fun k => x2_at R i k
  unfold Blocks.x2 at h
  pointwise [Blocks.sq2, k0_pay26]
  simp only [h, ← EReal.coe_mul, ← coe_sum]

theorem r2_at : k0_pay27 b.sq2 (ix2 i 0) = ((rms (a.x2 (r i)) : ℝ) : EReal) := by
  pointwise [k0_pay27, ofBits_1024, ofBits_eps]
  simp only [sq2_at R, div_1024, ← EReal.coe_add]
  exact rsqrt_mean _

theorem xh2_at : k0_pay28 b.x2 b.sq2 (ix2 i j) = ((a.xh2 (r i) j : ℝ) : EReal) := by
  pointwise [k0_pay28]
  simp only [x2_at R, r2_at R, ← EReal.coe_mul]
  rfl

theorem gf_at : k0_pay29 b.gf (ix2 0 j) = ((a.gf j : ℝ) : EReal) := by
  pointwise [k0_pay29]
  exact R.gf j

theorem err_at : k0_pay30 b.x2 b.sq2 b.gf b.tg (ix2 i j) = ((a.err (r i) j : ℝ) : EReal) := by
  pointwise [k0_pay30]
  simp only [xh2_at R, gf_at R, R.tg, ← EReal.coe_mul, ← EReal.coe_sub]
  rfl

/-! ## The gradients -/

theorem dy_at : k0_pay31 b.x2 b.sq2 b.gf b.tg (ix2 i j) = ((a.dy (r i) j : ℝ) : EReal) := by
  pointwise [k0_pay31, ofBits_inv1024]
  simp only [err_at R, ← EReal.coe_mul]
  rfl

theorem dx2_at : b.dx2 (ix2 i j) = ((a.dx2 (r i) j : ℝ) : EReal) := by
  pointwise [Blocks.dx2, k0_pay32, ofBits_1024]
  simp only [dy_at R, gf_at R, xh2_at R, r2_at R, ← EReal.coe_mul, ← coe_sum, div_1024, ← EReal.coe_sub]
  rfl

theorem dgp_at : b.dgp (ix2 i j) = ((a.dgp (r i) j : ℝ) : EReal) := by
  have h := dx2_at R i j
  unfold Blocks.dx2 at h
  pointwise [Blocks.dgp, k0_pay33, ofBits_one]
  simp only [h, gt_at R, pe_at R, ← EReal.coe_mul, ← EReal.coe_sub]
  rfl

theorem dhn_at : b.dhn (ix2 i j) = ((a.dhn (r i) j : ℝ) : EReal) := by
  pointwise [Blocks.dhn, k0_pay36]
  simp only [dgp_at R, R.wpg, ← EReal.coe_mul, ← coe_sum]
  rfl

theorem dx1_at : b.out13 (ix2 i j) = ((a.dx1 (r i) j : ℝ) : EReal) := by
  have h := fun k => dhn_at R i k
  unfold Blocks.dhn at h
  pointwise [Blocks.out13, k0_pay37, ofBits_1024]
  simp only [h, R.gp, xh1_at R, r1_at R, dx2_at R, ← EReal.coe_mul, ← coe_sum, div_1024, ← EReal.coe_sub, ← EReal.coe_add]
  rfl

theorem dm_at : b.dm (ix2 i j) = ((a.dm (r i) j : ℝ) : EReal) := by
  have h := fun k => dx1_at R i k
  unfold Blocks.out13 at h
  pointwise [Blocks.dm, k0_pay40, k0_pay38]
  simp only [h, R.wo, ← EReal.coe_mul, ← coe_sum]
  rfl

theorem dya_at : b.dya (ix2 i j) = ((a.dya (r i) j : ℝ) : EReal) := by
  have h := dm_at R i j
  unfold Blocks.dm at h
  pointwise [Blocks.dya, k0_pay41]
  simp only [h, sa_at R, ← EReal.coe_mul]
  rfl

theorem dyb_at : b.out14 (ix2 i j) = ((a.dyb (r i) j : ℝ) : EReal) := by
  pointwise [Blocks.out14, k0_pay43]
  simp only [dm_at R, sb_at R, ← EReal.coe_mul]
  rfl

theorem dyap_at : b.out15 (ix2 i j) = ((a.dyap (r i) j : ℝ) : EReal) := by
  pointwise [Blocks.out15, k0_pay46]
  simp only [dya_at R, R.wa, ← EReal.coe_mul, ← coe_sum]
  rfl

theorem dga_at : k0_pay44 b.ya b.sa b.dm (ix2 i j) = ((a.dga (r i) j : ℝ) : EReal) := by
  pointwise [k0_pay44, ofBits_one]
  simp only [dm_at R, ya_at R, sa_at R, ← EReal.coe_mul, ← EReal.coe_sub]
  rfl

theorem dgb_at : k0_pay45 (k0_pay14 b.yb) b.sb b.dm (ix2 i j) = ((a.dgb (r i) j : ℝ) : EReal) := by
  pointwise [k0_pay45, ofBits_one]
  simp only [dm_at R, yb_at R, sb_at R, ← EReal.coe_mul, ← EReal.coe_sub]
  rfl

/-! ## The sums -/

variable (s : Sums Ideal)

theorem wa_at (k : Fin 1024) : (b.next s).wa (ix2 k j) = s.wa (ix2 k j) + ((∑ i, a.tWa (r i) k j : ℝ) : EReal) := by
  pointwise [Blocks.next, k0_pay42, k0_pay12]
  simp only [R.yap, dya_at R, ← EReal.coe_mul, ← coe_sum]
  rfl

theorem wo_at (k : Fin 1024) : (b.next s).wo (ix2 k j) = s.wo (ix2 k j) + ((∑ i, a.tWo (r i) k j : ℝ) : EReal) := by
  have h := fun i k => dx1_at R i k
  unfold Blocks.out13 at h
  pointwise [Blocks.next, k0_pay39, k0_pay38]
  simp only [mg_at R, h, ← EReal.coe_mul, ← coe_sum]
  rfl

theorem wpg_at (k : Fin 1024) : (b.next s).wpg (ix2 k j) = s.wpg (ix2 k j) + ((∑ i, a.tPg (r i) k j : ℝ) : EReal) := by
  have h := fun i k => dgp_at R i k
  unfold Blocks.dgp at h
  pointwise [Blocks.next, k0_pay34]
  simp only [hn_at R, h, ← EReal.coe_mul, ← coe_sum]
  rfl

theorem wpl_at (k : Fin 256) : (b.next s).wpl (ix2 k j) = s.wpl (ix2 k j) + ((∑ i, a.tPl (r i) k j : ℝ) : EReal) := by
  pointwise [Blocks.next, k0_pay35]
  simp only [p_at R, dx2_at R, gt_at R, ← EReal.coe_mul, ← coe_sum]
  rfl

theorem loss_at (v : Vec Ideal S1x1024 .f32) : k0_pay47 b.losses v (ix2 0 j) = v (ix2 0 j) + ((∑ i, a.tLoss (r i) j : ℝ) : EReal) := by
  pointwise [Blocks.losses, k0_pay47, ofBits_inv2048]
  simp only [err_at R, ← EReal.coe_mul, ← coe_sum, Finset.mul_sum]
  rfl

theorem gf_sum_at (v : Vec Ideal S1x1024 .f32) : k0_pay1 b.xh2 b.dy v (ix2 0 j) = v (ix2 0 j) + ((∑ i, a.tGf (r i) j : ℝ) : EReal) := by
  pointwise [Blocks.xh2, Blocks.dy, k0_pay1]
  simp only [dy_at R, xh2_at R, ← EReal.coe_mul, ← coe_sum]
  rfl

theorem gp_sum_at (v : Vec Ideal S1x1024 .f32) : k0_pay2 b.xh1 b.dhn v (ix2 0 j) = v (ix2 0 j) + ((∑ i, a.tGp (r i) j : ℝ) : EReal) := by
  pointwise [k0_pay2]
  simp only [dhn_at R, xh1_at R, ← EReal.coe_mul, ← coe_sum]
  rfl

end Cert.Kernel3Ideal.Chain

end
-- ==== Proof.Chain.Blocks.lean ====
/- The blocks that the token chain's kernel reads, as the rows of the arguments. -/
module

public import proofs.«01_k».proof.Proof.Chain.Frame
public import proofs.«01_k».proof.Proof.Chain.Rows
public import Idealize.ShloMosaic.Lib.Pipeline.ValueKit
public import Idealize.ShloMosaic.Lib.StableHlo.ReadAt

@[expose] public section

set_option maxRecDepth 16384

noncomputable section

namespace Cert.Kernel3Ideal.Chain

open Cert.Kernel3Ideal Cert.Kernel3Ideal.Gen Idealize.ShloMosaic Idealize.ShloMosaic.TcCoe Idealize.SL.Sem _root_.Chain

variable (m : (ℓ : Loc nD τ sig) → Buf (Elt Ideal) ℓ)

/-- The first branch's part before its output weights. -/
abbrev YAP (c : Dev nD) : FVec Ideal S1x16384x1024 .f32 := m ((c : Thread nD τ).loc main_arg0)
/-- The first branch's output weights. -/
abbrev WA (c : Dev nD) : FVec Ideal S1x1024x1024 .f32 := m ((c : Thread nD τ).loc main_arg1)
/-- The second branch's output. -/
abbrev YB (c : Dev nD) : FVec Ideal S1x16384x1024 .f32 := m ((c : Thread nD τ).loc main_arg2)
/-- The projected activations. -/
abbrev PROJ (c : Dev nD) : FVec Ideal S1x16384x14344 .f32 := m ((c : Thread nD τ).loc main_arg3)
/-- The layer's output weights. -/
abbrev WO (c : Dev nD) : FVec Ideal S1x1024x1024 .f32 := m ((c : Thread nD τ).loc main_arg4)
/-- The stream before the merge. -/
abbrev X (c : Dev nD) : FVec Ideal S1x16384x1024 .f32 := m ((c : Thread nD τ).loc main_arg5)
/-- The weights of the embedding's norm. -/
abbrev GP (c : Dev nD) : FVec Ideal S1x1024 .f32 := m ((c : Thread nD τ).loc main_arg6)
/-- The weights of the embedding's gate. -/
abbrev WPG (c : Dev nD) : FVec Ideal S1x1024x1024 .f32 := m ((c : Thread nD τ).loc main_arg7)
/-- The layer's own embedding. -/
abbrev P (c : Dev nD) : FVec Ideal S1x1x16384x256 .f32 := m ((c : Thread nD τ).loc main_arg8)
/-- The weights of the embedding's projection. -/
abbrev WPL (c : Dev nD) : FVec Ideal S1x256x1024 .f32 := m ((c : Thread nD τ).loc main_arg9)
/-- The targets. -/
abbrev TG (c : Dev nD) : FVec Ideal S1x16384x1024 .f32 := m ((c : Thread nD τ).loc main_arg10)
/-- The weights of the final norm. -/
abbrev GF (c : Dev nD) : FVec Ideal S1024 .f32 := m ((c : Thread nD τ).loc main_arg11)

/-- The chain's arguments over real numbers. -/
def args (c : Dev nD) : Args where
  yap i j := (YAP m c (ix3 0 i j)).toReal
  wa i j := (WA m c (ix3 0 i j)).toReal
  yb i j := (YB m c (ix3 0 i j)).toReal
  sa i j := sg (PROJ m c (ix3 0 i (⟨12296 + j.val, by omega⟩ : Fin 14344)))
  sb i j := sg (PROJ m c (ix3 0 i (⟨12296 + (1024 + j.val), by omega⟩ : Fin 14344)))
  wo i j := (WO m c (ix3 0 i j)).toReal
  x i j := (X m c (ix3 0 i j)).toReal
  gp j := (GP m c (ix2 0 j)).toReal
  wpg i j := (WPG m c (ix3 0 i j)).toReal
  p i j := (P m c (ix4 0 0 i j)).toReal
  wpl i j := (WPL m c (ix3 0 i j)).toReal
  tg i j := (TG m c (ix3 0 i j)).toReal
  gf j := (GF m c (ix1 j)).toReal

/-- The arguments that must be real are. -/
structure Finite (c : Dev nD) : Prop where
  yap : ∀ i j, YAP m c (ix3 0 i j) = (((YAP m c (ix3 0 i j)).toReal : ℝ) : EReal)
  wa : ∀ i j, WA m c (ix3 0 i j) = (((WA m c (ix3 0 i j)).toReal : ℝ) : EReal)
  yb : ∀ i j, YB m c (ix3 0 i j) = (((YB m c (ix3 0 i j)).toReal : ℝ) : EReal)
  wo : ∀ i j, WO m c (ix3 0 i j) = (((WO m c (ix3 0 i j)).toReal : ℝ) : EReal)
  x : ∀ i j, X m c (ix3 0 i j) = (((X m c (ix3 0 i j)).toReal : ℝ) : EReal)
  gp : ∀ j, GP m c (ix2 0 j) = (((GP m c (ix2 0 j)).toReal : ℝ) : EReal)
  wpg : ∀ i j, WPG m c (ix3 0 i j) = (((WPG m c (ix3 0 i j)).toReal : ℝ) : EReal)
  p : ∀ i j, P m c (ix4 0 0 i j) = (((P m c (ix4 0 0 i j)).toReal : ℝ) : EReal)
  wpl : ∀ i j, WPL m c (ix3 0 i j) = (((WPL m c (ix3 0 i j)).toReal : ℝ) : EReal)
  tg : ∀ i j, TG m c (ix3 0 i j) = (((TG m c (ix3 0 i j)).toReal : ℝ) : EReal)
  gf : ∀ j, GF m c (ix1 j) = (((GF m c (ix1 j)).toReal : ℝ) : EReal)

/-- Every window's block index. -/
theorem idx : ∀ t : Fin cfg0.N, t.val < 64 ∧ win0_0.index t = ![t.val, 0] ∧ win0_1.index t = ![0, 0] ∧ win0_2.index t = ![t.val, 0]
    ∧ win0_3.index t = ![t.val, 12] ∧ win0_4.index t = ![t.val, 13] ∧ win0_5.index t = ![0, 0]
    ∧ win0_6.index t = ![t.val, 0] ∧ win0_7.index t = ![0, 0] ∧ win0_8.index t = ![0, 0]
    ∧ win0_9.index t = ![t.val, 0] ∧ win0_10.index t = ![0, 0] ∧ win0_11.index t = ![t.val, 0] ∧ win0_12.index t = ![0, 0]
    ∧ win0_13.index t = ![t.val, 0] ∧ win0_14.index t = ![t.val, 0] ∧ win0_15.index t = ![t.val, 0] ∧ win0_16.index t = ![t.val, 6]
    ∧ win0_17.index t = ![0, 0] ∧ win0_18.index t = ![0, 0] ∧ win0_19.index t = ![0, 0] ∧ win0_20.index t = ![0, 0] ∧ win0_21.index t = ![0, 0] :=
  (by decide +kernel : ∀ t : Fin grid0.N, _)

/-- The gates' columns stand last in the packed array. -/
theorem packed_at (c : Dev nD) (i : Fin 16384) (j : Fin 2048) :
    V m c main_v5 (ix2 i (⟨12288 + j.val, by omega⟩ : Fin 14336)) = PROJ m c (ix3 0 i (⟨12296 + j.val, by omega⟩ : Fin 14344)) := by
  unfold V
  after_reads_at
  after_reads_at
  rw [dif_neg (by omega), dif_neg (by omega)]
  exact congrArg (PROJ m c) (congrArg (ix3 0 i) (Fin.ext (by dsimp only; omega)))

theorem yap_in (c : Dev nD) (i : Fin 16384) (j : Fin 1024) : V m c main_v7 (ix2 i j) = YAP m c (ix3 0 i j) := by
  unfold V
  after_reads_at

theorem wa_in (c : Dev nD) (i j : Fin 1024) : V m c main_v9 (ix2 i j) = WA m c (ix3 0 i j) := by
  unfold V
  after_reads_at

theorem yb_in (c : Dev nD) (i : Fin 16384) (j : Fin 1024) : V m c main_v11 (ix2 i j) = YB m c (ix3 0 i j) := by
  unfold V
  after_reads_at

theorem wo_in (c : Dev nD) (i j : Fin 1024) : V m c main_v13 (ix2 i j) = WO m c (ix3 0 i j) := by
  unfold V
  after_reads_at

theorem x_in (c : Dev nD) (i : Fin 16384) (j : Fin 1024) : V m c main_v14 (ix2 i j) = X m c (ix3 0 i j) := by
  unfold V
  after_reads_at

theorem gp_in (c : Dev nD) (j : Fin 1024) : V m c main_arg6 (ix2 0 j) = GP m c (ix2 0 j) := by
  entry_read
  rfl

theorem wpg_in (c : Dev nD) (i j : Fin 1024) : V m c main_v16 (ix2 i j) = WPG m c (ix3 0 i j) := by
  unfold V
  after_reads_at

theorem p_in (c : Dev nD) (i : Fin 16384) (j : Fin 256) : V m c main_v17 (ix2 i j) = P m c (ix4 0 0 i j) := by
  unfold V
  after_reads_at

theorem wpl_in (c : Dev nD) (i : Fin 256) (j : Fin 1024) : V m c main_v19 (ix2 i j) = WPL m c (ix3 0 i j) := by
  unfold V
  after_reads_at

theorem tg_in (c : Dev nD) (i : Fin 16384) (j : Fin 1024) : V m c main_v20 (ix2 i j) = TG m c (ix3 0 i j) := by
  unfold V
  after_reads_at

theorem gf_in (c : Dev nD) (j : Fin 1024) : V m c main_v21 (ix2 0 j) = GF m c (ix1 j) := by
  unfold V
  after_reads_at

/-! ## The blocks of a grid point -/

variable (c : Dev nD) (t : Fin cfg0.N)

/-- The row of the whole arrays that is row `i` of point `t`'s blocks. -/
def rowOf (i : Fin 256) : Fin 16384 := ⟨t.val * 256 + i.val, by have := (idx t).1; omega⟩

theorem blk0 (r : Fin 256) (l : Fin 1024) : iblk m c 0 t (ix2 r l) = V m c main_v7 (ix2 (rowOf t r) l) := by
  blk_ext [iblk, rowOf, idx t]

theorem blk1 (k l : Fin 1024) : iblk m c 1 t (ix2 k l) = V m c main_v9 (ix2 k l) := by
  blk_ext [iblk, rowOf, idx t]

theorem blk2 (r : Fin 256) (l : Fin 1024) : iblk m c 2 t (ix2 r l) = V m c main_v11 (ix2 (rowOf t r) l) := by
  blk_ext [iblk, rowOf, idx t]

theorem blk3 (r : Fin 256) (l : Fin 1024) : iblk m c 3 t (ix2 r l) = V m c main_v5 (ix2 (rowOf t r) (⟨12288 + l.val, by omega⟩ : Fin 14336)) := by
  blk_ext [iblk, rowOf, idx t]

theorem blk4 (r : Fin 256) (l : Fin 1024) : iblk m c 4 t (ix2 r l) = V m c main_v5 (ix2 (rowOf t r) (⟨12288 + (1024 + l.val), by omega⟩ : Fin 14336)) := by
  blk_ext [iblk, rowOf, idx t]

theorem blk5 (k l : Fin 1024) : iblk m c 5 t (ix2 k l) = V m c main_v13 (ix2 k l) := by
  blk_ext [iblk, rowOf, idx t]

theorem blk6 (r : Fin 256) (l : Fin 1024) : iblk m c 6 t (ix2 r l) = V m c main_v14 (ix2 (rowOf t r) l) := by
  blk_ext [iblk, rowOf, idx t]

theorem blk7 (l : Fin 1024) : iblk m c 7 t (ix2 0 l) = V m c main_arg6 (ix2 0 l) := by
  blk_ext [iblk, rowOf, idx t]

theorem blk8 (k l : Fin 1024) : iblk m c 8 t (ix2 k l) = V m c main_v16 (ix2 k l) := by
  blk_ext [iblk, rowOf, idx t]

theorem blk9 (r : Fin 256) (l : Fin 256) : iblk m c 9 t (ix2 r l) = V m c main_v17 (ix2 (rowOf t r) l) := by
  blk_ext [iblk, rowOf, idx t]

theorem blk10 (k : Fin 256) (l : Fin 1024) : iblk m c 10 t (ix2 k l) = V m c main_v19 (ix2 k l) := by
  blk_ext [iblk, rowOf, idx t]

theorem blk11 (r : Fin 256) (l : Fin 1024) : iblk m c 11 t (ix2 r l) = V m c main_v20 (ix2 (rowOf t r) l) := by
  blk_ext [iblk, rowOf, idx t]

theorem blk12 (l : Fin 1024) : iblk m c 12 t (ix2 0 l) = V m c main_v21 (ix2 0 l) := by
  blk_ext [iblk, rowOf, idx t]

set_option maxHeartbeats 1000000 in
/-- The blocks of point `t` hold its rows. -/
theorem fits (H : Finite m c) : Fits (blocks m c t) (args m c) (rowOf t) where
  yap i k := (blk0 m c t i k).trans ((yap_in m c _ k).trans (H.yap _ k))
  wa k j := (blk1 m c t k j).trans ((wa_in m c k j).trans (H.wa k j))
  yb i j := (blk2 m c t i j).trans ((yb_in m c _ j).trans (H.yb _ j))
  ga i j := congrArg sg ((blk3 m c t i j).trans (packed_at m c _ ⟨j.val, by omega⟩))
  gb i j := congrArg sg ((blk4 m c t i j).trans (packed_at m c _ ⟨1024 + j.val, by omega⟩))
  wo k j := (blk5 m c t k j).trans ((wo_in m c k j).trans (H.wo k j))
  x i j := (blk6 m c t i j).trans ((x_in m c _ j).trans (H.x _ j))
  gp j := (blk7 m c t j).trans ((gp_in m c j).trans (H.gp j))
  wpg k j := (blk8 m c t k j).trans ((wpg_in m c k j).trans (H.wpg k j))
  p i k := (blk9 m c t i k).trans ((p_in m c _ k).trans (H.p _ k))
  wpl k j := (blk10 m c t k j).trans ((wpl_in m c k j).trans (H.wpl k j))
  tg i j := (blk11 m c t i j).trans ((tg_in m c _ j).trans (H.tg _ j))
  gf j := (blk12 m c t j).trans ((gf_in m c j).trans (H.gf j))

end Cert.Kernel3Ideal.Chain

end
-- ==== Proof.Chain.Sums.lean ====
/- The sums that the token chain's kernel carries over its grid, as sums over all rows. -/
module

public import proofs.«01_k».proof.Proof.Chain.Blocks

@[expose] public section

set_option maxRecDepth 16384

noncomputable section

namespace Cert.Kernel3Ideal.Chain

open Cert.Kernel3Ideal Cert.Kernel3Ideal.Gen Idealize.ShloMosaic Idealize.ShloMosaic.TcCoe Idealize.SL.Sem _root_.Chain
open _root_.Mlstm (coe_sum)

theorem lt_points {n : ℕ} (h : n < 64) : n < cfg0.N := Nat.lt_of_lt_of_eq h N_0.symm

/-- What starts at zero and takes the rows of one grid point after the other is the sum over all rows. -/
theorem sum_rows (s : ℕ → EReal) (f : Fin 16384 → ℝ) (h0 : s 0 = 0)
    (hs : ∀ t : Fin cfg0.N, s (t.val + 1) = s t.val + ((∑ i, f (rowOf t i) : ℝ) : EReal)) : s 64 = ((∑ q, f q : ℝ) : EReal) := by
  have step : ∀ n (hn : n ≤ 64), s n = ((∑ u ∈ Finset.range n, ∑ i : Fin 256, if h : u * 256 + i.val < 16384 then f ⟨u * 256 + i.val, h⟩ else 0 : ℝ) : EReal) := by
    intro n
    induction n with
    | zero => intro _; rw [h0, Finset.range_zero, Finset.sum_empty, EReal.coe_zero]
    | succ n ih =>
      intro hn
      have e : ∑ i : Fin 256, f (rowOf ⟨n, lt_points hn⟩ i) = ∑ i : Fin 256, if h : n * 256 + i.val < 16384 then f ⟨n * 256 + i.val, h⟩ else 0 :=
        Finset.sum_congr rfl fun i _ => by rw [dif_pos (show n * 256 + i.val < 16384 by omega)]; rfl
      rw [hs ⟨n, lt_points hn⟩, ih (by omega), Finset.sum_range_succ, EReal.coe_add, e]
  rw [step 64 le_rfl, Finset.sum_range]
  exact congrArg _ (Fin.sum_mul_add_congr fun u i hl => dif_pos hl)

variable (m : (ℓ : Loc nD τ sig) → Buf (Elt Ideal) ℓ) (c : Dev nD) (H : Finite m c)

include H

theorem sum_wa (k j : Fin 1024) : (sums m c 64).wa (ix2 k j) = ((∑ q, (args m c).tWa q k j : ℝ) : EReal) :=
  sum_rows (fun n => (sums m c n).wa (ix2 k j)) _ (by change k0_pay8 (F := Ideal) (ix2 k j) = 0; pointwise [k0_pay8]) fun t => by
    rw [sums_succ]
    exact wa_at (fits m c t H) j _ k

theorem sum_wo (k j : Fin 1024) : (sums m c 64).wo (ix2 k j) = ((∑ q, (args m c).tWo q k j : ℝ) : EReal) :=
  sum_rows (fun n => (sums m c n).wo (ix2 k j)) _ (by change k0_pay9 (F := Ideal) (ix2 k j) = 0; pointwise [k0_pay9]) fun t => by
    rw [sums_succ]
    exact wo_at (fits m c t H) j _ k

theorem sum_wpg (k j : Fin 1024) : (sums m c 64).wpg (ix2 k j) = ((∑ q, (args m c).tPg q k j : ℝ) : EReal) :=
  sum_rows (fun n => (sums m c n).wpg (ix2 k j)) _ (by change k0_pay10 (F := Ideal) (ix2 k j) = 0; pointwise [k0_pay10]) fun t => by
    rw [sums_succ]
    exact wpg_at (fits m c t H) j _ k

theorem sum_wpl (k : Fin 256) (j : Fin 1024) : (sums m c 64).wpl (ix2 k j) = ((∑ q, (args m c).tPl q k j : ℝ) : EReal) :=
  sum_rows (fun n => (sums m c n).wpl (ix2 k j)) _ (by change k0_pay11 (F := Ideal) (ix2 k j) = 0; pointwise [k0_pay11]) fun t => by
    rw [sums_succ]
    exact wpl_at (fits m c t H) j _ k

omit H in
/-- A row just written is what was written there, and any other row is as before. -/
theorem put_row (s : Vec Ideal S8x1024 .f32) (k : ℕ) (v : Vec Ideal S1x1024 .f32) (r : Fin 8) (j : Fin 1024) :
    (VecWindow.put s ![k, 0] S1x1024.size v : Vec Ideal S8x1024 .f32) (ix2 r j) = if r.val = k then v (ix2 0 j) else s (ix2 r j) := by
  unfold VecWindow.put
  by_cases h : r.val = k
  · rw [if_pos h, dif_pos (by intro a; fin_cases a <;> simp [ix2, S1x1024] <;> omega)]
    refine congrArg v (funext fun a => Fin.ext ?_)
    fin_cases a <;> simp [ix2] <;> omega
  · rw [if_neg h, dif_neg]
    intro hh
    have := hh 0
    simp [ix2, S1x1024] at this
    omega

omit H in
/-- A row read is the array at that row. -/
theorem row_at (k : ℕ) (hk : k < 8) (s : Vec Ideal S8x1024 .f32) (j : Fin 1024) : Blocks.row k hk s (ix2 0 j) = s (ix2 ⟨k, hk⟩ j) := by
  refine congrArg s (funext fun a => Fin.ext ?_)
  fin_cases a <;> simp [ix2]

omit H in
/-- A row of the small array after a point. -/
theorem next_sm (b : Blocks Ideal) (s : Sums Ideal) (r : Fin 8) (j : Fin 1024) :
    (b.next s).sm (ix2 r j) = if r.val = 2 then k0_pay2 b.xh1 b.dhn (Blocks.row 2 (by decide) s.sm) (ix2 0 j)
      else if r.val = 1 then k0_pay1 b.xh2 b.dy (Blocks.row 1 (by decide) s.sm) (ix2 0 j)
      else if r.val = 0 then k0_pay47 b.losses (Blocks.row 0 (by decide) s.sm) (ix2 0 j) else s.sm (ix2 r j) := by
  unfold Blocks.next
  dsimp only
  rw [put_row, put_row, put_row]

theorem sum_loss (j : Fin 1024) : (sums m c 64).sm (ix2 0 j) = ((∑ q, (args m c).tLoss q j : ℝ) : EReal) :=
  sum_rows (fun n => (sums m c n).sm (ix2 0 j)) (fun q => (args m c).tLoss q j) (by change k0_pay7 (F := Ideal) (ix2 0 j) = 0; pointwise [k0_pay7]) fun t => by
    rw [sums_succ]
    rw [next_sm, if_neg (by decide), if_neg (by decide), if_pos (by decide)]
    refine (loss_at (fits m c t H) j _).trans ?_
    rw [row_at]
    rfl

theorem sum_gf (j : Fin 1024) : (sums m c 64).sm (ix2 1 j) = ((∑ q, (args m c).tGf q j : ℝ) : EReal) :=
  sum_rows (fun n => (sums m c n).sm (ix2 1 j)) (fun q => (args m c).tGf q j) (by change k0_pay7 (F := Ideal) (ix2 1 j) = 0; pointwise [k0_pay7]) fun t => by
    rw [sums_succ]
    rw [next_sm, if_neg (by decide), if_pos (by decide)]
    refine (gf_sum_at (fits m c t H) j _).trans ?_
    rw [row_at]
    rfl

theorem sum_gp (j : Fin 1024) : (sums m c 64).sm (ix2 2 j) = ((∑ q, (args m c).tGp q j : ℝ) : EReal) :=
  sum_rows (fun n => (sums m c n).sm (ix2 2 j)) (fun q => (args m c).tGp q j) (by change k0_pay7 (F := Ideal) (ix2 2 j) = 0; pointwise [k0_pay7]) fun t => by
    rw [sums_succ]
    rw [next_sm, if_pos (by decide)]
    refine (gp_sum_at (fits m c t H) j _).trans ?_
    rw [row_at]
    rfl

end Cert.Kernel3Ideal.Chain

end
-- ==== Proof.Chain.Tiles.lean ====
/- The arrays that the token chain's kernel leaves. -/
module

public import proofs.«01_k».proof.Proof.Chain.Sums
public import Idealize.ShloMosaic.Lib.Pipeline.ReadBack

@[expose] public section

set_option maxRecDepth 16384

noncomputable section

namespace Cert.Kernel3Ideal.Chain

open Cert.Kernel3Ideal Cert.Kernel3Ideal.Gen Idealize.ShloMosaic Idealize.ShloMosaic.TcCoe Idealize.SL.Sem _root_.Chain

variable (m : (ℓ : Loc nD τ sig) → Buf (Elt Ideal) ℓ) (c : Dev nD) (H : Finite m c)

/-- An element of a block of rows, at the cell of the whole array that it goes to. -/
theorem at_cell (G : Fin 16384 → Fin 1024 → ℝ) (t : Fin cfg0.N) (o : Vec Ideal S256x1024 .f32) (ho : ∀ i j, o (ix2 i j) = ((G (rowOf t i) j : ℝ) : EReal))
    (y : S256x1024.Idx) (z : S16384x1024.Idx) (h0 : (z 0).val = t.val * 256 + (y 0).val) (h1 : (z 1).val = (y 1).val) :
    o y = ((G (z 0) (z 1) : ℝ) : EReal) := by
  have e0 : rowOf t (y 0) = z 0 := Fin.ext h0.symm
  have e1 : y 1 = z 1 := Fin.ext h1.symm
  idx_vars y
  refine (ho y0 y1).trans ?_
  rw [← e0, ← e1]

include H

/-- The gradient of the stream. -/
theorem final13 : (dats m 0 c).arrAt 13 cfg0.N = fun i : S16384x1024.Idx => (((args m c).dx1 (i 0) (i 1) : ℝ) : EReal) := by
  refine (dats m 0 c).arrAt_eq_of_covers 13 (fun i : S16384x1024.Idx => (((args m c).dx1 (i 0) (i 1) : ℝ) : EReal)) (by decide +kernel) fun t hf y => ?_
  blk_simp
  exact at_cell (args m c).dx1 t (blocks m c t).out13 (dx1_at (fits m c t H)) y _ (by blk_simp [idx t]) (by blk_simp [idx t])

/-- The gradient of the second branch's output. -/
theorem final14 : (dats m 0 c).arrAt 14 cfg0.N = fun i : S16384x1024.Idx => (((args m c).dyb (i 0) (i 1) : ℝ) : EReal) := by
  refine (dats m 0 c).arrAt_eq_of_covers 14 (fun i : S16384x1024.Idx => (((args m c).dyb (i 0) (i 1) : ℝ) : EReal)) (by decide +kernel) fun t hf y => ?_
  blk_simp
  exact at_cell (args m c).dyb t (blocks m c t).out14 (dyb_at (fits m c t H)) y _ (by blk_simp [idx t]) (by blk_simp [idx t])

/-- The gradient of the first branch before its output weights. -/
theorem final15 : (dats m 0 c).arrAt 15 cfg0.N = fun i : S16384x1024.Idx => (((args m c).dyap (i 0) (i 1) : ℝ) : EReal) := by
  refine (dats m 0 c).arrAt_eq_of_covers 15 (fun i : S16384x1024.Idx => (((args m c).dyap (i 0) (i 1) : ℝ) : EReal)) (by decide +kernel) fun t hf y => ?_
  blk_simp
  exact at_cell (args m c).dyap t (blocks m c t).out15 (dyap_at (fits m c t H)) y _ (by blk_simp [idx t]) (by blk_simp [idx t])

/-- The gradient of the first branch's output weights. -/
theorem final18 : (dats m 0 c).arrAt 18 cfg0.N = fun i : S1024x1024.Idx => ((∑ q, (args m c).tWa q (i 0) (i 1) : ℝ) : EReal) := by
  refine (dats m 0 c).arrAt_eq_of_covers 18 (fun i : S1024x1024.Idx => ((∑ q, (args m c).tWa q (i 0) (i 1) : ℝ) : EReal)) (by decide +kernel) fun t hf y => ?_
  have ht : t.val + 1 = 64 := by have := (flush0_18 t).mp hf; have := (idx t).1; omega
  blk_simp
  change k0_pay3 (sums m c (t.val + 1)).wa y = _
  rw [ht]
  have e0 : (win0_18.blk t).view.emb y 0 = y 0 := Fin.ext (by blk_simp [idx t])
  have e1 : (win0_18.blk t).view.emb y 1 = y 1 := Fin.ext (by blk_simp [idx t])
  rw [e0, e1]
  idx_vars y
  pointwise [k0_pay3]
  exact sum_wa m c H y0 y1

/-- The gradient of the layer's output weights. -/
theorem final19 : (dats m 0 c).arrAt 19 cfg0.N = fun i : S1024x1024.Idx => ((∑ q, (args m c).tWo q (i 0) (i 1) : ℝ) : EReal) := by
  refine (dats m 0 c).arrAt_eq_of_covers 19 (fun i : S1024x1024.Idx => ((∑ q, (args m c).tWo q (i 0) (i 1) : ℝ) : EReal)) (by decide +kernel) fun t hf y => ?_
  have ht : t.val + 1 = 64 := by have := (flush0_19 t).mp hf; have := (idx t).1; omega
  blk_simp
  change k0_pay4 (sums m c (t.val + 1)).wo y = _
  rw [ht]
  have e0 : (win0_19.blk t).view.emb y 0 = y 0 := Fin.ext (by blk_simp [idx t])
  have e1 : (win0_19.blk t).view.emb y 1 = y 1 := Fin.ext (by blk_simp [idx t])
  rw [e0, e1]
  idx_vars y
  pointwise [k0_pay4]
  exact sum_wo m c H y0 y1

/-- The gradient of the embedding's gate's weights. -/
theorem final20 : (dats m 0 c).arrAt 20 cfg0.N = fun i : S1024x1024.Idx => ((∑ q, (args m c).tPg q (i 0) (i 1) : ℝ) : EReal) := by
  refine (dats m 0 c).arrAt_eq_of_covers 20 (fun i : S1024x1024.Idx => ((∑ q, (args m c).tPg q (i 0) (i 1) : ℝ) : EReal)) (by decide +kernel) fun t hf y => ?_
  have ht : t.val + 1 = 64 := by have := (flush0_20 t).mp hf; have := (idx t).1; omega
  blk_simp
  change k0_pay5 (sums m c (t.val + 1)).wpg y = _
  rw [ht]
  have e0 : (win0_20.blk t).view.emb y 0 = y 0 := Fin.ext (by blk_simp [idx t])
  have e1 : (win0_20.blk t).view.emb y 1 = y 1 := Fin.ext (by blk_simp [idx t])
  rw [e0, e1]
  idx_vars y
  pointwise [k0_pay5]
  exact sum_wpg m c H y0 y1

/-- The gradient of the embedding's projection's weights. -/
theorem final21 : (dats m 0 c).arrAt 21 cfg0.N = fun i : S256x1024.Idx => ((∑ q, (args m c).tPl q (i 0) (i 1) : ℝ) : EReal) := by
  refine (dats m 0 c).arrAt_eq_of_covers 21 (fun i : S256x1024.Idx => ((∑ q, (args m c).tPl q (i 0) (i 1) : ℝ) : EReal)) (by decide +kernel) fun t hf y => ?_
  have ht : t.val + 1 = 64 := by have := (flush0_21 t).mp hf; have := (idx t).1; omega
  blk_simp
  change k0_pay6 (sums m c (t.val + 1)).wpl y = _
  rw [ht]
  have e0 : (win0_21.blk t).view.emb y 0 = y 0 := Fin.ext (by blk_simp [idx t])
  have e1 : (win0_21.blk t).view.emb y 1 = y 1 := Fin.ext (by blk_simp [idx t])
  rw [e0, e1]
  idx_vars y
  pointwise [k0_pay6]
  exact sum_wpl m c H y0 y1

/-- The small array's first three rows: the loss by columns, the gradient of the final norm's weights and that of the embedding's norm's. -/
theorem final17 (k : Fin 3) (j : Fin 1024) : ((dats m 0 c).arrAt 17 cfg0.N : Vec Ideal S8x1024 .f32) (ix2 ⟨k.val, by omega⟩ j)
    = (sums m c 64).sm (ix2 ⟨k.val, by omega⟩ j) := by
  have e : ((dats m 0 c).arrAt 17 cfg0.N : Vec Ideal S8x1024 .f32) = (sums m c 64).sm := by
    refine (dats m 0 c).arrAt_eq_of_covers 17 ((sums m c 64).sm) (by decide +kernel) fun t hf y => ?_
    have ht : t.val + 1 = 64 := by have := (flush0_17 t).mp hf; have := (idx t).1; omega
    blk_simp
    change (sums m c (t.val + 1)).sm y = _
    rw [ht]
    exact congrArg _ (funext fun a => by fin_cases a <;> exact Fin.ext (by blk_simp [idx t]))
  rw [e]

omit H in
/-- The gates' gradient, a half at a time. -/
def gates (i : Fin 16384) (n : ℕ) : ℝ := if n < 1024 then (args m c).dga i ⟨n % 1024, Nat.mod_lt _ (by decide)⟩ else (args m c).dgb i ⟨n % 1024, Nat.mod_lt _ (by decide)⟩

theorem out16_at (t : Fin cfg0.N) (i : Fin 256) (j : Fin 2048) : (blocks m c t).out16 (ix2 i j) = ((gates m c (rowOf t i) j.val : ℝ) : EReal) := by
  unfold Blocks.out16 VecWindow.put gates
  by_cases h : j.val < 1024
  · rw [if_pos h, dif_neg]
    · exact dga_at (fits m c t H) i ⟨j.val % 1024, Nat.mod_lt _ (by decide)⟩
    · intro hh
      have := hh 1
      simp [ix2, S256x1024] at this
      omega
  · rw [if_neg h, dif_pos (by intro a; fin_cases a <;> simp [ix2, S256x1024] <;> omega)]
    refine Eq.trans ?_ (dgb_at (fits m c t H) i ⟨j.val % 1024, Nat.mod_lt _ (by decide)⟩)
    refine congrArg _ (funext fun a => Fin.ext ?_)
    fin_cases a <;> simp [ix2] <;> omega

omit H in
theorem gates_cell (t : Fin cfg0.N) (o : Vec Ideal S256x2048 .bf16) (ho : ∀ i j, o (ix2 i j) = ((gates m c (rowOf t i) j.val : ℝ) : EReal))
    (y : S256x2048.Idx) (z : Fin 16384) (n : ℕ) (h0 : z.val = t.val * 256 + (y 0).val) (h1 : n = (y 1).val) : o y = ((gates m c z n : ℝ) : EReal) := by
  have e0 : rowOf t (y 0) = z := Fin.ext h0.symm
  idx_vars y
  subst h1 e0
  exact ho y0 y1

/-- The gates' gradient stands in the last 2048 columns. -/
theorem final16 (i : Fin 16384) (j : Fin 2048) : ((dats m 0 c).arrAt 16 cfg0.N : Vec Ideal S16384x14336 .bf16) (ix2 i ⟨12288 + j.val, by omega⟩)
    = ((gates m c i j.val : ℝ) : EReal) := by
  have e := (dats m 0 c).arrAt_eq_of_coversWhere 16 (fun z : S16384x14336.Idx => ((gates m c (z 0) ((z 1).val % 2048) : ℝ) : EReal))
    (fun β => β 1 = 6) (by decide +kernel) (fun t hf y => by
      blk_simp
      have b1 := ((cfg0.win 16).xinj (cfg0.grid.coords t) y 1).isLt
      rw [Pipeline.Window.xinj_val] at b1
      change (y 1).val < 2048 at b1
      exact gates_cell m c t (blocks m c t).out16 (out16_at m c H t) _ _ _ (by blk_simp [idx t]) (by blk_simp [idx t]; omega))
    (P := fun z => (z 1).val / 2048 = 6) (fun z => by blk_simp [Pipeline.Window.cell_apply])
  rw [e]
  have e2 : (12288 + j.val) % 2048 = j.val := by omega
  refine (if_pos (by change (12288 + j.val) / 2048 = 6; omega)).trans ?_
  change ((gates m c i ((12288 + j.val) % 2048) : ℝ) : EReal) = _
  rw [e2]

end Cert.Kernel3Ideal.Chain

end
-- ==== Proof.Chain.Result.lean ====
/- The results of the token chain's kernel, the host operations after it among them. -/
module

public import proofs.«01_k».proof.Proof.Chain.Tiles
public import Idealize.ShloMosaic.Lib.StableHlo.Run

@[expose] public section

set_option maxRecDepth 16384

noncomputable section

namespace Cert.Kernel3Ideal.Chain

open Cert.Kernel3Ideal Cert.Kernel3Ideal.Gen Idealize.ShloMosaic Idealize.ShloMosaic.TcCoe Idealize.SL.Sem _root_.Chain
open _root_.Mlstm (coe_sum)

variable (m : (ℓ : Loc nD τ sig) → Buf (Elt Ideal) ℓ) (c : Dev nD) (H : Finite m c)

/-- What the host operations after the kernel leave. -/
abbrev left (b : Ref sig .tc) := Pipeline.afterTail₀ cfgs (dats m) 0 (V0 m) [hostOps1] c b

/-- A window's array is what they find there. -/
theorem at_exit (w : Fin cfg0.W) : Pipeline.withArrays (cfgs 0).spec c (V0 m c) (fun w => (dats m 0 c).arrAt w cfg0.N)
    (Proc.devRef .tc (Pipeline.arrRef spec0 w)) = (dats m 0 c).arrAt w cfg0.N :=
  Pipeline.withArrays_arr_shared spec0 c (V0 m c) _ ((dats m 0 c).arrAt_sharedIn (by decide) (V0 m c) (A_eq m c) cfg0.N) w

theorem left_gates (i : Fin 16384) (j : Fin 2048) : (left m c main_v23 : FVec Ideal S16384x2048 .bf16) (ix2 i j)
    = ((dats m 0 c).arrAt 16 cfg0.N : Vec Ideal S16384x14336 .bf16) (ix2 i ⟨12288 + j.val, by omega⟩) := by
  have e : left m c main_v23 = extractStridedSlice S16384x2048 ![0, 12288] ((dats m 0 c).arrAt 16 cfg0.N : Vec Ideal S16384x14336 .bf16) slices_S16384x14336_S16384x2048_0_12288 := by
    unfold left Pipeline.afterTail₀
    simp only [hostOps1, List.flatten_cons, List.flatten_nil, List.append_nil]
    after_results
    exact congrArg (fun z : Vec Ideal S16384x14336 .bf16 => extractStridedSlice S16384x2048 ![0, 12288] z slices_S16384x14336_S16384x2048_0_12288) (at_exit m c 16)
  rw [e]
  pointwise []

/-- The small array as the host operations find it. -/
abbrev small : Vec Ideal S8x1024 .f32 := (dats m 0 c).arrAt 17 cfg0.N

theorem small_exit : Pipeline.withArrays (cfgs 0).spec c (V0 m c) (fun w => (dats m 0 c).arrAt w (cfgs 0).N) (Proc.devRef .tc main_v22_4) = small m c :=
  at_exit m c 17

/-- The host's sum over the first row's columns. -/
theorem loss_row (x : Vec Ideal S8x1024 .f32) : Host.reduceAdd (F := Ideal) (shapeCast S1024 (extractStridedSlice S1x1024 ![0, 0] x slices_S8x1024_S1x1024_0_0) shapeCasts_S1x1024_S1024)
    (constant S_ .f32 0x00000000#32) reducesTo_S1024_S_d0 h_S_ ix0 = ∑ j : Fin 1024, x (ix2 0 j) := by
  pointwise []

set_option maxHeartbeats 1000000 in
theorem left_loss : (left m c main_v26 : FVec Ideal S_ .f32) ix0 = ∑ j : Fin 1024, small m c (ix2 0 j) := by
  have e : left m c main_v26 = Host.reduceAdd (F := Ideal) (shapeCast S1024 (extractStridedSlice S1x1024 ![0, 0] (small m c) slices_S8x1024_S1x1024_0_0) shapeCasts_S1x1024_S1024)
      (constant S_ .f32 0x00000000#32) reducesTo_S1024_S_d0 h_S_ := by
    unfold left Pipeline.afterTail₀
    simp only [hostOps1, List.flatten_cons, List.flatten_nil, List.append_nil]
    after_results
    rw [small_exit m c]
    congr 1
  exact (congrFun e ix0).trans (loss_row (small m c))

theorem left_gf (j : Fin 1024) : (left m c main_v28 : FVec Ideal S1024 .f32) (ix1 j) = small m c (ix2 1 j) := by
  have e : left m c main_v28 = shapeCast S1024 (extractStridedSlice S1x1024 ![1, 0] (small m c) slices_S8x1024_S1x1024_1_0) shapeCasts_S1x1024_S1024 := by
    unfold left Pipeline.afterTail₀
    simp only [hostOps1, List.flatten_cons, List.flatten_nil, List.append_nil]
    after_results
    exact congrArg (fun s : Vec Ideal S8x1024 .f32 => shapeCast S1024 (extractStridedSlice S1x1024 ![1, 0] s slices_S8x1024_S1x1024_1_0) shapeCasts_S1x1024_S1024) (at_exit m c 17)
  rw [e]
  pointwise []

theorem left_gp (j : Fin 1024) : (left m c main_v30 : FVec Ideal S1024 .f32) (ix1 j) = small m c (ix2 2 j) := by
  have e : left m c main_v30 = shapeCast S1024 (extractStridedSlice S1x1024 ![2, 0] (small m c) slices_S8x1024_S1x1024_2_0) shapeCasts_S1x1024_S1024 := by
    unfold left Pipeline.afterTail₀
    simp only [hostOps1, List.flatten_cons, List.flatten_nil, List.append_nil]
    after_results
    exact congrArg (fun s : Vec Ideal S8x1024 .f32 => shapeCast S1024 (extractStridedSlice S1x1024 ![2, 0] s slices_S8x1024_S1x1024_2_0) shapeCasts_S1x1024_S1024) (at_exit m c 17)
  rw [e]
  pointwise []

theorem read17 (H : Finite m c) (k : Fin 3) (j : Fin 1024) : small m c (ix2 ⟨k.val, by omega⟩ j) = (sums m c 64).sm (ix2 ⟨k.val, by omega⟩ j) := final17 m c H k j

theorem loss_all (H : Finite m c) : (left m c main_v26 : FVec Ideal S_ .f32) = fun _ => ((∑ j, ∑ q, (args m c).tLoss q j : ℝ) : EReal) := by
  funext i
  obtain rfl : i = ix0 := funext fun a => a.elim0
  have e : ∑ j : Fin 1024, (small m c (ix2 0 j) : EReal) = ((∑ j, ∑ q, (args m c).tLoss q j : ℝ) : EReal) := by
    rw [coe_sum]
    exact Finset.sum_congr rfl fun j _ => (read17 m c H 0 j).trans (sum_loss m c H j)
  exact (left_loss m c).trans e

set_option maxHeartbeats 4000000 in
/-- The kernel's run: every result as the plain chain over real numbers. -/
theorem results (ρ : Dev nD → PrngReg) (H : ∀ c, Finite m c) : θ_run defs (onTc (τ := τ) (main (F := Ideal))) ⟨m, fun _ => 0, ρ⟩ (fun r => ∀ c : Dev nD,
      r.2.mem ((c.tc : Thread nD τ).loc main_v22_0) = (fun i : S16384x1024.Idx => (((args m c).dx1 (i 0) (i 1) : ℝ) : EReal))
      ∧ r.2.mem ((c.tc : Thread nD τ).loc main_v22_1) = (fun i : S16384x1024.Idx => (((args m c).dyb (i 0) (i 1) : ℝ) : EReal))
      ∧ r.2.mem ((c.tc : Thread nD τ).loc main_v22_2) = (fun i : S16384x1024.Idx => (((args m c).dyap (i 0) (i 1) : ℝ) : EReal))
      ∧ r.2.mem ((c.tc : Thread nD τ).loc main_v23) = (fun i : S16384x2048.Idx => ((gates m c (i 0) (i 1).val : ℝ) : EReal))
      ∧ r.2.mem ((c.tc : Thread nD τ).loc main_v26) = (fun _ : S_.Idx => ((∑ j, ∑ q, (args m c).tLoss q j : ℝ) : EReal))
      ∧ r.2.mem ((c.tc : Thread nD τ).loc main_v28) = (fun i : S1024.Idx => ((∑ q, (args m c).tGf q (i 0) : ℝ) : EReal))
      ∧ r.2.mem ((c.tc : Thread nD τ).loc main_v30) = (fun i : S1024.Idx => ((∑ q, (args m c).tGp q (i 0) : ℝ) : EReal))
      ∧ r.2.mem ((c.tc : Thread nD τ).loc main_v22_5) = (fun i : S1024x1024.Idx => ((∑ q, (args m c).tWa q (i 0) (i 1) : ℝ) : EReal))
      ∧ r.2.mem ((c.tc : Thread nD τ).loc main_v22_6) = (fun i : S1024x1024.Idx => ((∑ q, (args m c).tWo q (i 0) (i 1) : ℝ) : EReal))
      ∧ r.2.mem ((c.tc : Thread nD τ).loc main_v22_7) = (fun i : S1024x1024.Idx => ((∑ q, (args m c).tPg q (i 0) (i 1) : ℝ) : EReal))
      ∧ r.2.mem ((c.tc : Thread nD τ).loc main_v22_8) = (fun i : S256x1024.Idx => ((∑ q, (args m c).tPl q (i 0) (i 1) : ℝ) : EReal))) := by
  refine (θ_run defs _ _).mono (fun r h c => ⟨?_, ?_, ?_, ?_, ?_, ?_, ?_, ?_, ?_, ?_, ?_⟩) (run_main m ρ)
  · exact ((h c).1 13).trans (final13 m c (H c))
  · exact ((h c).1 14).trans (final14 m c (H c))
  · exact ((h c).1 15).trans (final15 m c (H c))
  · refine ((h c).2 main_v23 (Pipeline.mem_restRefs_of main_v23 (by decide) (by decide))).trans (funext fun i => ?_)
    idx_vars i
    exact (left_gates m c i0 i1).trans (final16 m c (H c) i0 i1)
  · exact ((h c).2 main_v26 (Pipeline.mem_restRefs_of main_v26 (by decide) (by decide))).trans (loss_all m c (H c))
  · refine ((h c).2 main_v28 (Pipeline.mem_restRefs_of main_v28 (by decide) (by decide))).trans (funext fun i => ?_)
    idx_vars i
    exact (left_gf m c i0).trans ((read17 m c (H c) 1 i0).trans (sum_gf m c (H c) i0))
  · refine ((h c).2 main_v30 (Pipeline.mem_restRefs_of main_v30 (by decide) (by decide))).trans (funext fun i => ?_)
    idx_vars i
    exact (left_gp m c i0).trans ((read17 m c (H c) 2 i0).trans (sum_gp m c (H c) i0))
  · exact ((h c).1 18).trans (final18 m c (H c))
  · exact ((h c).1 19).trans (final19 m c (H c))
  · exact ((h c).1 20).trans (final20 m c (H c))
  · exact ((h c).1 21).trans (final21 m c (H c))

end Cert.Kernel3Ideal.Chain

end
-- ==== Proof.Chain.Ref.lean ====
/- The reference's chain and its gradients, row by row, as the plain chain over real numbers. -/
module

public import proofs.«01_k».proof.Proof.Gen.Reference3Ideal.Run
public import proofs.«01_k».proof.Proof.Chain.Math
public import proofs.«01_k».proof.Proof.Conv.Ref
public import Idealize.ShloMosaic.Lib.StableHlo.ReadAt

@[expose] public section

set_option maxRecDepth 16384

noncomputable section

namespace Cert.Reference3Ideal.Chain

open Cert.Reference3Ideal Cert.Reference3Ideal.Gen Cert.Reference3Ideal.Value Idealize.ShloMosaic Idealize.ShloMosaic.TcCoe Idealize.SL.Sem _root_.Chain
open _root_.Mlstm (coe_sum)

/-- The host's buffers hold the chain's arguments. -/
structure Holds (V : Valuation τ sig (Elt Ideal)) (a : Args) : Prop where
  yap : ∀ i j, (V (Proc.devRef .tc main_arg0) : FVec Ideal S1x16384x1024 .f32) (ix3 0 i j) = ((a.yap i j : ℝ) : EReal)
  wa : ∀ i j, (V (Proc.devRef .tc main_arg1) : FVec Ideal S1x1024x1024 .f32) (ix3 0 i j) = ((a.wa i j : ℝ) : EReal)
  yb : ∀ i j, (V (Proc.devRef .tc main_arg2) : FVec Ideal S1x16384x1024 .f32) (ix3 0 i j) = ((a.yb i j : ℝ) : EReal)
  sa : ∀ (i : Fin 16384) (j : Fin 1024), sg ((V (Proc.devRef .tc main_arg3) : FVec Ideal S1x16384x14344 .f32) (ix3 0 i (⟨12296 + j.val, by omega⟩ : Fin 14344))) = a.sa i j
  sb : ∀ (i : Fin 16384) (j : Fin 1024), sg ((V (Proc.devRef .tc main_arg3) : FVec Ideal S1x16384x14344 .f32) (ix3 0 i (⟨13320 + j.val, by omega⟩ : Fin 14344))) = a.sb i j
  wo : ∀ i j, (V (Proc.devRef .tc main_arg4) : FVec Ideal S1x1024x1024 .f32) (ix3 0 i j) = ((a.wo i j : ℝ) : EReal)
  x : ∀ i j, (V (Proc.devRef .tc main_arg5) : FVec Ideal S1x16384x1024 .f32) (ix3 0 i j) = ((a.x i j : ℝ) : EReal)
  gp : ∀ j, (V (Proc.devRef .tc main_arg6) : FVec Ideal S1x1024 .f32) (ix2 0 j) = ((a.gp j : ℝ) : EReal)
  wpg : ∀ i j, (V (Proc.devRef .tc main_arg7) : FVec Ideal S1x1024x1024 .f32) (ix3 0 i j) = ((a.wpg i j : ℝ) : EReal)
  p : ∀ i j, (V (Proc.devRef .tc main_arg8) : FVec Ideal S1x1x16384x256 .f32) (ix4 0 0 i j) = ((a.p i j : ℝ) : EReal)
  wpl : ∀ i j, (V (Proc.devRef .tc main_arg9) : FVec Ideal S1x256x1024 .f32) (ix3 0 i j) = ((a.wpl i j : ℝ) : EReal)
  tg : ∀ i j, (V (Proc.devRef .tc main_arg10) : FVec Ideal S1x16384x1024 .f32) (ix3 0 i j) = ((a.tg i j : ℝ) : EReal)
  gf : ∀ j, (V (Proc.devRef .tc main_arg11) : FVec Ideal S1024 .f32) (ix1 j) = ((a.gf j : ℝ) : EReal)

/-- The host's logistic function. -/
theorem host_sg (x : EReal) : Ideal.div ((1 : ℝ) : EReal) (((1 : ℝ) : EReal) + Ideal.exp (-x)) = ((sg x : ℝ) : EReal) := by
  rw [← logistic_sg, EReal.coe_one]
  rfl

theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-1 / 2 : ℝ) : EReal) := by
  simp [Ideal.ofBits, Ideal.ieee, -EReal.coe_mul]; norm_num

/-- The host's way to a norm's gradient: the reciprocal root's derivative, spread over the row twice. -/
theorem norm_back (f g : Fin 1024 → ℝ) (j : Fin 1024) (C : ℝ) (hC : C = (∑ k, f k * g k) * (-1 / 2 * (rms f / meanSq f)) / 1024) :
    g j * rms f + f j * C + C * f j = normGrad f g j := by
  have e : rms f / meanSq f = rms f * (rms f * rms f) := by rw [rms_sq, div_eq_mul_inv]
  have es : ∑ k, g k * (f k * rms f) = (∑ k, f k * g k) * rms f := by
    rw [Finset.sum_mul]
    exact Finset.sum_congr rfl fun k _ => by ring
  rw [normGrad, hC, e, es]
  ring

/-- The sum of a column over its two unit axes is the column. -/
theorem sum_col (h : S1x16384x1.ReducesTo [0, 2] S16384) (v : S1x16384x1.Idx → EReal) (l : Fin 16384) :
    Ideal.hostReduceAdd h v 0 (ix1 l) = v (ix3 0 l 0) := by
  unfold Ideal.hostReduceAdd
  rw [zero_add]
  refine (Finset.sum_filter_eq_sum_of_fiber _ (fun _ : Fin 1 => ix3 0 l 0) (fun a b _ => Subsingleton.elim a b) (fun i => ⟨fun e => ⟨0, ?_⟩, ?_⟩) v).trans (Fin.sum_univ_one _)
  · idx_vars i
    have e1 := congrFun e 0
    obtain rfl := Subsingleton.elim i0 0
    obtain rfl := Subsingleton.elim i2 0
    exact congrArg (fun q => ix3 0 q 0) e1.symm
  · rintro ⟨_, rfl⟩
    funext b
    obtain rfl := Subsingleton.elim b 0
    rfl

theorem root_mean (f : Fin 1024 → ℝ) : Ideal.div ((rms f : ℝ) : EReal) ((meanSq f : ℝ) : EReal) = ((rms f / meanSq f : ℝ) : EReal) :=
  _root_.Mlstm.div_coe_pos _ (meanSq_pos f)

variable {V : Valuation τ sig (Elt Ideal)} {a : Args} (R : Holds V a) (i : Fin 16384) (j : Fin 1024)

include R

theorem v2_at (k : Fin 1024) : (res_main_v2 V : FVec Ideal S1024x1024 .f32) (ix2 k j) = ((a.wa k j : ℝ) : EReal) := by
  pointwise [res_main_v2]
  exact R.wa k j

theorem v3_at : (res_main_v3 V : FVec Ideal S1x16384x1024 .f32) (ix3 0 i j) = ((a.ya i j : ℝ) : EReal) := by
  pointwise [res_main_v3]
  simp only [R.yap, v2_at R, ← EReal.coe_mul, ← coe_sum]
  rfl

theorem v9_at : (res_main_v9 V : FVec Ideal S1x16384x1024 .f32) (ix3 0 i j) = ((a.sa i j : ℝ) : EReal) := by
  pointwise [res_main_v9, ofBits_one]
  rw [host_sg, R.sa]

theorem v19_at : (res_main_v19 V : FVec Ideal S1x16384x1024 .f32) (ix3 0 i j) = ((a.sb i j : ℝ) : EReal) := by
  pointwise [res_main_v19, ofBits_one]
  rw [host_sg, R.sb]

theorem v24_at : (res_main_v24 V : FVec Ideal S1x16384x1024 .f32) (ix3 0 i j) = ((a.mg i j : ℝ) : EReal) := by
  pointwise [res_main_v24]
  simp only [v9_at R, v3_at R, v19_at R, R.yb, ← EReal.coe_mul, ← EReal.coe_add]
  rfl

theorem v25_at (k : Fin 1024) : (res_main_v25 V : FVec Ideal S1024x1024 .f32) (ix2 k j) = ((a.wo k j : ℝ) : EReal) := by
  pointwise [res_main_v25]
  exact R.wo k j

theorem v27_at : (res_main_v27 V : FVec Ideal S1x16384x1024 .f32) (ix3 0 i j) = ((a.x1 i j : ℝ) : EReal) := by
  pointwise [res_main_v27]
  simp only [R.x, v24_at R, v25_at R, ← EReal.coe_mul, ← coe_sum, ← EReal.coe_add]
  exact congrArg _ (add_comm _ _)

theorem v35_at : (res_main_v35 V : FVec Ideal S1x16384x1 .f32) (ix3 0 i 0) = ((meanSq (a.x1 i) : ℝ) : EReal) := by
  pointwise [res_main_v35, ofBits_1024, ofBits_eps]
  simp only [v27_at R, ← EReal.coe_mul, ← coe_sum, div_1024, ← EReal.coe_add]
  rfl

theorem v36_at : (res_main_v36 V : FVec Ideal S1x16384x1 .f32) (ix3 0 i 0) = ((rms (a.x1 i) : ℝ) : EReal) := by
  pointwise [res_main_v36]
  rw [v35_at R]
  exact rsqrt_mean _

theorem v41_at : (res_main_v41 V : FVec Ideal S1x16384x1024 .f32) (ix3 0 i j) = ((a.xh1 i j : ℝ) : EReal) := by
  pointwise [res_main_v41]
  simp only [v27_at R, v36_at R, ← EReal.coe_mul]
  rfl

theorem v42_at : (res_main_v42 V : FVec Ideal S1x1x1024 .f32) (ix3 0 0 j) = ((a.gp j : ℝ) : EReal) := by
  pointwise [res_main_v42]
  exact R.gp j

theorem v44_at : (res_main_v44 V : FVec Ideal S1x16384x1024 .f32) (ix3 0 i j) = ((a.hn i j : ℝ) : EReal) := by
  pointwise [res_main_v44]
  simp only [v41_at R, v42_at R, ← EReal.coe_mul]
  rfl

theorem v45_at (k : Fin 1024) : (res_main_v45 V : FVec Ideal S1024x1024 .f32) (ix2 k j) = ((a.wpg k j : ℝ) : EReal) := by
  pointwise [res_main_v45]
  exact R.wpg k j

theorem v52_at : (res_main_v52 V : FVec Ideal S1x16384x1024 .f32) (ix3 0 i j) = ((a.gt i j : ℝ) : EReal) := by
  pointwise [res_main_v52, ofBits_one]
  simp only [v44_at R, v45_at R, ← EReal.coe_mul, ← coe_sum]
  rw [host_sg]
  rfl

theorem v56_at (k : Fin 256) : (res_main_v56 V : FVec Ideal S1x16384x256 .f32) (ix3 0 i k) = ((a.p i k : ℝ) : EReal) := by
  pointwise [res_main_v56]
  exact R.p i k

theorem v58_at : (res_main_v58 V : FVec Ideal S1x16384x1024 .f32) (ix3 0 i j) = ((a.pe i j : ℝ) : EReal) := by
  pointwise [res_main_v58]
  simp only [v56_at R, R.wpl, ← EReal.coe_mul, ← coe_sum]
  rfl

theorem v60_at : (res_main_v60 V : FVec Ideal S1x16384x1024 .f32) (ix3 0 i j) = ((a.x2 i j : ℝ) : EReal) := by
  pointwise [res_main_v60]
  simp only [v27_at R, v52_at R, v58_at R, ← EReal.coe_mul, ← EReal.coe_add]
  rfl

theorem v67_at : (res_main_v67 V : FVec Ideal S1x16384x1 .f32) (ix3 0 i 0) = ((meanSq (a.x2 i) : ℝ) : EReal) := by
  pointwise [res_main_v67, ofBits_1024, ofBits_eps]
  simp only [v60_at R, ← EReal.coe_mul, ← coe_sum, div_1024, ← EReal.coe_add]
  rfl

theorem v68_at : (res_main_v68 V : FVec Ideal S1x16384x1 .f32) (ix3 0 i 0) = ((rms (a.x2 i) : ℝ) : EReal) := by
  pointwise [res_main_v68]
  rw [v67_at R]
  exact rsqrt_mean _

theorem v73_at : (res_main_v73 V : FVec Ideal S1x16384x1024 .f32) (ix3 0 i j) = ((a.xh2 i j : ℝ) : EReal) := by
  pointwise [res_main_v73]
  simp only [v60_at R, v68_at R, ← EReal.coe_mul]
  rfl

theorem v74_at : (res_main_v74 V : FVec Ideal S1x1x1024 .f32) (ix3 0 0 j) = ((a.gf j : ℝ) : EReal) := by
  pointwise [res_main_v74]
  exact R.gf j

theorem v77_at : (res_main_v77 V : FVec Ideal S1x16384x1024 .f32) (ix3 0 i j) = ((a.err i j : ℝ) : EReal) := by
  pointwise [res_main_v77]
  simp only [v73_at R, v74_at R, R.tg, ← EReal.coe_mul, ← EReal.coe_sub]
  rfl

theorem v91_at : (res_main_v91 V : FVec Ideal S1x16384x1024 .f32) (ix3 0 i j) = ((a.dy i j : ℝ) : EReal) := by
  pointwise [res_main_v91, _root_.Conv.ofBits_half, ofBits_one, ofBits_1024, ofBits_two]
  simp only [v77_at R, ← EReal.coe_mul, div_1024]
  refine congrArg _ ?_
  unfold Args.dy
  ring

theorem v96_at : (res_main_v96 V : FVec Ideal S1x16384x1024 .f32) (ix3 0 i j) = ((a.dxh2 i j : ℝ) : EReal) := by
  pointwise [res_main_v96]
  simp only [v91_at R, v74_at R, ← EReal.coe_mul]
  rfl

/-- What the host spreads over a row for the final norm. -/
theorem v108_at : (res_main_v108 V : FVec Ideal S1x16384x1024 .f32) (ix3 0 i j)
    = (((∑ k, a.x2 i k * a.dxh2 i k) * (-1 / 2 * (rms (a.x2 i) / meanSq (a.x2 i))) / 1024 : ℝ) : EReal) := by
  pointwise [res_main_v108]
  rw [sum_col]
  pointwise [ofBits_neg_half, ofBits_1024]
  simp only [v60_at R, v96_at R, v68_at R, v67_at R, root_mean, ← EReal.coe_mul, ← coe_sum, div_1024]

theorem v112_at : (res_main_v112 V : FVec Ideal S1x16384x1024 .f32) (ix3 0 i j) = ((a.dx2 i j : ℝ) : EReal) := by
  pointwise [res_main_v112]
  simp only [v96_at R, v68_at R, v60_at R, v108_at R, ← EReal.coe_mul, ← EReal.coe_add]
  exact congrArg _ (norm_back _ _ j _ rfl)

theorem v118_at : (res_main_v118 V : FVec Ideal S1x16384x1024 .f32) (ix3 0 i j) = ((a.dgp i j : ℝ) : EReal) := by
  pointwise [res_main_v118, ofBits_one]
  simp only [v112_at R, v58_at R, v52_at R, ← EReal.coe_mul, ← EReal.coe_sub]
  refine congrArg _ ?_
  unfold Args.dgp
  ring

theorem v121_at : (res_main_v121 V : FVec Ideal S1x16384x1024 .f32) (ix3 0 i j) = ((a.dhn i j : ℝ) : EReal) := by
  pointwise [res_main_v121]
  simp only [v118_at R, v45_at R, ← EReal.coe_mul, ← coe_sum]
  rfl

theorem v127_at : (res_main_v127 V : FVec Ideal S1x16384x1024 .f32) (ix3 0 i j) = ((a.dxh1 i j : ℝ) : EReal) := by
  pointwise [res_main_v127]
  simp only [v121_at R, v42_at R, ← EReal.coe_mul]
  rfl

theorem v140_at : (res_main_v140 V : FVec Ideal S1x16384x1024 .f32) (ix3 0 i j)
    = (((∑ k, a.x1 i k * a.dxh1 i k) * (-1 / 2 * (rms (a.x1 i) / meanSq (a.x1 i))) / 1024 : ℝ) : EReal) := by
  pointwise [res_main_v140]
  rw [sum_col]
  pointwise [ofBits_neg_half, ofBits_1024]
  simp only [v27_at R, v127_at R, v36_at R, v35_at R, root_mean, ← EReal.coe_mul, ← coe_sum, div_1024]

theorem v144_at : (res_main_v144 V : FVec Ideal S1x16384x1024 .f32) (ix3 0 i j) = ((a.dx1 i j : ℝ) : EReal) := by
  pointwise [res_main_v144]
  simp only [v112_at R, v127_at R, v36_at R, v27_at R, v140_at R, ← EReal.coe_mul, ← EReal.coe_add]
  refine congrArg _ ?_
  rw [Args.dx1, ← norm_back (a.x1 i) (a.dxh1 i) j _ rfl]
  ring

theorem v148_at : (res_main_v148 V : FVec Ideal S1x16384x1024 .f32) (ix3 0 i j) = ((a.dm i j : ℝ) : EReal) := by
  pointwise [res_main_v148]
  simp only [v144_at R, v25_at R, ← EReal.coe_mul, ← coe_sum]
  rfl

theorem v153_at : (res_main_v153 V : FVec Ideal S1x16384x1024 .f32) (ix3 0 i j) = ((a.dya i j : ℝ) : EReal) := by
  pointwise [res_main_v153]
  simp only [v9_at R, v148_at R, ← EReal.coe_mul]
  exact congrArg _ (mul_comm _ _)

/-! ## The results -/

theorem dx_at : (shapeCast S16384x1024 (res_main_v144 V : FVec Ideal S1x16384x1024 .f32) shapeCasts_S1x16384x1024_S16384x1024) (ix2 i j) = ((a.dx1 i j : ℝ) : EReal) := by
  pointwise []
  exact v144_at R i j

theorem dyb_at : (truncf .bf16 (shapeCast S16384x1024 (mulf (res_main_v19 V) (res_main_v148 V)) shapeCasts_S1x16384x1024_S16384x1024) bitsLt_bf16_f32 : FVec Ideal S16384x1024 .bf16) (ix2 i j)
    = ((a.dyb i j : ℝ) : EReal) := by
  pointwise []
  simp only [v19_at R, v148_at R, ← EReal.coe_mul]
  exact congrArg _ (mul_comm _ _)

theorem dyap_at : (truncf .bf16 (shapeCast S16384x1024 (Host.dotGeneral (φ₁ := .f32) (φ₂ := .f32) dot_S1x16384x1024_S1024x1024_S1x16384x1024_2_1_01_0_n_n none (res_main_v153 V) (res_main_v2 V))
    shapeCasts_S1x16384x1024_S16384x1024) bitsLt_bf16_f32 : FVec Ideal S16384x1024 .bf16) (ix2 i j) = ((a.dyap i j : ℝ) : EReal) := by
  pointwise []
  simp only [v153_at R, v2_at R, ← EReal.coe_mul, ← coe_sum]
  rfl

theorem loss_at : (mulf (constant S_ .f32 0x3F000000#32) (Host.reduceAdd (Host.divf (Host.reduceAdd (mulf (res_main_v77 V) (res_main_v77 V)) (constant S_ .f32 0x00000000#32)
    reducesTo_S1x16384x1024_S1x16384_d2 h_S_) (broadcastInDim S1x16384 ![] bcast_S_S1x16384 (constant S_ .f32 0x44800000#32))) (constant S_ .f32 0x00000000#32)
    reducesTo_S1x16384_S_d0_1 h_S_) : FVec Ideal S_ .f32) ix0 = ((∑ j, ∑ q, a.tLoss q j : ℝ) : EReal) := by
  pointwise [_root_.Conv.ofBits_half, ofBits_1024]
  rw [Fin.sum_univ_one]
  simp only [v77_at R, ← EReal.coe_mul, ← coe_sum, div_1024]
  refine congrArg _ ?_
  rw [Finset.sum_comm, Finset.mul_sum]
  refine Finset.sum_congr rfl fun q _ => ?_
  rw [Finset.sum_div, Finset.mul_sum]
  refine Finset.sum_congr rfl fun j _ => ?_
  unfold Args.tLoss
  ring

theorem dgf_at : (Host.reduceAdd (shapeCast S1x1x1024 (Host.reduceAdd (mulf (res_main_v73 V) (res_main_v91 V)) (constant S_ .f32 0x00000000#32) reducesTo_S1x16384x1024_S1x1024_d1 h_S_)
    shapeCasts_S1x1024_S1x1x1024) (constant S_ .f32 0x00000000#32) reducesTo_S1x1x1024_S1024_d0_1 h_S_ : FVec Ideal S1024 .f32) (ix1 j) = ((∑ q, a.tGf q j : ℝ) : EReal) := by
  pointwise []
  rw [Cert.ReferenceIdeal.Conv.sum_unit]
  pointwise []
  simp only [v73_at R, v91_at R, ← EReal.coe_mul, ← coe_sum]
  exact congrArg _ (Finset.sum_congr rfl fun q _ => mul_comm _ _)

theorem dgp_at : (shapeCast S1024 (broadcastInDim S1x1024 ![1] bcast_S1024_S1x1024_1 (Host.reduceAdd (shapeCast S1x1x1024 (Host.reduceAdd (mulf (res_main_v41 V) (res_main_v121 V))
    (constant S_ .f32 0x00000000#32) reducesTo_S1x16384x1024_S1x1024_d1 h_S_) shapeCasts_S1x1024_S1x1x1024) (constant S_ .f32 0x00000000#32) reducesTo_S1x1x1024_S1024_d0_1 h_S_))
    shapeCasts_S1x1024_S1024 : FVec Ideal S1024 .f32) (ix1 j) = ((∑ q, a.tGp q j : ℝ) : EReal) := by
  pointwise []
  rw [Cert.ReferenceIdeal.Conv.sum_unit]
  pointwise []
  simp only [v41_at R, v121_at R, ← EReal.coe_mul, ← coe_sum]
  exact congrArg _ (Finset.sum_congr rfl fun q _ => mul_comm _ _)

/-- A weight's gradient, as the host forms it: the product over all rows, turned. -/
def weight (A B : FVec Ideal S1x16384x1024 .f32) : FVec Ideal S1024x1024 .bf16 :=
  truncf .bf16 (shapeCast S1024x1024 (broadcastInDim S1x1024x1024 ![1, 2] bcast_S1024x1024_S1x1024x1024_1_2 (transpose S1024x1024 [1, 0]
    (Host.dotGeneral dot_S1x16384x1024_S1x16384x1024_S1024x1024_01_01_2_2_n_n none A B) transposes_S1024x1024_S1024x1024_1_0)) shapeCasts_S1x1024x1024_S1024x1024) bitsLt_bf16_f32

omit R in
theorem weight_at (A B : FVec Ideal S1x16384x1024 .f32) (f g : Fin 16384 → Fin 1024 → ℝ) (hA : ∀ q j, A (ix3 0 q j) = ((f q j : ℝ) : EReal))
    (hB : ∀ q j, B (ix3 0 q j) = ((g q j : ℝ) : EReal)) (k : Fin 1024) : weight A B (ix2 k j) = ((∑ q, g q k * f q j : ℝ) : EReal) := by
  unfold weight
  pointwise []
  rw [Fin.sum_univ_one]
  simp only [hA, hB, ← EReal.coe_mul, ← coe_sum]
  exact congrArg _ (Finset.sum_congr rfl fun q _ => mul_comm _ _)

theorem dwa_at (k : Fin 1024) : weight (res_main_v153 V) (V (Proc.devRef .tc main_arg0)) (ix2 k j) = ((∑ q, a.tWa q k j : ℝ) : EReal) :=
  weight_at j _ _ _ _ (v153_at R) R.yap k

theorem dwo_at (k : Fin 1024) : weight (res_main_v144 V) (res_main_v24 V) (ix2 k j) = ((∑ q, a.tWo q k j : ℝ) : EReal) :=
  weight_at j _ _ _ _ (v144_at R) (v24_at R) k

theorem dpg_at (k : Fin 1024) : weight (res_main_v118 V) (res_main_v44 V) (ix2 k j) = ((∑ q, a.tPg q k j : ℝ) : EReal) :=
  weight_at j _ _ _ _ (v118_at R) (v44_at R) k

theorem dpl_at (k : Fin 256) : (truncf .bf16 (shapeCast S256x1024 (broadcastInDim S1x256x1024 ![1, 2] bcast_S256x1024_S1x256x1024_1_2 (transpose S256x1024 [1, 0]
    (Host.dotGeneral (φ₁ := .f32) (φ₂ := .f32) dot_S1x16384x1024_S1x16384x256_S1024x256_01_01_2_2_n_n none (mulf (res_main_v52 V) (res_main_v112 V)) (res_main_v56 V))
    transposes_S1024x256_S256x1024_1_0)) shapeCasts_S1x256x1024_S256x1024) bitsLt_bf16_f32 : FVec Ideal S256x1024 .bf16) (ix2 k j) = ((∑ q, a.tPl q k j : ℝ) : EReal) := by
  pointwise []
  rw [Fin.sum_univ_one]
  simp only [v52_at R, v112_at R, v56_at R, ← EReal.coe_mul, ← coe_sum]
  refine congrArg _ (Finset.sum_congr rfl fun q _ => ?_)
  unfold Args.tPl Args.dpe
  ring

/-- The two gates' gradients, side by side. -/
def pair (A B : FVec Ideal S1x16384x1024 .f32) : FVec Ideal S16384x2048 .bf16 :=
  truncf .bf16 (concatenate S16384x2048 1 [⟨S16384x1024, shapeCast S16384x1024 A shapeCasts_S1x16384x1024_S16384x1024⟩,
    ⟨S16384x1024, shapeCast S16384x1024 B shapeCasts_S1x16384x1024_S16384x1024⟩] concatenates_S16384x1024_S16384x1024_S16384x2048_d1) bitsLt_bf16_f32

omit R in
theorem pair_at (A B : FVec Ideal S1x16384x1024 .f32) (n : Fin 2048) :
    pair A B (ix2 i n) = if n.val < 1024 then A (ix3 0 i ⟨n.val % 1024, Nat.mod_lt _ (by decide)⟩) else B (ix3 0 i ⟨n.val % 1024, Nat.mod_lt _ (by decide)⟩) := by
  unfold pair
  obtain ⟨n, hn⟩ := n
  pointwise []
  by_cases h : n < 1024
  · rw [dif_pos h, if_pos h]
    exact congrArg A (congrArg (ix3 0 i) (Fin.ext (by dsimp only; omega)))
  · rw [dif_neg h, if_neg h]
    exact congrArg B (congrArg (ix3 0 i) (Fin.ext (by dsimp only; omega)))

omit R in
/-- A gate's gradient, as the host forms it. -/
theorem gate_at (D Y S : FVec Ideal S1x16384x1024 .f32) (d y s : ℝ) (hD : D (ix3 0 i j) = ((d : ℝ) : EReal)) (hY : Y (ix3 0 i j) = ((y : ℝ) : EReal)) (hS : S (ix3 0 i j) = ((s : ℝ) : EReal)) :
    (mulf (mulf D Y) (mulf S (subf (broadcastInDim S1x16384x1024 ![] bcast_S_S1x16384x1024 (constant S_ .f32 0x3F800000#32)) S)) : FVec Ideal S1x16384x1024 .f32) (ix3 0 i j)
      = ((d * y * s * (1 - s) : ℝ) : EReal) := by
  pointwise [ofBits_one]
  rw [hD, hY, hS]
  simp only [← EReal.coe_mul, ← EReal.coe_sub]
  exact congrArg _ (by ring)

theorem gates_at (n : Fin 2048) (A B : FVec Ideal S1x16384x1024 .f32)
    (hA : A = mulf (mulf (res_main_v148 V) (res_main_v3 V)) (mulf (res_main_v9 V) (subf (broadcastInDim S1x16384x1024 ![] bcast_S_S1x16384x1024 (constant S_ .f32 0x3F800000#32)) (res_main_v9 V))))
    (hB : B = mulf (mulf (res_main_v148 V) (V (Proc.devRef .tc main_arg2))) (mulf (res_main_v19 V) (subf (broadcastInDim S1x16384x1024 ![] bcast_S_S1x16384x1024 (constant S_ .f32 0x3F800000#32)) (res_main_v19 V)))) :
    pair A B (ix2 i n) = ((if n.val < 1024 then a.dga i ⟨n.val % 1024, Nat.mod_lt _ (by decide)⟩ else a.dgb i ⟨n.val % 1024, Nat.mod_lt _ (by decide)⟩ : ℝ) : EReal) := by
  rw [pair_at i A B n, hA, hB, gate_at i _ _ _ _ _ _ _ (v148_at R i _) (v3_at R i _) (v9_at R i _), gate_at i _ _ _ _ _ _ _ (v148_at R i _) (R.yb i _) (v19_at R i _)]
  unfold Args.dga Args.dgb
  split <;> rfl

end Cert.Reference3Ideal.Chain

end
-- ==== Proof.Chain.Pre.lean ====
/- The precondition of the token chain, read as real arguments. -/
module

public import proofs.«01_k».proof.Proof.Conv.Pre
public import proofs.«01_k».proof.Proof.Chain.Blocks

@[expose] public section

set_option maxRecDepth 16384

noncomputable section

namespace Cert.Pre_finite3

theorem facts : Facts := by constructor <;> decide

end Cert.Pre_finite3

namespace Cert.Kernel3Ideal.Chain

open Cert.Kernel3Ideal Cert.Kernel3Ideal.Gen Idealize.ShloMosaic Idealize.ShloMosaic.TcCoe Idealize.SL.Sem
open Cert.KernelIdeal.Conv (real_of_abs)

/-- An array's element is a real number. -/
def Rl (x : EReal) : Prop := x = ((x.toReal : ℝ) : EReal)

theorem rl (x : EReal) (h : BitVec.ofBool (decide ((FloatOps.absf (F := Ideal) (φ := .f32) x : EReal) < Ideal.ofBits .f32 0x7F800000#32)) = 1#1) : Rl x := by
  obtain ⟨r, rfl⟩ := real_of_abs x h
  rfl

variable (m : (ℓ : Loc nD τ sig) → Buf (Elt Ideal) ℓ) (c : Dev nD) (h : Cert.Pre_Kernel3Ideal_finite3 (hPre_finite3 := Cert.Pre_finite3.facts) m)

include h in
/-- The precondition at one element of its mask: an element of every array but the projection. -/
theorem finite_at (n : Fin 16) (b : Fin 4) (r : Fin 256) (d : Fin 4) (l : Fin 256) :
    ((((((Rl (YAP m c (ix3 0 (⟨n.val * 1024 + b.val * 256 + r.val, by omega⟩ : Fin 16384) (⟨d.val * 256 + l.val, by omega⟩ : Fin 1024)))
      ∧ Rl (YB m c (ix3 0 (⟨n.val * 1024 + b.val * 256 + r.val, by omega⟩ : Fin 16384) (⟨d.val * 256 + l.val, by omega⟩ : Fin 1024))))
      ∧ Rl (X m c (ix3 0 (⟨n.val * 1024 + b.val * 256 + r.val, by omega⟩ : Fin 16384) (⟨d.val * 256 + l.val, by omega⟩ : Fin 1024))))
      ∧ Rl (TG m c (ix3 0 (⟨n.val * 1024 + b.val * 256 + r.val, by omega⟩ : Fin 16384) (⟨d.val * 256 + l.val, by omega⟩ : Fin 1024))))
      ∧ Rl (P m c (ix4 0 0 (⟨n.val * 1024 + b.val * 256 + r.val, by omega⟩ : Fin 16384) l)))
      ∧ (Rl (WA m c (ix3 0 (⟨b.val * 256 + r.val, by omega⟩ : Fin 1024) (⟨d.val * 256 + l.val, by omega⟩ : Fin 1024)))
      ∧ Rl (WO m c (ix3 0 (⟨b.val * 256 + r.val, by omega⟩ : Fin 1024) (⟨d.val * 256 + l.val, by omega⟩ : Fin 1024))))
      ∧ Rl (WPG m c (ix3 0 (⟨b.val * 256 + r.val, by omega⟩ : Fin 1024) (⟨d.val * 256 + l.val, by omega⟩ : Fin 1024))))
      ∧ Rl (WPL m c (ix3 0 r (⟨d.val * 256 + l.val, by omega⟩ : Fin 1024))))
      ∧ Rl (GP m c (ix2 0 (⟨d.val * 256 + l.val, by omega⟩ : Fin 1024)))
      ∧ Rl (GF m c (ix1 (⟨d.val * 256 + l.val, by omega⟩ : Fin 1024))) := by
  have e := congrFun (h c) (ix5 n b r d l)
  pointwise [Cert.Pre_finite3.fn, Cert.Pre_finite3.fn_part1, Cert.Pre_finite3.fn_part2] at e
  simp only [IntOp.andi_eq_one] at e
  exact ⟨⟨⟨⟨⟨⟨⟨rl _ e.1.1.1.1.1.1.1, rl _ e.1.1.1.1.1.1.2⟩, rl _ e.1.1.1.1.1.2⟩, rl _ e.1.1.1.1.2⟩, rl _ e.1.1.1.2⟩,
    ⟨rl _ e.1.1.2.1.1, rl _ e.1.1.2.1.2⟩, rl _ e.1.1.2.2⟩, rl _ e.1.2⟩, rl _ e.2.1, rl _ e.2.2⟩

theorem row_parts (i : Fin 16384) : ∃ (n : Fin 16) (b : Fin 4) (r : Fin 256), i = (⟨n.val * 1024 + b.val * 256 + r.val, by omega⟩ : Fin 16384) :=
  ⟨⟨i.val / 1024, by omega⟩, ⟨i.val / 256 % 4, by omega⟩, ⟨i.val % 256, by omega⟩, Fin.ext (by dsimp only; omega)⟩

theorem col_parts (j : Fin 1024) : ∃ (d : Fin 4) (l : Fin 256), j = (⟨d.val * 256 + l.val, by omega⟩ : Fin 1024) :=
  ⟨⟨j.val / 256, by omega⟩, ⟨j.val % 256, by omega⟩, Fin.ext (by dsimp only; omega)⟩

include h in
theorem finite_of_pre : Finite m c := by
  have rows : ∀ i j, Rl (YAP m c (ix3 0 i j)) ∧ Rl (YB m c (ix3 0 i j)) ∧ Rl (X m c (ix3 0 i j)) ∧ Rl (TG m c (ix3 0 i j)) := fun i j => by
    obtain ⟨n, b, r, rfl⟩ := row_parts i
    obtain ⟨d, l, rfl⟩ := col_parts j
    have e := (finite_at m c h n b r d l).1.1.1
    exact ⟨e.1.1.1.1, e.1.1.1.2, e.1.1.2, e.1.2⟩
  have weights : ∀ k j, Rl (WA m c (ix3 0 k j)) ∧ Rl (WO m c (ix3 0 k j)) ∧ Rl (WPG m c (ix3 0 k j)) := fun k j => by
    obtain ⟨b, r, rfl⟩ := col_parts k
    obtain ⟨d, l, rfl⟩ := col_parts j
    have e := (finite_at m c h 0 b r d l).1.1.2
    exact ⟨e.1.1, e.1.2, e.2⟩
  have cols : ∀ k j, Rl (WPL m c (ix3 0 k j)) ∧ Rl (GP m c (ix2 0 j)) ∧ Rl (GF m c (ix1 j)) := fun k j => by
    obtain ⟨d, l, rfl⟩ := col_parts j
    have e := finite_at m c h 0 0 k d l
    exact ⟨e.1.2, e.2.1, e.2.2⟩
  have embed : ∀ i k, Rl (P m c (ix4 0 0 i k)) := fun i k => by
    obtain ⟨n, b, r, rfl⟩ := row_parts i
    exact (finite_at m c h n b r 0 k).1.1.1.2
  exact {
    yap := fun i j => (rows i j).1
    wa := fun k j => (weights k j).1
    yb := fun i j => (rows i j).2.1
    wo := fun k j => (weights k j).2.1
    x := fun i j => (rows i j).2.2.1
    gp := fun j => (cols 0 j).2.1
    wpg := fun k j => (weights k j).2.2
    p := embed
    wpl := fun k j => (cols k j).1
    tg := fun i j => (rows i j).2.2.2
    gf := fun j => (cols 0 j).2.2 }

end Cert.Kernel3Ideal.Chain

end
-- ==== Proof.Chain.Frames.lean ====
/- The token chain's frames: the two programs have one text, so the run over any values closes both; the reference's from its run. -/
module

public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.Chain.Frame
public import Idealize.ShloMosaic.Adequacy
public import Idealize.ShloMosaic.Init

@[expose] public section

noncomputable section

namespace Cert.Kernel3Ideal.Chain

open Idealize.ShloMosaic Idealize.ShloMosaic.TcCoe Idealize.SL.Sem

theorem frame_ideal : @Cert.quiescent_Kernel3Ideal Cert.Kernel3Ideal.Gen.facts := fun m ρ _ => frame_any (F := Ideal) m ρ

/-- The frame of the ideal text at the machine's values. -/
def atBits : Prop :=
  ∀ (m : (ℓ : Loc Cert.Kernel3Ideal.nD Cert.Kernel3Ideal.τ Cert.Kernel3Ideal.sig) → Buf (Elt Bits) ℓ) (ρ : Dev Cert.Kernel3Ideal.nD → PrngReg),
    True → θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

theorem atBits_eq : @Cert.quiescent_Kernel3 Cert.Kernel3.Gen.facts = atBits := by sl_kernel_rfl

theorem frame_kernel : @Cert.quiescent_Kernel3 Cert.Kernel3.Gen.facts := atBits_eq.mpr fun m ρ _ => frame_any (F := Bits) m ρ

theorem frame_reference : @Cert.quiescent_Reference3Ideal Cert.Reference3Ideal.Gen.facts := fun m ρ _ =>
  (θ_run _ _ _).mono (fun r h => ⟨fun c => (h c).2.2.2.2.2.2.2.2.2.2.2, sem_eq_zero_of_no_sems (by decide) r.2⟩) (Cert.Reference3Ideal.Value.run m ρ)

end Cert.Kernel3Ideal.Chain

end
-- ==== Proof.Chain.Equal.lean ====
/- The token chain's two programs give one set of results: the chain's gradients over real numbers. -/
module

public import proofs.«01_k».proof.Proof.Chain.Result
public import proofs.«01_k».proof.Proof.Chain.Ref
public import proofs.«01_k».proof.Proof.Chain.Pre
public import proofs.«01_k».proof.Proof.Chain.Frames

@[expose] public section

set_option maxRecDepth 16384

noncomputable section

namespace Cert.Kernel3Ideal.Chain

open Idealize.ShloMosaic Idealize.ShloMosaic.TcCoe Idealize.SL.Sem _root_.Chain

/-- The reference's buffers hold the arguments of the kernel's program. -/
theorem holds (m : (ℓ : Loc Cert.Kernel3Ideal.nD Cert.Kernel3Ideal.τ Cert.Kernel3Ideal.sig) → Buf (Elt Ideal) ℓ) (c : Dev Cert.Kernel3Ideal.nD) (H : Finite m c)
    (V : Valuation Cert.Reference3Ideal.τ Cert.Reference3Ideal.sig (Elt Ideal))
    (h0 : V (Proc.devRef .tc Cert.Reference3Ideal.main_arg0) = YAP m c)
    (h1 : V (Proc.devRef .tc Cert.Reference3Ideal.main_arg1) = WA m c)
    (h2 : V (Proc.devRef .tc Cert.Reference3Ideal.main_arg2) = YB m c)
    (h3 : V (Proc.devRef .tc Cert.Reference3Ideal.main_arg3) = PROJ m c)
    (h4 : V (Proc.devRef .tc Cert.Reference3Ideal.main_arg4) = WO m c)
    (h5 : V (Proc.devRef .tc Cert.Reference3Ideal.main_arg5) = X m c)
    (h6 : V (Proc.devRef .tc Cert.Reference3Ideal.main_arg6) = GP m c)
    (h7 : V (Proc.devRef .tc Cert.Reference3Ideal.main_arg7) = WPG m c)
    (h8 : V (Proc.devRef .tc Cert.Reference3Ideal.main_arg8) = P m c)
    (h9 : V (Proc.devRef .tc Cert.Reference3Ideal.main_arg9) = WPL m c)
    (h10 : V (Proc.devRef .tc Cert.Reference3Ideal.main_arg10) = TG m c)
    (h11 : V (Proc.devRef .tc Cert.Reference3Ideal.main_arg11) = GF m c) :
    Cert.Reference3Ideal.Chain.Holds V (args m c) where
  yap i j := (congrFun h0 _).trans (H.yap i j)
  wa i j := (congrFun h1 _).trans (H.wa i j)
  yb i j := (congrFun h2 _).trans (H.yb i j)
  sa i j := congrArg (fun B : FVec Ideal Cert.Kernel3Ideal.S1x16384x14344 .f32 => sg (B (ix3 0 i (⟨12296 + j.val, by omega⟩ : Fin 14344)))) h3
  sb i j := congrArg sg ((congrFun h3 _).trans (congrArg (PROJ m c) (congrArg (ix3 0 i) (Fin.ext (by dsimp only; omega)))))
  wo i j := (congrFun h4 _).trans (H.wo i j)
  x i j := (congrFun h5 _).trans (H.x i j)
  gp j := (congrFun h6 _).trans (H.gp j)
  wpg i j := (congrFun h7 _).trans (H.wpg i j)
  p i j := (congrFun h8 _).trans (H.p i j)
  wpl i j := (congrFun h9 _).trans (H.wpl i j)
  tg i j := (congrFun h10 _).trans (H.tg i j)
  gf j := (congrFun h11 _).trans (H.gf j)

set_option maxHeartbeats 4000000 in
theorem equal : @Cert.algebraic_Kernel3Ideal_Reference3Ideal_pre_finite3 Cert.Kernel3Ideal.Gen.facts Cert.Reference3Ideal.Gen.facts Cert.Pre_finite3.facts := by
  intro m g m' g' hpre hag
  have H := fun c => finite_of_pre m c hpre
  have R := fun c : Dev Cert.Kernel3Ideal.nD => holds m c (H c) (fun b => m' (c, b)) (hag c).1 (hag c).2.1 (hag c).2.2.1 (hag c).2.2.2.1 (hag c).2.2.2.2.1
    (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1 (hag c).2.2.2.2.2.2.2.2.2.2.2
  refine ⟨fun c => (fun i : Cert.Kernel3Ideal.S16384x1024.Idx => (((args m c).dx1 (i 0) (i 1) : ℝ) : EReal)),
    fun c => (fun i : Cert.Kernel3Ideal.S16384x1024.Idx => (((args m c).dyb (i 0) (i 1) : ℝ) : EReal)),
    fun c => (fun i : Cert.Kernel3Ideal.S16384x1024.Idx => (((args m c).dyap (i 0) (i 1) : ℝ) : EReal)),
    fun c => (fun i : Cert.Kernel3Ideal.S16384x2048.Idx => ((gates m c (i 0) (i 1).val : ℝ) : EReal)),
    fun c => (fun _ : Cert.Kernel3Ideal.S_.Idx => ((∑ j, ∑ q, (args m c).tLoss q j : ℝ) : EReal)),
    fun c => (fun i : Cert.Kernel3Ideal.S1024.Idx => ((∑ q, (args m c).tGf q (i 0) : ℝ) : EReal)),
    fun c => (fun i : Cert.Kernel3Ideal.S1024.Idx => ((∑ q, (args m c).tGp q (i 0) : ℝ) : EReal)),
    fun c => (fun i : Cert.Kernel3Ideal.S1024x1024.Idx => ((∑ q, (args m c).tWa q (i 0) (i 1) : ℝ) : EReal)),
    fun c => (fun i : Cert.Kernel3Ideal.S1024x1024.Idx => ((∑ q, (args m c).tWo q (i 0) (i 1) : ℝ) : EReal)),
    fun c => (fun i : Cert.Kernel3Ideal.S1024x1024.Idx => ((∑ q, (args m c).tPg q (i 0) (i 1) : ℝ) : EReal)),
    fun c => (fun i : Cert.Kernel3Ideal.S256x1024.Idx => ((∑ q, (args m c).tPl q (i 0) (i 1) : ℝ) : EReal)),
    (θ_run _ _ _).mono (fun r h c => ?_) (θ_run_and (results m g H) (frame_any (F := Ideal) m g)),
    (θ_run _ _ _).mono (fun r h c => ?_) (Cert.Reference3Ideal.Value.run m' g')⟩
  · obtain ⟨h0, h1, h2, h3, h4, h5, h6, h7, h8, h9, h10⟩ := h.1 c
    exact ⟨h0, h1, h2, h3, h4, h5, h6, h7, h8, h9, h10, h.2.1 c⟩
  · obtain ⟨h0, h1, h2, h3, h4, h5, h6, h7, h8, h9, h10, ha⟩ := h c
    refine ⟨h0.trans ?_, h1.trans ?_, h2.trans ?_, h3.trans ?_, h4.trans ?_, h5.trans ?_, h6.trans ?_, h7.trans ?_, h8.trans ?_, h9.trans ?_, h10.trans ?_, ha⟩
    all_goals funext i
    · idx_vars i
      exact Cert.Reference3Ideal.Chain.dx_at (R c) i0 i1
    · idx_vars i
      exact Cert.Reference3Ideal.Chain.dyb_at (R c) i0 i1
    · idx_vars i
      exact Cert.Reference3Ideal.Chain.dyap_at (R c) i0 i1
    · idx_vars i
      exact Cert.Reference3Ideal.Chain.gates_at (R c) i0 i1 _ _ rfl rfl
    · obtain rfl : i = ix0 := funext fun a => a.elim0
      exact Cert.Reference3Ideal.Chain.loss_at (R c)
    · idx_vars i
      exact Cert.Reference3Ideal.Chain.dgf_at (R c) i0
    · idx_vars i
      exact Cert.Reference3Ideal.Chain.dgp_at (R c) i0
    · idx_vars i
      exact Cert.Reference3Ideal.Chain.dwa_at (R c) i1 i0
    · idx_vars i
      exact Cert.Reference3Ideal.Chain.dwo_at (R c) i1 i0
    · idx_vars i
      exact Cert.Reference3Ideal.Chain.dpg_at (R c) i1 i0
    · idx_vars i
      exact Cert.Reference3Ideal.Chain.dpl_at (R c) i1 i0

end Cert.Kernel3Ideal.Chain

end
-- ==== Proof.Dhn.Math.lean ====
/- The gradient through the projection and the norm before it, written plainly over real numbers. -/
module

public import proofs.«01_k».proof.Proof.Chain.Math

@[expose] public section

noncomputable section

namespace Dhn

open Chain (rms normGrad)

/-- The stream, the norm's weights, the projection's weights and the gradient on its columns, as real numbers; columns are numbered by naturals. -/
structure Args where
  x : Fin 16384 → Fin 1024 → ℝ
  g : Fin 1024 → ℝ
  w : Fin 1024 → ℕ → ℝ
  dz : Fin 16384 → ℕ → ℝ

/-- The projection's column that stands at place `e` of the reordered array. -/
def col (e : ℕ) : ℕ := if e < 8192 then 4096 + e else if e < 12288 then e - 8192 else 8 + e

namespace Args

variable (a : Args) (q : Fin 16384) (l : Fin 1024)

/-- The gradient on the norm's output. -/
def dhn : ℝ := ∑ e : Fin 14344, a.dz q e.val * a.w l e.val
/-- The norm's part of the gradient on the stream. -/
def dx : ℝ := normGrad (a.x q) (fun k => a.dhn q k * a.g k) l
/-- What one row adds to the gradient of the norm's weights. -/
def dgRow : ℝ := a.dhn q l * (a.x q l * rms (a.x q))
/-- The gradient of the norm's weights. -/
def dg : ℝ := ∑ i, a.dgRow i l

/-- What one block of reordered columns adds to the gradient on the norm's output. -/
def part (k : ℕ) : ℝ := ∑ e : Fin 2048, a.dz q (col (k * 2048 + e.val)) * a.w l (col (k * 2048 + e.val))
/-- What the eight gates add, read from the last of 128 lanes. -/
def gates : ℝ := ∑ e : Fin 128, (if 120 ≤ e.val then a.dz q (12168 + e.val) else 0) * (if 120 ≤ e.val then a.w l (12168 + e.val) else 0)
/-- The sum after `k` blocks. -/
def upTo (k : ℕ) : ℝ := a.gates q l + ∑ s ∈ Finset.range k, a.part q l s
/-- What the rows of block `s` add to the gradient of the norm's weights. -/
def dgPart (s : ℕ) : ℝ := ∑ p : Fin 1024, if h : s * 1024 + p.val < 16384 then a.dgRow ⟨s * 1024 + p.val, h⟩ l else 0

theorem upTo_succ (k : ℕ) : a.upTo q l (k + 1) = a.upTo q l k + a.part q l k := by
  rw [upTo, upTo, Finset.sum_range_succ, add_assoc]

/-- A sum over a run of naturals, cut in two. -/
theorem sum_cut (f : ℕ → ℝ) (n m : ℕ) : ∑ e ∈ Finset.range (n + m), f e = ∑ e ∈ Finset.range n, f e + ∑ e ∈ Finset.range m, f (n + e) :=
  Finset.sum_range_add f n m

/-- The blocks of reordered columns and the gates are all the columns. -/
theorem upTo_all : a.upTo q l 7 = a.dhn q l := by
  let f : ℕ → ℝ := fun n => a.dz q n * a.w l n
  have hp : ∑ s ∈ Finset.range 7, a.part q l s = ∑ e ∈ Finset.range 14336, f (col e) := by
    rw [show (14336 : ℕ) = 7 * 2048 from rfl, ← Fin.sum_univ_eq_sum_range, ← Fin.sum_univ_eq_sum_range (fun e => f (col e))]
    exact Fin.sum_mul_add_congr fun s k _ => rfl
  have hg : a.gates q l = ∑ e ∈ Finset.range 8, f (12288 + e) := by
    rw [gates, Fin.sum_univ_eq_sum_range (fun e : ℕ => (if 120 ≤ e then a.dz q (12168 + e) else 0) * (if 120 ≤ e then a.w l (12168 + e) else 0)) 128,
      show (128 : ℕ) = 120 + 8 from rfl, sum_cut, Finset.sum_eq_zero (fun e he => ?_), zero_add]
    · refine Finset.sum_congr rfl fun e _ => ?_
      rw [if_pos (by omega), if_pos (by omega), show 12168 + (120 + e) = 12288 + e by omega]
    · rw [if_neg (by have := Finset.mem_range.mp he; omega), zero_mul]
  have hd : a.dhn q l = ∑ e ∈ Finset.range 14344, f e := Fin.sum_univ_eq_sum_range f 14344
  have h1 : ∀ e ∈ Finset.range 8192, f (col e) = f (4096 + e) := fun e he => by
    rw [col, if_pos (Finset.mem_range.mp he)]
  have h2 : ∀ e ∈ Finset.range 4096, f (col (8192 + e)) = f e := fun e he => by
    rw [col, if_neg (by omega), if_pos (by have := Finset.mem_range.mp he; omega), Nat.add_sub_cancel_left]
  have h3 : ∀ e ∈ Finset.range 2048, f (col (8192 + 4096 + e)) = f (4096 + 8192 + 8 + e) := fun e he => by
    rw [col, if_neg (by omega), if_neg (by omega)]
    exact congrArg f (by omega)
  rw [upTo, hp, hg, hd, show (14336 : ℕ) = 8192 + 4096 + 2048 from rfl, show (14344 : ℕ) = 4096 + 8192 + 8 + 2048 from rfl, sum_cut, sum_cut,
    Finset.sum_congr rfl h1, Finset.sum_congr rfl h2, Finset.sum_congr rfl h3, sum_cut, sum_cut, sum_cut]
  ring

/-- The blocks of rows are all the rows. -/
theorem dgPart_all : ∑ s ∈ Finset.range 16, a.dgPart l s = a.dg l := by
  rw [← Fin.sum_univ_eq_sum_range]
  unfold dgPart dg
  exact Fin.sum_mul_add_congr fun s k hl => dif_pos hl

end Args

end Dhn

end
-- ==== Proof.Dhn.Blocks.lean ====
/- The blocks that the kernel of the gradient through the projection reads, as elements of the arguments. -/
module

public import proofs.«01_k».proof.Proof.Gen.Kernel4Ideal.Value
public import proofs.«01_k».proof.Proof.Dhn.Math
public import Idealize.ShloMosaic.Lib.Pipeline.ValueKit
public import Idealize.ShloMosaic.Lib.StableHlo.ReadAt

@[expose] public section

set_option maxRecDepth 16384

noncomputable section

namespace Cert.Kernel4Ideal.Dhn

open Cert.Kernel4Ideal Cert.Kernel4Ideal.Gen Idealize.ShloMosaic Idealize.ShloMosaic.TcCoe Idealize.SL.Sem
open Idealize.ShloMosaic.Pipeline (Dat)
open _root_.Dhn (col)

variable (m : (ℓ : Loc nD τ sig) → Buf (Elt Ideal) ℓ)

/-- The stream. -/
abbrev X (c : Dev nD) : FVec Ideal S1x16384x1024 .f32 := m ((c : Thread nD τ).loc main_arg0)
/-- The norm's weights. -/
abbrev GM (c : Dev nD) : FVec Ideal S1x1024 .f32 := m ((c : Thread nD τ).loc main_arg1)
/-- The projection's weights. -/
abbrev WIN (c : Dev nD) : FVec Ideal S1x1024x14344 .f32 := m ((c : Thread nD τ).loc main_arg2)
/-- The gradient on the projection's columns. -/
abbrev DZ (c : Dev nD) : FVec Ideal S1x16384x14344 .f32 := m ((c : Thread nD τ).loc main_arg3)
/-- The gradient on the stream from the layer's later parts. -/
abbrev D1 (c : Dev nD) : FVec Ideal S1x16384x1024 .f32 := m ((c : Thread nD τ).loc main_arg4)

/-- The arguments as real numbers. -/
def args (c : Dev nD) : _root_.Dhn.Args where
  x q j := (X m c (ix3 0 q j)).toReal
  g j := (GM m c (ix2 0 j)).toReal
  w l n := if h : n < 14344 then (WIN m c (ix3 0 l ⟨n, h⟩)).toReal else 0
  dz q n := if h : n < 14344 then (DZ m c (ix3 0 q ⟨n, h⟩)).toReal else 0

/-- The four arguments' elements are real numbers. -/
structure Finite (c : Dev nD) : Prop where
  x : ∀ q j, X m c (ix3 0 q j) = (((X m c (ix3 0 q j)).toReal : ℝ) : EReal)
  g : ∀ j, GM m c (ix2 0 j) = (((GM m c (ix2 0 j)).toReal : ℝ) : EReal)
  w : ∀ l e, WIN m c (ix3 0 l e) = (((WIN m c (ix3 0 l e)).toReal : ℝ) : EReal)
  dz : ∀ q e, DZ m c (ix3 0 q e) = (((DZ m c (ix3 0 q e)).toReal : ℝ) : EReal)

/-- Every window's block index. -/
theorem idx : ∀ t : Fin cfg0.N, t.val < 112 ∧ win0_0.index t = ![t.val / 7, t.val % 7] ∧ win0_1.index t = ![0, t.val % 7] ∧ win0_2.index t = ![t.val / 7, 0]
    ∧ win0_3.index t = ![0, 0] ∧ win0_4.index t = ![t.val / 7, 0] ∧ win0_5.index t = ![0, 0] ∧ win0_6.index t = ![t.val / 7, 0]
    ∧ win0_7.index t = ![t.val / 7, 0] ∧ win0_8.index t = ![0, 0] :=
  (by decide +kernel : ∀ t : Fin grid0.N, _)

variable {m} {c : Dev nD} (H : Finite m c)
include H

theorem w_at (l : Fin 1024) (e : Fin 14344) : WIN m c (ix3 0 l e) = (((args m c).w l e.val : ℝ) : EReal) := by
  refine (H.w l e).trans (congrArg _ ?_)
  change _ = dite _ _ _
  rw [dif_pos e.isLt]

theorem dz_at (q : Fin 16384) (e : Fin 14344) : DZ m c (ix3 0 q e) = (((args m c).dz q e.val : ℝ) : EReal) := by
  refine (H.dz q e).trans (congrArg _ ?_)
  change _ = dite _ _ _
  rw [dif_pos e.isLt]

omit H in
/-- The middle run of columns, the first and the last, put in that order. -/
theorem reordered (u : Fin 14344 → EReal) (f : ℕ → ℝ) (hu : ∀ e, u e = ((f e.val : ℝ) : EReal)) (e : ℕ) (he : e < 14336) :
    (if h : e < 8192 then u ⟨4096 + e, by omega⟩ else if h : e - 8192 < 4096 then u ⟨e - 8192, by omega⟩ else u ⟨12296 + (e - 8192 - 4096), by omega⟩)
      = ((f (col e) : ℝ) : EReal) := by
  rw [col]
  by_cases h1 : e < 8192
  · rw [dif_pos h1, if_pos h1, hu]
  rw [dif_neg h1, if_neg h1]
  by_cases h2 : e < 12288
  · rw [dif_pos (by omega), if_pos h2, hu]
  · rw [dif_neg (by omega), if_neg h2, hu]
    exact congrArg (fun n => ((f n : ℝ) : EReal)) (by dsimp only; omega)

theorem dcols_at (q : Fin 16384) (e : Fin 14336) : V m c main_v6 (ix2 q e) = (((args m c).dz q (col e.val) : ℝ) : EReal) := by
  unfold V
  after_reads_at
  after_reads_at
  exact reordered (fun e => DZ m c (ix3 0 q e)) _ (dz_at H q) e.val e.isLt

theorem wcols_at (l : Fin 1024) (e : Fin 14336) : V m c main_v11 (ix2 l e) = (((args m c).w l (col e.val) : ℝ) : EReal) := by
  unfold V
  after_reads_at
  after_reads_at
  exact reordered (fun e => WIN m c (ix3 0 l e)) _ (w_at H l) e.val e.isLt

omit H in
/-- The run of eight columns put behind 120 zeros. -/
theorem lanes (u : Fin 14344 → EReal) (f : ℕ → ℝ) (hu : ∀ e, u e = ((f e.val : ℝ) : EReal)) (e : ℕ) (he : e < 128) :
    (if h : 120 ≤ e ∧ e - 120 < 8 then u ⟨12288 + (e - 120), by omega⟩ else FloatOps.sitofp (F := Ideal) FTy.f32 0#32)
      = ((if 120 ≤ e then f (12168 + e) else 0 : ℝ) : EReal) := by
  by_cases h : 120 ≤ e
  · rw [dif_pos (by omega), if_pos h, hu]
    exact congrArg (fun n => ((f n : ℝ) : EReal)) (by dsimp only; omega)
  · rw [dif_neg (by omega), if_neg h]
    simp [FloatOps.sitofp]

/-- The gates' columns stand in the last eight of 128 lanes. -/
theorem dlanes_at (q : Fin 16384) (e : Fin 128) : V m c main_v14 (ix2 q e) = ((if 120 ≤ e.val then (args m c).dz q (12168 + e.val) else 0 : ℝ) : EReal) := by
  unfold V
  after_reads_at
  exact lanes (fun e => DZ m c (ix3 0 q e)) _ (dz_at H q) e.val e.isLt

theorem wlanes_at (l : Fin 1024) (e : Fin 128) : V m c main_v17 (ix2 l e) = ((if 120 ≤ e.val then (args m c).w l (12168 + e.val) else 0 : ℝ) : EReal) := by
  unfold V
  after_reads_at
  exact lanes (fun e => WIN m c (ix3 0 l e)) _ (w_at H l) e.val e.isLt

/-! ## The blocks of a grid point -/

variable (t : Fin cfg0.N) (k : ℕ) (ht : t.val % 7 = k) (r : Fin 1024) (q : Fin 16384) (hq : q.val = t.val / 7 * 1024 + r.val)

include hq in
theorem blk0 (e : Fin 2048) : iblk m c 0 t (ix2 r e) = (((args m c).dz q (col (t.val % 7 * 2048 + e.val)) : ℝ) : EReal) := by
  refine Eq.trans ?_ (dcols_at H q ⟨t.val % 7 * 2048 + e.val, by omega⟩)
  blk_ext [iblk, idx t]

theorem blk1 (l : Fin 1024) (e : Fin 2048) : iblk m c 1 t (ix2 l e) = (((args m c).w l (col (t.val % 7 * 2048 + e.val)) : ℝ) : EReal) := by
  refine Eq.trans ?_ (wcols_at H l ⟨t.val % 7 * 2048 + e.val, by omega⟩)
  blk_ext [iblk, idx t]

include hq in
theorem blk2 (e : Fin 128) : iblk m c 2 t (ix2 r e) = ((if 120 ≤ e.val then (args m c).dz q (12168 + e.val) else 0 : ℝ) : EReal) := by
  rw [← dlanes_at H q e]
  blk_ext [iblk, idx t]

theorem blk3 (l : Fin 1024) (e : Fin 128) : iblk m c 3 t (ix2 l e) = ((if 120 ≤ e.val then (args m c).w l (12168 + e.val) else 0 : ℝ) : EReal) := by
  rw [← wlanes_at H l e]
  blk_ext [iblk, idx t]

omit H in
theorem stream_at (q : Fin 16384) (j : Fin 1024) : V m c main_v18 (ix2 q j) = X m c (ix3 0 q j) ∧ V m c main_v19 (ix2 q j) = D1 m c (ix3 0 q j) := by
  unfold V
  constructor <;> after_reads_at

include hq in
theorem blk4 (j : Fin 1024) : iblk m c 4 t (ix2 r j) = (((args m c).x q j : ℝ) : EReal) := by
  refine Eq.trans ?_ (H.x q j)
  rw [← (stream_at q j).1]
  blk_ext [iblk, idx t]

theorem blk5 (j : Fin 1024) : iblk m c 5 t (ix2 0 j) = (((args m c).g j : ℝ) : EReal) := by
  refine Eq.trans ?_ (H.g j)
  blk_ext [iblk, V, idx t]

omit H in
include hq in
theorem blk6 (j : Fin 1024) : iblk m c 6 t (ix2 r j) = D1 m c (ix3 0 q j) := by
  rw [← (stream_at q j).2]
  blk_ext [iblk, idx t]

end Cert.Kernel4Ideal.Dhn

end
-- ==== Proof.Dhn.Rows.lean ====
/- What one grid point of the kernel computes from its blocks, as elements of the plain gradient. -/
module

public import proofs.«01_k».proof.Proof.Gen.Kernel4Ideal.Skeleton
public import proofs.«01_k».proof.Proof.Dhn.Math
public import Idealize.ShloMosaic.Lib.StableHlo.ReadAt

@[expose] public section

set_option maxRecDepth 16384

noncomputable section

namespace Cert.Kernel4Ideal.Dhn

open Cert.Kernel4Ideal Cert.Kernel4Ideal.Gen Idealize.ShloMosaic
open _root_.Dhn (col)
open _root_.Chain (rms normGrad rsqrt_mean div_1024 ofBits_eps ofBits_1024)
open _root_.Mlstm (coe_sum)

section Sums

variable {a : _root_.Dhn.Args} {q : Fin 16384} {k : ℕ} {x0 x1 : FVec Ideal S1024x2048 .bf16} {x2 x3 : FVec Ideal S1024x128 .bf16} {r l : Fin 1024}
  (h0 : ∀ e, x0 (ix2 r e) = ((a.dz q (col (k * 2048 + e.val)) : ℝ) : EReal))
  (h1 : ∀ e, x1 (ix2 l e) = ((a.w l (col (k * 2048 + e.val)) : ℝ) : EReal))
  (h2 : ∀ e, x2 (ix2 r e) = ((if 120 ≤ e.val then a.dz q (12168 + e.val) else 0 : ℝ) : EReal))
  (h3 : ∀ e, x3 (ix2 l e) = ((if 120 ≤ e.val then a.w l (12168 + e.val) else 0 : ℝ) : EReal))

include h0 h1 in
/-- The product of a block of columns is added to what is there. -/
theorem add_at (x : FVec Ideal S1024x1024 .f32) (v : ℝ) (hx : x (ix2 r l) = (v : EReal)) : k0_pay2 (F := Ideal) x x0 x1 (ix2 r l) = ((v + a.part q l k : ℝ) : EReal) := by
  pointwise [k0_pay2]
  simp only [h0, h1, hx, ← EReal.coe_mul, ← coe_sum, ← EReal.coe_add]
  rfl

include h0 h1 h2 h3 in
/-- The first block's product, with that of the gates. -/
theorem first_at : k0_pay1 (F := Ideal) x0 x1 x2 x3 (ix2 r l) = ((a.part q l k + a.gates q l : ℝ) : EReal) := by
  pointwise [k0_pay1]
  simp only [h0, h1, h2, h3, ← EReal.coe_mul, ← coe_sum, ← EReal.coe_add]
  rfl

end Sums

section Norm

variable {a : _root_.Dhn.Args} {q : Fin 1024 → Fin 16384} {x4 s : FVec Ideal S1024x1024 .f32} {x5 : FVec Ideal S1x1024 .f32}
  (h4 : ∀ r j, x4 (ix2 r j) = ((a.x (q r) j : ℝ) : EReal)) (h5 : ∀ j, x5 (ix2 0 j) = ((a.g j : ℝ) : EReal))
  (hs : ∀ r j, s (ix2 r j) = ((a.dhn (q r) j : ℝ) : EReal)) (r l : Fin 1024)

include h4 in
theorem x_at : k0_pay4 (F := Ideal) x4 (ix2 r l) = ((a.x (q r) l : ℝ) : EReal) := by
  pointwise [k0_pay4]
  exact h4 r l

include h4 in
theorem root_at : k0_pay5 (F := Ideal) x4 (ix2 r 0) = ((rms (a.x (q r)) : ℝ) : EReal) := by
  pointwise [k0_pay5, ofBits_1024, ofBits_eps]
  simp only [x_at h4, ← EReal.coe_mul, ← coe_sum, div_1024, ← EReal.coe_add]
  exact rsqrt_mean _

include h4 in
theorem unit_at : k0_pay6 (F := Ideal) x4 (ix2 r l) = ((a.x (q r) l * rms (a.x (q r)) : ℝ) : EReal) := by
  pointwise [k0_pay6]
  simp only [x_at h4, root_at h4, ← EReal.coe_mul]

include h4 h5 hs in
/-- The gradient on the stream. -/
theorem dx_at (x6 : FVec Ideal S1024x1024 .f32) : k0_pay7 (F := Ideal) x4 x5 s x6 (ix2 r l) = x6 (ix2 r l) + ((a.dx (q r) l : ℝ) : EReal) := by
  pointwise [k0_pay7, ofBits_1024]
  simp only [unit_at h4, root_at h4, h5, hs, ← EReal.coe_mul, ← coe_sum, div_1024, ← EReal.coe_sub]
  rfl

include h4 hs in
/-- The rows' gradient of the norm's weights, added to what is there. -/
theorem dg_at (x : FVec Ideal S1x1024 .f32) (v : ℝ) (hx : x (ix2 0 l) = (v : EReal)) :
    k0_pay8 (F := Ideal) x4 s x (ix2 0 l) = ((v + ∑ p, a.dgRow (q p) l : ℝ) : EReal) := by
  pointwise [k0_pay8]
  simp only [unit_at h4, hs, hx, ← EReal.coe_mul, ← coe_sum, ← EReal.coe_add]
  rfl

end Norm

end Cert.Kernel4Ideal.Dhn

end
-- ==== Proof.Dhn.State.lean ====
/- What the grid's points leave: the running sum of the gradient on the norm's output, the gradient on the stream, and that of the norm's weights. -/
module

public import proofs.«01_k».proof.Proof.Dhn.Blocks
public import proofs.«01_k».proof.Proof.Dhn.Rows
public import Idealize.ShloMosaic.Lib.Pipeline.ReadBack
public import Idealize.ShloMosaic.Lib.WritesUnit

@[expose] public section

set_option maxRecDepth 16384

noncomputable section

namespace Cert.Kernel4Ideal.Dhn

open Cert.Kernel4Ideal Cert.Kernel4Ideal.Gen Idealize.ShloMosaic Idealize.ShloMosaic.TcCoe Idealize.SL.Sem
open Idealize.ShloMosaic.Pipeline (Dat)
open _root_.Dhn (col)

variable {m : (ℓ : Loc nD τ sig) → Buf (Elt Ideal) ℓ} {c : Dev nD} (H : Finite m c)
include H

/-- The first block of a row of blocks starts the sum. -/
theorem sum_first (t : Fin cfg0.N) (h : t.val % 7 = 0) (r l : Fin 1024) (q : Fin 16384) (hq : q.val = t.val / 7 * 1024 + r.val) :
    (outsAt0 m c t.val t.isLt).2.2 (ix2 r l) = (((args m c).upTo q l 1 : ℝ) : EReal) := by
  have e := first_at (k := 0) (fun e => h ▸ blk0 H t r q hq e) (fun e => h ▸ blk1 H t l e) (blk2 H t r q hq) (blk3 H t l)
  have e1 : (args m c).part q l 0 + (args m c).gates q l = (args m c).upTo q l 1 := by
    rw [_root_.Dhn.Args.upTo, Finset.sum_range_one, add_comm]
  rw [e1] at e
  refine Eq.trans ?_ e
  by_cases h2 : t.val % 112 = 0
  · rw [outsAt0_A m c t h (by omega) h2 (by omega)]
    frame_out
  · rw [outsAt0_D m c t h (by omega) h2 (by omega)]
    frame_out

/-- Each later block adds its part. -/
theorem sum_next (t : Fin cfg0.N) (h : ¬ t.val % 7 = 0) (r l : Fin 1024) (q : Fin 16384) (hq : q.val = t.val / 7 * 1024 + r.val)
    (hp : (outsAt0 m c (t.val - 1) (by have := t.isLt; omega)).2.2 (ix2 r l) = (((args m c).upTo q l (t.val % 7) : ℝ) : EReal)) :
    (outsAt0 m c t.val t.isLt).2.2 (ix2 r l) = (((args m c).upTo q l (t.val % 7 + 1) : ℝ) : EReal) := by
  have e := add_at (blk0 H t r q hq) (blk1 H t l) _ _ hp
  rw [← _root_.Dhn.Args.upTo_succ] at e
  refine Eq.trans ?_ e
  by_cases h3 : t.val % 7 = 6
  · rw [outsAt0_C m c t h (by omega) (by omega) h3]
    frame_out
    exact congrArg (fun x => k0_pay2 (F := Ideal) x (iblk m c 0 t) (iblk m c 1 t) (ix2 r l)) (Memref.IsWhole.read_unread _ _)
  · rw [outsAt0_B m c t h (by omega) (by omega) h3]
    frame_out
    exact congrArg (fun x => k0_pay2 (F := Ideal) x (iblk m c 0 t) (iblk m c 1 t) (ix2 r l)) (Memref.IsWhole.read_unread _ _)

/-- The sum after each point. -/
theorem sum_at : ∀ (n : ℕ) (hn : n < cfg0.N) (r l : Fin 1024) (q : Fin 16384) (hq : q.val = n / 7 * 1024 + r.val),
    (outsAt0 m c n hn).2.2 (ix2 r l) = (((args m c).upTo q l (n % 7 + 1) : ℝ) : EReal)
  | 0, hn, r, l, q, hq => sum_first H ⟨0, hn⟩ rfl r l q hq
  | n + 1, hn, r, l, q, hq => by
    by_cases h : (n + 1) % 7 = 0
    · rw [h]
      exact sum_first H ⟨n + 1, hn⟩ h r l q hq
    · refine sum_next H ⟨n + 1, hn⟩ h r l q hq ?_
      have e := sum_at n (Nat.lt_of_succ_lt hn) r l q (by omega)
      rwa [show n % 7 + 1 = (n + 1) % 7 by omega] at e

/-- At a row of blocks' last point the sum is the whole gradient on the norm's output. -/
theorem whole_at (t : Fin cfg0.N) (h : t.val % 7 = 6) (r l : Fin 1024) (q : Fin 16384) (hq : q.val = t.val / 7 * 1024 + r.val) :
    k0_pay2 (F := Ideal) (outsAt0 m c (t.val - 1) (by have := t.isLt; omega)).2.2 (iblk m c 0 t) (iblk m c 1 t) (ix2 r l) = (((args m c).dhn q l : ℝ) : EReal) := by
  have e := add_at (blk0 H t r q hq) (blk1 H t l) _ _ (sum_at H (t.val - 1) (by have := t.isLt; omega) r l q (by omega))
  rw [show (t.val - 1) % 7 + 1 = t.val % 7 by omega, ← _root_.Dhn.Args.upTo_succ, h, _root_.Dhn.Args.upTo_all] at e
  exact e

omit H in
/-- The rows of a point's blocks. -/
theorem rowOf (t : Fin cfg0.N) : ∃ p : Fin 1024 → Fin 16384, ∀ r, (p r).val = t.val / 7 * 1024 + r.val :=
  ⟨fun r => ⟨t.val / 7 * 1024 + r.val, by have := (idx t).1; omega⟩, fun r => rfl⟩

/-- The gradient on the stream, at a row of blocks' last point. -/
theorem stream_out (t : Fin cfg0.N) (h : t.val % 7 = 6) (r l : Fin 1024) (q : Fin 16384) (hq : q.val = t.val / 7 * 1024 + r.val) :
    (outsAt0 m c t.val t.isLt).1 (ix2 r l) = D1 m c (ix3 0 q l) + (((args m c).dx q l : ℝ) : EReal) := by
  obtain ⟨p, hp⟩ := rowOf t
  obtain rfl : q = p r := Fin.ext (hq.trans (hp r).symm)
  rw [← blk6 t r (p r) (hp r) l, ← dx_at (s := k0_pay2 (outsAt0 m c (t.val - 1) (by have := t.isLt; omega)).2.2 (iblk m c 0 t) (iblk m c 1 t)) (fun r j => blk4 H t r (p r) (hp r) j) (blk5 H t) (fun r j => whole_at H t h r j (p r) (hp r)) r l,
    outsAt0_C m c t (by omega) (by omega) (by omega) h]
  frame_out
  exact congrArg (fun x => k0_pay7 (F := Ideal) (iblk m c 4 t) (iblk m c 5 t) (k0_pay2 x (iblk m c 0 t) (iblk m c 1 t)) (iblk m c 6 t) (ix2 r l)) (Memref.IsWhole.read_unread _ _)

/-- The norm's weights' gradient: the first point clears it. -/
theorem weights_first (t : Fin cfg0.N) (h : t.val % 112 = 0) (r : Fin 8) (l : Fin 1024) : (outsAt0 m c t.val t.isLt).2.1 (ix2 r l) = 0 := by
  rw [outsAt0_A m c t (by omega) (by omega) h (by omega)]
  frame_out
  pointwise [k0_pay3]

/-- A point that is not the last of its row of blocks leaves it alone. -/
theorem weights_keep (t : Fin cfg0.N) (h : ¬ t.val % 112 = 0) (h6 : ¬ t.val % 7 = 6) (r : Fin 8) (l : Fin 1024) :
    (outsAt0 m c t.val t.isLt).2.1 (ix2 r l) = (outsAt0 m c (t.val - 1) (by have := t.isLt; omega)).2.1 (ix2 r l) := by
  by_cases h0 : t.val % 7 = 0
  · rw [outsAt0_D m c t h0 (by omega) h h6]
    rfl
  · rw [outsAt0_B m c t h0 (by omega) h h6]
    rfl

omit H in
/-- One row written on top of a buffer. -/
theorem one_row {κ : Kind} {sp : Space} (v : View sig κ sp S8x1024 .f32) (f : v.ty.Contents (Elt Ideal)) (P : FVec Ideal S1x1024 .f32) (r : Fin 8) (l : Fin 1024) :
    (v.read (Elt Ideal) (v.writes (Elt Ideal) f [⟨Rect.unit (s := S8x1024) ![0, 0] ![1, 1024] inb_S8x1024_S1x1024_0_0, P⟩]) : FVec Ideal S8x1024 .f32) (ix2 r l)
      = if r.val = 0 then P (ix2 0 l) else (v.read (Elt Ideal) f : FVec Ideal S8x1024 .f32) (ix2 r l) := by
  split
  · exact View.read_writes_cons_rows_of_mem v f _ P _ (ix2 r l) (ix2 0 l) rfl (by change r.val = 0 + 0; omega) rfl
  · exact View.read_writes_cons_rows_of_not_mem v f _ P _ (ix2 r l) rfl rfl (by change r.val < 0 ∨ 0 + 1 ≤ r.val; omega)

/-- The last point of a row of blocks adds its rows' part to the first row. -/
theorem weights_add (t : Fin cfg0.N) (h : t.val % 7 = 6) (r : Fin 8) (l : Fin 1024) (v : ℝ)
    (hp : (outsAt0 m c (t.val - 1) (by have := t.isLt; omega)).2.1 (ix2 r l) = (v : EReal)) :
    (outsAt0 m c t.val t.isLt).2.1 (ix2 r l) = ((if r.val = 0 then v + (args m c).dgPart l (t.val / 7) else v : ℝ) : EReal) := by
  obtain ⟨p, hq⟩ := rowOf t
  rw [outsAt0_C m c t (by omega) (by omega) (by omega) h]
  frame_out
  refine (one_row _ _ _ r l).trans ?_
  by_cases hr : r.val = 0
  · obtain rfl : r = 0 := Fin.ext hr
    rw [if_pos hr, if_pos hr]
    refine Eq.trans ?_ ((dg_at (s := k0_pay2 (outsAt0 m c (t.val - 1) (by have := t.isLt; omega)).2.2 (iblk m c 0 t) (iblk m c 1 t)) (fun r j => blk4 H t r (p r) (hq r) j) (fun r j => whole_at H t h r j (p r) (hq r)) l
      (View.ld (outsAt0 m c (t.val - 1) (by have := t.isLt; omega)).2.1 (Rect.unit ![0, 0] ![1, 1024] inb_S8x1024_S1x1024_0_0)) v ?_).trans ?_)
    · exact congrArg (fun x => k0_pay8 (F := Ideal) (iblk m c 4 t) (k0_pay2 x (iblk m c 0 t) (iblk m c 1 t)) _ (ix2 0 l)) (Memref.IsWhole.read_unread _ _)
    · refine (congrArg (outsAt0 m c (t.val - 1) (by have := t.isLt; omega)).2.1 (funext fun a => Fin.ext ?_)).trans hp
      refine Fin.cases ?_ (fun a => ?_) a
      · simp [Rect.emb, Rect.unit]
      · obtain rfl := Subsingleton.elim a 0
        simp [Rect.emb, Rect.unit]
    · refine congrArg (fun x : ℝ => ((v + x : ℝ) : EReal)) (Finset.sum_congr rfl fun s _ => ?_)
      rw [dif_pos (by rw [← hq s]; exact (p s).isLt)]
      exact congrArg (fun q => (args m c).dgRow q l) (Fin.ext (hq s))
  · rw [if_neg hr, if_neg hr]
    exact (congrFun (Memref.IsWhole.read_unread _ _) _).trans hp

end Cert.Kernel4Ideal.Dhn

end
-- ==== Proof.Dhn.Tiles.lean ====
/- The two arrays the grid leaves. -/
module

public import proofs.«01_k».proof.Proof.Dhn.State

@[expose] public section

set_option maxRecDepth 16384

noncomputable section

namespace Cert.Kernel4Ideal.Dhn

open Cert.Kernel4Ideal Cert.Kernel4Ideal.Gen Idealize.ShloMosaic Idealize.ShloMosaic.TcCoe Idealize.SL.Sem
open Idealize.ShloMosaic.Pipeline (Dat)

variable {m : (ℓ : Loc nD τ sig) → Buf (Elt Ideal) ℓ} {c : Dev nD} (H : Finite m c)
include H

/-- The norm's weights' gradient after each point: the parts of the rows of blocks that are complete. -/
theorem weights_at : ∀ (n : ℕ) (hn : n < cfg0.N) (r : Fin 8) (l : Fin 1024),
    (outsAt0 m c n hn).2.1 (ix2 r l) = ((if r.val = 0 then ∑ s ∈ Finset.range ((n + 1) / 7), (args m c).dgPart l s else 0 : ℝ) : EReal)
  | 0, hn, r, l => by
    rw [weights_first H ⟨0, hn⟩ rfl r l]
    simp
  | n + 1, hn, r, l => by
    have ht := (idx ⟨n + 1, hn⟩).1
    have e := weights_at n (Nat.lt_of_succ_lt hn) r l
    by_cases h : (n + 1) % 7 = 6
    · rw [weights_add H ⟨n + 1, hn⟩ h r l _ e]
      refine congrArg _ ?_
      split
      · rw [show (n + 1 + 1) / 7 = (n + 1) / 7 + 1 by omega, Finset.sum_range_succ]
      · rfl
    · rw [show (n + 1 + 1) / 7 = (n + 1) / 7 by omega, ← e]
      exact weights_keep H ⟨n + 1, hn⟩ (by dsimp only at ht ⊢; omega) h r l

/-- The gradient on the stream after the run. -/
theorem stream_array : (dats m 0 c).arrAt 7 cfg0.N = fun i : S16384x1024.Idx => D1 m c (ix3 0 (i 0) (i 1)) + (((args m c).dx (i 0) (i 1) : ℝ) : EReal) := by
  refine (dats m 0 c).arrAt_eq_of_covers 7 _ (by decide +kernel) fun t hf y => ?_
  have hl : t.val % 7 = 6 := (flush0_7 t).1 hf
  blk_simp
  rw [after0_7]
  have ht := (idx t).1
  have b0 := ((cfg0.win 7).xinj (cfg0.grid.coords t) y 0).isLt
  rw [Pipeline.Window.xinj_val] at b0
  change (y 0).val < 1024 at b0
  have e0 : (⟨t.val / 7 * 1024 + (y 0).val, by omega⟩ : Fin 16384) = ((win0_7.blk t).view.emb y 0) := by
    apply Fin.ext
    blk_simp [idx t]
  have e1 : ((cfg0.win 7).xinj (cfg0.grid.coords t) y 1) = ((win0_7.blk t).view.emb y 1) := by
    apply Fin.ext
    blk_simp [idx t]
  rw [← e0, ← e1]
  have key : ∀ (z : S1024x1024.Idx) (q : Fin 16384), q.val = t.val / 7 * 1024 + (z 0).val →
      (outsAt0 m c t.val t.isLt).1 z = D1 m c (ix3 0 q (z 1)) + (((args m c).dx q (z 1) : ℝ) : EReal) := fun z q hq => by
    idx_vars z
    exact stream_out H t hl z0 z1 q hq
  exact key _ _ rfl

/-- The gradient of the norm's weights after the run, in the first of eight rows. -/
theorem weights_array : (dats m 0 c).arrAt 8 cfg0.N = fun i : S8x1024.Idx => ((if (i 0).val = 0 then (args m c).dg (i 1) else 0 : ℝ) : EReal) := by
  refine (dats m 0 c).arrAt_eq_of_covers 8 _ (by decide +kernel) fun t hf y => ?_
  have hl := (flush0_8 t).1 hf
  have ht := (idx t).1
  blk_simp
  rw [after0_8]
  have e1 : ((cfg0.win 8).xinj (cfg0.grid.coords t) y 1) = ((win0_8.blk t).view.emb y 1) := by
    apply Fin.ext
    blk_simp [idx t]
  have i0 : win0_8.index t 0 * 8 = 0 := by simp [idx t]
  have key : ∀ z : S8x1024.Idx, (outsAt0 m c t.val t.isLt).2.1 z = ((if (z 0).val = 0 then (args m c).dg (z 1) else 0 : ℝ) : EReal) := fun z => by
    idx_vars z
    rw [weights_at H t.val t.isLt z0 z1, show (t.val + 1) / 7 = 16 by omega, _root_.Dhn.Args.dgPart_all]
    rfl
  refine (key _).trans ?_
  simp only [i0, zero_add]
  exact congrArg (fun k : Fin 1024 => ((if (y 0).val = 0 then (args m c).dg k else 0 : ℝ) : EReal)) e1

end Cert.Kernel4Ideal.Dhn

end
-- ==== Proof.Dhn.Pre.lean ====
/- The precondition, read as real arguments. -/
module

public import proofs.«01_k».proof.Proof.Conv.Pre
public import proofs.«01_k».proof.Proof.Chain.Pre
public import proofs.«01_k».proof.Proof.Dhn.Blocks

@[expose] public section

set_option maxRecDepth 16384

noncomputable section

namespace Cert.Pre_finite4

theorem facts : Facts := by constructor <;> decide

end Cert.Pre_finite4

namespace Cert.Kernel4Ideal.Dhn

open Cert.Kernel4Ideal Cert.Kernel4Ideal.Gen Idealize.ShloMosaic Idealize.ShloMosaic.TcCoe Idealize.SL.Sem
open Cert.Kernel3Ideal.Chain (Rl rl)

variable (m : (ℓ : Loc nD τ sig) → Buf (Elt Ideal) ℓ) (c : Dev nD) (h : Cert.Pre_Kernel4Ideal_finite4 (hPre_finite4 := Cert.Pre_finite4.facts) m)

include h in
/-- The precondition at one element of its mask: an element of the stream and of the norm's weights, two of the columns' gradient and two of the projection's weights. -/
theorem finite_at (n : Fin 16) (r : Fin 1024) (d : Fin 14) (l : Fin 1024) :
    ((Rl (X m c (ix3 0 (⟨n.val * 1024 + r.val, by omega⟩ : Fin 16384) l))
      ∧ Rl (DZ m c (ix3 0 (⟨n.val * 1024 + r.val, by omega⟩ : Fin 16384) (⟨d.val * 1024 + l.val, by omega⟩ : Fin 14344)))
      ∧ Rl (DZ m c (ix3 0 (⟨n.val * 1024 + r.val, by omega⟩ : Fin 16384) (⟨8 + (d.val * 1024 + l.val), by omega⟩ : Fin 14344))))
      ∧ Rl (WIN m c (ix3 0 r (⟨d.val * 1024 + l.val, by omega⟩ : Fin 14344))) ∧ Rl (WIN m c (ix3 0 r (⟨8 + (d.val * 1024 + l.val), by omega⟩ : Fin 14344))))
      ∧ Rl (GM m c (ix2 0 l)) := by
  have e := congrFun (h c) (ix4 n r d l)
  pointwise [Cert.Pre_finite4.fn, Cert.Pre_finite4.fn_part1] at e
  simp only [IntOp.andi_eq_one] at e
  exact ⟨⟨⟨rl _ e.1.1.1, rl _ e.1.1.2.1, rl _ e.1.1.2.2⟩, rl _ e.1.2.1, rl _ e.1.2.2⟩, rl _ e.2⟩

/-- A column is one of the first 14336 or one of the last 14336. -/
theorem col_cases (P : Fin 14344 → Prop) (h1 : ∀ (d : Fin 14) (l : Fin 1024), P ⟨d.val * 1024 + l.val, by omega⟩) (h2 : ∀ (d : Fin 14) (l : Fin 1024), P ⟨8 + (d.val * 1024 + l.val), by omega⟩)
    (e : Fin 14344) : P e := by
  by_cases he : e.val < 14336
  · have := h1 ⟨e.val / 1024, by omega⟩ ⟨e.val % 1024, by omega⟩
    rwa [show (⟨e.val / 1024 * 1024 + e.val % 1024, _⟩ : Fin 14344) = e from Fin.ext (by dsimp only; omega)] at this
  · have := h2 ⟨(e.val - 8) / 1024, by omega⟩ ⟨(e.val - 8) % 1024, by omega⟩
    rwa [show (⟨8 + ((e.val - 8) / 1024 * 1024 + (e.val - 8) % 1024), _⟩ : Fin 14344) = e from Fin.ext (by dsimp only; omega)] at this

include h in
theorem finite_of_pre : Finite m c := by
  have rows : ∀ q : Fin 16384, ∃ (n : Fin 16) (r : Fin 1024), q = ⟨n.val * 1024 + r.val, by omega⟩ := fun q =>
    ⟨⟨q.val / 1024, by omega⟩, ⟨q.val % 1024, by omega⟩, Fin.ext (by dsimp only; omega)⟩
  exact {
    x := fun q j => by
      obtain ⟨n, r, rfl⟩ := rows q
      exact (finite_at m c h n r 0 j).1.1.1
    g := fun j => (finite_at m c h 0 0 0 j).2
    w := fun l => col_cases _ (fun d k => (finite_at m c h 0 l d k).1.2.1) (fun d k => (finite_at m c h 0 l d k).1.2.2)
    dz := fun q => by
      obtain ⟨n, r, rfl⟩ := rows q
      exact col_cases _ (fun d k => (finite_at m c h n r d k).1.1.2.1) (fun d k => (finite_at m c h n r d k).1.1.2.2) }

end Cert.Kernel4Ideal.Dhn

end
-- ==== Proof.Dhn.Ref.lean ====
/- The reference's gradients, as the plain ones over real numbers. -/
module

public import proofs.«01_k».proof.Proof.Gen.Reference4Ideal.Run
public import proofs.«01_k».proof.Proof.Dhn.Math
public import proofs.«01_k».proof.Proof.Chain.Ref

@[expose] public section

set_option maxRecDepth 16384

noncomputable section

namespace Cert.Reference4Ideal.Dhn

open Cert.Reference4Ideal Cert.Reference4Ideal.Gen Cert.Reference4Ideal.Value Idealize.ShloMosaic Idealize.ShloMosaic.TcCoe Idealize.SL.Sem _root_.Chain
open _root_.Mlstm (coe_sum)
open Cert.Reference3Ideal.Chain (norm_back sum_col root_mean ofBits_neg_half)

/-- The gradient on the stream from the later parts. -/
abbrev D1 (m : (ℓ : Loc nD τ sig) → Buf (Elt Ideal) ℓ) (c : Dev nD) : FVec Ideal S1x16384x1024 .f32 := m ((c : Thread nD τ).loc main_arg4)

/-- The host's product over all the columns, at one element. -/
theorem dot_at (A : FVec Ideal S1x16384x14344 .f32) (B : FVec Ideal S1024x14344 .f32) (i : Fin 16384) (j : Fin 1024) :
    Host.dotGeneral (F := Ideal) (φ₁ := .f32) (φ₂ := .f32) dot_S1x16384x14344_S1024x14344_S1x16384x1024_2_1_01_0_n_n none A B (ix3 0 i j) = ∑ k : Fin 14344, (A (ix3 0 i k) * B (ix2 j k) : EReal) := by
  refine (Ideal.dotGeneral_apply _ _ _ _ _ _).trans ?_
  refine (DotDims.sum_contr₁ _ (a := 2) rfl (K := 14344) rfl _).trans ?_
  refine Finset.sum_congr rfl fun k _ => congrArg₂ (fun x y : EReal => x * y) (congrArg A (funext fun a => ?_)) (congrArg B (funext fun a => ?_))
  · fin_cases a <;> rfl
  · fin_cases a <;> rfl

/-- The weights' one layer, taken off its leading axis. -/
theorem layer_at (B : FVec Ideal S1x1024x14344 .f32) (j : Fin 1024) (k : Fin 14344) : shapeCast S1024x14344 B shapeCasts_S1x1024x14344_S1024x14344 (ix2 j k) = B (ix3 0 j k) := by
  pointwise []

variable {m : (ℓ : Loc nD τ sig) → Buf (Elt Ideal) ℓ} {c : Dev nD}

/-- The host's buffers hold the arguments. -/
structure Holds (m : (ℓ : Loc nD τ sig) → Buf (Elt Ideal) ℓ) (c : Dev nD) (a : _root_.Dhn.Args) : Prop where
  x : ∀ i j, (m ((c : Thread nD τ).loc main_arg0) : FVec Ideal S1x16384x1024 .f32) (ix3 0 i j) = ((a.x i j : ℝ) : EReal)
  g : ∀ j, (m ((c : Thread nD τ).loc main_arg1) : FVec Ideal S1x1024 .f32) (ix2 0 j) = ((a.g j : ℝ) : EReal)
  w : ∀ l (e : Fin 14344), (m ((c : Thread nD τ).loc main_arg2) : FVec Ideal S1x1024x14344 .f32) (ix3 0 l e) = ((a.w l e.val : ℝ) : EReal)
  dz : ∀ q (e : Fin 14344), (m ((c : Thread nD τ).loc main_arg3) : FVec Ideal S1x16384x14344 .f32) (ix3 0 q e) = ((a.dz q e.val : ℝ) : EReal)

variable (m c) in
/-- The host's gradient on the norm's output. -/
def hDhn : FVec Ideal S1x16384x1024 .f32 := Host.dotGeneral (φ₁ := .f32) (φ₂ := .f32) dot_S1x16384x14344_S1024x14344_S1x16384x1024_2_1_01_0_n_n none
  (m ((c.tc : Thread nD τ).loc main_arg3) : FVec Ideal S1x16384x14344 .f32) (shapeCast S1024x14344 (m ((c.tc : Thread nD τ).loc main_arg2) : FVec Ideal S1x1024x14344 .f32) shapeCasts_S1x1024x14344_S1024x14344)
variable (m c) in
/-- The same times the norm's weights. -/
def hScaled : FVec Ideal S1x16384x1024 .f32 := mulf (hDhn m c) (broadcastInDim S1x16384x1024 ![0, 1, 2] bcast_S1x1x1024_S1x16384x1024_0_1_2 (broadcastInDim S1x1x1024 ![2] bcast_S1024_S1x1x1024_2
  (shapeCast S1024 (m ((c.tc : Thread nD τ).loc main_arg1) : FVec Ideal S1x1024 .f32) shapeCasts_S1x1024_S1024)))
variable (m c) in
/-- The mean of a row's squares, and the small constant. -/
def hMean : FVec Ideal S1x16384x1 .f32 := addf (Host.divf (broadcastInDim S1x16384x1 ![0, 1] bcast_S1x16384_S1x16384x1_0_1
  (Host.reduceAdd (mulf (m ((c.tc : Thread nD τ).loc main_arg0) : FVec Ideal S1x16384x1024 .f32) (m ((c.tc : Thread nD τ).loc main_arg0) : FVec Ideal S1x16384x1024 .f32)) (constant S_ .f32 0x00000000#32) reducesTo_S1x16384x1024_S1x16384_d2 h_S_))
  (broadcastInDim S1x16384x1 ![] bcast_S_S1x16384x1 (constant S_ .f32 0x44800000#32))) (broadcastInDim S1x16384x1 ![] bcast_S_S1x16384x1 (constant S_ .f32 0x358637BD#32))
variable (m c) in
/-- The reciprocal root. -/
def hRoot : FVec Ideal S1x16384x1 .f32 := Host.rsqrt (hMean m c)
variable (m c) in
/-- What the host spreads over a row for the norm. -/
def hSpread : FVec Ideal S1x16384x1024 .f32 := broadcastInDim S1x16384x1024 ![0, 1] bcast_S1x16384_S1x16384x1024_0_1 (broadcastInDim S1x16384 ![1] bcast_S16384_S1x16384_1
  (Host.reduceAdd (Host.divf (mulf (shapeCast S1x16384x1 (Host.reduceAdd (mulf (m ((c.tc : Thread nD τ).loc main_arg0) : FVec Ideal S1x16384x1024 .f32) (hScaled m c)) (constant S_ .f32 0x00000000#32) reducesTo_S1x16384x1024_S1x16384_d2 h_S_)
    shapeCasts_S1x16384_S1x16384x1) (mulf (broadcastInDim S1x16384x1 ![] bcast_S_S1x16384x1 (constant S_ .f32 0xBF000000#32)) (Host.divf (hRoot m c) (hMean m c))))
    (broadcastInDim S1x16384x1 ![] bcast_S_S1x16384x1 (constant S_ .f32 0x44800000#32))) (constant S_ .f32 0x00000000#32) reducesTo_S1x16384x1_S16384_d0_2 h_S_))

variable {a : _root_.Dhn.Args} (R : Holds m c a) (i : Fin 16384) (j : Fin 1024)
include R

theorem hDhn_at : hDhn m c (ix3 0 i j) = ((a.dhn i j : ℝ) : EReal) := by
  refine (dot_at _ _ i j).trans ?_
  refine (Finset.sum_congr rfl fun e _ => (congrArg₂ (fun x y : EReal => x * y) (R.dz i e) ((layer_at _ j e).trans (R.w j e))).trans (EReal.coe_mul _ _).symm).trans ?_
  exact (coe_sum _ _).symm

theorem hScaled_at : hScaled m c (ix3 0 i j) = ((a.dhn i j * a.g j : ℝ) : EReal) := by
  pointwise [hScaled]
  simp only [hDhn_at R, R.g, ← EReal.coe_mul]

theorem hMean_at : hMean m c (ix3 0 i 0) = ((meanSq (a.x i) : ℝ) : EReal) := by
  pointwise [hMean, ofBits_1024, ofBits_eps]
  simp only [R.x, ← EReal.coe_mul, ← coe_sum, div_1024, ← EReal.coe_add]
  rfl

theorem hRoot_at : hRoot m c (ix3 0 i 0) = ((rms (a.x i) : ℝ) : EReal) := by
  pointwise [hRoot]
  rw [hMean_at R]
  exact rsqrt_mean _

theorem hSpread_at : hSpread m c (ix3 0 i j) = (((∑ k, a.x i k * (a.dhn i k * a.g k)) * (-1 / 2 * (rms (a.x i) / meanSq (a.x i))) / 1024 : ℝ) : EReal) := by
  pointwise [hSpread]
  rw [sum_col]
  pointwise [ofBits_neg_half, ofBits_1024]
  simp only [R.x, hScaled_at R, hRoot_at R, hMean_at R, root_mean, ← EReal.coe_mul, ← coe_sum, div_1024]

/-- The gradient on the stream: what came from the later parts, and the norm's part. -/
theorem dx_at : (res_main_v43 m c : FVec Ideal S16384x1024 .f32) (ix2 i j) = D1 m c (ix3 0 i j) + ((a.dx i j : ℝ) : EReal) := by
  have e : (res_main_v43 m c : FVec Ideal S16384x1024 .f32) = shapeCast S16384x1024 (addf (addf (addf (D1 m c) (mulf (hScaled m c)
      (broadcastInDim S1x16384x1024 ![0, 1, 2] bcast_S1x16384x1_S1x16384x1024_0_1_2 (hRoot m c)))) (mulf (m ((c.tc : Thread nD τ).loc main_arg0) : FVec Ideal S1x16384x1024 .f32) (hSpread m c)))
      (mulf (hSpread m c) (m ((c.tc : Thread nD τ).loc main_arg0) : FVec Ideal S1x16384x1024 .f32))) shapeCasts_S1x16384x1024_S16384x1024 := rfl
  rw [e]
  pointwise []
  simp only [R.x, hScaled_at R, hRoot_at R, hSpread_at R, ← EReal.coe_mul, add_assoc, ← EReal.coe_add]
  refine congrArg (fun x : ℝ => D1 m c (ix3 0 i j) + (x : EReal)) ?_
  rw [_root_.Dhn.Args.dx, ← norm_back (a.x i) (fun k => a.dhn i k * a.g k) j _ rfl, add_assoc]

/-- The gradient of the norm's weights, in the first of eight rows. -/
theorem dg_at (r : Fin 8) : (pad S8x1024 ![0, 0] ![7, 0] ![0, 0] (broadcastInDim S1x1024 ![1] bcast_S1024_S1x1024_1 (Host.reduceAdd (shapeCast S1x1x1024 (Host.reduceAdd (mulf
      (mulf (m ((c.tc : Thread nD τ).loc main_arg0) : FVec Ideal S1x16384x1024 .f32) (broadcastInDim S1x16384x1024 ![0, 1, 2] bcast_S1x16384x1_S1x16384x1024_0_1_2 (hRoot m c))) (hDhn m c))
      (constant S_ .f32 0x00000000#32) reducesTo_S1x16384x1024_S1x1024_d1 h_S_) shapeCasts_S1x1024_S1x1x1024) (constant S_ .f32 0x00000000#32) reducesTo_S1x1x1024_S1024_d0_1 h_S_))
      (sitofp .f32 (constantI S_ 32 0#32)) pads_S1x1024_S8x1024_070_000 h_S_ : FVec Ideal S8x1024 .f32) (ix2 r j) = ((if r.val = 0 then a.dg j else 0 : ℝ) : EReal) := by
  pointwise []
  by_cases h : r.val = 0
  · rw [dif_pos (by omega), if_pos h, Cert.ReferenceIdeal.Conv.sum_unit]
    pointwise []
    simp only [R.x, hRoot_at R, hDhn_at R, ← EReal.coe_mul, ← coe_sum]
    refine congrArg _ (Finset.sum_congr rfl fun q _ => ?_)
    exact mul_comm _ _
  · rw [dif_neg (by omega), if_neg h]
    simp [FloatOps.sitofp]

end Cert.Reference4Ideal.Dhn

end
-- ==== Proof.Dhn.Equal.lean ====
/- The gradient on the stream and that of the norm's weights: the kernel's program and the reference's agree. -/
module

public import proofs.«01_k».proof.Proof.Dhn.Tiles
public import proofs.«01_k».proof.Proof.Dhn.Pre
public import proofs.«01_k».proof.Proof.Dhn.Ref
public import proofs.«01_k».proof.Proof.Gen.Kernel4Ideal.Value

@[expose] public section

set_option maxRecDepth 16384

noncomputable section

namespace Cert.Kernel4Ideal.Dhn

open Idealize.ShloMosaic Idealize.ShloMosaic.TcCoe Idealize.SL.Sem

/-- The reference's buffers hold the arguments of the kernel's program. -/
theorem holds (m : (ℓ : Loc Cert.Kernel4Ideal.nD Cert.Kernel4Ideal.τ Cert.Kernel4Ideal.sig) → Buf (Elt Ideal) ℓ) (c : Dev Cert.Kernel4Ideal.nD) (H : Finite m c)
    (m' : (ℓ : Loc Cert.Reference4Ideal.nD Cert.Reference4Ideal.τ Cert.Reference4Ideal.sig) → Buf (Elt Ideal) ℓ)
    (h0 : m' ((c.tc : Thread Cert.Reference4Ideal.nD Cert.Reference4Ideal.τ).loc Cert.Reference4Ideal.main_arg0) = X m c)
    (h1 : m' ((c.tc : Thread Cert.Reference4Ideal.nD Cert.Reference4Ideal.τ).loc Cert.Reference4Ideal.main_arg1) = GM m c)
    (h2 : m' ((c.tc : Thread Cert.Reference4Ideal.nD Cert.Reference4Ideal.τ).loc Cert.Reference4Ideal.main_arg2) = WIN m c)
    (h3 : m' ((c.tc : Thread Cert.Reference4Ideal.nD Cert.Reference4Ideal.τ).loc Cert.Reference4Ideal.main_arg3) = DZ m c) :
    Cert.Reference4Ideal.Dhn.Holds m' c (args m c) where
  x i j := (congrFun h0 _).trans (H.x i j)
  g j := (congrFun h1 _).trans (H.g j)
  w l e := (congrFun h2 _).trans (w_at H l e)
  dz q e := (congrFun h3 _).trans (dz_at H q e)

theorem equal : @Cert.algebraic_Kernel4Ideal_Reference4Ideal_pre_finite4 Cert.Kernel4Ideal.Gen.facts Cert.Reference4Ideal.Gen.facts Cert.Pre_finite4.facts := by
  intro m g m' g' hpre hag
  have H := fun c => finite_of_pre m c hpre
  have R := fun c : Dev Cert.Kernel4Ideal.nD => holds m c (H c) m' (hag c).1 (hag c).2.1 (hag c).2.2.1 (hag c).2.2.2.1
  refine ⟨fun c => (fun i : Cert.Kernel4Ideal.S16384x1024.Idx => D1 m c (ix3 0 (i 0) (i 1)) + (((args m c).dx (i 0) (i 1) : ℝ) : EReal)),
    fun c => (fun i : Cert.Kernel4Ideal.S8x1024.Idx => ((if (i 0).val = 0 then (args m c).dg (i 1) else 0 : ℝ) : EReal)),
    (θ_run _ _ _).mono (fun r h c => ?_) (Cert.Kernel4Ideal.Value.run_blocks (F := Ideal) m g),
    (θ_run _ _ _).mono (fun r h c => ?_) (Cert.Reference4Ideal.Value.run m' g')⟩
  · obtain ⟨h0, h1, ha⟩ := h c
    exact ⟨h0.trans (stream_array (H c)), h1.trans (weights_array (H c)), ha⟩
  · obtain ⟨h0, h1, ha⟩ := h c
    refine ⟨h0.trans ?_, h1.trans ?_, ha⟩
    all_goals funext i
    · idx_vars i
      exact (Cert.Reference4Ideal.Dhn.dx_at (R c) i0 i1).trans (congrArg (fun x : EReal => x + (((args m c).dx i0 i1 : ℝ) : EReal)) (congrFun (hag c).2.2.2.2 (ix3 0 i0 i1)))
    · idx_vars i
      exact Cert.Reference4Ideal.Dhn.dg_at (R c) i1 i0

end Cert.Kernel4Ideal.Dhn

end
-- ==== Proof.ConvFwd.Equal.lean ====
/- The gated short convolution: the kernel's program and the reference's agree. -/
module

public import proofs.«01_k».proof.Defs
public import proofs.«01_k».proof.Proof.Gen.Kernel6Ideal.Value
public import proofs.«01_k».proof.Proof.Gen.Reference6Ideal.Run
public import proofs.«01_k».proof.Proof.Conv.Tiles
public import proofs.«01_k».proof.Proof.Conv.Ref

@[expose] public section

set_option maxRecDepth 16384

noncomputable section

/-- The branch's output. -/
def Conv.Data.out (a : Conv.Data) (q : Fin 16384) (l : Fin 1024) : EReal := a.ba q l * a.cv q l * a.silu q l

namespace Cert.Reference6Ideal.Conv

open Cert.Reference6Ideal Cert.Reference6Ideal.Gen Idealize.ShloMosaic Idealize.ShloMosaic.TcCoe Idealize.SL.Sem

variable (P : FVec Ideal S1x16384x14344 .f32) (W : FVec Ideal S1x3x1024 .f32) (B : FVec Ideal S1x1024 .f32)

/-- The arguments' elements, named as in the plain form. -/
def data : _root_.Conv.Data where
  xa q l := P (ix3 0 q (⟨l.val, by omega⟩ : Fin 14344))
  ba q l := P (ix3 0 q (⟨1024 + l.val, by omega⟩ : Fin 14344))
  ca q l := P (ix3 0 q (⟨2048 + l.val, by omega⟩ : Fin 14344))
  za q l := P (ix3 0 q (⟨3072 + l.val, by omega⟩ : Fin 14344))
  dy _ _ := 0
  w k l := W (ix3 0 k l)
  b l := B (ix2 0 l)

/-- The arrays over time steps and channels. -/
abbrev Arr := FVec Ideal S1x16384x1024 .f32

/-- The convolution's input, as the host computes it. -/
def hU : Arr := mulf (extractStridedSlice S1x16384x1024 ![0, 0, 2048] P slices_S1x16384x14344_S1x16384x1024_0_0_2048)
  (extractStridedSlice S1x16384x1024 ![0, 0, 0] P slices_S1x16384x14344_S1x16384x1024_0_0_0)
/-- The same behind two rows of zeros. -/
def hPad (u : Arr) : FVec Ideal S1x16386x1024 .f32 := concatenate S1x16386x1024 1 [⟨S1x2x1024, (broadcastInDim S1x2x1024 ![] bcast_S_S1x2x1024 (constant S_ .f32 0x00000000#32))⟩, ⟨S1x16384x1024, u⟩]
  concatenates_S1x2x1024_S1x16384x1024_S1x16386x1024_d1
/-- A tap or the bias, spread over the time steps. -/
def hSpread (v : FVec Ideal S1024 .f32) : Arr := broadcastInDim S1x16384x1024 ![0, 1, 2] bcast_S1x1x1024_S1x16384x1024_0_1_2 (broadcastInDim S1x1x1024 ![2] bcast_S1024_S1x1x1024_2 v)
/-- The gate's activation. -/
def hSilu : Arr := mulf (extractStridedSlice S1x16384x1024 ![0, 0, 3072] P slices_S1x16384x14344_S1x16384x1024_0_0_3072) (Host.divf (broadcastInDim S1x16384x1024 ![] bcast_S_S1x16384x1024 (constant S_ .f32 0x3F800000#32))
  (addf (broadcastInDim S1x16384x1024 ![] bcast_S_S1x16384x1024 (constant S_ .f32 0x3F800000#32)) (Host.exp (Host.negf (extractStridedSlice S1x16384x1024 ![0, 0, 3072] P slices_S1x16384x14344_S1x16384x1024_0_0_3072)))))
/-- The convolution's output. -/
def hCv (u : Arr) : Arr := addf (addf (addf
  (mulf (extractStridedSlice S1x16384x1024 ![0, 0, 0] (hPad u) slices_S1x16386x1024_S1x16384x1024_0_0_0) (hSpread (shapeCast S1024 (extractStridedSlice S1x1024 ![0, 0] (shapeCast S3x1024 W shapeCasts_S1x3x1024_S3x1024) slices_S3x1024_S1x1024_0_0) shapeCasts_S1x1024_S1024)))
  (mulf (extractStridedSlice S1x16384x1024 ![0, 1, 0] (hPad u) slices_S1x16386x1024_S1x16384x1024_0_1_0) (hSpread (shapeCast S1024 (extractStridedSlice S1x1024 ![1, 0] (shapeCast S3x1024 W shapeCasts_S1x3x1024_S3x1024) slices_S3x1024_S1x1024_1_0) shapeCasts_S1x1024_S1024))))
  (mulf (extractStridedSlice S1x16384x1024 ![0, 2, 0] (hPad u) slices_S1x16386x1024_S1x16384x1024_0_2_0) (hSpread (shapeCast S1024 (extractStridedSlice S1x1024 ![2, 0] (shapeCast S3x1024 W shapeCasts_S1x3x1024_S3x1024) slices_S3x1024_S1x1024_2_0) shapeCasts_S1x1024_S1024))))
  (hSpread (shapeCast S1024 B shapeCasts_S1x1024_S1024))
/-- The branch's output. -/
def hOut : FVec Ideal S16384x1024 .f32 := shapeCast S16384x1024 (mulf (mulf (extractStridedSlice S1x16384x1024 ![0, 0, 1024] P slices_S1x16384x14344_S1x16384x1024_0_0_1024) (hCv W B (hU P))) (hSilu P)) shapeCasts_S1x16384x1024_S16384x1024

variable (q : Fin 16384) (l : Fin 1024)

theorem hU_at : hU P (ix3 0 q l) = (data P W B).u q l := by
  pointwise [hU]
  rfl

theorem hSilu_at : hSilu P (ix3 0 q l) = (data P W B).silu q l := by
  pointwise [hSilu]
  rfl

theorem hBack_at (k : Fin 3) (h : S1x16386x1024.Slices ![0, k.val, 0] S1x16384x1024) :
    extractStridedSlice S1x16384x1024 ![0, k.val, 0] (hPad (hU P)) h (ix3 0 q l) = (data P W B).uBack q l (2 - k.val) := by
  refine (Cert.ReferenceIdeal.Conv.back_read q l k _ h).trans ?_
  unfold _root_.Conv.Data.uBack
  split
  · exact hU_at P W B _ l
  · rfl

theorem hCv_at : hCv W B (hU P) (ix3 0 q l) = (data P W B).cv q l := by
  have b0 : extractStridedSlice S1x16384x1024 ![0, 0, 0] (hPad (hU P)) slices_S1x16386x1024_S1x16384x1024_0_0_0 (ix3 0 q l) = (data P W B).uBack q l 2 :=
    hBack_at P W B q l 0 slices_S1x16386x1024_S1x16384x1024_0_0_0
  have b1 : extractStridedSlice S1x16384x1024 ![0, 1, 0] (hPad (hU P)) slices_S1x16386x1024_S1x16384x1024_0_1_0 (ix3 0 q l) = (data P W B).uBack q l 1 :=
    hBack_at P W B q l 1 slices_S1x16386x1024_S1x16384x1024_0_1_0
  have b2 : extractStridedSlice S1x16384x1024 ![0, 2, 0] (hPad (hU P)) slices_S1x16386x1024_S1x16384x1024_0_2_0 (ix3 0 q l) = (data P W B).uBack q l 0 :=
    hBack_at P W B q l 2 slices_S1x16386x1024_S1x16384x1024_0_2_0
  unfold hCv
  generalize extractStridedSlice S1x16384x1024 ![0, 0, 0] (hPad (hU P)) _ = B0 at *
  generalize extractStridedSlice S1x16384x1024 ![0, 1, 0] (hPad (hU P)) _ = B1 at *
  generalize extractStridedSlice S1x16384x1024 ![0, 2, 0] (hPad (hU P)) _ = B2 at *
  pointwise [hSpread]
  rw [b0, b1, b2, mul_comm _ (W _), mul_comm _ (W _), mul_comm _ (W _)]
  unfold _root_.Conv.Data.cv
  rw [← Cert.ReferenceIdeal.Conv.uBack_zero]
  rfl

theorem hOut_at : hOut P W B (ix2 q l) = (data P W B).out q l := by
  have e1 := hCv_at P W B q l
  have e2 := hSilu_at P W B q l
  unfold hOut
  generalize hCv W B (hU P) = C at *
  generalize hSilu P = Z at *
  pointwise
  rw [e1, e2]
  rfl

end Cert.Reference6Ideal.Conv

namespace Cert.Kernel6Ideal.Conv

open Cert.Kernel6Ideal Cert.Kernel6Ideal.Gen Idealize.ShloMosaic Idealize.ShloMosaic.TcCoe Idealize.SL.Sem
open Idealize.ShloMosaic.Pipeline (Dat)
open Cert.KernelIdeal.Conv (back_at ld_row)
open Cert.Reference6Ideal.Conv (data)

variable (m : (ℓ : Loc nD τ sig) → Buf (Elt Ideal) ℓ) (c : Dev nD)

/-- The projected activations. -/
abbrev PROJ : FVec Ideal S1x16384x14344 .f32 := m ((c : Thread nD τ).loc main_arg0)
/-- The convolution's taps. -/
abbrev TAPS : FVec Ideal S1x3x1024 .f32 := m ((c : Thread nD τ).loc main_arg1)
/-- The convolution's bias. -/
abbrev BIAS : FVec Ideal S1x1024 .f32 := m ((c : Thread nD τ).loc main_arg2)

/-- Every window's block index. -/
theorem idx : ∀ t : Fin cfg0.N, t.val < 32 ∧ win0_0.index t = ![t.val, 8] ∧ win0_1.index t = ![t.val, 9] ∧ win0_2.index t = ![t.val, 10]
    ∧ win0_3.index t = ![t.val, 11] ∧ win0_4.index t = ![t.val * 32 - 1, 8] ∧ win0_5.index t = ![t.val * 32 - 1, 10]
    ∧ win0_6.index t = ![0, 0] ∧ win0_7.index t = ![0, 0] ∧ win0_8.index t = ![t.val, 0] ∧ (grid0.coords t 0).val = t.val :=
  (by decide +kernel : ∀ t : Fin grid0.N, _)

/-- The four columns of the branch stand after the first 8192 columns of the packed array. -/
theorem packed_at (i : Fin 16384) (j : Fin 4096) :
    V m c main_v5 (ix2 i (⟨8192 + j.val, by omega⟩ : Fin 14336)) = PROJ m c (ix3 0 i (⟨j.val, by omega⟩ : Fin 14344)) := by
  unfold V
  after_reads_at
  after_reads_at

/-- The taps stand in the first three rows of the padded array. -/
theorem taps_at (i : Fin 3) (j : Fin 1024) : V m c main_v7 (ix2 (⟨i.val, by omega⟩ : Fin 8) j) = TAPS m c (ix3 0 i j) := by
  unfold V
  after_reads_at

/-- The arguments, named as in the plain form. -/
abbrev args : _root_.Conv.Data := data (PROJ m c) (TAPS m c) (BIAS m c)

variable (t : Fin cfg0.N) (l : Fin 1024) (q : Fin 16384)

section
variable (r : Fin 512) (hq : q.val = t.val * 512 + r.val)
include hq

theorem blk0 : iblk m c 0 t (ix2 r l) = (args m c).xa q l := by
  refine Eq.trans ?_ (packed_at m c q ⟨l.val, by omega⟩)
  blk_ext [iblk, idx t]

theorem blk1 : iblk m c 1 t (ix2 r l) = (args m c).ba q l := by
  refine Eq.trans ?_ (packed_at m c q ⟨1024 + l.val, by omega⟩)
  blk_ext [iblk, idx t]

theorem blk2 : iblk m c 2 t (ix2 r l) = (args m c).ca q l := by
  refine Eq.trans ?_ (packed_at m c q ⟨2048 + l.val, by omega⟩)
  blk_ext [iblk, idx t]

theorem blk3 : iblk m c 3 t (ix2 r l) = (args m c).za q l := by
  refine Eq.trans ?_ (packed_at m c q ⟨3072 + l.val, by omega⟩)
  blk_ext [iblk, idx t]

end

theorem blk4 (r : Fin 16) (hq : q.val = (t.val * 32 - 1) * 16 + r.val) : iblk m c 4 t (ix2 r l) = (args m c).xa q l := by
  refine Eq.trans ?_ (packed_at m c q ⟨l.val, by omega⟩)
  blk_ext [iblk, idx t]

theorem blk5 (r : Fin 16) (hq : q.val = (t.val * 32 - 1) * 16 + r.val) : iblk m c 5 t (ix2 r l) = (args m c).ca q l := by
  refine Eq.trans ?_ (packed_at m c q ⟨2048 + l.val, by omega⟩)
  blk_ext [iblk, idx t]

theorem blk6 (k : Fin 3) : iblk m c 6 t (ix2 (⟨k.val, by omega⟩ : Fin 8) l) = (args m c).w k l := by
  refine Eq.trans ?_ (taps_at m c k l)
  blk_ext [iblk, idx t]

theorem blk7 : iblk m c 7 t (ix2 0 l) = (args m c).b l := by
  show _ = BIAS m c (ix2 0 l)
  blk_ext [iblk, V, idx t]

/-- The convolution's input over a block of rows. -/
def U (x0 x2 : FVec Ideal S512x1024 .bf16) : FVec Ideal S512x1024 .f32 :=
  mulf (extf .f32 (shapeCast S512x1024 x2 shapeCasts_S512x1024_S512x1024) bitsLt_bf16_f32) (extf .f32 (shapeCast S512x1024 x0 shapeCasts_S512x1024_S512x1024) bitsLt_bf16_f32)

/-- The same over the sixteen rows before, zero at the first grid point. -/
def Halo (i : grid0.Coords) (x4 x5 : FVec Ideal S16x1024 .bf16) : FVec Ideal S16x1024 .f32 :=
  Scalar.select (Scalar.cmpi .eq (BitVec.ofNat 32 (i 0).val) 0#32) (broadcast S16x1024 (Scalar.ofBits .f32 0x00000000#32))
    (mulf (extf .f32 (shapeCast S16x1024 x5 shapeCasts_S16x1024_S16x1024) bitsLt_bf16_f32) (extf .f32 (shapeCast S16x1024 x4 shapeCasts_S16x1024_S16x1024) bitsLt_bf16_f32))

/-- Rows moved down by some rows, the first ones from the block before. -/
def Back (k : BitVec 32) (h : FVec Ideal S16x1024 .f32) (x : FVec Ideal S512x1024 .f32) : FVec Ideal S512x1024 .f32 :=
  extractStridedSlice S512x1024 ![16, 0] (dynamicRotate 0 k none (concatenate S528x1024 0 [⟨S16x1024, h⟩, ⟨S512x1024, x⟩] concatenates_S16x1024_S512x1024_S528x1024_d0) rotates_S528x1024_d0) slices_S528x1024_o16_0_S512x1024

theorem halo_at (r : Fin 16) : Halo (grid0.coords t) (iblk m c 4 t) (iblk m c 5 t) (ix2 r l)
      = if h : 16 ≤ t.val * 512 + r.val then (args m c).u ⟨t.val * 512 + r.val - 16, by have := (idx t).1; omega⟩ l else 0 := by
  have hi := idx t
  have ht := hi.1
  have hc : (grid0.coords t 0).val = t.val := by tauto
  pointwise [Halo]
  rw [hc, _root_.Conv.select_eq_word _ 0 (by omega) (by decide)]
  by_cases h : t.val = 0
  · rw [if_pos h, dif_neg (by omega)]
  · rw [if_neg h, dif_pos (by omega), blk4 m c t l ⟨t.val * 512 + r.val - 16, by omega⟩ r (by dsimp only; omega),
      blk5 m c t l ⟨t.val * 512 + r.val - 16, by omega⟩ r (by dsimp only; omega)]
    rfl

section
variable (r : Fin 512) (hq : q.val = t.val * 512 + r.val)
include hq

theorem u_at : U (iblk m c 0 t) (iblk m c 2 t) (ix2 r l) = (args m c).u q l := by
  pointwise [U]
  rw [blk0 m c t l q r hq, blk2 m c t l q r hq]
  rfl

theorem uBack_at (k : ℕ) (hk : k = 1 ∨ k = 2) :
    Back (BitVec.ofNat 32 k) (Halo (grid0.coords t) (iblk m c 4 t) (iblk m c 5 t)) (U (iblk m c 0 t) (iblk m c 2 t)) (ix2 r l) = (args m c).uBack q l k := by
  have ht := (idx t).1
  refine (back_at k hk _ _ r l).trans ?_
  rw [_root_.Conv.Data.uBack]
  by_cases hr : r.val < k
  · rw [dif_pos hr]
    refine (halo_at m c t l _).trans ?_
    by_cases h : k ≤ q.val
    · rw [dif_pos (by dsimp only; omega), dif_pos h]
      congr 2
      dsimp only
      omega
    · rw [dif_neg (by dsimp only; omega), dif_neg h]
  · rw [dif_neg hr, dif_pos (by omega)]
    exact u_at m c t l _ _ (by dsimp only; omega)

/-- One element of a block of rows. -/
theorem pay_at (w0 w1 w2 : FVec Ideal S1x1024 .f32) (hw0 : w0 (ix2 0 l) = (args m c).w 0 l) (hw1 : w1 (ix2 0 l) = (args m c).w 1 l) (hw2 : w2 (ix2 0 l) = (args m c).w 2 l) :
    k0_pay1 (F := Ideal) (k0_pay2 (grid0.coords t) (iblk m c 2 t) (iblk m c 0 t) (iblk m c 5 t) (iblk m c 4 t) w0 w1 w2) (k0_pay3 (iblk m c 7 t)) (iblk m c 3 t) (iblk m c 1 t) (ix2 r l)
      = (args m c).out q l := by
  have e : k0_pay2 (F := Ideal) (grid0.coords t) (iblk m c 2 t) (iblk m c 0 t) (iblk m c 5 t) (iblk m c 4 t) w0 w1 w2
      = addf (addf (mulf (broadcastTo S512x1024 (shapeCast S1x1024 w0 shapeCasts_S1x1024_S1x1024) broadcasts_S1x1024_S512x1024) (Back 2#32 (Halo (grid0.coords t) (iblk m c 4 t) (iblk m c 5 t)) (U (iblk m c 0 t) (iblk m c 2 t))))
        (mulf (broadcastTo S512x1024 (shapeCast S1x1024 w1 shapeCasts_S1x1024_S1x1024) broadcasts_S1x1024_S512x1024) (Back 1#32 (Halo (grid0.coords t) (iblk m c 4 t) (iblk m c 5 t)) (U (iblk m c 0 t) (iblk m c 2 t)))))
        (mulf (broadcastTo S512x1024 (shapeCast S1x1024 w2 shapeCasts_S1x1024_S1x1024) broadcasts_S1x1024_S512x1024) (U (iblk m c 0 t) (iblk m c 2 t))) := rfl
  rw [e]
  have b1 := uBack_at m c t l q r hq 1 (.inl rfl)
  have b2 := uBack_at m c t l q r hq 2 (.inr rfl)
  have b0 := u_at m c t l q r hq
  generalize Back 2#32 _ _ = B2 at *
  generalize Back 1#32 _ _ = B1 at *
  generalize U _ _ = B0 at *
  pointwise [k0_pay1, k0_pay3, _root_.Conv.ofBits_half]
  rw [_root_.Conv.half_tanh, hw0, hw1, hw2, blk1 m c t l q r hq, blk3 m c t l q r hq, blk7 m c t l]
  erw [b0, b1, b2]
  rfl

end

theorem rows_at (y : S512x1024.Idx) (hq : q.val = t.val * 512 + (y 0).val) :
    out0_8 (grid0.coords t) (iblk m c 0 t) (iblk m c 1 t) (iblk m c 2 t) (iblk m c 3 t) (iblk m c 4 t) (iblk m c 5 t) (iblk m c 6 t) (iblk m c 7 t) y = (args m c).out q (y 1) := by
  idx_vars y
  frame_out
  exact pay_at m c t y1 q y0 hq _ _ _ ((ld_row _ 0 _ y1).trans (blk6 m c t y1 0)) ((ld_row _ 1 _ y1).trans (blk6 m c t y1 1)) ((ld_row _ 2 _ y1).trans (blk6 m c t y1 2))

/-- The branch's output after the run. -/
theorem array8 : (dats m 0 c).arrAt 8 cfg0.N = fun i : S16384x1024.Idx => (args m c).out (i 0) (i 1) := by
  refine (dats m 0 c).arrAt_eq_of_covers 8 _ (by decide +kernel) fun t hf y => ?_
  blk_simp
  rw [after0_8]
  have ht := (idx t).1
  have b0 := ((cfg0.win 8).xinj (cfg0.grid.coords t) y 0).isLt
  rw [Pipeline.Window.xinj_val] at b0
  change (y 0).val < 512 at b0
  have e0 : (⟨t.val * 512 + (y 0).val, by omega⟩ : Fin 16384) = ((win0_8.blk t).view.emb y 0) := by
    apply Fin.ext
    blk_simp [idx t]
  have e1 : ((cfg0.win 8).xinj (cfg0.grid.coords t) y 1) = ((win0_8.blk t).view.emb y 1) := by
    apply Fin.ext
    blk_simp [idx t]
  rw [← e0, ← e1]
  exact rows_at m c t _ _ rfl

theorem equal : @Cert.algebraic_Kernel6Ideal_Reference6Ideal Cert.Kernel6Ideal.Gen.facts Cert.Reference6Ideal.Gen.facts := by
  intro m g m' g' _ hag
  refine ⟨fun c => (fun i : S16384x1024.Idx => (args m c).out (i 0) (i 1)),
    (θ_run _ _ _).mono (fun r h c => ⟨(h c).1.trans (array8 m c), (h c).2⟩) (Cert.Kernel6Ideal.Value.run_blocks (F := Ideal) m g),
    (θ_run _ _ _).mono (fun r h c => ?_) (Cert.Reference6Ideal.Value.run m' g')⟩
  obtain ⟨h0, ha⟩ := h c
  refine ⟨h0.trans ?_, ha⟩
  rw [(hag c).1, (hag c).2.1, (hag c).2.2]
  funext i
  idx_vars i
  exact Cert.Reference6Ideal.Conv.hOut_at (PROJ m c) (TAPS m c) (BIAS m c) i0 i1

theorem ref_frame : @Cert.quiescent_Reference6Ideal Cert.Reference6Ideal.Gen.facts := fun m ρ _ =>
  (θ_run _ _ _).mono (fun r h => ⟨fun c => (h c).2, sem_eq_zero_of_no_sems (by decide) r.2⟩) (Cert.Reference6Ideal.Value.run m ρ)

end Cert.Kernel6Ideal.Conv

end
-- ==== Proof.Rms.Equal.lean ====
/- The first norm of the layer and its transpose: the kernel's program and the reference's agree. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.ReadAt

@[expose] public section

set_option maxRecDepth 16384

noncomputable section

namespace Cert.Reference7Ideal.Rms

open Cert.Reference7Ideal Cert.Reference7Ideal.Gen Idealize.ShloMosaic Idealize.ShloMosaic.TcCoe

/-- The reference's norm, as its host operations. -/
def hHn (x : FVec Ideal S1x16384x1024 .f32) (g : FVec Ideal S1x1024 .f32) : FVec Ideal S16384x1024 .f32 :=
  shapeCast S16384x1024 (mulf (mulf x (broadcastInDim S1x16384x1024 ![0, 1, 2] bcast_S1x16384x1_S1x16384x1024_0_1_2 (Host.rsqrt (addf (Host.divf
    (broadcastInDim S1x16384x1 ![0, 1] bcast_S1x16384_S1x16384x1_0_1 (Host.reduceAdd (mulf x x) (constant S_ .f32 0x00000000#32) reducesTo_S1x16384x1024_S1x16384_d2 h_S_))
    (broadcastInDim S1x16384x1 ![] bcast_S_S1x16384x1 (constant S_ .f32 0x44800000#32))) (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2 (shapeCast S1024 g shapeCasts_S1x1024_S1024)))) shapeCasts_S1x16384x1024_S16384x1024

end Cert.Reference7Ideal.Rms

namespace Cert.Kernel7Ideal.Rms

open Cert.Reference7Ideal.Rms (hHn)

open Cert.Kernel7Ideal Cert.Kernel7Ideal.Gen Idealize.ShloMosaic Idealize.ShloMosaic.TcCoe Idealize.SL.Sem
open Idealize.ShloMosaic.Pipeline (Dat)

/-- One element of the norm: the stream's element over the root of the mean of its row's squares, times the weight. -/
def norm (x : Fin 16384 → Fin 1024 → EReal) (g : Fin 1024 → EReal) (q : Fin 16384) (l : Fin 1024) : EReal :=
  x q l * Ideal.rsqrt (Ideal.div (∑ k : Fin 1024, x q k * x q k) (FloatOps.ofBits (F := Ideal) FTy.f32 0x44800000#32) + FloatOps.ofBits (F := Ideal) FTy.f32 0x358637BD#32) * g l

variable (m : (ℓ : Loc nD τ sig) → Buf (Elt Ideal) ℓ) (c : Dev nD)

/-- The stream. -/
abbrev X : FVec Ideal S1x16384x1024 .f32 := m ((c : Thread nD τ).loc main_arg0)
/-- The norm's weights. -/
abbrev GM : FVec Ideal S1x1024 .f32 := m ((c : Thread nD τ).loc main_arg1)

/-- The norm of the arguments. -/
def hn (q : Fin 16384) (l : Fin 1024) : EReal := norm (fun q l => X m c (ix3 0 q l)) (fun l => GM m c (ix2 0 l)) q l

/-- Every window's block index. -/
theorem idx : ∀ t : Fin cfg0.N, t.val < 32 ∧ win0_0.index t = ![t.val, 0] ∧ win0_1.index t = ![0, 0] ∧ win0_2.index t = ![t.val, 0] ∧ win0_3.index t = ![0, t.val] :=
  (by decide +kernel : ∀ t : Fin grid0.N, _)

theorem stream_at (i : Fin 16384) (j : Fin 1024) : V m c main_v0 (ix2 i j) = X m c (ix3 0 i j) := by
  unfold V
  after_reads_at

variable (t : Fin cfg0.N)

theorem blk0 (r : Fin 512) (l : Fin 1024) (q : Fin 16384) (hq : q.val = t.val * 512 + r.val) : iblk m c 0 t (ix2 r l) = X m c (ix3 0 q l) := by
  rw [← stream_at m c q l]
  blk_ext [iblk, idx t]

theorem blk1 (l : Fin 1024) : iblk m c 1 t (ix2 0 l) = GM m c (ix2 0 l) := by
  blk_ext [iblk, V, idx t]

/-- One element of a block of rows. -/
theorem pay_at (r : Fin 512) (l : Fin 1024) (q : Fin 16384) (hq : q.val = t.val * 512 + r.val) :
    k0_pay1 (F := Ideal) (iblk m c 0 t) (iblk m c 1 t) (ix2 r l) = hn m c q l := by
  have e := fun k => blk0 m c t r k q hq
  pointwise [k0_pay1]
  simp only [e, blk1 m c t, hn, norm]
  rfl

theorem rows_at (y : S512x1024.Idx) (q : Fin 16384) (hq : q.val = t.val * 512 + (y 0).val) : out0_2 (iblk m c 0 t) (iblk m c 1 t) y = hn m c q (y 1) := by
  idx_vars y
  frame_out
  refine Eq.trans ?_ (pay_at m c t _ _ q (by omega))
  pointwise [k0_pay2]

theorem cols_at (y : S1024x512.Idx) (q : Fin 16384) (hq : q.val = t.val * 512 + (y 1).val) : out0_3 (iblk m c 0 t) (iblk m c 1 t) y = hn m c q (y 0) := by
  idx_vars y
  frame_out
  refine Eq.trans ?_ (pay_at m c t _ _ q (by omega))
  pointwise [k0_pay3]

/-- The norm after the run. -/
theorem array2 : (dats m 0 c).arrAt 2 cfg0.N = fun i : S16384x1024.Idx => hn m c (i 0) (i 1) := by
  refine (dats m 0 c).arrAt_eq_of_covers 2 _ (by decide +kernel) fun t hf y => ?_
  blk_simp
  rw [after0_2]
  have ht := (idx t).1
  have b0 := ((cfg0.win 2).xinj (cfg0.grid.coords t) y 0).isLt
  rw [Pipeline.Window.xinj_val] at b0
  change (y 0).val < 512 at b0
  have e0 : (⟨t.val * 512 + (y 0).val, by omega⟩ : Fin 16384) = ((win0_2.blk t).view.emb y 0) := by
    apply Fin.ext
    blk_simp [idx t]
  have e1 : ((cfg0.win 2).xinj (cfg0.grid.coords t) y 1) = ((win0_2.blk t).view.emb y 1) := by
    apply Fin.ext
    blk_simp [idx t]
  rw [← e0, ← e1]
  exact rows_at m c t _ _ rfl

/-- Its transpose after the run. -/
theorem array3 : (dats m 0 c).arrAt 3 cfg0.N = fun i : S1024x16384.Idx => hn m c (i 1) (i 0) := by
  refine (dats m 0 c).arrAt_eq_of_covers 3 _ (by decide +kernel) fun t hf y => ?_
  blk_simp
  rw [after0_3]
  have ht := (idx t).1
  have b1 := ((cfg0.win 3).xinj (cfg0.grid.coords t) y 1).isLt
  rw [Pipeline.Window.xinj_val] at b1
  change (y 1).val < 512 at b1
  have e0 : (⟨t.val * 512 + (y 1).val, by omega⟩ : Fin 16384) = ((win0_3.blk t).view.emb y 1) := by
    apply Fin.ext
    blk_simp [idx t]
  have e1 : ((cfg0.win 3).xinj (cfg0.grid.coords t) y 0) = ((win0_3.blk t).view.emb y 0) := by
    apply Fin.ext
    blk_simp [idx t]
  rw [← e0, ← e1]
  exact cols_at m c t _ _ rfl

theorem hHn_at (x : FVec Ideal Cert.Reference7Ideal.S1x16384x1024 .f32) (g : FVec Ideal Cert.Reference7Ideal.S1x1024 .f32) (q : Fin 16384) (l : Fin 1024) :
    hHn x g (ix2 q l) = norm (fun q l => x (ix3 0 q l)) (fun l => g (ix2 0 l)) q l := by
  pointwise [hHn]
  rfl

theorem equal : @Cert.algebraic_Kernel7Ideal_Reference7Ideal Cert.Kernel7Ideal.Gen.facts Cert.Reference7Ideal.Gen.facts := by
  intro m g m' g' _ hag
  refine ⟨fun c => (fun i : S16384x1024.Idx => hn m c (i 0) (i 1)), fun c => (fun i : S1024x16384.Idx => hn m c (i 1) (i 0)),
    (θ_run _ _ _).mono (fun r h c => ⟨(h c).1.trans (array2 m c), (h c).2.1.trans (array3 m c), (h c).2.2⟩) (Cert.Kernel7Ideal.Value.run_blocks (F := Ideal) m g),
    (θ_run _ _ _).mono (fun r h c => ?_) (Cert.Reference7Ideal.Value.run m' g')⟩
  obtain ⟨h0, h1, ha⟩ := h c
  refine ⟨h0.trans ?_, h1.trans ?_, ha⟩
  all_goals
    rw [(hag c).1, (hag c).2]
    funext i
    idx_vars i
  · exact hHn_at (X m c) (GM m c) i0 i1
  · refine Eq.trans ?_ (hHn_at (X m c) (GM m c) i1 i0)
    generalize hHn_eq : hHn (X m c) (GM m c) = H
    change transpose Cert.Reference7Ideal.S1024x16384 [1, 0] (hHn (X m c) (GM m c)) Cert.Reference7Ideal.Gen.transposes_S16384x1024_S1024x16384_1_0 (ix2 i0 i1) = _
    rw [hHn_eq]
    pointwise []

theorem ref_frame : @Cert.quiescent_Reference7Ideal Cert.Reference7Ideal.Gen.facts := fun m ρ _ =>
  (θ_run _ _ _).mono (fun r h => ⟨fun c => (h c).2.2, sem_eq_zero_of_no_sems (by decide) r.2⟩) (Cert.Reference7Ideal.Value.run m ρ)

end Cert.Kernel7Ideal.Rms

end
-- ==== Proof.Adam.Equal.lean ====
/- One step of the optimiser: the kernel's program and the reference's agree. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.StableHlo.ReadAt

@[expose] public section

set_option maxRecDepth 16384

noncomputable section

namespace Cert.Reference8Ideal.Adam

open Cert.Reference8Ideal Cert.Reference8Ideal.Gen Idealize.ShloMosaic Idealize.ShloMosaic.TcCoe

/-- A number over the whole array. -/
abbrev all (b : BitVec 32) : FVec Ideal S1x128x1024 .f32 := broadcastInDim S1x128x1024 ![] bcast_S_S1x128x1024 (constant S_ .f32 b)

/-- The reference's first moment. -/
def hM (g m : FVec Ideal S1x128x1024 .f32) : FVec Ideal S1x128x1024 .f32 := addf (mulf (all 0x3F666666#32) m) (mulf (all 0x3DCCCCCD#32) g)

/-- The reference's second moment. -/
def hV (g v : FVec Ideal S1x128x1024 .f32) : FVec Ideal S1x128x1024 .f32 := addf (mulf (all 0x3F7FBE77#32) v) (mulf (all 0x3A83126F#32) (mulf g g))

/-- The reference's change of the weights. -/
def hD (w g m v : FVec Ideal S1x128x1024 .f32) : FVec Ideal S1x128x1024 .f32 :=
  mulf (all 0xBA83126F#32) (addf (Host.divf (Host.divf (hM g m) (all 0x3F26BD02#32)) (addf (Host.sqrt (Host.divf (hV g v) (all 0x3C231ACC#32))) (all 0x322BCC77#32)))
    (mulf (all 0x3C23D70A#32) w))

end Cert.Reference8Ideal.Adam

namespace Cert.Kernel8Ideal.Adam

open Cert.Reference8Ideal.Adam (hM hV hD)

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The weights. -/
abbrev W : FVec Ideal S1x128x1024 .f32 := m ((c : Thread nD τ).loc main_arg0)
/-- Their gradient. -/
abbrev G : FVec Ideal S1x128x1024 .f32 := m ((c : Thread nD τ).loc main_arg1)
/-- The first moment before the step. -/
abbrev M1 : FVec Ideal S1x128x1024 .f32 := m ((c : Thread nD τ).loc main_arg2)
/-- The second moment before the step. -/
abbrev M2 : FVec Ideal S1x128x1024 .f32 := m ((c : Thread nD τ).loc main_arg3)

/-- Every window's block index. -/
theorem idx : ∀ t : Fin cfg0.N, t.val = 0 ∧ win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

variable (t : Fin cfg0.N)

theorem blk0 (z : Fin 1) (r : Fin 128) (l : Fin 1024) : iblk m c 0 t (ix3 z r l) = W m c (ix3 z r l) := by
  blk_ext [iblk, V, idx t]

theorem blk1 (z : Fin 1) (r : Fin 128) (l : Fin 1024) : iblk m c 1 t (ix3 z r l) = G m c (ix3 z r l) := by
  blk_ext [iblk, V, idx t]

theorem blk2 (z : Fin 1) (r : Fin 128) (l : Fin 1024) : iblk m c 2 t (ix3 z r l) = M1 m c (ix3 z r l) := by
  blk_ext [iblk, V, idx t]

theorem blk3 (z : Fin 1) (r : Fin 128) (l : Fin 1024) : iblk m c 3 t (ix3 z r l) = M2 m c (ix3 z r l) := by
  blk_ext [iblk, V, idx t]

theorem delta_at (y : S1x128x1024.Idx) : out0_4 (iblk m c 0 t) (iblk m c 1 t) (iblk m c 2 t) (iblk m c 3 t) y = hD (W m c) (G m c) (M1 m c) (M2 m c) y := by
  idx_vars y
  frame_out
  pointwise [k0_pay3, k0_pay1, k0_pay2, hD, hM, hV]
  simp only [blk0 m c t, blk1 m c t, blk2 m c t, blk3 m c t]

theorem mom_at (y : S1x128x1024.Idx) : out0_5 (iblk m c 0 t) (iblk m c 1 t) (iblk m c 2 t) (iblk m c 3 t) y = hM (G m c) (M1 m c) y := by
  idx_vars y
  frame_out
  pointwise [k0_pay1, hM]
  simp only [blk1 m c t, blk2 m c t]

theorem vel_at (y : S1x128x1024.Idx) : out0_6 (iblk m c 0 t) (iblk m c 1 t) (iblk m c 2 t) (iblk m c 3 t) y = hV (G m c) (M2 m c) y := by
  idx_vars y
  frame_out
  pointwise [k0_pay2, hV]
  simp only [blk1 m c t, blk3 m c t]

/-- The change after the run. -/
theorem array4 : (dats m 0 c).arrAt 4 cfg0.N = hD (W m c) (G m c) (M1 m c) (M2 m c) := by
  refine (dats m 0 c).arrAt_eq_of_covers 4 _ (by decide +kernel) fun t hf y => ?_
  blk_simp
  rw [after0_4]
  have e : (cfg0.win 4).xinj (cfg0.grid.coords t) y = (win0_4.blk t).view.emb y := by
    funext a
    apply Fin.ext
    fin_cases a <;> blk_simp [idx t]
  rw [← e]
  exact delta_at m c t _

/-- The first moment after the run. -/
theorem array5 : (dats m 0 c).arrAt 5 cfg0.N = hM (G m c) (M1 m c) := by
  refine (dats m 0 c).arrAt_eq_of_covers 5 _ (by decide +kernel) fun t hf y => ?_
  blk_simp
  rw [after0_5]
  have e : (cfg0.win 5).xinj (cfg0.grid.coords t) y = (win0_5.blk t).view.emb y := by
    funext a
    apply Fin.ext
    fin_cases a <;> blk_simp [idx t]
  rw [← e]
  exact mom_at m c t _

/-- The second moment after the run. -/
theorem array6 : (dats m 0 c).arrAt 6 cfg0.N = hV (G m c) (M2 m c) := by
  refine (dats m 0 c).arrAt_eq_of_covers 6 _ (by decide +kernel) fun t hf y => ?_
  blk_simp
  rw [after0_6]
  have e : (cfg0.win 6).xinj (cfg0.grid.coords t) y = (win0_6.blk t).view.emb y := by
    funext a
    apply Fin.ext
    fin_cases a <;> blk_simp [idx t]
  rw [← e]
  exact vel_at m c t _

theorem equal : @Cert.algebraic_Kernel8Ideal_Reference8Ideal Cert.Kernel8Ideal.Gen.facts Cert.Reference8Ideal.Gen.facts := by
  intro m g m' g' _ hag
  refine ⟨fun c => hD (W m c) (G m c) (M1 m c) (M2 m c), fun c => hM (G m c) (M1 m c), fun c => hV (G m c) (M2 m c),
    (θ_run _ _ _).mono (fun r h c => ⟨(h c).1.trans (array4 m c), (h c).2.1.trans (array5 m c), (h c).2.2.1.trans (array6 m c), (h c).2.2.2⟩) (Cert.Kernel8Ideal.Value.run_blocks (F := Ideal) m g),
    (θ_run _ _ _).mono (fun r h c => ?_) (Cert.Reference8Ideal.Value.run m' g')⟩
  obtain ⟨h0, h1, h2, ha⟩ := h c
  refine ⟨h0.trans ?_, h1.trans ?_, h2.trans ?_, ha⟩
  all_goals
    rw [(hag c).2.1]
    first | rw [(hag c).1] | skip
    first | rw [(hag c).2.2.1] | skip
    first | rw [(hag c).2.2.2] | skip
    rfl

theorem ref_frame : @Cert.quiescent_Reference8Ideal Cert.Reference8Ideal.Gen.facts := fun m ρ _ =>
  (θ_run _ _ _).mono (fun r h => ⟨fun c => (h c).2.2.2, sem_eq_zero_of_no_sems (by decide) r.2⟩) (Cert.Reference8Ideal.Value.run m ρ)

end Cert.Kernel8Ideal.Adam

end
-- ==== Proof.Slots.Equal.lean ====
/- The sum over the devices of the row weights' gradients: the kernel's program and the reference's agree. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.StableHlo.ReadAt

@[expose] public section

set_option maxRecDepth 16384

noncomputable section

namespace Cert.Reference9Ideal.Slots

open Cert.Reference9Ideal Cert.Reference9Ideal.Gen Idealize.ShloMosaic Idealize.ShloMosaic.TcCoe

/-- The reference's sums, one weight after the other. -/
def hSum (A : FVec Ideal S8x128x1024 .bf16) (B : FVec Ideal S8x256x1024 .bf16) (O P : FVec Ideal S8x128x1024 .bf16) (L : FVec Ideal S8x256x128 .bf16) : FVec Ideal S672x1024 .f32 :=
  concatenate S672x1024 0 [⟨S128x1024, Host.reduceAdd (extf .f32 A bitsLt_bf16_f32) (constant S_ .f32 0x00000000#32) reducesTo_S8x128x1024_S128x1024_d0 h_S_⟩,
    ⟨S256x1024, Host.reduceAdd (extf .f32 B bitsLt_bf16_f32) (constant S_ .f32 0x00000000#32) reducesTo_S8x256x1024_S256x1024_d0 h_S_⟩,
    ⟨S128x1024, Host.reduceAdd (extf .f32 O bitsLt_bf16_f32) (constant S_ .f32 0x00000000#32) reducesTo_S8x128x1024_S128x1024_d0 h_S_⟩,
    ⟨S128x1024, Host.reduceAdd (extf .f32 P bitsLt_bf16_f32) (constant S_ .f32 0x00000000#32) reducesTo_S8x128x1024_S128x1024_d0 h_S_⟩,
    ⟨S32x1024, shapeCast _ (Host.reduceAdd (extf .f32 L bitsLt_bf16_f32) (constant S_ .f32 0x00000000#32) reducesTo_S8x256x128_S256x128_d0 h_S_) shapeCasts_S256x128_S32x1024⟩]
    concatenates_S128x1024_S256x1024_S128x1024_S128x1024_S32x1024_S672x1024_d0

end Cert.Reference9Ideal.Slots

namespace Cert.Kernel9Ideal.Slots

open Cert.Reference9Ideal.Slots (hSum)

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The devices' gradients of the first branch's output weights. -/
abbrev A0 : FVec Ideal S8x128x1024 .bf16 := m ((c : Thread nD τ).loc main_arg0)
/-- Of the recurrent branch's. -/
abbrev A1 : FVec Ideal S8x256x1024 .bf16 := m ((c : Thread nD τ).loc main_arg1)
/-- Of the layer's output weights. -/
abbrev A2 : FVec Ideal S8x128x1024 .bf16 := m ((c : Thread nD τ).loc main_arg2)
/-- Of the embedding's gate. -/
abbrev A3 : FVec Ideal S8x128x1024 .bf16 := m ((c : Thread nD τ).loc main_arg3)
/-- Of the embedding's weights. -/
abbrev A4 : FVec Ideal S8x256x128 .bf16 := m ((c : Thread nD τ).loc main_arg4)

/-- One element of one device's rows: the five weights one after the other. -/
def row (s : Fin 8) (q : Fin 672) (l : Fin 1024) : EReal :=
  if h0 : q.val < 128 then A0 m c (ix3 s ⟨q.val, h0⟩ l)
  else if h1 : q.val - 128 < 256 then A1 m c (ix3 s ⟨q.val - 128, h1⟩ l)
  else if h2 : q.val - 128 - 256 < 128 then A2 m c (ix3 s ⟨q.val - 128 - 256, h2⟩ l)
  else if h3 : q.val - 128 - 256 - 128 < 128 then A3 m c (ix3 s ⟨q.val - 128 - 256 - 128, h3⟩ l)
  else A4 m c (ix3 s ⟨(q.val - 128 - 256 - 128 - 128) * 8 + l.val / 128, by omega⟩ ⟨l.val % 128, by omega⟩)

/-- The sum of the devices' rows. -/
def total : FVec Ideal S672x1024 .f32 := fun i => ∑ s : Fin 8, row m c s (i 0) (i 1)

/-- Every window's block index. -/
theorem idx : ∀ t : Fin cfg0.N, t.val < 7 ∧ win0_0.index t = ![0, t.val, 0] ∧ win0_1.index t = ![t.val, 0] :=
  (by decide +kernel : ∀ t : Fin grid0.N, _)

theorem packed_at (s : Fin 8) (q : Fin 672) (l : Fin 1024) : V m c main_v1 (ix3 s q l) = row m c s q l := by
  unfold V
  after_reads_at
  unfold row
  split_ifs <;> first | rfl | after_reads_at

variable (t : Fin cfg0.N)

theorem blk0 (s : Fin 8) (r : Fin 96) (l : Fin 1024) (q : Fin 672) (hq : q.val = t.val * 96 + r.val) : iblk m c 0 t (ix3 s r l) = row m c s q l := by
  rw [← packed_at m c s q l]
  blk_ext [iblk, idx t]

theorem sum_at (y : S96x1024.Idx) (q : Fin 672) (hq : q.val = t.val * 96 + (y 0).val) : out0_1 (iblk m c 0 t) y = ∑ s : Fin 8, row m c s q (y 1) := by
  idx_vars y
  have e := fun s => blk0 m c t s y0 y1 q hq
  frame_out
  pointwise [k0_pay1]
  simp only [e, Fin.sum_univ_eight]

/-- The sums after the run. -/
theorem array1 : (dats m 0 c).arrAt 1 cfg0.N = total m c := by
  refine (dats m 0 c).arrAt_eq_of_covers 1 _ (by decide +kernel) fun t hf y => ?_
  blk_simp
  rw [after0_1]
  have ht := (idx t).1
  have b0 := ((cfg0.win 1).xinj (cfg0.grid.coords t) y 0).isLt
  rw [Pipeline.Window.xinj_val] at b0
  change (y 0).val < 96 at b0
  have e0 : (⟨t.val * 96 + (y 0).val, by omega⟩ : Fin 672) = ((win0_1.blk t).view.emb y 0) := by
    apply Fin.ext
    blk_simp [idx t]
  have e1 : ((cfg0.win 1).xinj (cfg0.grid.coords t) y 1) = ((win0_1.blk t).view.emb y 1) := by
    apply Fin.ext
    blk_simp [idx t]
  unfold total
  rw [← e0, ← e1]
  exact sum_at m c t _ _ rfl

theorem hSum_at (q : Fin 672) (l : Fin 1024) : hSum (A0 m c) (A1 m c) (A2 m c) (A3 m c) (A4 m c) (ix2 q l) = ∑ s : Fin 8, row m c s q l := by
  pointwise [hSum]
  unfold row
  split_ifs <;> rfl

theorem equal : @Cert.algebraic_Kernel9Ideal_Reference9Ideal Cert.Kernel9Ideal.Gen.facts Cert.Reference9Ideal.Gen.facts := by
  intro m g m' g' _ hag
  refine ⟨fun c => (total m c : FVec Ideal S672x1024 .f32),
    (θ_run _ _ _).mono (fun r h c => ⟨(h c).1.trans (array1 m c), (h c).2⟩) (Cert.Kernel9Ideal.Value.run_blocks (F := Ideal) m g),
    (θ_run _ _ _).mono (fun r h c => ?_) (Cert.Reference9Ideal.Value.run m' g')⟩
  obtain ⟨h0, ha⟩ := h c
  refine ⟨h0.trans ?_, ha⟩
  obtain ⟨e0, e1, e2, e3, e4⟩ := hag c
  rw [e0, e1, e2, e3, e4]
  funext i
  idx_vars i
  exact hSum_at m c i0 i1

theorem ref_frame : @Cert.quiescent_Reference9Ideal Cert.Reference9Ideal.Gen.facts := fun m ρ _ =>
  (θ_run _ _ _).mono (fun r h => ⟨fun c => (h c).2, sem_eq_zero_of_no_sems (by decide) r.2⟩) (Cert.Reference9Ideal.Value.run m ρ)

end Cert.Kernel9Ideal.Slots

end
-- ==== Proof.Pack.Columns.lean ====
/- The order of the columns of the first weights, as the kernels of their packing hold them. -/
module

public import Idealize.ShloMosaic.Lib.Pipeline.ValueKit
public import Idealize.ShloMosaic.Lib.WordCmp

@[expose] public section

noncomputable section

namespace Cert.Pack

open Idealize.ShloMosaic

/-- A choice by a comparison of a lane's number with a constant. -/
theorem select_lt {α : Type} (n k : ℕ) (hn : n < 128) (hk : k < 128) (a b : α) :
    Scalar.select (IntOp.cmpi .slt (BitVec.ofNat 32 n) (BitVec.ofNat 32 k)) a b = if n < k then a else b := by
  rw [WordCmp.cmpi_slt_ofNat (by omega) (by omega)]
  by_cases h : n < k <;> simp [h, Scalar.select]

/-- The gradient's column that a column of the reordered array holds. -/
def ord (c : ℕ) : ℕ := if c < 8192 then c + 4096 else if c < 12288 then c - 8192 else c + 8

theorem ord_a (c : ℕ) (h : c < 8192) : ord c = c + 4096 := by simp [ord, h]
theorem ord_b (c : ℕ) (h : 8192 ≤ c) (h' : c < 12288) : ord c = c - 8192 := by simp [ord, h', Nat.not_lt.mpr h]
theorem ord_c (c : ℕ) (h : 12288 ≤ c) : ord c = c + 8 := by simp [ord, Nat.not_lt.mpr h, Nat.not_lt.mpr (le_trans (by norm_num : 8192 ≤ 12288) h)]

/-- The gates' lanes: the last eight hold the gradient's gate columns. -/
def gate (f : ℕ → EReal) (c : ℕ) : EReal := if c < 120 then 0 else f (12168 + c)

theorem gate_a (f : ℕ → EReal) (c : ℕ) (h : c < 120) : gate f c = 0 := by simp [gate, h]
theorem gate_b (f : ℕ → EReal) (c : ℕ) (h : 120 ≤ c) : gate f c = f (12168 + c) := by simp [gate, Nat.not_lt.mpr h]

end Cert.Pack

end
-- ==== Proof.Pack.Block.lean ====
/- Packing the gradient of the first weights: one row block of the kernel's windows. -/
module

public import proofs.«01_k».proof.Defs
public import proofs.«01_k».proof.Proof.Pack.Columns
public import proofs.«01_k».proof.Proof.Gen.Kernel10Ideal.Frame
public import Idealize.ShloMosaic.Lib.Pipeline.ValueKit

@[expose] public section

set_option maxRecDepth 16384
set_option maxHeartbeats 4000000

noncomputable section

namespace Cert.Kernel10Ideal.Pack

open Cert.Pack Cert.Kernel10Ideal Cert.Kernel10Ideal.Gen Idealize.ShloMosaic Idealize.ShloMosaic.TcCoe Idealize.SL.Sem

variable (x0 : Vec Ideal S128x14336 .bf16) (x1 : Vec Ideal S128x128 .bf16) (src : Fin 128 → ℕ → EReal)

/-- The windows of one row block: window `j` holds the columns from `1793 j` on. -/
theorem win (e0 : ∀ r (c : Fin 14336), x0 (ix2 r c) = src r (ord c.val)) (e1 : ∀ r (c : Fin 128), x1 (ix2 r c) = gate (src r) c.val)
    (hz : ∀ r e, 14344 ≤ e → src r e = 0) (y : S8x128x1920.Idx) : out0_2 x0 x1 y = src (y 1) (1793 * (y 0).val + (y 2).val) := by
  unfold out0_2
  canon_tiles x h
  all_goals rw [h0, h2, show y 1 = x 1 from Fin.ext h1]; idx_vars x
  all_goals open_payloads
  all_goals pointwise [k0_pay273]
  all_goals simp only [e0, e1]
  all_goals try simp (disch := omega) only [select_lt]
  all_goals try split_ifs
  all_goals try simp (disch := omega) only [ord_a, ord_b, ord_c, gate_a, gate_b]
  all_goals first | exact congrArg (src _) (by omega) | (simp (disch := omega) only [hz]; done)

end Cert.Kernel10Ideal.Pack

end
-- ==== Proof.Pack.Equal.lean ====
/- Packing the gradient of the first weights: the kernel's program and the reference's agree. -/
module

public import proofs.«01_k».proof.Defs
public import proofs.«01_k».proof.Proof.Pack.Block
public import proofs.«01_k».proof.Proof.Gen.Kernel10Ideal.Value
public import proofs.«01_k».proof.Proof.Gen.Reference10Ideal.Run
public import Idealize.ShloMosaic.Lib.Pipeline.ValueKit
public import Idealize.ShloMosaic.Lib.StableHlo.ReadAt

@[expose] public section

set_option maxRecDepth 16384

noncomputable section

namespace Cert.Reference10Ideal.Pack

open Cert.Reference10Ideal Cert.Reference10Ideal.Gen Idealize.ShloMosaic Idealize.ShloMosaic.TcCoe

/-- The reference's gradient with columns of zeros after its last. -/
def hPad (A : FVec Ideal S1x1024x14344 .f32) : FVec Ideal S1024x14471 .f32 :=
  pad S1024x14471 ![0, 0] ![0, 127] ![0, 0] (shapeCast _ A shapeCasts_S1x1024x14344_S1024x14344) (sitofp .f32 (constantI S_ 32 0#32)) pads_S1024x14344_S1024x14471_000_01270 h_S_

/-- The reference's windows. -/
def hWin (A : FVec Ideal S1x1024x14344 .f32) : FVec Ideal S8x1024x1920 .bf16 :=
  truncf .bf16 (concatenate S8x1024x1920 0 [⟨S1x1024x1920, broadcastInDim S1x1024x1920 ![1, 2] bcast_S1024x1920_S1x1024x1920_1_2 (extractStridedSlice S1024x1920 ![0, 0] (hPad A) slices_S1024x14471_S1024x1920_0_0)⟩,
    ⟨S1x1024x1920, broadcastInDim S1x1024x1920 ![1, 2] bcast_S1024x1920_S1x1024x1920_1_2 (extractStridedSlice S1024x1920 ![0, 1793] (hPad A) slices_S1024x14471_S1024x1920_0_1793)⟩,
    ⟨S1x1024x1920, broadcastInDim S1x1024x1920 ![1, 2] bcast_S1024x1920_S1x1024x1920_1_2 (extractStridedSlice S1024x1920 ![0, 3586] (hPad A) slices_S1024x14471_S1024x1920_0_3586)⟩,
    ⟨S1x1024x1920, broadcastInDim S1x1024x1920 ![1, 2] bcast_S1024x1920_S1x1024x1920_1_2 (extractStridedSlice S1024x1920 ![0, 5379] (hPad A) slices_S1024x14471_S1024x1920_0_5379)⟩,
    ⟨S1x1024x1920, broadcastInDim S1x1024x1920 ![1, 2] bcast_S1024x1920_S1x1024x1920_1_2 (extractStridedSlice S1024x1920 ![0, 7172] (hPad A) slices_S1024x14471_S1024x1920_0_7172)⟩,
    ⟨S1x1024x1920, broadcastInDim S1x1024x1920 ![1, 2] bcast_S1024x1920_S1x1024x1920_1_2 (extractStridedSlice S1024x1920 ![0, 8965] (hPad A) slices_S1024x14471_S1024x1920_0_8965)⟩,
    ⟨S1x1024x1920, broadcastInDim S1x1024x1920 ![1, 2] bcast_S1024x1920_S1x1024x1920_1_2 (extractStridedSlice S1024x1920 ![0, 10758] (hPad A) slices_S1024x14471_S1024x1920_0_10758)⟩,
    ⟨S1x1024x1920, broadcastInDim S1x1024x1920 ![1, 2] bcast_S1024x1920_S1x1024x1920_1_2 (extractStridedSlice S1024x1920 ![0, 12551] (hPad A) slices_S1024x14471_S1024x1920_0_12551)⟩]
    concatenates_S1x1024x1920_S1x1024x1920_S1x1024x1920_S1x1024x1920_S1x1024x1920_S1x1024x1920_S1x1024x1920_S1x1024x1920_S8x1024x1920_d0) bitsLt_bf16_f32

/-- A row of the gradient, zero after its last column. -/
def grad (A : FVec Ideal S1x1024x14344 .f32) (r : Fin 1024) (e : ℕ) : EReal := if h : e < 14344 then A (ix3 0 r ⟨e, h⟩) else 0

theorem grad_at (A : FVec Ideal S1x1024x14344 .f32) (r : Fin 1024) (e f : ℕ) (h : e < 14344) (hf : f < 14344) (he : e = f) :
    A (ix3 0 r ⟨e, h⟩) = grad A r f := by
  subst he
  rw [grad, dif_pos h]

theorem hPad_at (A : FVec Ideal S1x1024x14344 .f32) (r : Fin 1024) (e : Fin 14471) : hPad A (ix2 r e) = grad A r e.val := by
  pointwise [hPad]
  unfold grad
  split_ifs
  · rfl
  · simp [FloatOps.sitofp]

theorem hWin_at (A : FVec Ideal S1x1024x14344 .f32) (j : Fin 8) (r : Fin 1024) (q : Fin 1920) : hWin A (ix3 j r q) = grad A r (1793 * j.val + q.val) := by
  pointwise [hWin]
  simp only [hPad_at]
  split_ifs <;> exact congrArg (grad A r) (by omega)

end Cert.Reference10Ideal.Pack

namespace Cert.Kernel10Ideal.Pack

open Cert.Reference10Ideal.Pack (hWin grad grad_at)

open Cert.Pack Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient. -/
abbrev A0 : FVec Ideal S1x1024x14344 .f32 := m ((c : Thread nD τ).loc main_arg0)

/-- The windows: window `j` holds the columns from `1793 j` on. -/
def wins : FVec Ideal S8x1024x1920 .bf16 := fun i => grad (A0 m c) (i 1) (1793 * (i 0).val + (i 2).val)

/-- Every window's block index. -/
theorem idx : ∀ t : Fin cfg0.N, t.val < 8 ∧ win0_0.index t = ![t.val, 0] ∧ win0_1.index t = ![t.val, 0] ∧ win0_2.index t = ![0, t.val, 0] :=
  (by decide +kernel : ∀ t : Fin grid0.N, _)

theorem main_at (r : Fin 1024) (q : Fin 14336) : V m c main_v5 (ix2 r q) = grad (A0 m c) r (ord q.val) := by
  unfold V
  after_reads_at
  by_cases ha : q.val < 8192
  · rw [dif_pos ha]
    after_reads_at
    exact grad_at (A0 m c) _ _ _ _ (by rw [ord_a _ ha]; omega) (by rw [ord_a _ ha]; omega)
  by_cases hb : q.val - 8192 < 4096
  · rw [dif_neg ha, dif_pos hb]
    after_reads_at
    exact grad_at (A0 m c) _ _ _ _ (by rw [ord_b _ (by omega) (by omega)]; omega) (by rw [ord_b _ (by omega) (by omega)])
  · rw [dif_neg ha, dif_neg hb]
    after_reads_at
    exact grad_at (A0 m c) _ _ _ _ (by rw [ord_c _ (by omega)]; omega) (by rw [ord_c _ (by omega)]; omega)

theorem gate_at (r : Fin 1024) (q : Fin 128) : V m c main_v8 (ix2 r q) = gate (grad (A0 m c) r) q.val := by
  unfold V
  after_reads_at
  split_ifs
  · rw [gate_b _ _ (by omega)]
    exact grad_at (A0 m c) _ _ _ _ (by omega) (by omega)
  · rw [gate_a _ _ (by omega)]
    simp [FloatOps.sitofp]

variable (t : Fin cfg0.N)

theorem blk0 (r : Fin 128) (q : Fin 14336) (R : Fin 1024) (hR : R.val = t.val * 128 + r.val) : iblk m c 0 t (ix2 r q) = grad (A0 m c) R (ord q.val) := by
  rw [← main_at m c R q]
  blk_ext [iblk, idx t]

theorem blk1 (r : Fin 128) (q : Fin 128) (R : Fin 1024) (hR : R.val = t.val * 128 + r.val) : iblk m c 1 t (ix2 r q) = gate (grad (A0 m c) R) q.val := by
  rw [← gate_at m c R q]
  blk_ext [iblk, idx t]

theorem win_at (y : S8x128x1920.Idx) (R : Fin 1024) (hR : R.val = t.val * 128 + (y 1).val) :
    out0_2 (iblk m c 0 t) (iblk m c 1 t) y = grad (A0 m c) R (1793 * (y 0).val + (y 2).val) := by
  have ht := (idx t).1
  rw [win (iblk m c 0 t) (iblk m c 1 t) (fun r => grad (A0 m c) ⟨t.val * 128 + r.val, by omega⟩) (fun r q => blk0 m c t r q _ rfl) (fun r q => blk1 m c t r q _ rfl)
    (fun r e he => by unfold grad; rw [dif_neg (by omega)]) y]
  congr 1
  exact Fin.ext hR.symm

/-- The windows after the run. -/
theorem array2 : (dats m 0 c).arrAt 2 cfg0.N = wins m c := by
  refine (dats m 0 c).arrAt_eq_of_covers 2 _ (by decide +kernel) fun t hf y => ?_
  blk_simp
  rw [after0_2]
  have ht := (idx t).1
  have b1 := ((cfg0.win 2).xinj (cfg0.grid.coords t) y 1).isLt
  rw [Pipeline.Window.xinj_val] at b1
  change (y 1).val < 128 at b1
  have e1 : (⟨t.val * 128 + (y 1).val, by omega⟩ : Fin 1024) = ((win0_2.blk t).view.emb y 1) := by
    apply Fin.ext
    blk_simp [idx t]
  have e0 : ((cfg0.win 2).xinj (cfg0.grid.coords t) y 0) = ((win0_2.blk t).view.emb y 0) := by
    apply Fin.ext
    blk_simp [idx t]
  have e2 : ((cfg0.win 2).xinj (cfg0.grid.coords t) y 2) = ((win0_2.blk t).view.emb y 2) := by
    apply Fin.ext
    blk_simp [idx t]
  unfold wins
  rw [← e0, ← e1, ← e2]
  exact win_at m c t _ _ rfl

theorem equal : @Cert.algebraic_Kernel10Ideal_Reference10Ideal Cert.Kernel10Ideal.Gen.facts Cert.Reference10Ideal.Gen.facts := by
  intro m g m' g' _ hag
  refine ⟨fun c => (wins m c : FVec Ideal S8x1024x1920 .bf16),
    (θ_run _ _ _).mono (fun r h c => ⟨(h c).1.trans (array2 m c), (h c).2⟩) (Cert.Kernel10Ideal.Value.run_blocks (F := Ideal) m g),
    (θ_run _ _ _).mono (fun r h c => ?_) (Cert.Reference10Ideal.Value.run m' g')⟩
  obtain ⟨h0, ha⟩ := h c
  refine ⟨h0.trans ?_, ha⟩
  rw [hag c]
  funext i
  idx_vars i
  exact Cert.Reference10Ideal.Pack.hWin_at (A0 m c) i0 i1 i2

theorem ref_frame : @Cert.quiescent_Reference10Ideal Cert.Reference10Ideal.Gen.facts := fun m ρ _ =>
  (θ_run _ _ _).mono (fun r h => ⟨fun c => (h c).2, sem_eq_zero_of_no_sems (by decide) r.2⟩) (Cert.Reference10Ideal.Value.run m ρ)

end Cert.Kernel10Ideal.Pack

end
-- ==== Proof.Assemble.Block.lean ====
/- Assembling the first weights from the devices' shares: one row block of the kernel's result. -/
module

public import proofs.«01_k».proof.Defs
public import proofs.«01_k».proof.Proof.Pack.Columns
public import proofs.«01_k».proof.Proof.Gen.Kernel11Ideal.Frame
public import Idealize.ShloMosaic.Lib.Pipeline.ValueKit

@[expose] public section

set_option maxRecDepth 16384
set_option maxHeartbeats 4000000

noncomputable section

namespace Cert.Kernel11Ideal.Assemble

open Cert.Pack Cert.Kernel11Ideal Cert.Kernel11Ideal.Gen Idealize.ShloMosaic Idealize.ShloMosaic.TcCoe Idealize.SL.Sem

variable (x0 : Vec Ideal S8x128x1920 .bf16) (win : Fin 128 → ℕ → ℕ → EReal) (full : Fin 128 → ℕ → EReal)

/-- The gates' columns of one row block. -/
theorem gates (e0 : ∀ a r (c : Fin 1920), x0 (ix3 a r c) = win r a.val c.val) (hl : ∀ r a n, n < 1793 → win r a n = full r (1793 * a + n))
    (hh : ∀ r a n, 1793 ≤ n → win r a n = 0) (y : S128x128.Idx) : out0_2 x0 y = gate (full (y 0)) (y 1).val := by
  idx_vars y
  frame_out
  open_payloads
  pointwise [k0_pay179, k0_pay180, k0_pay196]
  simp only [e0]
  simp (disch := omega) only [select_lt]
  split_ifs
  all_goals try simp (disch := omega) only [gate_a, gate_b, hl, hh]
  all_goals first | done | exact congrArg (full _) (by omega) | (exfalso; omega)

/-- The other columns of one row block. -/
theorem cols (e0 : ∀ a r (c : Fin 1920), x0 (ix3 a r c) = win r a.val c.val) (hl : ∀ r a n, n < 1793 → win r a n = full r (1793 * a + n))
    (hh : ∀ r a n, 1793 ≤ n → win r a n = 0) (y : S128x14336.Idx) : out0_1 x0 y = full (y 0) (ord (y 1).val) := by
  unfold out0_1
  canon_tiles x h
  all_goals rw [h1, show y 0 = x 0 from Fin.ext h0]; idx_vars x
  all_goals open_payloads
  all_goals pointwise [k0_pay179]
  all_goals simp only [e0]
  all_goals try simp (disch := omega) only [select_lt]
  all_goals try split_ifs
  all_goals try simp (disch := omega) only [ord_a, ord_b, ord_c, hl, hh, add_zero, zero_add]
  all_goals first | exact congrArg (full _) (by omega) | (exfalso; omega)

end Cert.Kernel11Ideal.Assemble

end
-- ==== Proof.Assemble.Equal.lean ====
/- Assembling the first weights from the devices' shares: the kernel's program and the reference's agree. -/
module

public import proofs.«01_k».proof.Defs
public import proofs.«01_k».proof.Proof.Assemble.Block
public import proofs.«01_k».proof.Proof.Gen.Kernel11Ideal.Value
public import proofs.«01_k».proof.Proof.Gen.Reference11Ideal.Run
public import Idealize.ShloMosaic.Lib.Pipeline.ValueKit
public import Idealize.ShloMosaic.Lib.StableHlo.ReadAt

@[expose] public section

set_option maxRecDepth 16384

noncomputable section

namespace Cert.Reference11Ideal.Assemble

open Cert.Pack Cert.Reference11Ideal Cert.Reference11Ideal.Gen Idealize.ShloMosaic Idealize.ShloMosaic.TcCoe

/-- The reference's weights, the shares side by side. -/
def hFull (A : FVec Ideal S8x1024x1793 .f32) : FVec Ideal S1024x14344 .f32 :=
  shapeCast _ (transpose S1024x8x1793 [1, 0, 2] A transposes_S8x1024x1793_S1024x8x1793_1_0_2) shapeCasts_S1024x8x1793_S1024x14344

/-- The reference's columns but the gates'. -/
def hCols (A : FVec Ideal S8x1024x1793 .f32) : FVec Ideal S1024x14336 .bf16 :=
  truncf .bf16 (concatenate S1024x14336 1 [⟨S1024x8192, extractStridedSlice S1024x8192 ![0, 4096] (hFull A) slices_S1024x14344_S1024x8192_0_4096⟩,
    ⟨S1024x4096, extractStridedSlice S1024x4096 ![0, 0] (hFull A) slices_S1024x14344_S1024x4096_0_0⟩,
    ⟨S1024x2048, extractStridedSlice S1024x2048 ![0, 12296] (hFull A) slices_S1024x14344_S1024x2048_0_12296⟩]
    concatenates_S1024x8192_S1024x4096_S1024x2048_S1024x14336_d1) bitsLt_bf16_f32

/-- The reference's gates. -/
def hGates (A : FVec Ideal S8x1024x1793 .f32) : FVec Ideal S1024x128 .bf16 :=
  truncf .bf16 (pad S1024x128 ![0, 120] ![0, 0] ![0, 0] (extractStridedSlice S1024x8 ![0, 12288] (hFull A) slices_S1024x14344_S1024x8_0_12288) (sitofp .f32 (constantI S_ 32 0#32)) pads_S1024x8_S1024x128_000_12000 h_S_) bitsLt_bf16_f32

/-- A row of one device's share, zero after its last column. -/
def share (A : FVec Ideal S8x1024x1793 .f32) (r : Fin 1024) (a n : ℕ) : EReal := if h : a < 8 ∧ n < 1793 then A (ix3 ⟨a, h.1⟩ r ⟨n, h.2⟩) else 0

/-- A row of the weights. -/
def weight (A : FVec Ideal S8x1024x1793 .f32) (r : Fin 1024) (e : ℕ) : EReal := share A r (e / 1793) (e % 1793)

theorem share_weight (A : FVec Ideal S8x1024x1793 .f32) (r : Fin 1024) (a n : ℕ) (h : n < 1793) : share A r a n = weight A r (1793 * a + n) := by
  rw [weight, show (1793 * a + n) / 1793 = a by omega, show (1793 * a + n) % 1793 = n by omega]

theorem share_zero (A : FVec Ideal S8x1024x1793 .f32) (r : Fin 1024) (a n : ℕ) (h : 1793 ≤ n) : share A r a n = 0 := by
  rw [share, dif_neg (by omega)]

theorem hFull_at (A : FVec Ideal S8x1024x1793 .f32) (r : Fin 1024) (e : Fin 14344) : hFull A (ix2 r e) = weight A r e.val := by
  pointwise [hFull]
  rw [weight, share, dif_pos ⟨by omega, by omega⟩]

theorem hCols_at (A : FVec Ideal S8x1024x1793 .f32) (r : Fin 1024) (q : Fin 14336) : hCols A (ix2 r q) = weight A r (ord q.val) := by
  pointwise [hCols]
  simp only [hFull_at]
  split_ifs
  · exact congrArg (weight A r) (by rw [ord_a _ (by omega)]; omega)
  · exact congrArg (weight A r) (by rw [ord_b _ (by omega) (by omega)])
  · exact congrArg (weight A r) (by rw [ord_c _ (by omega)]; omega)

theorem hGates_at (A : FVec Ideal S8x1024x1793 .f32) (r : Fin 1024) (q : Fin 128) : hGates A (ix2 r q) = gate (weight A r) q.val := by
  pointwise [hGates]
  simp only [hFull_at]
  split_ifs
  · rw [gate_b _ _ (by omega)]
    exact congrArg (weight A r) (by omega)
  · rw [gate_a _ _ (by omega)]
    simp [FloatOps.sitofp]

end Cert.Reference11Ideal.Assemble

namespace Cert.Kernel11Ideal.Assemble

open Cert.Reference11Ideal.Assemble (hCols hGates share weight share_weight share_zero hCols_at hGates_at)

open Cert.Pack Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The devices' shares. -/
abbrev A0 : FVec Ideal S8x1024x1793 .f32 := m ((c : Thread nD τ).loc main_arg0)

/-- The weights but the gates'. -/
def main : FVec Ideal S1024x14336 .bf16 := fun i => weight (A0 m c) (i 0) (ord (i 1).val)

/-- The gates' weights. -/
def side : FVec Ideal S1024x128 .bf16 := fun i => gate (weight (A0 m c) (i 0)) (i 1).val

/-- Every window's block index. -/
theorem idx : ∀ t : Fin cfg0.N, t.val < 8 ∧ win0_0.index t = ![0, t.val, 0] ∧ win0_1.index t = ![t.val, 0] ∧ win0_2.index t = ![t.val, 0] :=
  (by decide +kernel : ∀ t : Fin grid0.N, _)

theorem share_at (a : Fin 8) (r : Fin 1024) (q : Fin 1920) : V m c main_v1 (ix3 a r q) = share (A0 m c) r a.val q.val := by
  unfold V
  after_reads_at
  rw [share]
  split_ifs
  all_goals first | rfl | (simp [FloatOps.sitofp]; done) | (exfalso; omega)

variable (t : Fin cfg0.N)

theorem blk0 (a : Fin 8) (r : Fin 128) (q : Fin 1920) (R : Fin 1024) (hR : R.val = t.val * 128 + r.val) : iblk m c 0 t (ix3 a r q) = share (A0 m c) R a.val q.val := by
  rw [← share_at m c a R q]
  blk_ext [iblk, idx t]

theorem cols_at (y : S128x14336.Idx) (R : Fin 1024) (hR : R.val = t.val * 128 + (y 0).val) :
    out0_1 (iblk m c 0 t) y = weight (A0 m c) R (ord (y 1).val) := by
  have ht := (idx t).1
  rw [cols (iblk m c 0 t) (fun r => share (A0 m c) ⟨t.val * 128 + r.val, by omega⟩) (fun r => weight (A0 m c) ⟨t.val * 128 + r.val, by omega⟩)
    (fun a r q => blk0 m c t a r q _ rfl) (fun r a n h => share_weight _ _ a n h) (fun r a n h => share_zero _ _ a n h) y]
  congr 1
  exact Fin.ext hR.symm

theorem gates_at (y : S128x128.Idx) (R : Fin 1024) (hR : R.val = t.val * 128 + (y 0).val) :
    out0_2 (iblk m c 0 t) y = gate (weight (A0 m c) R) (y 1).val := by
  have ht := (idx t).1
  rw [gates (iblk m c 0 t) (fun r => share (A0 m c) ⟨t.val * 128 + r.val, by omega⟩) (fun r => weight (A0 m c) ⟨t.val * 128 + r.val, by omega⟩)
    (fun a r q => blk0 m c t a r q _ rfl) (fun r a n h => share_weight _ _ a n h) (fun r a n h => share_zero _ _ a n h) y]
  congr 2
  exact Fin.ext hR.symm

/-- The weights but the gates', after the run. -/
theorem array1 : (dats m 0 c).arrAt 1 cfg0.N = main m c := by
  refine (dats m 0 c).arrAt_eq_of_covers 1 _ (by decide +kernel) fun t hf y => ?_
  blk_simp
  rw [after0_1]
  have ht := (idx t).1
  have b0 := ((cfg0.win 1).xinj (cfg0.grid.coords t) y 0).isLt
  rw [Pipeline.Window.xinj_val] at b0
  change (y 0).val < 128 at b0
  have e0 : (⟨t.val * 128 + (y 0).val, by omega⟩ : Fin 1024) = ((win0_1.blk t).view.emb y 0) := by
    apply Fin.ext
    blk_simp [idx t]
  have e1 : ((cfg0.win 1).xinj (cfg0.grid.coords t) y 1) = ((win0_1.blk t).view.emb y 1) := by
    apply Fin.ext
    blk_simp [idx t]
  unfold main
  rw [← e0, ← e1]
  exact cols_at m c t _ _ rfl

/-- The gates' weights after the run. -/
theorem array2 : (dats m 0 c).arrAt 2 cfg0.N = side m c := by
  refine (dats m 0 c).arrAt_eq_of_covers 2 _ (by decide +kernel) fun t hf y => ?_
  blk_simp
  rw [after0_2]
  have ht := (idx t).1
  have b0 := ((cfg0.win 2).xinj (cfg0.grid.coords t) y 0).isLt
  rw [Pipeline.Window.xinj_val] at b0
  change (y 0).val < 128 at b0
  have e0 : (⟨t.val * 128 + (y 0).val, by omega⟩ : Fin 1024) = ((win0_2.blk t).view.emb y 0) := by
    apply Fin.ext
    blk_simp [idx t]
  have e1 : ((cfg0.win 2).xinj (cfg0.grid.coords t) y 1) = ((win0_2.blk t).view.emb y 1) := by
    apply Fin.ext
    blk_simp [idx t]
  unfold side
  rw [← e0, ← e1]
  exact gates_at m c t _ _ rfl

theorem equal : @Cert.algebraic_Kernel11Ideal_Reference11Ideal Cert.Kernel11Ideal.Gen.facts Cert.Reference11Ideal.Gen.facts := by
  intro m g m' g' _ hag
  refine ⟨fun c => (main m c : FVec Ideal S1024x14336 .bf16), fun c => (side m c : FVec Ideal S1024x128 .bf16),
    (θ_run _ _ _).mono (fun r h c => ⟨(h c).1.trans (array1 m c), (h c).2.1.trans (array2 m c), (h c).2.2⟩) (Cert.Kernel11Ideal.Value.run_blocks (F := Ideal) m g),
    (θ_run _ _ _).mono (fun r h c => ?_) (Cert.Reference11Ideal.Value.run m' g')⟩
  obtain ⟨h0, h1, ha⟩ := h c
  refine ⟨h0.trans ?_, h1.trans ?_, ha⟩
  · rw [hag c]
    funext i
    idx_vars i
    exact hCols_at (A0 m c) i0 i1
  · rw [hag c]
    funext i
    idx_vars i
    exact hGates_at (A0 m c) i0 i1

theorem ref_frame : @Cert.quiescent_Reference11Ideal Cert.Reference11Ideal.Gen.facts := fun m ρ _ =>
  (θ_run _ _ _).mono (fun r h => ⟨fun c => (h c).2.2, sem_eq_zero_of_no_sems (by decide) r.2⟩) (Cert.Reference11Ideal.Value.run m ρ)

end Cert.Kernel11Ideal.Assemble

end
-- ==== Proof.Mm.Frame.lean ====
/- The projection's product over its grid: the second product is stored at a row block's first point and stays in its buffer until the block's last. -/
module

public import proofs.«01_k».proof.Proof.Gen.Kernel12Ideal.Frame
public import proofs.«01_k».proof.Proof.Gen.Kernel12Ideal.Skeleton
public import Idealize.ShloMosaic.Lib.Claim
public import Idealize.ShloMosaic.Lib.VecWindow
public import Idealize.ShloMosaic.Lib.Pipeline.ValueKit

@[expose] public section

set_option maxRecDepth 16384

noncomputable section

namespace Cert.Kernel12Ideal.Mm

open Cert.Kernel12Ideal Cert.Kernel12Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- At the first block of columns both products are stored. -/
theorem run_first (c : Dev nD) (E : Set ℕ) (i : grid0.Coords)
  (a3 : Memref sig .tc .vmem S2048x1024 .bf16) (h3 : a3.IsWhole) (a4 : Memref sig .tc .vmem S1024x1024 .bf16) (h4 : a4.IsWhole)
  (a5 : Memref sig .tc .vmem S1024x128 .bf16) (h5 : a5.IsWhole) (a6 : Memref sig .tc .vmem S2048x1024 .bf16) (h6 : a6.IsWhole)
  (a7 : Memref sig .tc .vmem S2048x128 .f32) (h7 : a7.IsWhole)
  (x : Vec F S2048x1024 .bf16) (w : Vec F S1024x1024 .bf16) (g : Vec F S1024x128 .bf16) (K : PUnit → sProp 𝕄)
  (hc : k0_cond1 i = 1#1) :
    iprop(owns (c : Thread nD τ) a3 fullShare x ∗ owns (c : Thread nD τ) a4 fullShare w ∗ owns (c : Thread nD τ) a5 fullShare g
        ∗ (∃ d, owns (c : Thread nD τ) a6 fullShare d) ∗ (∃ d, owns (c : Thread nD τ) a7 fullShare d)
        ∗ (iprop(owns (c : Thread nD τ) a3 fullShare x ∗ owns (c : Thread nD τ) a4 fullShare w ∗ owns (c : Thread nD τ) a5 fullShare g
          ∗ owns (c : Thread nD τ) a6 fullShare (k0_pay1 x w) ∗ owns (c : Thread nD τ) a7 fullShare (k0_pay2 x g)) -∗ K ⟨⟩))
      ⊢ wp frame (wpE (defs₀ (F := F)) Variants.none c none) E (cc0_proj i a3 h3 a4 h4 a5 h5 a6 h6 a7 h7) K := by
  simp only [cc0_proj_eq_skeleton]; unfold cc0_proj_skel
  unfold owns
  iintro ⟨⟨%f0, %e0, H0⟩, ⟨%f1, %e1, H1⟩, ⟨%f2, %e2, H2⟩, ⟨%d3, %f3, -, H3⟩, ⟨%d4, %f4, -, H4⟩, Hk⟩
  subst e0 e1 e2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_full _ _ _ _ _).trans (congrArg₂ k0_pay1 (View.readAt_full _ _ _) (View.readAt_full _ _ _))
  iexists _; isplitr
  swap; · iexact H4
  ipureintro
  exact (View.read_writes_full _ _ _ _ _).trans (congrArg₂ k0_pay2 (View.readAt_full _ _ _) (View.readAt_full _ _ _))

/-- At another only the first is. -/
theorem run_other (c : Dev nD) (E : Set ℕ) (i : grid0.Coords)
  (a3 : Memref sig .tc .vmem S2048x1024 .bf16) (h3 : a3.IsWhole) (a4 : Memref sig .tc .vmem S1024x1024 .bf16) (h4 : a4.IsWhole)
  (a5 : Memref sig .tc .vmem S1024x128 .bf16) (h5 : a5.IsWhole) (a6 : Memref sig .tc .vmem S2048x1024 .bf16) (h6 : a6.IsWhole)
  (a7 : Memref sig .tc .vmem S2048x128 .f32) (h7 : a7.IsWhole)
  (x : Vec F S2048x1024 .bf16) (w : Vec F S1024x1024 .bf16) (K : PUnit → sProp 𝕄)
  (hc : ¬k0_cond1 i = 1#1) :
    iprop(owns (c : Thread nD τ) a3 fullShare x ∗ owns (c : Thread nD τ) a4 fullShare w
        ∗ (∃ d, owns (c : Thread nD τ) a6 fullShare d)
        ∗ (iprop(owns (c : Thread nD τ) a3 fullShare x ∗ owns (c : Thread nD τ) a4 fullShare w
          ∗ owns (c : Thread nD τ) a6 fullShare (k0_pay1 x w)) -∗ K ⟨⟩))
      ⊢ wp frame (wpE (defs₀ (F := F)) Variants.none c none) E (cc0_proj i a3 h3 a4 h4 a5 h5 a6 h6 a7 h7) K := by
  simp only [cc0_proj_eq_skeleton]; unfold cc0_proj_skel
  unfold owns
  iintro ⟨⟨%f0, %e0, H0⟩, ⟨%f1, %e1, H1⟩, ⟨%d3, %f3, -, H3⟩, Hk⟩
  subst e0 e1
  sl_exec (disch := sl_exact hc)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact (View.read_writes_full _ _ _ _ _).trans (congrArg₂ k0_pay1 (View.readAt_full _ _ _) (View.readAt_full _ _ _))

/-! ## The proof data -/

/-- The first point of `t`'s row block. -/
def head (t : Fin cfg0.N) : Fin cfg0.N := ⟨t.val / 14 * 14, lt_of_le_of_lt (Nat.div_mul_le_self _ _) t.isLt⟩

theorem head_of (t : Fin cfg0.N) (h : t.val % 14 = 0) : head t = t := Fin.ext (by show t.val / 14 * 14 = t.val; omega)

/-- The proof data: the second product is the one of the row block's first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t)
    | ⟨4, _⟩ => k0_pay2 (iblk m c 0 (head t)) (iblk m c 2 (head t))
    | ⟨k + 5, h⟩ => absurd h (by show ¬ k + 5 < 5; omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after3 (c : Dev nD) (t : Fin cfg0.N) : (dats m 0 c).after 3 t = k0_pay1 (iblk m c 0 t) (iblk m c 1 t) := by dsimp only [dats]
theorem after4 (c : Dev nD) (t : Fin cfg0.N) : (dats m 0 c).after 4 t = k0_pay2 (iblk m c 0 (head t)) (iblk m c 2 (head t)) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d

/-- The second product is stored at the row blocks' first points, -/
theorem first_iff : ∀ t : Fin cfg0.N, k0_cond1 (grid0.coords t) = 1#1 ↔ t.val % 14 = 0 :=
  (by decide +kernel : ∀ t : Fin grid0.N, _)

/-- and its window is idle at the others. -/
theorem idle4 : ∀ t : Fin cfg0.N, cfg0.idle 4 (grid0.coords t) = !decide (t.val % 14 = 0) :=
  (by decide +kernel : ∀ t : Fin grid0.N, _)

/-- Between the two it stays in its buffer. -/
theorem before_4 (c : Dev nD) : ∀ (n : ℕ) (t : Fin cfg0.N), t.val = n → ¬t.val % 14 = 0 → ∀ d, (dats m 0 c).before 4 t d = (dats m 0 c).after 4 t := by
  intro n
  induction n with
  | zero => intro t ht h; omega
  | succ n ih =>
    intro t ht h d
    have hf : (cfg0.win 4).flush ⟨t.val - 1, Nat.lt_of_le_of_lt (Nat.sub_le _ _) t.isLt⟩ = false :=
      Bool.eq_false_iff.mpr fun e => by have := (flush0_4 _).mp e; dsimp only at this; omega
    have e : (dats m 0 c).after 4 ⟨t.val - 1, Nat.lt_of_le_of_lt (Nat.sub_le _ _) t.isLt⟩ = (dats m 0 c).after 4 t := by
      rw [after4, after4, show head ⟨t.val - 1, Nat.lt_of_le_of_lt (Nat.sub_le _ _) t.isLt⟩ = head t from
        Fin.ext (by show (t.val - 1) / 14 * 14 = t.val / 14 * 14; omega)]
    rw [(dats m 0 c).before_of_pos 4 t (by omega) ((cfg0.win 4).fetch_out rfl t), hf, if_neg Bool.false_ne_true, ← e]
    unfold Dat.left
    rw [idle4]
    by_cases h1 : (t.val - 1) % 14 = 0
    · rw [decide_eq_true h1]
      rfl
    · rw [decide_eq_false h1]
      exact ih ⟨t.val - 1, Nat.lt_of_le_of_lt (Nat.sub_le _ _) t.isLt⟩ (by dsimp only; omega) h1 d

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window as the point finds it. -/
abbrev found (c : Dev nD) (w : Fin cfg0.W) (t : Fin cfg0.N) : sProp 𝕄 :=
  iprop(∃ d, owns (c : Thread nD τ) ((cfg0.win w).stage (cfg0.slots t w)) fullShare ((dats m 0 c).before w t d))

/-- What is found at a point that stores no second product is what is left there. -/
theorem kept_4 (c : Dev nD) (t : Fin cfg0.N) (h : ¬t.val % 14 = 0) : found m c 4 t ⊢ (dats m 0 c).leavesExact 4 t := by
  have hi : cfg0.idle 4 (cfg0.grid.coords t) = true := (idle4 t).trans (by rw [decide_eq_false h]; rfl)
  unfold found Dat.leavesExact
  rw [hi]
  cases hf : (cfg0.win 4).flush t
  · exact .rfl
  · simp only [before_4 m c t.val t rfl h]
    iintro ⟨%d, H⟩
    iexact H

/-- The body's triple at every point. -/
theorem sound (c : Dev nD) (t : Fin cfg0.N) :
    iprop((dats m 0 c).Φ t.castSucc ∗ (dats m 0 c).owesAt () t.castSucc ∗ found m c 0 t ∗ found m c 1 t ∗ found m c 2 t ∗ found m c 3 t ∗ found m c 4 t)
    ⊢ wp frame (wpE (defs₀ (F := F)) Variants.none c none) Set.univ (bodyAt0 t)
      (fun _ => iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t)) := by
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, after3]
  by_cases h : t.val % 14 = 0
  · rw [leaves_live m c 4 t ((idle4 t).trans (by rw [decide_eq_true h]; rfl)), after4, head_of t h]
    unfold found bodyAt0
    simp only [before_0, before_1, before_2]
    iintro ⟨HΦ, Ho, ⟨%d0, H0⟩, ⟨%d1, H1⟩, ⟨%d2, H2⟩, ⟨%d3, H3⟩, ⟨%d4, H4⟩⟩
    iapply (run_first c Set.univ (grid0.coords t) _ _ _ _ _ _ _ _ _ _ (iblk m c 0 t) (iblk m c 1 t) (iblk m c 2 t) _ ((first_iff t).mpr h))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hk := kept_4 m c t h
    iintro ⟨HΦ, Ho, HF0, HF1, HF2, HF3, HF4⟩
    ihave HL := hk $$ HF4
    unfold found bodyAt0
    simp only [before_0, before_1, before_2]
    icases HF0 with ⟨%d0, H0⟩
    icases HF1 with ⟨%d1, H1⟩
    icases HF2 with ⟨%d2, H2⟩
    icases HF3 with ⟨%d3, H3⟩
    iapply (run_other c Set.univ (grid0.coords t) _ _ _ _ _ _ _ _ _ _ (iblk m c 0 t) (iblk m c 1 t) _ (fun e => h ((first_iff t).mp e)))
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iexact HL

/-- The body that the table names at point `t`'s slots. -/
theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (sound m c t) rfl .rfl fun _ => .rfl

set_option backward.isDefEq.respectTransparency.types false in
set_option maxHeartbeats 800000 in
/-- Every execution ends, with the pipeline's arrays at what the proof data says and the counters at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end unchanged, and the counters end at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.Kernel12Ideal.Mm

end
-- ==== Proof.Mm.Equal.lean ====
/- The projection's product: the kernel's program and the reference's agree, and their frames. -/
module

public import proofs.«01_k».proof.Defs
public import proofs.«01_k».proof.Proof.Gen.Kernel12
public import proofs.«01_k».proof.Proof.Gen.Reference12Ideal
public import proofs.«01_k».proof.Proof.Gen.Reference12Ideal.Run
public import proofs.«01_k».proof.Proof.Mm.Frame
public import proofs.«01_k».proof.Proof.Pack.Columns
public import Idealize.ShloMosaic.Lib.Pipeline.ValueKit
public import Idealize.ShloMosaic.Lib.StableHlo.ReadAt
public import Idealize.ShloMosaic.Adequacy
public import Idealize.ShloMosaic.Init

@[expose] public section

set_option maxRecDepth 16384

noncomputable section

namespace Cert.Reference12Ideal.Mm

open Cert.Pack Cert.Reference12Ideal Cert.Reference12Ideal.Gen Idealize.ShloMosaic Idealize.ShloMosaic.TcCoe

variable (X : FVec Ideal S1x16384x1024 .f32) (W : FVec Ideal S1024x14344 .f32)

/-- The reference's product. -/
def hDot : FVec Ideal S16384x14344 .f32 :=
  shapeCast _ (Host.dotGeneral (F := Ideal) dot_S1x16384x1024_S1024x14344_S1x16384x14344_2_0_01_1_n_n none X W) shapeCasts_S1x16384x14344_S16384x14344

/-- The reference's columns but the gates'. -/
def hCols : FVec Ideal S16384x14336 .bf16 :=
  truncf .bf16 (concatenate S16384x14336 1 [⟨S16384x8192, extractStridedSlice S16384x8192 ![0, 4096] (hDot X W) slices_S16384x14344_S16384x8192_0_4096⟩,
    ⟨S16384x4096, extractStridedSlice S16384x4096 ![0, 0] (hDot X W) slices_S16384x14344_S16384x4096_0_0⟩,
    ⟨S16384x2048, extractStridedSlice S16384x2048 ![0, 12296] (hDot X W) slices_S16384x14344_S16384x2048_0_12296⟩]
    concatenates_S16384x8192_S16384x4096_S16384x2048_S16384x14336_d1) bitsLt_bf16_f32

/-- The reference's gates. -/
def hGates : FVec Ideal S16384x128 .f32 :=
  pad S16384x128 ![0, 120] ![0, 0] ![0, 0] (extractStridedSlice S16384x8 ![0, 12288] (hDot X W) slices_S16384x14344_S16384x8_0_12288) (sitofp .f32 (constantI S_ 32 0#32)) pads_S16384x8_S16384x128_000_12000 h_S_

/-- A row of the weights, zero after its last column. -/
def row (k : Fin 1024) (e : ℕ) : EReal := if h : e < 14344 then W (ix2 k ⟨e, h⟩) else 0

theorem row_at (k : Fin 1024) (e f : ℕ) (h : e < 14344) (hf : f < 14344) (he : e = f) : W (ix2 k ⟨e, h⟩) = row W k f := by
  subst he
  rw [row, dif_pos h]

/-- A row of the product. -/
def prod (r : Fin 16384) (e : ℕ) : EReal := ∑ k : Fin 1024, X (ix3 0 r k) * row W k e

theorem hDot_at (r : Fin 16384) (e : Fin 14344) : hDot X W (ix2 r e) = prod X W r e.val := by
  pointwise [hDot]
  exact Finset.sum_congr rfl fun k _ => congrArg (X (ix3 0 r k) * ·) (row_at W k e.val e.val e.isLt e.isLt rfl)

theorem hCols_at (r : Fin 16384) (q : Fin 14336) : hCols X W (ix2 r q) = prod X W r (ord q.val) := by
  pointwise [hCols]
  simp only [hDot_at]
  split_ifs
  · exact congrArg (prod X W r) (by rw [ord_a _ (by omega)]; omega)
  · exact congrArg (prod X W r) (by rw [ord_b _ (by omega) (by omega)])
  · exact congrArg (prod X W r) (by rw [ord_c _ (by omega)]; omega)

theorem hGates_at (r : Fin 16384) (q : Fin 128) : hGates X W (ix2 r q) = gate (prod X W r) q.val := by
  pointwise [hGates]
  simp only [hDot_at]
  split_ifs
  · rw [gate_b _ _ (by omega)]
    exact congrArg (prod X W r) (by omega)
  · rw [gate_a _ _ (by omega)]
    simp [FloatOps.sitofp]

/-- The gates' product, from the gates' columns of the weights. -/
theorem gate_sum (r : Fin 16384) (q : ℕ) : ∑ k : Fin 1024, X (ix3 0 r k) * gate (row W k) q = gate (prod X W r) q := by
  by_cases h : q < 120
  · simp only [gate_a _ _ h, mul_zero, Finset.sum_const_zero]
  · simp only [gate_b _ _ (Nat.not_lt.mp h)]
    rfl

end Cert.Reference12Ideal.Mm

namespace Cert.Kernel12Ideal.Mm

open Cert.Reference12Ideal.Mm (hCols hGates row row_at prod hCols_at hGates_at gate_sum)
open Cert.Pack Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The normed stream and the weights. -/
abbrev A0 : FVec Ideal S1x16384x1024 .f32 := m ((c : Thread nD τ).loc main_arg0)
abbrev A1 : FVec Ideal S1024x14344 .f32 := m ((c : Thread nD τ).loc main_arg1)

/-- The projection but the gates. -/
def cols : FVec Ideal S16384x14336 .bf16 := fun i => prod (A0 m c) (A1 m c) (i 0) (ord (i 1).val)

/-- The gates. -/
def side : FVec Ideal S16384x128 .f32 := fun i => gate (prod (A0 m c) (A1 m c) (i 0)) (i 1).val

/-- Every window's block index. -/
theorem idx : ∀ t : Fin cfg0.N, t.val < 112 ∧ win0_0.index t = ![t.val / 14, 0] ∧ win0_1.index t = ![0, t.val % 14] ∧ win0_2.index t = ![0, 0]
    ∧ win0_3.index t = ![t.val / 14, t.val % 14] ∧ win0_4.index t = ![t.val / 14, 0] :=
  (by decide +kernel : ∀ t : Fin grid0.N, _)

theorem stream_at (r : Fin 16384) (k : Fin 1024) : V m c main_v9 (ix2 r k) = A0 m c (ix3 0 r k) := by
  unfold V
  after_reads_at

theorem main_at (k : Fin 1024) (q : Fin 14336) : V m c main_v4 (ix2 k q) = row (A1 m c) k (ord q.val) := by
  unfold V
  after_reads_at
  by_cases ha : q.val < 8192
  · rw [dif_pos ha]
    after_reads_at
    exact row_at (A1 m c) _ _ _ _ (by rw [ord_a _ ha]; omega) (by rw [ord_a _ ha]; omega)
  by_cases hb : q.val - 8192 < 4096
  · rw [dif_neg ha, dif_pos hb]
    after_reads_at
    exact row_at (A1 m c) _ _ _ _ (by rw [ord_b _ (by omega) (by omega)]; omega) (by rw [ord_b _ (by omega) (by omega)])
  · rw [dif_neg ha, dif_neg hb]
    after_reads_at
    exact row_at (A1 m c) _ _ _ _ (by rw [ord_c _ (by omega)]; omega) (by rw [ord_c _ (by omega)]; omega)

theorem gate_at (k : Fin 1024) (q : Fin 128) : V m c main_v7 (ix2 k q) = gate (row (A1 m c) k) q.val := by
  unfold V
  after_reads_at
  split_ifs
  · rw [gate_b _ _ (by omega)]
    exact row_at (A1 m c) _ _ _ _ (by omega) (by omega)
  · rw [gate_a _ _ (by omega)]
    simp [FloatOps.sitofp]

variable (t : Fin cfg0.N)

theorem blk0 (r : Fin 2048) (k : Fin 1024) (R : Fin 16384) (hR : R.val = t.val / 14 * 2048 + r.val) : iblk m c 0 t (ix2 r k) = A0 m c (ix3 0 R k) := by
  rw [← stream_at m c R k]
  blk_ext [iblk, idx t]

theorem blk1 (k : Fin 1024) (q : Fin 1024) (Q : Fin 14336) (hQ : Q.val = t.val % 14 * 1024 + q.val) : iblk m c 1 t (ix2 k q) = row (A1 m c) k (ord Q.val) := by
  rw [← main_at m c k Q]
  blk_ext [iblk, idx t]

theorem blk2 (k : Fin 1024) (q : Fin 128) : iblk m c 2 t (ix2 k q) = gate (row (A1 m c) k) q.val := by
  rw [← gate_at m c k q]
  blk_ext [iblk, idx t]

theorem pay1_at (r : Fin 2048) (q : Fin 1024) (R : Fin 16384) (hR : R.val = t.val / 14 * 2048 + r.val) (Q : Fin 14336) (hQ : Q.val = t.val % 14 * 1024 + q.val) :
    k0_pay1 (iblk m c 0 t : Vec Ideal S2048x1024 .bf16) (iblk m c 1 t : Vec Ideal S1024x1024 .bf16) (ix2 r q) = prod (A0 m c) (A1 m c) R (ord Q.val) := by
  have e0 := fun k => blk0 m c t r k R hR
  have e1 := fun k => blk1 m c t k q Q hQ
  generalize (iblk m c 0 t : Vec Ideal S2048x1024 .bf16) = x at e0 ⊢
  generalize (iblk m c 1 t : Vec Ideal S1024x1024 .bf16) = w at e1 ⊢
  pointwise [k0_pay1]
  simp only [e0, e1]
  rfl

theorem pay2_at (r : Fin 2048) (q : Fin 128) (R : Fin 16384) (hR : R.val = t.val / 14 * 2048 + r.val) :
    k0_pay2 (iblk m c 0 t : Vec Ideal S2048x1024 .bf16) (iblk m c 2 t : Vec Ideal S1024x128 .bf16) (ix2 r q) = gate (prod (A0 m c) (A1 m c) R) q.val := by
  have e0 := fun k => blk0 m c t r k R hR
  have e2 := fun k => blk2 m c t k q
  generalize (iblk m c 0 t : Vec Ideal S2048x1024 .bf16) = x at e0 ⊢
  generalize (iblk m c 2 t : Vec Ideal S1024x128 .bf16) = g at e2 ⊢
  pointwise [k0_pay2]
  simp only [e0, e2]
  exact gate_sum (A0 m c) (A1 m c) R q.val

/-- The projection but the gates, after the run. -/
theorem array3 : (dats m 0 c).arrAt 3 cfg0.N = cols m c := by
  refine (dats m 0 c).arrAt_eq_of_covers 3 _ (by decide +kernel) fun t hf y => ?_
  blk_simp
  rw [after3]
  have e0 : ((win0_3.blk t).view.emb y 0).val = t.val / 14 * 2048 + (y 0).val := by blk_simp [idx t]
  have e1 : ((win0_3.blk t).view.emb y 1).val = t.val % 14 * 1024 + (y 1).val := by blk_simp [idx t]
  unfold cols
  generalize (win0_3.blk t).view.emb y = z at e0 e1 ⊢
  change S2048x1024.Idx at y
  idx_vars y
  exact pay1_at m c t y0 y1 (z 0) e0 (z 1) e1

/-- The gates after the run. -/
theorem array4 : (dats m 0 c).arrAt 4 cfg0.N = side m c := by
  refine (dats m 0 c).arrAt_eq_of_covers 4 _ (by decide +kernel) fun t hf y => ?_
  blk_simp
  rw [after4]
  have e0 : ((win0_4.blk t).view.emb y 0).val = t.val / 14 * 2048 + (y 0).val := by blk_simp [idx t]
  have e1 : ((win0_4.blk t).view.emb y 1).val = (y 1).val := by blk_simp [idx t]
  unfold side
  generalize (win0_4.blk t).view.emb y = z at e0 e1 ⊢
  change S2048x128.Idx at y
  idx_vars y
  rw [e1]
  exact pay2_at m c (head t) y0 y1 (z 0) (e0.trans (by show _ = t.val / 14 * 14 / 14 * 2048 + _; rw [Nat.mul_div_cancel _ (by decide)]))

/-- The kernel's run: its results and its arguments. -/
theorem results (ρ : Dev nD → PrngReg) : θ_run defs (onTc (τ := τ) (Cert.Kernel12Ideal.main (F := Ideal))) ⟨m, fun _ => 0, ρ⟩ (fun r => ∀ c : Dev nD,
      r.2.mem ((c.tc : Thread nD τ).loc main_v10_0) = cols m c ∧ r.2.mem ((c.tc : Thread nD τ).loc main_v10_1) = side m c) :=
  (θ_run defs _ _).mono (fun r h c => ⟨((h c).1 3).trans (array3 m c), ((h c).1 4).trans (array4 m c)⟩) (run_main m ρ)

theorem equal : @Cert.algebraic_Kernel12Ideal_Reference12Ideal Cert.Kernel12Ideal.Gen.facts Cert.Reference12Ideal.Gen.facts := by
  intro m g m' g' _ hag
  refine ⟨fun c => (cols m c : FVec Ideal S16384x14336 .bf16), fun c => (side m c : FVec Ideal S16384x128 .f32),
    (θ_run _ _ _).mono (fun r h c => ⟨(h.1 c).1, (h.1 c).2, h.2.1 c⟩) (θ_run_and (results m g) (frame_any (F := Ideal) m g)),
    (θ_run _ _ _).mono (fun r h c => ?_) (Cert.Reference12Ideal.Value.run m' g')⟩
  obtain ⟨h0, h1, ha⟩ := h c
  refine ⟨h0.trans ?_, h1.trans ?_, ha⟩
  · rw [(hag c).1, (hag c).2]
    funext i
    idx_vars i
    exact hCols_at (A0 m c) (A1 m c) i0 i1
  · rw [(hag c).1, (hag c).2]
    funext i
    idx_vars i
    exact hGates_at (A0 m c) (A1 m c) i0 i1

/-! ## The frames -/

theorem frame_ideal : @Cert.quiescent_Kernel12Ideal Cert.Kernel12Ideal.Gen.facts := fun m ρ _ => frame_any (F := Ideal) m ρ

/-- The frame of the ideal text at the machine's values. -/
def atBits : Prop :=
  ∀ (m : (ℓ : Loc nD τ sig) → Buf (Elt Bits) ℓ) (ρ : Dev nD → PrngReg),
    True → θ_run (defs (F := Bits)) (onTc (τ := τ) (Cert.Kernel12Ideal.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem atBits_eq : @Cert.quiescent_Kernel12 Cert.Kernel12.Gen.facts = atBits := by sl_kernel_rfl

theorem frame_kernel : @Cert.quiescent_Kernel12 Cert.Kernel12.Gen.facts := atBits_eq.mpr fun m ρ _ => frame_any (F := Bits) m ρ

theorem ref_frame : @Cert.quiescent_Reference12Ideal Cert.Reference12Ideal.Gen.facts := fun m ρ _ =>
  (θ_run _ _ _).mono (fun r h => ⟨fun c => (h c).2.2, sem_eq_zero_of_no_sems (by decide) r.2⟩) (Cert.Reference12Ideal.Value.run m ρ)

end Cert.Kernel12Ideal.Mm

end
-- ==== Proof.lean ====
/- The claims: the convolution's gradients, the recurrent branch, the token chain, the projection's input with its norm, the convolution forward, the first norm, the optimiser, the sum over the devices, the cutting and assembling of the first weights, and the projection, each from its two programs' results over one plain form. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Skeleton
public import proofs.«01_k».proof.Proof.Gen.Reference12Ideal
public import proofs.«01_k».proof.Proof.Gen.Reference12Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Conv.Sums
public import proofs.«01_k».proof.Proof.Conv.Ref
public import proofs.«01_k».proof.Proof.Conv.Pre
public import proofs.«01_k».proof.Proof.Mlstm.Tiles
public import proofs.«01_k».proof.Proof.Mlstm.Entry
public import proofs.«01_k».proof.Proof.Mlstm.Pre
public import proofs.«01_k».proof.Proof.Chain.Equal
public import proofs.«01_k».proof.Proof.Dhn.Equal
public import proofs.«01_k».proof.Proof.ConvFwd.Equal
public import proofs.«01_k».proof.Proof.Rms.Equal
public import proofs.«01_k».proof.Proof.Adam.Equal
public import proofs.«01_k».proof.Proof.Slots.Equal
public import proofs.«01_k».proof.Proof.Pack.Equal
public import proofs.«01_k».proof.Proof.Assemble.Equal
public import proofs.«01_k».proof.Proof.Mm.Equal
public import Idealize.ShloMosaic.Adequacy
public import Idealize.ShloMosaic.Init

@[expose] public section

noncomputable section

namespace Cert.Proof

open Idealize.ShloMosaic Idealize.ShloMosaic.TcCoe Idealize.SL.Sem

/-- The two programs' arguments, named by the plain gradient, agree. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Conv.PROJ m' c = Cert.KernelIdeal.Conv.PROJ m c) (h1 : Cert.ReferenceIdeal.Conv.TAPS m' c = Cert.KernelIdeal.Conv.TAPS m c)
    (h2 : Cert.ReferenceIdeal.Conv.BIAS m' c = Cert.KernelIdeal.Conv.BIAS m c) (h3 : Cert.ReferenceIdeal.Conv.DYA m' c = Cert.KernelIdeal.Conv.DYA m c) :
    Cert.ReferenceIdeal.Conv.data m' c = Cert.KernelIdeal.Conv.data m c := by
  unfold Cert.ReferenceIdeal.Conv.data Cert.KernelIdeal.Conv.data
  rw [h0, h1, h2, h3]

theorem equal : @Cert.algebraic_KernelIdeal_ReferenceIdeal_pre_finite Cert.KernelIdeal.Gen.facts Cert.ReferenceIdeal.Gen.facts Cert.Pre_finite.facts := by
  intro m g m' g' hpre hag
  refine ⟨_, _, Cert.KernelIdeal.Value.run_blocks m g, (θ_run _ _ _).mono (fun r h c => ?_) (Cert.ReferenceIdeal.Value.run m' g')⟩
  obtain ⟨h0, h1, h2, h3, h4⟩ := hag c
  have e := data_eq m m' c h0 h1 h2 h3
  have hf := Cert.KernelIdeal.Conv.finite_of_pre m c hpre
  obtain ⟨r0, r1, ra⟩ := h c
  refine ⟨r0.trans ?_, r1.trans ?_, ra⟩
  · rw [Cert.KernelIdeal.Conv.final12]
    funext i
    idx_vars i
    refine (Cert.ReferenceIdeal.Conv.v91_at m' c (e ▸ hf) i0 i1).trans ?_
    rw [e, h4]
    rfl
  · rw [Cert.KernelIdeal.Conv.final13]
    funext j
    idx_vars j
    exact (Cert.ReferenceIdeal.Conv.v94_at m' c j0 j1).trans (by rw [e])

theorem ref_frame : @Cert.quiescent_ReferenceIdeal Cert.ReferenceIdeal.Gen.facts := fun m ρ _ =>
  (θ_run _ _ _).mono (fun r h => ⟨fun c => (h c).2.2, sem_eq_zero_of_no_sems (by decide) r.2⟩) (Cert.ReferenceIdeal.Value.run m ρ)

/-- The two programs' arguments, named by the branch's plain form, agree. -/
theorem data2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : Cert.Reference2Ideal.Mlstm.PROJ m' c = Cert.Kernel2Ideal.Mlstm.PROJ m c) (h1 : Cert.Reference2Ideal.Mlstm.GATE m' c = Cert.Kernel2Ideal.Mlstm.GATE m c)
    (h2 : Cert.Reference2Ideal.Mlstm.NORM m' c = Cert.Kernel2Ideal.Mlstm.NORM m c) (h3 : Cert.Reference2Ideal.Mlstm.OUTW m' c = Cert.Kernel2Ideal.Mlstm.OUTW m c) :
    Cert.Reference2Ideal.Mlstm.data m' c = Cert.Kernel2Ideal.Mlstm.data m c := by
  unfold Cert.Reference2Ideal.Mlstm.data Cert.Kernel2Ideal.Mlstm.data
  rw [h0, h1, h2, h3]

theorem equal2 : @Cert.algebraic_Kernel2Ideal_Reference2Ideal_pre_finite2 Cert.Kernel2Ideal.Gen.facts Cert.Reference2Ideal.Gen.facts Cert.Pre_finite2.facts := by
  intro m g m' g' hpre hag
  refine ⟨_, _, _, (θ_run _ _ _).mono (fun r h c => ⟨(h c).1, (h c).2.1, (h c).2.2.1, (h c).2.2.2.2.2⟩) (Cert.Kernel2Ideal.Value.run_blocks m g),
    (θ_run _ _ _).mono (fun r h c => ?_) (Cert.Reference2Ideal.Value.run m' g')⟩
  obtain ⟨h0, h1, h2, h3⟩ := hag c
  have e := data2_eq m m' c h0 h1 h2 h3
  have R := Cert.Kernel2Ideal.Mlstm.real_of_pre m c hpre
  obtain ⟨r0, r1, r2, ra⟩ := h c
  refine ⟨r0.trans ?_, r1.trans ?_, r2.trans ?_, ra⟩
  · rw [Cert.Kernel2Ideal.Mlstm.final9 m c R]
    funext i
    idx_vars i
    exact (Cert.Reference2Ideal.Mlstm.out_at m' c (e ▸ R) i0 i1).trans (by rw [e])
  · rw [Cert.Kernel2Ideal.Mlstm.final10 m c R]
    funext i
    idx_vars i
    exact (Cert.Reference2Ideal.Mlstm.prod_at m' c (e ▸ R) i0 i1).trans (by rw [e])
  · rw [Cert.Kernel2Ideal.Mlstm.final11 m c R]
    funext i
    idx_vars i
    exact (Cert.Reference2Ideal.Mlstm.raw_at m' c (e ▸ R) i0 i1).trans (by rw [e])

theorem ref2_frame : @Cert.quiescent_Reference2Ideal Cert.Reference2Ideal.Gen.facts := fun m ρ _ =>
  (θ_run _ _ _).mono (fun r h => ⟨fun c => (h c).2.2.2, sem_eq_zero_of_no_sems (by decide) r.2⟩) (Cert.Reference2Ideal.Value.run m ρ)

theorem ref4_frame : @Cert.quiescent_Reference4Ideal Cert.Reference4Ideal.Gen.facts := fun m ρ _ =>
  (θ_run _ _ _).mono (fun r h => ⟨fun c => (h c).2.2, sem_eq_zero_of_no_sems (by decide) r.2⟩) (Cert.Reference4Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
    Cert.Pre_finite.facts, Cert.Pre_finite2.facts, Cert.Pre_finite3.facts, Cert.Pre_finite4.facts,
    fun m ρ _ => Cert.Kernel.Gen.frame m ρ, fun m ρ _ => Cert.KernelIdeal.Gen.frame m ρ, fun m ρ _ => Cert.KernelIdeal.Gen.frame m ρ, ref_frame, fun m ρ _ => ref_frame m ρ trivial,
    fun m ρ _ => Cert.Kernel2.Gen.frame m ρ, fun m ρ _ => Cert.Kernel2Ideal.Gen.frame m ρ, fun m ρ _ => Cert.Kernel2Ideal.Gen.frame m ρ, ref2_frame, fun m ρ _ => ref2_frame m ρ trivial,
    Cert.Kernel3Ideal.Chain.frame_kernel, Cert.Kernel3Ideal.Chain.frame_ideal, fun m ρ _ => Cert.Kernel3Ideal.Chain.frame_ideal m ρ trivial,
    Cert.Kernel3Ideal.Chain.frame_reference, fun m ρ _ => Cert.Kernel3Ideal.Chain.frame_reference m ρ trivial,
    fun m ρ _ => Cert.Kernel4.Gen.frame m ρ, fun m ρ _ => Cert.Kernel4Ideal.Gen.frame m ρ, fun m ρ _ => Cert.Kernel4Ideal.Gen.frame m ρ, ref4_frame, fun m ρ _ => ref4_frame m ρ trivial,
    fun m ρ _ => Cert.Kernel5.Gen.frame m ρ, fun m ρ _ => Cert.Kernel5Ideal.Gen.frame m ρ,
    fun m ρ _ => Cert.Kernel6.Gen.frame m ρ, fun m ρ _ => Cert.Kernel6Ideal.Gen.frame m ρ, Cert.Kernel6Ideal.Conv.ref_frame,
    fun m ρ _ => Cert.Kernel7.Gen.frame m ρ, fun m ρ _ => Cert.Kernel7Ideal.Gen.frame m ρ, Cert.Kernel7Ideal.Rms.ref_frame,
    fun m ρ _ => Cert.Kernel8.Gen.frame m ρ, fun m ρ _ => Cert.Kernel8Ideal.Gen.frame m ρ, Cert.Kernel8Ideal.Adam.ref_frame,
    fun m ρ _ => Cert.Kernel9.Gen.frame m ρ, fun m ρ _ => Cert.Kernel9Ideal.Gen.frame m ρ, Cert.Kernel9Ideal.Slots.ref_frame,
    fun m ρ _ => Cert.Kernel10.Gen.frame m ρ, fun m ρ _ => Cert.Kernel10Ideal.Gen.frame m ρ, Cert.Kernel10Ideal.Pack.ref_frame,
    fun m ρ _ => Cert.Kernel11.Gen.frame m ρ, fun m ρ _ => Cert.Kernel11Ideal.Gen.frame m ρ, Cert.Kernel11Ideal.Assemble.ref_frame,
    Cert.Kernel12Ideal.Mm.frame_kernel, Cert.Kernel12Ideal.Mm.frame_ideal, Cert.Kernel12Ideal.Mm.ref_frame,
    trivial, equal, IdealRules.named_const.statement _ _ _ _ _ rfl, equal2, trivial, Cert.Kernel3Ideal.Chain.equal, trivial, Cert.Kernel4Ideal.Dhn.equal,
    IdealRules.sign_bit.statement _ _, trivial, Cert.Kernel6Ideal.Conv.equal, trivial, Cert.Kernel7Ideal.Rms.equal, trivial, Cert.Kernel8Ideal.Adam.equal,
    trivial, Cert.Kernel9Ideal.Slots.equal, trivial, Cert.Kernel10Ideal.Pack.equal, trivial, Cert.Kernel11Ideal.Assemble.equal, trivial, Cert.Kernel12Ideal.Mm.equal⟩

end Cert.Proof

end
